-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v54)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v54) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v114_0)) (v1 : (c : Dev Cert.Kernel5Ideal.nD) → Buf (Elt Ideal) ((c.tc : Thread Cert.Kernel5Ideal.nD Cert.Kernel5Ideal.τ).loc Cert.Kernel5Ideal.main_v114_1)) (v2 : (c : Dev Cert.Kernel5Ideal.nD) → Buf (Elt Ideal) ((c.tc : Thread Cert.Kernel5Ideal.nD Cert.Kernel5Ideal.τ).loc Cert.Kernel5Ideal.main_v114_2)) (v3 : (c : Dev Cert.Kernel5Ideal.nD) → Buf (Elt Ideal) ((c.tc : Thread Cert.Kernel5Ideal.nD Cert.Kernel5Ideal.τ).loc Cert.Kernel5Ideal.main_v114_3)) (v4 : (c : Dev Cert.Kernel5Ideal.nD) → Buf (Elt Ideal) ((c.tc : Thread Cert.Kernel5Ideal.nD Cert.Kernel5Ideal.τ).loc Cert.Kernel5Ideal.main_v114_4)) (v5 : (c : Dev Cert.Kernel5Ideal.nD) → Buf (Elt Ideal) ((c.tc : Thread Cert.Kernel5Ideal.nD Cert.Kernel5Ideal.τ).loc Cert.Kernel5Ideal.main_v114_5)) (v6 : (c : Dev Cert.Kernel5Ideal.nD) → Buf (Elt Ideal) ((c.tc : Thread Cert.Kernel5Ideal.nD Cert.Kernel5Ideal.τ).loc Cert.Kernel5Ideal.main_v114_6)) (v7 : (c : Dev Cert.Kernel5Ideal.nD) → Buf (Elt Ideal) ((c.tc : Thread Cert.Kernel5Ideal.nD Cert.Kernel5Ideal.τ).loc Cert.Kernel5Ideal.main_v114_7)) (v8 : (c : Dev Cert.Kernel5Ideal.nD) → Buf (Elt Ideal) ((c.tc : Thread Cert.Kernel5Ideal.nD Cert.Kernel5Ideal.τ).loc Cert.Kernel5Ideal.main_v114_8)) (v9 : (c : Dev Cert.Kernel5Ideal.nD) → Buf (Elt Ideal) ((c.tc : Thread Cert.Kernel5Ideal.nD Cert.Kernel5Ideal.τ).loc Cert.Kernel5Ideal.main_v114_9)) (v10 : (c : Dev Cert.Kernel5Ideal.nD) → Buf (Elt Ideal) ((c.tc : Thread Cert.Kernel5Ideal.nD Cert.Kernel5Ideal.τ).loc Cert.Kernel5Ideal.main_v114_10)) (v11 : (c : Dev Cert.Kernel5Ideal.nD) → Buf (Elt Ideal) ((c.tc : Thread Cert.Kernel5Ideal.nD Cert.Kernel5Ideal.τ).loc Cert.Kernel5Ideal.main_v114_11)) (v12 : (c : Dev Cert.Kernel5Ideal.nD) → Buf (Elt Ideal) ((c.tc : Thread Cert.Kernel5Ideal.nD Cert.Kernel5Ideal.τ).loc Cert.Kernel5Ideal.main_v114_12)) (v13 : (c : Dev Cert.Kernel5Ideal.nD) → Buf (Elt Ideal) ((c.tc : Thread Cert.Kernel5Ideal.nD Cert.Kernel5Ideal.τ).loc Cert.Kernel5Ideal.main_v114_13)) (v14 : (c : Dev Cert.Kernel5Ideal.nD) → Buf (Elt Ideal) ((c.tc : Thread Cert.Kernel5Ideal.nD Cert.Kernel5Ideal.τ).loc Cert.Kernel5Ideal.main_v114_14)) (v15 : (c : Dev Cert.Kernel5Ideal.nD) → Buf (Elt Ideal) ((c.tc : Thread Cert.Kernel5Ideal.nD Cert.Kernel5Ideal.τ).loc Cert.Kernel5Ideal.main_v114_15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v114_0) = v0 c
          ∧ r.2.mem ((c.tc : Thread Cert.Kernel5Ideal.nD Cert.Kernel5Ideal.τ).loc Cert.Kernel5Ideal.main_v114_1) = v1 c
          ∧ r.2.mem ((c.tc : Thread Cert.Kernel5Ideal.nD Cert.Kernel5Ideal.τ).loc Cert.Kernel5Ideal.main_v114_2) = v2 c
          ∧ r.2.mem ((c.tc : Thread Cert.Kernel5Ideal.nD Cert.Kernel5Ideal.τ).loc Cert.Kernel5Ideal.main_v114_3) = v3 c
          ∧ r.2.mem ((c.tc : Thread Cert.Kernel5Ideal.nD Cert.Kernel5Ideal.τ).loc Cert.Kernel5Ideal.main_v114_4) = v4 c
          ∧ r.2.mem ((c.tc : Thread Cert.Kernel5Ideal.nD Cert.Kernel5Ideal.τ).loc Cert.Kernel5Ideal.main_v114_5) = v5 c
          ∧ r.2.mem ((c.tc : Thread Cert.Kernel5Ideal.nD Cert.Kernel5Ideal.τ).loc Cert.Kernel5Ideal.main_v114_6) = v6 c
          ∧ r.2.mem ((c.tc : Thread Cert.Kernel5Ideal.nD Cert.Kernel5Ideal.τ).loc Cert.Kernel5Ideal.main_v114_7) = v7 c
          ∧ r.2.mem ((c.tc : Thread Cert.Kernel5Ideal.nD Cert.Kernel5Ideal.τ).loc Cert.Kernel5Ideal.main_v114_8) = v8 c
          ∧ r.2.mem ((c.tc : Thread Cert.Kernel5Ideal.nD Cert.Kernel5Ideal.τ).loc Cert.Kernel5Ideal.main_v114_9) = v9 c
          ∧ r.2.mem ((c.tc : Thread Cert.Kernel5Ideal.nD Cert.Kernel5Ideal.τ).loc Cert.Kernel5Ideal.main_v114_10) = v10 c
          ∧ r.2.mem ((c.tc : Thread Cert.Kernel5Ideal.nD Cert.Kernel5Ideal.τ).loc Cert.Kernel5Ideal.main_v114_11) = v11 c
          ∧ r.2.mem ((c.tc : Thread Cert.Kernel5Ideal.nD Cert.Kernel5Ideal.τ).loc Cert.Kernel5Ideal.main_v114_12) = v12 c
          ∧ r.2.mem ((c.tc : Thread Cert.Kernel5Ideal.nD Cert.Kernel5Ideal.τ).loc Cert.Kernel5Ideal.main_v114_13) = v13 c
          ∧ r.2.mem ((c.tc : Thread Cert.Kernel5Ideal.nD Cert.Kernel5Ideal.τ).loc Cert.Kernel5Ideal.main_v114_14) = v14 c
          ∧ r.2.mem ((c.tc : Thread Cert.Kernel5Ideal.nD Cert.Kernel5Ideal.τ).loc Cert.Kernel5Ideal.main_v114_15) = v15 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v197) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v198) = v3 c
          ∧ r.2.mem ((c.tc : Thread Cert.Reference5Ideal.nD Cert.Reference5Ideal.τ).loc Cert.Reference5Ideal.main_v199) = v4 c
          ∧ r.2.mem ((c.tc : Thread Cert.Reference5Ideal.nD Cert.Reference5Ideal.τ).loc Cert.Reference5Ideal.main_v200) = v5 c
          ∧ r.2.mem ((c.tc : Thread Cert.Reference5Ideal.nD Cert.Reference5Ideal.τ).loc Cert.Reference5Ideal.main_v201) = v6 c
          ∧ r.2.mem ((c.tc : Thread Cert.Reference5Ideal.nD Cert.Reference5Ideal.τ).loc Cert.Reference5Ideal.main_v76) = v7 c
          ∧ r.2.mem ((c.tc : Thread Cert.Reference5Ideal.nD Cert.Reference5Ideal.τ).loc Cert.Reference5Ideal.main_v110) = v8 c
          ∧ r.2.mem ((c.tc : Thread Cert.Reference5Ideal.nD Cert.Reference5Ideal.τ).loc Cert.Reference5Ideal.main_v202) = v9 c
          ∧ r.2.mem ((c.tc : Thread Cert.Reference5Ideal.nD Cert.Reference5Ideal.τ).loc Cert.Reference5Ideal.main_v152) = v10 c
          ∧ r.2.mem ((c.tc : Thread Cert.Reference5Ideal.nD Cert.Reference5Ideal.τ).loc Cert.Reference5Ideal.main_v186) = v11 c
          ∧ r.2.mem ((c.tc : Thread Cert.Reference5Ideal.nD Cert.Reference5Ideal.τ).loc Cert.Reference5Ideal.main_v22) = v12 c
          ∧ r.2.mem ((c.tc : Thread Cert.Reference5Ideal.nD Cert.Reference5Ideal.τ).loc Cert.Reference5Ideal.main_v203) = v13 c
          ∧ r.2.mem ((c.tc : Thread Cert.Reference5Ideal.nD Cert.Reference5Ideal.τ).loc Cert.Reference5Ideal.main_v204) = v14 c
          ∧ r.2.mem ((c.tc : Thread Cert.Reference5Ideal.nD Cert.Reference5Ideal.τ).loc Cert.Reference5Ideal.main_v210) = v15 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v114_1)) (v1 : (c : Dev Cert.Kernel7Ideal.nD) → Buf (Elt Ideal) ((c.tc : Thread Cert.Kernel7Ideal.nD Cert.Kernel7Ideal.τ).loc Cert.Kernel7Ideal.main_v114_2)) (v2 : (c : Dev Cert.Kernel7Ideal.nD) → Buf (Elt Ideal) ((c.tc : Thread Cert.Kernel7Ideal.nD Cert.Kernel7Ideal.τ).loc Cert.Kernel7Ideal.main_v114_7)) (v3 : (c : Dev Cert.Kernel7Ideal.nD) → Buf (Elt Ideal) ((c.tc : Thread Cert.Kernel7Ideal.nD Cert.Kernel7Ideal.τ).loc Cert.Kernel7Ideal.main_v114_8)) (v4 : (c : Dev Cert.Kernel7Ideal.nD) → Buf (Elt Ideal) ((c.tc : Thread Cert.Kernel7Ideal.nD Cert.Kernel7Ideal.τ).loc Cert.Kernel7Ideal.main_v114_11)) (v5 : (c : Dev Cert.Kernel7Ideal.nD) → Buf (Elt Ideal) ((c.tc : Thread Cert.Kernel7Ideal.nD Cert.Kernel7Ideal.τ).loc Cert.Kernel7Ideal.main_v114_12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v114_1) = v0 c
          ∧ r.2.mem ((c.tc : Thread Cert.Kernel7Ideal.nD Cert.Kernel7Ideal.τ).loc Cert.Kernel7Ideal.main_v114_2) = v1 c
          ∧ r.2.mem ((c.tc : Thread Cert.Kernel7Ideal.nD Cert.Kernel7Ideal.τ).loc Cert.Kernel7Ideal.main_v114_7) = v2 c
          ∧ r.2.mem ((c.tc : Thread Cert.Kernel7Ideal.nD Cert.Kernel7Ideal.τ).loc Cert.Kernel7Ideal.main_v114_8) = v3 c
          ∧ r.2.mem ((c.tc : Thread Cert.Kernel7Ideal.nD Cert.Kernel7Ideal.τ).loc Cert.Kernel7Ideal.main_v114_11) = v4 c
          ∧ r.2.mem ((c.tc : Thread Cert.Kernel7Ideal.nD Cert.Kernel7Ideal.τ).loc Cert.Kernel7Ideal.main_v114_12) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_v99) = v2 c
          ∧ r.2.mem ((c.tc : Thread Cert.Reference7Ideal.nD Cert.Reference7Ideal.τ).loc Cert.Reference7Ideal.main_v56) = v3 c
          ∧ r.2.mem ((c.tc : Thread Cert.Reference7Ideal.nD Cert.Reference7Ideal.τ).loc Cert.Reference7Ideal.main_v86) = v4 c
          ∧ r.2.mem ((c.tc : Thread Cert.Reference7Ideal.nD Cert.Reference7Ideal.τ).loc Cert.Reference7Ideal.main_v22) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S_ : Shape := ⟨0, ![]⟩

class Facts : Prop where
  bitsLt_bf16_f32 : FTy.bits .bf16 < FTy.bits .f32
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4096x8x32 : S_.BroadcastsInDim S4x4096x8x32 (![] : Fin 0 → Fin S4x4096x8x32.rank)
  reducesTo_S4x4096x8x32_S_d0_1_2_3 : S4x4096x8x32.ReducesTo [0, 1, 2, 3] S_
  bcast_S_S4x4096x128 : S_.BroadcastsInDim S4x4096x128 (![] : Fin 0 → Fin S4x4096x128.rank)
  reducesTo_S4x4096x128_S_d0_1_2 : S4x4096x128.ReducesTo [0, 1, 2] S_
  bcast_S_S4x4096x32 : S_.BroadcastsInDim S4x4096x32 (![] : Fin 0 → Fin S4x4096x32.rank)
  reducesTo_S4x4096x32_S_d0_1_2 : S4x4096x32.ReducesTo [0, 1, 2] S_

variable [Facts]

def fn_part1 {F : FTy → Type} [FloatOps F] (main_v4 : IVec S_ 1) (main_v9 : IVec S_ 1) (main_v14 : IVec S_ 1) (main_v16 : FVec F S4x4096x32 .f32) (main_cst_4 : FVec F S_ .f32) : IVec S_ 1 :=
  let main_v17 : FVec F S4x4096x32 .f32 := broadcastInDim S4x4096x32 ![] bcast_S_S4x4096x32 main_cst_4
  let main_v18 : IVec S4x4096x32 1 := cmpf .olt main_v16 main_v17
  let main_c_5 : IVec S_ 1 := constantI S_ 1 1#1
  let main_v19 : IVec S_ 1 := (fun x v => Host.reduce IntOp.andi x v reducesTo_S4x4096x32_S_d0_1_2 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S4x4096x8x128 .bf16) (main_arg1 : FVec F S4x4096x8x32 .bf16) (main_arg2 : FVec F S4x4096x128 .bf16) (main_arg3 : FVec F S4x4096x32 .bf16) : IVec S_ 1 :=
  let main_v0 : FVec F S4x4096x8x128 .f32 := (extf .f32 · bitsLt_bf16_f32) main_arg0
  let main_v1 : FVec F S4x4096x8x128 .f32 := Host.absf main_v0
  let main_cst : FVec F S_ .f32 := constant S_ .f32 0x7F800000#32
  let main_v2 : FVec F S4x4096x8x128 .f32 := broadcastInDim S4x4096x8x128 ![] bcast_S_S4x4096x8x128 main_cst
  let main_v3 : IVec S4x4096x8x128 1 := cmpf .olt main_v1 main_v2
  let main_c : IVec S_ 1 := constantI S_ 1 1#1
  let main_v4 : IVec S_ 1 := (fun x v => Host.reduce IntOp.andi x v reducesTo_S4x4096x8x128_S_d0_1_2_3 h_S_) main_v3 main_c
  let main_v5 : FVec F S4x4096x8x32 .f32 := (extf .f32 · bitsLt_bf16_f32) main_arg1
  let main_v6 : FVec F S4x4096x8x32 .f32 := Host.absf main_v5
  let main_cst_0 : FVec F S_ .f32 := constant S_ .f32 0x7F800000#32
  let main_v7 : FVec F S4x4096x8x32 .f32 := broadcastInDim S4x4096x8x32 ![] bcast_S_S4x4096x8x32 main_cst_0
  let main_v8 : IVec S4x4096x8x32 1 := cmpf .olt main_v6 main_v7
  let main_c_1 : IVec S_ 1 := constantI S_ 1 1#1
  let main_v9 : IVec S_ 1 := (fun x v => Host.reduce IntOp.andi x v reducesTo_S4x4096x8x32_S_d0_1_2_3 h_S_) main_v8 main_c_1
  let main_v10 : FVec F S4x4096x128 .f32 := (extf .f32 · bitsLt_bf16_f32) main_arg2
  let main_v11 : FVec F S4x4096x128 .f32 := Host.absf main_v10
  let main_cst_2 : FVec F S_ .f32 := constant S_ .f32 0x7F800000#32
  let main_v12 : FVec F S4x4096x128 .f32 := broadcastInDim S4x4096x128 ![] bcast_S_S4x4096x128 main_cst_2
  let main_v13 : IVec S4x4096x128 1 := cmpf .olt main_v11 main_v12
  let main_c_3 : IVec S_ 1 := constantI S_ 1 1#1
  let main_v14 : IVec S_ 1 := (fun x v => Host.reduce IntOp.andi x v reducesTo_S4x4096x128_S_d0_1_2 h_S_) main_v13 main_c_3
  let main_v15 : FVec F S4x4096x32 .f32 := (extf .f32 · bitsLt_bf16_f32) main_arg3
  let main_v16 : FVec F S4x4096x32 .f32 := Host.absf main_v15
  let main_cst_4 : FVec F S_ .f32 := constant S_ .f32 0x7F800000#32
  fn_part1 (F := F) main_v4 main_v9 main_v14 main_v16 main_cst_4
-- ==== Kernel.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S16384x1024 : Shape := ⟨2, ![16384, 1024]⟩
abbrev S_ : Shape := ⟨0, ![]⟩
abbrev S4x4096x256 : Shape := ⟨3, ![4, 4096, 256]⟩
abbrev S16384x256 : Shape := ⟨2, ![16384, 256]⟩
abbrev S512x1024 : Shape := ⟨2, ![512, 1024]⟩
abbrev S4096x256 : Shape := ⟨2, ![4096, 256]⟩
abbrev S512x128 : Shape := ⟨2, ![512, 128]⟩
abbrev S4096x128 : Shape := ⟨2, ![4096, 128]⟩
abbrev S4096x512 : Shape := ⟨2, ![4096, 512]⟩
abbrev S512x256 : Shape := ⟨2, ![512, 256]⟩
abbrev S4096 : Shape := ⟨1, ![4096]⟩
abbrev S4096x1 : Shape := ⟨2, ![4096, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x8x128, .bf16⟩
  | .hbm, ⟨1, _⟩ => ⟨S4x4096x8x32, .bf16⟩
  | .hbm, ⟨2, _⟩ => ⟨S4x4096x128, .bf16⟩
  | .hbm, ⟨3, _⟩ => ⟨S4x4096x32, .bf16⟩
  | .hbm, ⟨4, _⟩ => ⟨S16384x1024, .bf16⟩
  | .hbm, ⟨5, _⟩ => ⟨S_, .i32⟩
  | .hbm, ⟨6, _⟩ => ⟨S_, .bf16⟩
  | .hbm, ⟨7, _⟩ => ⟨S4x4096x8x128, .bf16⟩
  | .hbm, ⟨8, _⟩ => ⟨S16384x1024, .bf16⟩
  | .hbm, ⟨9, _⟩ => ⟨S_, .i32⟩
  | .hbm, ⟨10, _⟩ => ⟨S_, .bf16⟩
  | .hbm, ⟨11, _⟩ => ⟨S4x4096x128, .bf16⟩
  | .hbm, ⟨12, _⟩ => ⟨S4x4096x256, .bf16⟩
  | .hbm, ⟨13, _⟩ => ⟨S16384x256, .bf16⟩
  | .hbm, ⟨14, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S4096x256, .bf16⟩
  | .local _ .vmem, ⟨5, _⟩ => ⟨S4096x256, .bf16⟩
  | .local _ .vmem, ⟨6, _⟩ => ⟨S512x1024, .bf16⟩
  | .local _ .vmem, ⟨7, _⟩ => ⟨S512x1024, .bf16⟩
  | _, _ => ⟨S4x4096x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32_27 : BitVec 32 := 512#32
  let v57 : BitVec 32 := Scalar.muli arg1 c512_i32_27
  v57
def k0_off1 (i : grid0.Coords) : Fin 2 → Nat :=
  let arg1 : BitVec 32 := BitVec.ofNat 32 (i 1).val
  let c512_i32_27 : BitVec 32 := 512#32
  let v57 : BitVec 32 := Scalar.muli arg1 c512_i32_27
  let v58 : BitVec 32 := v57
  let v59 : Index := Scalar.indexCast v58
  let c0_28 : Index := 0#32
  ![v59.toNat, 0]
@[reducible] def k0_t1_loop (i : grid0.Coords) : Scf.Loop 32 :=
  let c0_i32_34 : BitVec 32 := 0#32
  let arg1 : BitVec 32 := BitVec.ofNat 32 (i 1).val
  let v76 : BitVec 32 := Scalar.subi arg1 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_36 : BitVec 32 := 1#32
  ⟨c0_i32_34, v80, c1_i32_36⟩
def k0_mult2 (i : grid0.Coords) (k0_t1 : Fin (k0_t1_loop i).trips) : BitVec 32 :=
  let c0_i32_34 : BitVec 32 := 0#32
  let c1_i32_36 : BitVec 32 := 1#32
  let arg6 : BitVec 32 := Scf.iv c0_i32_34 c1_i32_36 k0_t1
  let c512_i32_54 : BitVec 32 := 512#32
  let v110 : BitVec 32 := Scalar.muli arg6 c512_i32_54
  v110
def k0_off2 (i : grid0.Coords) (k0_t1 : Fin (k0_t1_loop i).trips) : Fin 2 → Nat :=
  let c0_i32_34 : BitVec 32 := 0#32
  let c1_i32_36 : BitVec 32 := 1#32
  let arg6 : BitVec 32 := Scf.iv c0_i32_34 c1_i32_36 k0_t1
  let c512_i32_54 : BitVec 32 := 512#32
  let v110 : BitVec 32 := Scalar.muli arg6 c512_i32_54
  let v111 : BitVec 32 := v110
  let v112 : Index := Scalar.indexCast v111
  let c0_55 : Index := 0#32
  ![v112.toNat, 0]
@[reducible] def k0_t2_loop (i : grid0.Coords) : Scf.Loop 32 :=
  let c0_i32_34 : BitVec 32 := 0#32
  let arg1 : BitVec 32 := BitVec.ofNat 32 (i 1).val
  let v76 : BitVec 32 := Scalar.subi arg1 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let v77 : BitVec 32 := Scalar.addi c0_i32_34 v76
  let c1_i32_37 : BitVec 32 := 1#32
  ⟨v80, v77, c1_i32_37⟩
def k0_mult3 (i : grid0.Coords) (k0_t2 : Fin (k0_t2_loop i).trips) : BitVec 32 :=
  let c0_i32_34 : BitVec 32 := 0#32
  let arg1 : BitVec 32 := BitVec.ofNat 32 (i 1).val
  let v76 : BitVec 32 := Scalar.subi arg1 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_37 : BitVec 32 := 1#32
  let arg6 : BitVec 32 := Scf.iv v80 c1_i32_37 k0_t2
  let c512_i32_54 : BitVec 32 := 512#32
  let v110 : BitVec 32 := Scalar.muli arg6 c512_i32_54
  v110
def k0_off3 (i : grid0.Coords) (k0_t2 : Fin (k0_t2_loop i).trips) : Fin 2 → Nat :=
  let c0_i32_34 : BitVec 32 := 0#32
  let arg1 : BitVec 32 := BitVec.ofNat 32 (i 1).val
  let v76 : BitVec 32 := Scalar.subi arg1 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_37 : BitVec 32 := 1#32
  let arg6 : BitVec 32 := Scf.iv v80 c1_i32_37 k0_t2
  let c512_i32_54 : BitVec 32 := 512#32
  let v110 : BitVec 32 := Scalar.muli arg6 c512_i32_54
  let v111 : BitVec 32 := v110
  let v112 : Index := Scalar.indexCast v111
  let c0_55 : Index := 0#32
  ![v112.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S4x4096x4096x8 : Shape := ⟨4, ![4, 4096, 4096, 8]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x128x8x4096 : Shape := ⟨4, ![4, 128, 8, 4096]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x8x128, .bf16⟩
  | .hbm, ⟨1, _⟩ => ⟨S4x4096x8x32, .bf16⟩
  | .hbm, ⟨2, _⟩ => ⟨S4x4096x128, .bf16⟩
  | .hbm, ⟨3, _⟩ => ⟨S4x4096x32, .bf16⟩
  | .hbm, ⟨4, _⟩ => ⟨S4x4096x8x128, .f32⟩
  | .hbm, ⟨5, _⟩ => ⟨S4x4096x8x32, .f32⟩
  | .hbm, ⟨6, _⟩ => ⟨S4x4096x128, .f32⟩
  | .hbm, ⟨7, _⟩ => ⟨S4x4096x32, .f32⟩
  | .hbm, ⟨8, _⟩ => ⟨S4x4096x4096x8, .f32⟩
  | .hbm, ⟨9, _⟩ => ⟨S4x8x4096x4096, .f32⟩
  | .hbm, ⟨10, _⟩ => ⟨S4x8x4096x4096, .bf16⟩
  | .hbm, ⟨11, _⟩ => ⟨S4x4096x4096x8, .f32⟩
  | .hbm, ⟨12, _⟩ => ⟨S4x8x4096x4096, .f32⟩
  | .hbm, ⟨13, _⟩ => ⟨S4x8x4096x4096, .bf16⟩
  | .hbm, ⟨14, _⟩ => ⟨S4x8x4096x4096, .bf16⟩
  | .hbm, ⟨15, _⟩ => ⟨S4x8x4096x4096, .f32⟩
  | .hbm, ⟨16, _⟩ => ⟨S_, .f32⟩
  | .hbm, ⟨17, _⟩ => ⟨S_, .f32⟩
  | .hbm, ⟨18, _⟩ => ⟨S4x8x4096x4096, .f32⟩
  | .hbm, ⟨19, _⟩ => ⟨S4x8x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4x8x4096x4096, .i1⟩
  | .hbm, ⟨29, _⟩ => ⟨S4x8x4096x4096, .f32⟩
  | .hbm, ⟨30, _⟩ => ⟨S4x8x4096x4096, .f32⟩
  | .hbm, ⟨31, _⟩ => ⟨S_, .f32⟩
  | .hbm, ⟨32, _⟩ => ⟨S4x8x4096, .f32⟩
  | .hbm, ⟨33, _⟩ => ⟨S_, .f32⟩
  | .hbm, ⟨34, _⟩ => ⟨S4x8x4096, .f32⟩
  | .hbm, ⟨35, _⟩ => ⟨S4x8x4096, .f32⟩
  | .hbm, ⟨36, _⟩ => ⟨S4x8x4096x1, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096, .f32⟩
  | .hbm, ⟨42, _⟩ => ⟨S4x8x4096x1, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .bf16⟩
  | .hbm, ⟨46, _⟩ => ⟨S4x8x4096x4096, .f32⟩
  | .hbm, ⟨47, _⟩ => ⟨S4x128x8x4096, .f32⟩
  | .hbm, ⟨48, _⟩ => ⟨S4x4096x8x128, .f32⟩
  | .hbm, ⟨49, _⟩ => ⟨S16384x1024, .f32⟩
  | .hbm, ⟨50, _⟩ => ⟨S16384x1024, .bf16⟩
  | _, _ => ⟨S4x4096x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel4.lean ====
abbrev S16384x1024 : Shape := ⟨2, ![16384, 1024]⟩
abbrev S16384x3072 : Shape := ⟨2, ![16384, 3072]⟩
abbrev S512x1024 : Shape := ⟨2, ![512, 1024]⟩
abbrev S128x8x64 : Shape := ⟨3, ![128, 8, 64]⟩
abbrev S1024x1024 : Shape := ⟨2, ![1024, 1024]⟩
abbrev S8x8 : Shape := ⟨2, ![8, 8]⟩
abbrev S_ : Shape := ⟨0, ![]⟩
abbrev S8x128x64 : Shape := ⟨3, ![8, 128, 64]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S1024x512 : Shape := ⟨2, ![1024, 512]⟩
abbrev S1024x8x1x64 : Shape := ⟨4, ![1024, 8, 1, 64]⟩
abbrev S8 : Shape := ⟨1, ![8]⟩
abbrev S8x1 : Shape := ⟨2, ![8, 1]⟩
abbrev S2 : Shape := ⟨1, ![2]⟩
abbrev S1x2 : Shape := ⟨2, ![1, 2]⟩
abbrev S8x2 : Shape := ⟨2, ![8, 2]⟩
abbrev S8x2x1 : Shape := ⟨3, ![8, 2, 1]⟩
abbrev S1x8x2x1 : Shape := ⟨4, ![1, 8, 2, 1]⟩
abbrev S1024x8x2x64 : Shape := ⟨4, ![1024, 8, 2, 64]⟩
abbrev S512x3072 : Shape := ⟨2, ![512, 3072]⟩
abbrev S512x512 : Shape := ⟨2, ![512, 512]⟩

abbrev nBuf : Space → Nat
  | .hbm => 100
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x3072, .f32⟩
  | .hbm, ⟨5, _⟩ => ⟨S512x1024, .f32⟩
  | .hbm, ⟨6, _⟩ => ⟨S128x8x64, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x128x64, .f32⟩
  | .hbm, ⟨18, _⟩ => ⟨S8x128x1x64, .f32⟩
  | .hbm, ⟨19, _⟩ => ⟨S8x1x8x1, .f32⟩
  | .hbm, ⟨20, _⟩ => ⟨S8x128x8x64, .f32⟩
  | .hbm, ⟨21, _⟩ => ⟨S8x128x8x64, .f32⟩
  | .hbm, ⟨22, _⟩ => ⟨S8x128x8x64, .f32⟩
  | .hbm, ⟨23, _⟩ => ⟨S1024x512, .f32⟩
  | .hbm, ⟨24, _⟩ => ⟨S1024x512, .bf16⟩
  | .hbm, ⟨25, _⟩ => ⟨S1024x512, .f32⟩
  | .hbm, ⟨26, _⟩ => ⟨S1024x8x1x64, .f32⟩
  | .hbm, ⟨27, _⟩ => ⟨S8, .i32⟩
  | .hbm, ⟨28, _⟩ => ⟨S8x1, .i32⟩
  | .hbm, ⟨29, _⟩ => ⟨S_, .i32⟩
  | .hbm, ⟨30, _⟩ => ⟨S_, .i32⟩
  | .hbm, ⟨31, _⟩ => ⟨S8x1, .i32⟩
  | .hbm, ⟨32, _⟩ => ⟨S8x1, .i32⟩
  | .hbm, ⟨33, _⟩ => ⟨S8x1, .i32⟩
  | .hbm, ⟨34, _⟩ => ⟨S_, .i32⟩
  | .hbm, ⟨35, _⟩ => ⟨S8x1, .i32⟩
  | .hbm, ⟨36, _⟩ => ⟨S8x1, .i1⟩
  | .hbm, ⟨37, _⟩ => ⟨S8x1, .i32⟩
  | .hbm, ⟨38, _⟩ => ⟨S8x1, .i32⟩
  | .hbm, ⟨39, _⟩ => ⟨S_, .i32⟩
  | .hbm, ⟨40, _⟩ => ⟨S8x1, .i32⟩
  | .hbm, ⟨41, _⟩ => ⟨S8x1, .i1⟩
  | .hbm, ⟨42, _⟩ => ⟨S8x1, .i1⟩
  | .hbm, ⟨43, _⟩ => ⟨S_, .i32⟩
  | .hbm, ⟨44, _⟩ => ⟨S8x1, .i32⟩
  | .hbm, ⟨45, _⟩ => ⟨S8x1, .i32⟩
  | .hbm, ⟨46, _⟩ => ⟨S8x1, .i32⟩
  | .hbm, ⟨47, _⟩ => ⟨S2, .i32⟩
  | .hbm, ⟨48, _⟩ => ⟨S1x2, .i32⟩
  | .hbm, ⟨49, _⟩ => ⟨S8x2, .i32⟩
  | .hbm, ⟨50, _⟩ => ⟨S8x2, .i32⟩
  | .hbm, ⟨51, _⟩ => ⟨S8x2, .i1⟩
  | .hbm, ⟨52, _⟩ => ⟨S8x2, .f32⟩
  | .hbm, ⟨53, _⟩ => ⟨S8x2x1, .f32⟩
  | .hbm, ⟨54, _⟩ => ⟨S1x8x2x1, .f32⟩
  | .hbm, ⟨55, _⟩ => ⟨S1024x8x2x64, .f32⟩
  | .hbm, ⟨56, _⟩ => ⟨S1024x8x2x64, .f32⟩
  | .hbm, ⟨57, _⟩ => ⟨S1024x8x2x64, .f32⟩
  | .hbm, ⟨58, _⟩ => ⟨S1024x1024, .f32⟩
  | .hbm, ⟨59, _⟩ => ⟨S1024x1024, .f32⟩
  | .hbm, ⟨60, _⟩ => ⟨S1024x1024, .bf16⟩
  | .hbm, ⟨61, _⟩ => ⟨S1024x512, .f32⟩
  | .hbm, ⟨62, _⟩ => ⟨S1024x8x1x64, .f32⟩
  | .hbm, ⟨63, _⟩ => ⟨S8, .i32⟩
  | .hbm, ⟨64, _⟩ => ⟨S8x1, .i32⟩
  | .hbm, ⟨65, _⟩ => ⟨S_, .i32⟩
  | .hbm, ⟨66, _⟩ => ⟨S_, .i32⟩
  | .hbm, ⟨67, _⟩ => ⟨S8x1, .i32⟩
  | .hbm, ⟨68, _⟩ => ⟨S8x1, .i32⟩
  | .hbm, ⟨69, _⟩ => ⟨S8x1, .i32⟩
  | .hbm, ⟨70, _⟩ => ⟨S_, .i32⟩
  | .hbm, ⟨71, _⟩ => ⟨S8x1, .i32⟩
  | .hbm, ⟨72, _⟩ => ⟨S8x1, .i1⟩
  | .hbm, ⟨73, _⟩ => ⟨S8x1, .i32⟩
  | .hbm, ⟨74, _⟩ => ⟨S8x1, .i32⟩
  | .hbm, ⟨75, _⟩ => ⟨S_, .i32⟩
  | .hbm, ⟨76, _⟩ => ⟨S8x1, .i32⟩
  | .hbm, ⟨77, _⟩ => ⟨S8x1, .i1⟩
  | .hbm, ⟨78, _⟩ => ⟨S8x1, .i1⟩
  | .hbm, ⟨79, _⟩ => ⟨S_, .i32⟩
  | .hbm, ⟨80, _⟩ => ⟨S8x1, .i32⟩
  | .hbm, ⟨81, _⟩ => ⟨S8x1, .i32⟩
  | .hbm, ⟨82, _⟩ => ⟨S8x1, .i32⟩
  | .hbm, ⟨83, _⟩ => ⟨S2, .i32⟩
  | .hbm, ⟨84, _⟩ => ⟨S1x2, .i32⟩
  | .hbm, ⟨85, _⟩ => ⟨S8x2, .i32⟩
  | .hbm, ⟨86, _⟩ => ⟨S8x2, .i32⟩
  | .hbm, ⟨87, _⟩ => ⟨S8x2, .i1⟩
  | .hbm, ⟨88, _⟩ => ⟨S8x2, .f32⟩
  | .hbm, ⟨89, _⟩ => ⟨S8x2x1, .f32⟩
  | .hbm, ⟨90, _⟩ => ⟨S1x8x2x1, .f32⟩
  | .hbm, ⟨91, _⟩ => ⟨S1024x8x2x64, .f32⟩
  | .hbm, ⟨92, _⟩ => ⟨S1024x8x2x64, .f32⟩
  | .hbm, ⟨93, _⟩ => ⟨S1024x8x2x64, .f32⟩
  | .hbm, ⟨94, _⟩ => ⟨S1024x1024, .f32⟩
  | .hbm, ⟨95, _⟩ => ⟨S1024x1024, .f32⟩
  | .hbm, ⟨96, _⟩ => ⟨S1024x1024, .bf16⟩
  | .hbm, ⟨97, _⟩ => ⟨S512x1024, .bf16⟩
  | .hbm, ⟨98, _⟩ => ⟨S1024x1024, .bf16⟩
  | .hbm, ⟨99, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .f32⟩
  | .local _ .vmem, ⟨9, _⟩ => ⟨S512x3072, .f32⟩
  | .local _ .vmem, ⟨10, _⟩ => ⟨S1024x1024, .bf16⟩
  | .local _ .vmem, ⟨11, _⟩ => ⟨S1024x512, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_1 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x1024 : Shape := ⟨2, ![16384, 1024]⟩
abbrev S16384x3072 : Shape := ⟨2, ![16384, 3072]⟩
abbrev S512x1024 : Shape := ⟨2, ![512, 1024]⟩
abbrev S128x8x64 : Shape := ⟨3, ![128, 8, 64]⟩
abbrev S1024x1024 : Shape := ⟨2, ![1024, 1024]⟩
abbrev S16384x3x1024 : Shape := ⟨3, ![16384, 3, 1024]⟩
abbrev S16384x8x128 : Shape := ⟨3, ![16384, 8, 128]⟩
abbrev S8x64x16384 : Shape := ⟨3, ![8, 64, 16384]⟩
abbrev S16384x8x64 : Shape := ⟨3, ![16384, 8, 64]⟩
abbrev S16384x1x1024 : Shape := ⟨3, ![16384, 1, 1024]⟩
abbrev S16384x2x4x2x64 : Shape := ⟨5, ![16384, 2, 4, 2, 64]⟩
abbrev S16384x1x4x1x64 : Shape := ⟨5, ![16384, 1, 4, 1, 64]⟩
abbrev S16384x4x64 : Shape := ⟨3, ![16384, 4, 64]⟩
abbrev S16384x256 : Shape := ⟨2, ![16384, 256]⟩
abbrev S16384x512 : Shape := ⟨2, ![16384, 512]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x3072, .f32⟩
  | .hbm, ⟨5, _⟩ => ⟨S512x1024, .f32⟩
  | .hbm, ⟨6, _⟩ => ⟨S128x8x64, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S16384x3x1024, .f32⟩
  | .hbm, ⟨11, _⟩ => ⟨S16384x1024, .f32⟩
  | .hbm, ⟨12, _⟩ => ⟨S16384x8x128, .f32⟩
  | .hbm, ⟨13, _⟩ => ⟨S8x64x16384, .f32⟩
  | .hbm, ⟨14, _⟩ => ⟨S16384x8x64, .f32⟩
  | .hbm, ⟨15, _⟩ => ⟨S16384x1x1024, .f32⟩
  | .hbm, ⟨16, _⟩ => ⟨S16384x1024, .f32⟩
  | .hbm, ⟨17, _⟩ => ⟨S16384x1024, .f32⟩
  | .hbm, ⟨18, _⟩ => ⟨S16384x2x4x2x64, .f32⟩
  | .hbm, ⟨19, _⟩ => ⟨S16384x1x4x1x64, .f32⟩
  | .hbm, ⟨20, _⟩ => ⟨S16384x4x64, .f32⟩
  | .hbm, ⟨21, _⟩ => ⟨S16384x256, .f32⟩
  | .hbm, ⟨22, _⟩ => ⟨S16384x1x4x1x64, .f32⟩
  | .hbm, ⟨23, _⟩ => ⟨S16384x4x64, .f32⟩
  | .hbm, ⟨24, _⟩ => ⟨S16384x256, .f32⟩
  | .hbm, ⟨25, _⟩ => ⟨S16384x512, .f32⟩
  | .hbm, ⟨26, _⟩ => ⟨S16384x1024, .f32⟩
  | .hbm, ⟨27, _⟩ => ⟨S16384x1024, .f32⟩
  | .hbm, ⟨28, _⟩ => ⟨S16384x1x1024, .f32⟩
  | .hbm, ⟨29, _⟩ => ⟨S16384x1024, .f32⟩
  | .hbm, ⟨30, _⟩ => ⟨S16384x512, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1x1024, .f32⟩
  | .hbm, ⟨35, _⟩ => ⟨S16384x1024, .f32⟩
  | .hbm, ⟨36, _⟩ => ⟨S16384x1024, .f32⟩
  | .hbm, ⟨37, _⟩ => ⟨S16384x2x4x2x64, .f32⟩
  | .hbm, ⟨38, _⟩ => ⟨S16384x1x4x1x64, .f32⟩
  | .hbm, ⟨39, _⟩ => ⟨S16384x4x64, .f32⟩
  | .hbm, ⟨40, _⟩ => ⟨S16384x256, .f32⟩
  | .hbm, ⟨41, _⟩ => ⟨S16384x1x4x1x64, .f32⟩
  | .hbm, ⟨42, _⟩ => ⟨S16384x4x64, .f32⟩
  | .hbm, ⟨43, _⟩ => ⟨S16384x256, .f32⟩
  | .hbm, ⟨44, _⟩ => ⟨S16384x512, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x5536 : Shape := ⟨2, ![1024, 5536]⟩
abbrev S128 : Shape := ⟨1, ![128]⟩
abbrev S128x8x64 : Shape := ⟨3, ![128, 8, 64]⟩
abbrev S1024x512 : Shape := ⟨2, ![1024, 512]⟩
abbrev S1024x128 : Shape := ⟨2, ![1024, 128]⟩
abbrev S1024x768 : Shape := ⟨2, ![1024, 768]⟩
abbrev S1024x32 : Shape := ⟨2, ![1024, 32]⟩
abbrev S1024x3072 : Shape := ⟨2, ![1024, 3072]⟩
abbrev S1024x8x96 : Shape := ⟨3, ![1024, 8, 96]⟩
abbrev S1024x8x64 : Shape := ⟨3, ![1024, 8, 64]⟩
abbrev S1024x8x32 : Shape := ⟨3, ![1024, 8, 32]⟩
abbrev S_ : Shape := ⟨0, ![]⟩
abbrev S1024x8x128 : Shape := ⟨3, ![1024, 8, 128]⟩
abbrev S1024x1024 : Shape := ⟨2, ![1024, 1024]⟩
abbrev S1024x8x1x64 : Shape := ⟨4, ![1024, 8, 1, 64]⟩
abbrev S8 : Shape := ⟨1, ![8]⟩
abbrev S8x1 : Shape := ⟨2, ![8, 1]⟩
abbrev S2 : Shape := ⟨1, ![2]⟩
abbrev S1x2 : Shape := ⟨2, ![1, 2]⟩
abbrev S8x2 : Shape := ⟨2, ![8, 2]⟩
abbrev S8x2x1 : Shape := ⟨3, ![8, 2, 1]⟩
abbrev S1x8x2x1 : Shape := ⟨4, ![1, 8, 2, 1]⟩
abbrev S1024x8x2x64 : Shape := ⟨4, ![1024, 8, 2, 64]⟩
abbrev S1024x7424 : Shape := ⟨2, ![1024, 7424]⟩
abbrev S8x8 : Shape := ⟨2, ![8, 8]⟩
abbrev S8x64x128 : Shape := ⟨3, ![8, 64, 128]⟩
abbrev S8x64x1x128 : Shape := ⟨4, ![8, 64, 1, 128]⟩
abbrev S8x1x8x1 : Shape := ⟨4, ![8, 1, 8, 1]⟩
abbrev S8x64x8x128 : Shape := ⟨4, ![8, 64, 8, 128]⟩
abbrev S512x1024 : Shape := ⟨2, ![512, 1024]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16 : Shape := ⟨1, ![16]⟩
abbrev S1x16 : Shape := ⟨2, ![1, 16]⟩
abbrev S4096x16 : Shape := ⟨2, ![4096, 16]⟩
abbrev S1x4096x1x32 : Shape := ⟨4, ![1, 4096, 1, 32]⟩
abbrev S1x4096x4x32 : Shape := ⟨4, ![1, 4096, 4, 32]⟩
abbrev S1x1024 : Shape := ⟨2, ![1, 1024]⟩
abbrev S1x128 : Shape := ⟨2, ![1, 128]⟩
abbrev S16384x128 : Shape := ⟨2, ![16384, 128]⟩
abbrev S16384x32 : Shape := ⟨2, ![16384, 32]⟩
abbrev S16384x256 : Shape := ⟨2, ![16384, 256]⟩
abbrev S16384x3072 : Shape := ⟨2, ![16384, 3072]⟩
abbrev S512x128 : Shape := ⟨2, ![512, 128]⟩
abbrev S512x32 : Shape := ⟨2, ![512, 32]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩
abbrev S512x512 : Shape := ⟨2, ![512, 512]⟩

abbrev nBuf : Space → Nat
  | .hbm => 178
  | .vmem => 46
  | .smem => 0
  | _ => 0

abbrev hbmTy0_0 (i : Nat) : BufTy := match i % 128 with
  | 0 => ⟨S16384x1024, .f32⟩
  | 1 => ⟨S1024, .f32⟩
  | 2 => ⟨S1024x5536, .f32⟩
  | 3 => ⟨S128, .f32⟩
  | 4 => ⟨S128x8x64, .f32⟩
  | 5 => ⟨S1024x512, .f32⟩
  | 6 => ⟨S1024x128, .f32⟩
  | 7 => ⟨S1024x128, .f32⟩
  | 8 => ⟨S1024x768, .f32⟩
  | 9 => ⟨S1024x128, .f32⟩
  | 10 => ⟨S1024x32, .f32⟩
  | 11 => ⟨S1024x512, .f32⟩
  | 12 => ⟨S1024x128, .f32⟩
  | 13 => ⟨S1024x128, .f32⟩
  | 14 => ⟨S1024x3072, .f32⟩
  | 15 => ⟨S1024x8x96, .f32⟩
  | 16 => ⟨S1024x8x64, .f32⟩
  | 17 => ⟨S1024x512, .f32⟩
  | 18 => ⟨S1024x8x32, .f32⟩
  | 19 => ⟨S_, .i32⟩
  | 20 => ⟨S_, .f32⟩
  | 21 => ⟨S1024x8x128, .f32⟩
  | 22 => ⟨S1024x1024, .f32⟩
  | 23 => ⟨S_, .i32⟩
  | 24 => ⟨S_, .f32⟩
  | 25 => ⟨S1024x128, .f32⟩
  | 26 => ⟨S1024x8x1x64, .f32⟩
  | 27 => ⟨S8, .i32⟩
  | 28 => ⟨S8x1, .i32⟩
  | 29 => ⟨S_, .i32⟩
  | 30 => ⟨S_, .i32⟩
  | 31 => ⟨S8x1, .i32⟩
  | 32 => ⟨S8x1, .i32⟩
  | 33 => ⟨S8x1, .i32⟩
  | 34 => ⟨S_, .i32⟩
  | 35 => ⟨S8x1, .i32⟩
  | 36 => ⟨S8x1, .i1⟩
  | 37 => ⟨S8x1, .i32⟩
  | 38 => ⟨S8x1, .i32⟩
  | 39 => ⟨S_, .i32⟩
  | 40 => ⟨S8x1, .i32⟩
  | 41 => ⟨S8x1, .i1⟩
  | 42 => ⟨S8x1, .i1⟩
  | 43 => ⟨S_, .i32⟩
  | 44 => ⟨S8x1, .i32⟩
  | 45 => ⟨S8x1, .i32⟩
  | 46 => ⟨S8x1, .i32⟩
  | 47 => ⟨S2, .i32⟩
  | 48 => ⟨S1x2, .i32⟩
  | 49 => ⟨S8x2, .i32⟩
  | 50 => ⟨S8x2, .i32⟩
  | 51 => ⟨S8x2, .i1⟩
  | 52 => ⟨S8x2, .f32⟩
  | 53 => ⟨S8x2x1, .f32⟩
  | 54 => ⟨S1x8x2x1, .f32⟩
  | 55 => ⟨S1024x8x2x64, .f32⟩
  | 56 => ⟨S1024x8x2x64, .f32⟩
  | 57 => ⟨S1024x8x2x64, .f32⟩
  | 58 => ⟨S1024x1024, .f32⟩
  | 59 => ⟨S1024x8x1x64, .f32⟩
  | 60 => ⟨S8, .i32⟩
  | 61 => ⟨S8x1, .i32⟩
  | 62 => ⟨S_, .i32⟩
  | 63 => ⟨S_, .i32⟩
  | 64 => ⟨S8x1, .i32⟩
  | 65 => ⟨S8x1, .i32⟩
  | 66 => ⟨S8x1, .i32⟩
  | 67 => ⟨S_, .i32⟩
  | 68 => ⟨S8x1, .i32⟩
  | 69 => ⟨S8x1, .i1⟩
  | 70 => ⟨S8x1, .i32⟩
  | 71 => ⟨S8x1, .i32⟩
  | 72 => ⟨S_, .i32⟩
  | 73 => ⟨S8x1, .i32⟩
  | 74 => ⟨S8x1, .i1⟩
  | 75 => ⟨S8x1, .i1⟩
  | 76 => ⟨S_, .i32⟩
  | 77 => ⟨S8x1, .i32⟩
  | 78 => ⟨S8x1, .i32⟩
  | 79 => ⟨S8x1, .i32⟩
  | 80 => ⟨S2, .i32⟩
  | 81 => ⟨S1x2, .i32⟩
  | 82 => ⟨S8x2, .i32⟩
  | 83 => ⟨S8x2, .i32⟩
  | 84 => ⟨S8x2, .i1⟩
  | 85 => ⟨S8x2, .f32⟩
  | 86 => ⟨S8x2x1, .f32⟩
  | 87 => ⟨S1x8x2x1, .f32⟩
  | 88 => ⟨S1024x8x2x64, .f32⟩
  | 89 => ⟨S1024x8x2x64, .f32⟩
  | 90 => ⟨S1024x8x2x64, .f32⟩
  | 91 => ⟨S1024x1024, .f32⟩
  | 92 => ⟨S1024x7424, .f32⟩
  | 93 => ⟨S1024x7424, .bf16⟩
  | 94 => ⟨S8x8, .i32⟩
  | 95 => ⟨S8x8, .i32⟩
  | 96 => ⟨S_, .i32⟩
  | 97 => ⟨S8x8, .i32⟩
  | 98 => ⟨S8x8, .i32⟩
  | 99 => ⟨S8x8, .i1⟩
  | 100 => ⟨S8x8, .f32⟩
  | 101 => ⟨S8x64x128, .f32⟩
  | 102 => ⟨S8x64x1x128, .f32⟩
  | 103 => ⟨S8x1x8x1, .f32⟩
  | 104 => ⟨S8x64x8x128, .f32⟩
  | 105 => ⟨S8x64x8x128, .f32⟩
  | 106 => ⟨S8x64x8x128, .f32⟩
  | 107 => ⟨S512x1024, .f32⟩
  | 108 => ⟨S512x1024, .bf16⟩
  | 109 => ⟨S4096, .i32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S32, .f32⟩
  | 118 => ⟨S4096, .f32⟩
  | 119 => ⟨S4096x1, .f32⟩
  | 120 => ⟨S1x32, .f32⟩
  | 121 => ⟨S4096x32, .f32⟩
  | 122 => ⟨S4096x32, .f32⟩
  | 123 => ⟨S4096x32, .f32⟩
  | 124 => ⟨S4096x32, .f32⟩
  | 125 => ⟨S4096x32, .f32⟩
  | 126 => ⟨S4096x64, .f32⟩
  | 127 => ⟨S1x4096x1x64, .f32⟩
  | _ => ⟨S16384x1024, .f32⟩

abbrev hbmTy0_1 (i : Nat) : BufTy := match i % 128 with
  | 0 => ⟨S1x4096x2x64, .f32⟩
  | 1 => ⟨S4096x128, .f32⟩
  | 2 => ⟨S4096x32, .f32⟩
  | 3 => ⟨S4096x64, .f32⟩
  | 4 => ⟨S1x4096x1x64, .f32⟩
  | 5 => ⟨S1x4096x2x64, .f32⟩
  | 6 => ⟨S4096x128, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S4096, .f32⟩
  | 16 => ⟨S4096x1, .f32⟩
  | 17 => ⟨S1x16, .f32⟩
  | 18 => ⟨S4096x16, .f32⟩
  | 19 => ⟨S4096x16, .f32⟩
  | 20 => ⟨S4096x16, .f32⟩
  | 21 => ⟨S4096x16, .f32⟩
  | 22 => ⟨S4096x16, .f32⟩
  | 23 => ⟨S4096x32, .f32⟩
  | 24 => ⟨S1x4096x1x32, .f32⟩
  | 25 => ⟨S1x4096x4x32, .f32⟩
  | 26 => ⟨S4096x128, .f32⟩
  | 27 => ⟨S4096x16, .f32⟩
  | 28 => ⟨S4096x32, .f32⟩
  | 29 => ⟨S1x4096x1x32, .f32⟩
  | 30 => ⟨S1x4096x4x32, .f32⟩
  | 31 => ⟨S4096x128, .f32⟩
  | 32 => ⟨S1x1024, .f32⟩
  | 33 => ⟨S1x128, .f32⟩
  | 34 => ⟨S16384x1024, .bf16⟩
  | 35 => ⟨S16384x128, .f32⟩
  | 36 => ⟨S16384x128, .f32⟩
  | 37 => ⟨S16384x128, .bf16⟩
  | 38 => ⟨S16384x128, .bf16⟩
  | 39 => ⟨S16384x1024, .bf16⟩
  | 40 => ⟨S16384x1024, .bf16⟩
  | 41 => ⟨S16384x128, .f32⟩
  | 42 => ⟨S16384x32, .f32⟩
  | 43 => ⟨S16384x256, .bf16⟩
  | 44 => ⟨S16384x1024, .f32⟩
  | 45 => ⟨S16384x128, .f32⟩
  | 46 => ⟨S16384x128, .f32⟩
  | 47 => ⟨S16384x128, .bf16⟩
  | 48 => ⟨S16384x128, .bf16⟩
  | 49 => ⟨S16384x3072, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7424, .bf16⟩
  | .local _ .vmem, ⟨4, _⟩ => ⟨S1x128, .f32⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x128, .f32⟩
  | .local _ .vmem, ⟨29, _⟩ => ⟨S512x128, .f32⟩
  | .local _ .vmem, ⟨30, _⟩ => ⟨S512x32, .f32⟩
  | .local _ .vmem, ⟨31, _⟩ => ⟨S512x32, .f32⟩
  | .local _ .vmem, ⟨32, _⟩ => ⟨S512x256, .bf16⟩
  | .local _ .vmem, ⟨33, _⟩ => ⟨S512x256, .bf16⟩
  | .local _ .vmem, ⟨34, _⟩ => ⟨S512x1024, .f32⟩
  | .local _ .vmem, ⟨35, _⟩ => ⟨S512x1024, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .bf16⟩
  | .local _ .vmem, ⟨41, _⟩ => ⟨S512x128, .bf16⟩
  | .local _ .vmem, ⟨42, _⟩ => ⟨S512x128, .bf16⟩
  | .local _ .vmem, ⟨43, _⟩ => ⟨S512x128, .bf16⟩
  | .local _ .vmem, ⟨44, _⟩ => ⟨S512x3072, .f32⟩
  | .local _ .vmem, ⟨45, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_0 : Ref sig .tc := ⟨.hbm, 43, rfl⟩
abbrev main_call2_v12 : Ref sig .tc := ⟨.hbm, 44, rfl⟩
abbrev main_call2_v13 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_2 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_c : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_3 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst : Ref sig .tc := ⟨.hbm, 111, rfl⟩
abbrev main_v67 : Ref sig .tc := ⟨.hbm, 112, rfl⟩
abbrev main_v68 : Ref sig .tc := ⟨.hbm, 113, rfl⟩
abbrev main_cst_4 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_5 : Ref sig .tc := ⟨.hbm, 136, rfl⟩
abbrev main_v90 : Ref sig .tc := ⟨.hbm, 137, rfl⟩
abbrev main_v91 : Ref sig .tc := ⟨.hbm, 138, rfl⟩
abbrev main_cst_6 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114_0 : Ref sig .tc := ⟨.hbm, 162, rfl⟩
abbrev main_v114_1 : Ref sig .tc := ⟨.hbm, 163, rfl⟩
abbrev main_v114_2 : Ref sig .tc := ⟨.hbm, 164, rfl⟩
abbrev main_v114_3 : Ref sig .tc := ⟨.hbm, 165, rfl⟩
abbrev main_v114_4 : Ref sig .tc := ⟨.hbm, 166, rfl⟩
abbrev main_v114_5 : Ref sig .tc := ⟨.hbm, 167, rfl⟩
abbrev main_v114_6 : Ref sig .tc := ⟨.hbm, 168, rfl⟩
abbrev main_v114_7 : Ref sig .tc := ⟨.hbm, 169, rfl⟩
abbrev main_v114_8 : Ref sig .tc := ⟨.hbm, 170, rfl⟩
abbrev main_v114_9 : Ref sig .tc := ⟨.hbm, 171, rfl⟩
abbrev main_v114_10 : Ref sig .tc := ⟨.hbm, 172, rfl⟩
abbrev main_v114_11 : Ref sig .tc := ⟨.hbm, 173, rfl⟩
abbrev main_v114_12 : Ref sig .tc := ⟨.hbm, 174, rfl⟩
abbrev main_v114_13 : Ref sig .tc := ⟨.hbm, 175, rfl⟩
abbrev main_v114_14 : Ref sig .tc := ⟨.hbm, 176, rfl⟩
abbrev main_v114_15 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7424 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x3072 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference5Ideal.lean ====
abbrev S16384x1024 : Shape := ⟨2, ![16384, 1024]⟩
abbrev S1024 : Shape := ⟨1, ![1024]⟩
abbrev S1024x5536 : Shape := ⟨2, ![1024, 5536]⟩
abbrev S128 : Shape := ⟨1, ![128]⟩
abbrev S128x8x64 : Shape := ⟨3, ![128, 8, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5536 : Shape := ⟨2, ![16384, 5536]⟩
abbrev S16384x512 : Shape := ⟨2, ![16384, 512]⟩
abbrev S16384x128 : Shape := ⟨2, ![16384, 128]⟩
abbrev S16384x768 : Shape := ⟨2, ![16384, 768]⟩
abbrev S16384x32 : Shape := ⟨2, ![16384, 32]⟩
abbrev S16384x3072 : Shape := ⟨2, ![16384, 3072]⟩
abbrev S16384x8x96 : Shape := ⟨3, ![16384, 8, 96]⟩
abbrev S16384x8x64 : Shape := ⟨3, ![16384, 8, 64]⟩
abbrev S8x128x16384 : Shape := ⟨3, ![8, 128, 16384]⟩
abbrev S16384x8x128 : Shape := ⟨3, ![16384, 8, 128]⟩
abbrev S16384x8x32 : Shape := ⟨3, ![16384, 8, 32]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x32 : Shape := ⟨4, ![4, 4096, 8, 32]⟩
abbrev S4x4096x8x16 : Shape := ⟨4, ![4, 4096, 8, 16]⟩
abbrev S1x128 : Shape := ⟨2, ![1, 128]⟩
abbrev S16384x1x32 : Shape := ⟨3, ![16384, 1, 32]⟩
abbrev S4x4096x1x32 : Shape := ⟨4, ![4, 4096, 1, 32]⟩
abbrev S4x4096x1x16 : Shape := ⟨4, ![4, 4096, 1, 16]⟩
abbrev S16384x96 : Shape := ⟨2, ![16384, 96]⟩
abbrev S16384x256 : Shape := ⟨2, ![16384, 256]⟩
abbrev S32 : Shape := ⟨1, ![32]⟩
abbrev S1x32 : Shape := ⟨2, ![1, 32]⟩
abbrev S4096x32 : Shape := ⟨2, ![4096, 32]⟩
abbrev S1x4096x1x32 : Shape := ⟨4, ![1, 4096, 1, 32]⟩
abbrev S4x4096x8x64 : Shape := ⟨4, ![4, 4096, 8, 64]⟩
abbrev S16384x4x64 : Shape := ⟨3, ![16384, 4, 64]⟩
abbrev S16384x4x128 : Shape := ⟨3, ![16384, 4, 128]⟩
abbrev S16384x2x64 : Shape := ⟨3, ![16384, 2, 64]⟩
abbrev S4x4096x2x64 : Shape := ⟨4, ![4, 4096, 2, 64]⟩
abbrev S4x4096x2x32 : Shape := ⟨4, ![4, 4096, 2, 32]⟩

abbrev nBuf : Space → Nat
  | .hbm => 238
  | .vmem => 0
  | .smem => 0
  | _ => 0

abbrev hbmTy0_0 (i : Nat) : BufTy := match i % 128 with
  | 0 => ⟨S16384x1024, .f32⟩
  | 1 => ⟨S1024, .f32⟩
  | 2 => ⟨S1024x5536, .f32⟩
  | 3 => ⟨S128, .f32⟩
  | 4 => ⟨S128x8x64, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x1, .f32⟩
  | 16 => ⟨S16384x1024, .f32⟩
  | 17 => ⟨S16384x1024, .f32⟩
  | 18 => ⟨S1x1024, .f32⟩
  | 19 => ⟨S16384x1024, .f32⟩
  | 20 => ⟨S16384x1024, .f32⟩
  | 21 => ⟨S16384x5536, .f32⟩
  | 22 => ⟨S16384x512, .f32⟩
  | 23 => ⟨S16384x128, .f32⟩
  | 24 => ⟨S16384x128, .f32⟩
  | 25 => ⟨S16384x768, .f32⟩
  | 26 => ⟨S16384x128, .f32⟩
  | 27 => ⟨S16384x32, .f32⟩
  | 28 => ⟨S16384x512, .f32⟩
  | 29 => ⟨S16384x128, .f32⟩
  | 30 => ⟨S16384x128, .f32⟩
  | 31 => ⟨S16384x3072, .f32⟩
  | 32 => ⟨S16384x8x96, .f32⟩
  | 33 => ⟨S16384x8x64, .f32⟩
  | 34 => ⟨S8x128x16384, .f32⟩
  | 35 => ⟨S16384x8x128, .f32⟩
  | 36 => ⟨S16384x1024, .f32⟩
  | 37 => ⟨S16384x8x32, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S16, .f32⟩
  | 46 => ⟨S4096, .i32⟩
  | 47 => ⟨S4096, .f32⟩
  | 48 => ⟨S4096x1, .f32⟩
  | 49 => ⟨S1x16, .f32⟩
  | 50 => ⟨S4096x16, .f32⟩
  | 51 => ⟨S4096x16, .f32⟩
  | 52 => ⟨S4096x16, .f32⟩
  | 53 => ⟨S4096x16, .f32⟩
  | 54 => ⟨S1x4096x1x16, .f32⟩
  | 55 => ⟨S4096x16, .f32⟩
  | 56 => ⟨S1x4096x1x16, .f32⟩
  | 57 => ⟨S4x4096x8x32, .f32⟩
  | 58 => ⟨S4x4096x8x16, .f32⟩
  | 59 => ⟨S4x4096x8x16, .f32⟩
  | 60 => ⟨S4x4096x8x16, .f32⟩
  | 61 => ⟨S4x4096x8x16, .f32⟩
  | 62 => ⟨S4x4096x8x16, .f32⟩
  | 63 => ⟨S4x4096x8x16, .f32⟩
  | 64 => ⟨S4x4096x8x16, .f32⟩
  | 65 => ⟨S4x4096x8x16, .f32⟩
  | 66 => ⟨S4x4096x8x16, .f32⟩
  | 67 => ⟨S4x4096x8x16, .f32⟩
  | 68 => ⟨S4x4096x8x16, .f32⟩
  | 69 => ⟨S4x4096x8x16, .f32⟩
  | 70 => ⟨S4x4096x8x32, .f32⟩
  | 71 => ⟨S16384x8x32, .f32⟩
  | 72 => ⟨S_, .i32⟩
  | 73 => ⟨S_, .f32⟩
  | 74 => ⟨S16384x8x128, .f32⟩
  | 75 => ⟨S16384x1024, .f32⟩
  | 76 => ⟨S16384x128, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x1, .f32⟩
  | 87 => ⟨S16384x128, .f32⟩
  | 88 => ⟨S16384x128, .f32⟩
  | 89 => ⟨S1x128, .f32⟩
  | 90 => ⟨S16384x128, .f32⟩
  | 91 => ⟨S16384x128, .f32⟩
  | 92 => ⟨S16384x1x32, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S16, .f32⟩
  | 101 => ⟨S4096, .i32⟩
  | 102 => ⟨S4096, .f32⟩
  | 103 => ⟨S4096x1, .f32⟩
  | 104 => ⟨S1x16, .f32⟩
  | 105 => ⟨S4096x16, .f32⟩
  | 106 => ⟨S4096x16, .f32⟩
  | 107 => ⟨S4096x16, .f32⟩
  | 108 => ⟨S4096x16, .f32⟩
  | 109 => ⟨S1x4096x1x16, .f32⟩
  | 110 => ⟨S4096x16, .f32⟩
  | 111 => ⟨S1x4096x1x16, .f32⟩
  | 112 => ⟨S4x4096x1x32, .f32⟩
  | 113 => ⟨S4x4096x1x16, .f32⟩
  | 114 => ⟨S4x4096x1x16, .f32⟩
  | 115 => ⟨S4x4096x1x16, .f32⟩
  | 116 => ⟨S4x4096x1x16, .f32⟩
  | 117 => ⟨S4x4096x1x16, .f32⟩
  | 118 => ⟨S4x4096x1x16, .f32⟩
  | 119 => ⟨S4x4096x1x16, .f32⟩
  | 120 => ⟨S4x4096x1x16, .f32⟩
  | 121 => ⟨S4x4096x1x16, .f32⟩
  | 122 => ⟨S4x4096x1x16, .f32⟩
  | 123 => ⟨S4x4096x1x16, .f32⟩
  | 124 => ⟨S4x4096x1x16, .f32⟩
  | 125 => ⟨S4x4096x1x32, .f32⟩
  | 126 => ⟨S16384x1x32, .f32⟩
  | 127 => ⟨S16384x32, .f32⟩
  | _ => ⟨S16384x1024, .f32⟩

abbrev hbmTy0_1 (i : Nat) : BufTy := match i % 128 with
  | 0 => ⟨S_, .f32⟩
  | 1 => ⟨S16384x96, .f32⟩
  | 2 => ⟨S16384x256, .f32⟩
  | 3 => ⟨S16384x8x64, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S4096, .i32⟩
  | 13 => ⟨S4096, .f32⟩
  | 14 => ⟨S4096x1, .f32⟩
  | 15 => ⟨S1x32, .f32⟩
  | 16 => ⟨S4096x32, .f32⟩
  | 17 => ⟨S4096x32, .f32⟩
  | 18 => ⟨S4096x32, .f32⟩
  | 19 => ⟨S4096x32, .f32⟩
  | 20 => ⟨S1x4096x1x32, .f32⟩
  | 21 => ⟨S4096x32, .f32⟩
  | 22 => ⟨S1x4096x1x32, .f32⟩
  | 23 => ⟨S4x4096x8x64, .f32⟩
  | 24 => ⟨S4x4096x8x32, .f32⟩
  | 25 => ⟨S4x4096x8x32, .f32⟩
  | 26 => ⟨S4x4096x8x32, .f32⟩
  | 27 => ⟨S4x4096x8x32, .f32⟩
  | 28 => ⟨S4x4096x8x32, .f32⟩
  | 29 => ⟨S4x4096x8x32, .f32⟩
  | 30 => ⟨S4x4096x8x32, .f32⟩
  | 31 => ⟨S4x4096x8x32, .f32⟩
  | 32 => ⟨S4x4096x8x32, .f32⟩
  | 33 => ⟨S4x4096x8x32, .f32⟩
  | 34 => ⟨S4x4096x8x32, .f32⟩
  | 35 => ⟨S4x4096x8x32, .f32⟩
  | 36 => ⟨S4x4096x8x64, .f32⟩
  | 37 => ⟨S16384x8x64, .f32⟩
  | 38 => ⟨S_, .f32⟩
  | 39 => ⟨S16384x4x64, .f32⟩
  | 40 => ⟨S16384x4x64, .f32⟩
  | 41 => ⟨S16384x4x128, .f32⟩
  | 42 => ⟨S16384x4x64, .f32⟩
  | 43 => ⟨S16384x4x128, .f32⟩
  | 44 => ⟨S16384x8x128, .f32⟩
  | 45 => ⟨S16384x1024, .f32⟩
  | 46 => ⟨S16384x2x64, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S32, .f32⟩
  | 55 => ⟨S4096, .i32⟩
  | 56 => ⟨S4096, .f32⟩
  | 57 => ⟨S4096x1, .f32⟩
  | 58 => ⟨S1x32, .f32⟩
  | 59 => ⟨S4096x32, .f32⟩
  | 60 => ⟨S4096x32, .f32⟩
  | 61 => ⟨S4096x32, .f32⟩
  | 62 => ⟨S4096x32, .f32⟩
  | 63 => ⟨S1x4096x1x32, .f32⟩
  | 64 => ⟨S4096x32, .f32⟩
  | 65 => ⟨S1x4096x1x32, .f32⟩
  | 66 => ⟨S4x4096x2x64, .f32⟩
  | 67 => ⟨S4x4096x2x32, .f32⟩
  | 68 => ⟨S4x4096x2x32, .f32⟩
  | 69 => ⟨S4x4096x2x32, .f32⟩
  | 70 => ⟨S4x4096x2x32, .f32⟩
  | 71 => ⟨S4x4096x2x32, .f32⟩
  | 72 => ⟨S4x4096x2x32, .f32⟩
  | 73 => ⟨S4x4096x2x32, .f32⟩
  | 74 => ⟨S4x4096x2x32, .f32⟩
  | 75 => ⟨S4x4096x2x32, .f32⟩
  | 76 => ⟨S4x4096x2x32, .f32⟩
  | 77 => ⟨S4x4096x2x32, .f32⟩
  | 78 => ⟨S4x4096x2x32, .f32⟩
  | 79 => ⟨S4x4096x2x64, .f32⟩
  | 80 => ⟨S16384x2x64, .f32⟩
  | 81 => ⟨S16384x128, .f32⟩
  | 82 => ⟨S_, .f32⟩
  | 83 => ⟨S16384x512, .f32⟩
  | 84 => ⟨S16384x512, .f32⟩
  | 85 => ⟨S16384x8x64, .f32⟩
  | 86 => ⟨S_, .f32⟩
  | 87 => ⟨S16384x4x64, .f32⟩
  | 88 => ⟨S16384x4x64, .f32⟩
  | 89 => ⟨S16384x4x128, .f32⟩
  | 90 => ⟨S16384x4x64, .f32⟩
  | 91 => ⟨S16384x4x128, .f32⟩
  | 92 => ⟨S16384x8x128, .f32⟩
  | 93 => ⟨S16384x1024, .f32⟩
  | 94 => ⟨S16384x1024, .bf16⟩
  | 95 => ⟨S16384x128, .bf16⟩
  | 96 => ⟨S16384x128, .bf16⟩
  | 97 => ⟨S16384x1024, .bf16⟩
  | 98 => ⟨S16384x1024, .bf16⟩
  | 99 => ⟨S16384x256, .bf16⟩
  | 100 => ⟨S16384x128, .bf16⟩
  | 101 => ⟨S16384x128, .bf16⟩
  | 102 => ⟨S16384x3072, .f32⟩
  | 103 => ⟨S16384x3072, .f32⟩
  | 104 => ⟨S_, .f32⟩
  | 105 => ⟨S16384x3072, .f32⟩
  | 106 => ⟨S16384x3072, .f32⟩
  | 107 => ⟨S_, .f32⟩
  | 108 => ⟨S16384x3072, .f32⟩
  | 109 => ⟨S16384x3072, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_c : Ref sig .tc := ⟨.hbm, 72, rfl⟩
abbrev main_call0_v0 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_v65 : Ref sig .tc := ⟨.hbm, 78, rfl⟩
abbrev main_v66 : Ref sig .tc := ⟨.hbm, 79, rfl⟩
abbrev main_cst_5 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_7 : Ref sig .tc := ⟨.hbm, 94, rfl⟩
abbrev main_v79 : Ref sig .tc := ⟨.hbm, 95, rfl⟩
abbrev main_v80 : Ref sig .tc := ⟨.hbm, 96, rfl⟩
abbrev main_cst_8 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_9 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_10 : Ref sig .tc := ⟨.hbm, 133, rfl⟩
abbrev main_v115 : Ref sig .tc := ⟨.hbm, 134, rfl⟩
abbrev main_v116 : Ref sig .tc := ⟨.hbm, 135, rfl⟩
abbrev main_cst_11 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_cst_12 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_cst_13 : Ref sig .tc := ⟨.hbm, 176, rfl⟩
abbrev main_v155 : Ref sig .tc := ⟨.hbm, 177, rfl⟩
abbrev main_v156 : Ref sig .tc := ⟨.hbm, 178, rfl⟩
abbrev main_cst_14 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_cst_15 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_cst_16 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_cst_17 : Ref sig .tc := ⟨.hbm, 232, rfl⟩
abbrev main_v207 : Ref sig .tc := ⟨.hbm, 233, rfl⟩
abbrev main_v208 : Ref sig .tc := ⟨.hbm, 234, rfl⟩
abbrev main_cst_18 : Ref sig .tc := ⟨.hbm, 235, rfl⟩
abbrev main_v209 : Ref sig .tc := ⟨.hbm, 236, rfl⟩
abbrev main_v210 : Ref sig .tc := ⟨.hbm, 237, rfl⟩

abbrev nD : Nat := 1
abbrev τ : Topo := Topo.v7x

variable {F : FTy → Type} [FloatOps F]
-- ==== Kernel6.lean ====
abbrev S128x1024 : Shape := ⟨2, ![128, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S128x2816 : Shape := ⟨2, ![128, 2816]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩

abbrev nBuf : Space → Nat
  | .hbm => 13
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S128x1024, .f32⟩
  | .local _ .vmem, ⟨7, _⟩ => ⟨S128x2816, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S128x1024 : Shape := ⟨2, ![128, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x2816 : Shape := ⟨2, ![128, 2816]⟩

abbrev nBuf : Space → Nat
  | .hbm => 55
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S128x5632, .f32⟩
  | .hbm, ⟨22, _⟩ => ⟨S128x2816, .f32⟩
  | .hbm, ⟨23, _⟩ => ⟨S128x2816, .f32⟩
  | .hbm, ⟨24, _⟩ => ⟨S128x2816, .f32⟩
  | .hbm, ⟨25, _⟩ => ⟨S128x2816, .f32⟩
  | .hbm, ⟨26, _⟩ => ⟨S_, .f32⟩
  | .hbm, ⟨27, _⟩ => ⟨S128x2816, .f32⟩
  | .hbm, ⟨28, _⟩ => ⟨S128x2816, .f32⟩
  | .hbm, ⟨29, _⟩ => ⟨S_, .f32⟩
  | .hbm, ⟨30, _⟩ => ⟨S128x2816, .f32⟩
  | .hbm, ⟨31, _⟩ => ⟨S128x2816, .f32⟩
  | .hbm, ⟨32, _⟩ => ⟨S128x2816, .f32⟩
  | .hbm, ⟨33, _⟩ => ⟨S128x2816, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x1024, .f32⟩
  | .hbm, ⟨51, _⟩ => ⟨S128x1024, .f32⟩
  | .hbm, ⟨52, _⟩ => ⟨S1x1024, .f32⟩
  | .hbm, ⟨53, _⟩ => ⟨S128x1024, .f32⟩
  | .hbm, ⟨54, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel7.lean ====
abbrev S128x1024 : Shape := ⟨2, ![128, 1024]⟩
abbrev S1024 : Shape := ⟨1, ![1024]⟩
abbrev S1024x5536 : Shape := ⟨2, ![1024, 5536]⟩
abbrev S128 : Shape := ⟨1, ![128]⟩
abbrev S128x8x64 : Shape := ⟨3, ![128, 8, 64]⟩
abbrev S1024x512 : Shape := ⟨2, ![1024, 512]⟩
abbrev S1024x128 : Shape := ⟨2, ![1024, 128]⟩
abbrev S1024x768 : Shape := ⟨2, ![1024, 768]⟩
abbrev S1024x32 : Shape := ⟨2, ![1024, 32]⟩
abbrev S1024x3072 : Shape := ⟨2, ![1024, 3072]⟩
abbrev S1024x8x96 : Shape := ⟨3, ![1024, 8, 96]⟩
abbrev S1024x8x64 : Shape := ⟨3, ![1024, 8, 64]⟩
abbrev S1024x8x32 : Shape := ⟨3, ![1024, 8, 32]⟩
abbrev S_ : Shape := ⟨0, ![]⟩
abbrev S1024x8x128 : Shape := ⟨3, ![1024, 8, 128]⟩
abbrev S1024x1024 : Shape := ⟨2, ![1024, 1024]⟩
abbrev S1024x8x1x64 : Shape := ⟨4, ![1024, 8, 1, 64]⟩
abbrev S8 : Shape := ⟨1, ![8]⟩
abbrev S8x1 : Shape := ⟨2, ![8, 1]⟩
abbrev S2 : Shape := ⟨1, ![2]⟩
abbrev S1x2 : Shape := ⟨2, ![1, 2]⟩
abbrev S8x2 : Shape := ⟨2, ![8, 2]⟩
abbrev S8x2x1 : Shape := ⟨3, ![8, 2, 1]⟩
abbrev S1x8x2x1 : Shape := ⟨4, ![1, 8, 2, 1]⟩
abbrev S1024x8x2x64 : Shape := ⟨4, ![1024, 8, 2, 64]⟩
abbrev S1024x7424 : Shape := ⟨2, ![1024, 7424]⟩
abbrev S8x8 : Shape := ⟨2, ![8, 8]⟩
abbrev S8x64x128 : Shape := ⟨3, ![8, 64, 128]⟩
abbrev S8x64x1x128 : Shape := ⟨4, ![8, 64, 1, 128]⟩
abbrev S8x1x8x1 : Shape := ⟨4, ![8, 1, 8, 1]⟩
abbrev S8x64x8x128 : Shape := ⟨4, ![8, 64, 8, 128]⟩
abbrev S512x1024 : Shape := ⟨2, ![512, 1024]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S16 : Shape := ⟨1, ![16]⟩
abbrev S1x16 : Shape := ⟨2, ![1, 16]⟩
abbrev S128x16 : Shape := ⟨2, ![128, 16]⟩
abbrev S1x128x1x32 : Shape := ⟨4, ![1, 128, 1, 32]⟩
abbrev S1x128x4x32 : Shape := ⟨4, ![1, 128, 4, 32]⟩
abbrev S1x1024 : Shape := ⟨2, ![1, 1024]⟩
abbrev S1x128 : Shape := ⟨2, ![1, 128]⟩
abbrev S128x256 : Shape := ⟨2, ![128, 256]⟩
abbrev S128x3072 : Shape := ⟨2, ![128, 3072]⟩
abbrev S128x512 : Shape := ⟨2, ![128, 512]⟩

abbrev nBuf : Space → Nat
  | .hbm => 179
  | .vmem => 25
  | .smem => 0
  | _ => 0

abbrev hbmTy0_0 (i : Nat) : BufTy := match i % 128 with
  | 0 => ⟨S128x1024, .f32⟩
  | 1 => ⟨S1024, .f32⟩
  | 2 => ⟨S1024x5536, .f32⟩
  | 3 => ⟨S128, .f32⟩
  | 4 => ⟨S128x8x64, .f32⟩
  | 5 => ⟨S1024x512, .f32⟩
  | 6 => ⟨S1024x128, .f32⟩
  | 7 => ⟨S1024x128, .f32⟩
  | 8 => ⟨S1024x768, .f32⟩
  | 9 => ⟨S1024x128, .f32⟩
  | 10 => ⟨S1024x32, .f32⟩
  | 11 => ⟨S1024x512, .f32⟩
  | 12 => ⟨S1024x128, .f32⟩
  | 13 => ⟨S1024x128, .f32⟩
  | 14 => ⟨S1024x3072, .f32⟩
  | 15 => ⟨S1024x8x96, .f32⟩
  | 16 => ⟨S1024x8x64, .f32⟩
  | 17 => ⟨S1024x512, .f32⟩
  | 18 => ⟨S1024x8x32, .f32⟩
  | 19 => ⟨S_, .i32⟩
  | 20 => ⟨S_, .f32⟩
  | 21 => ⟨S1024x8x128, .f32⟩
  | 22 => ⟨S1024x1024, .f32⟩
  | 23 => ⟨S_, .i32⟩
  | 24 => ⟨S_, .f32⟩
  | 25 => ⟨S1024x128, .f32⟩
  | 26 => ⟨S1024x8x1x64, .f32⟩
  | 27 => ⟨S8, .i32⟩
  | 28 => ⟨S8x1, .i32⟩
  | 29 => ⟨S_, .i32⟩
  | 30 => ⟨S_, .i32⟩
  | 31 => ⟨S8x1, .i32⟩
  | 32 => ⟨S8x1, .i32⟩
  | 33 => ⟨S8x1, .i32⟩
  | 34 => ⟨S_, .i32⟩
  | 35 => ⟨S8x1, .i32⟩
  | 36 => ⟨S8x1, .i1⟩
  | 37 => ⟨S8x1, .i32⟩
  | 38 => ⟨S8x1, .i32⟩
  | 39 => ⟨S_, .i32⟩
  | 40 => ⟨S8x1, .i32⟩
  | 41 => ⟨S8x1, .i1⟩
  | 42 => ⟨S8x1, .i1⟩
  | 43 => ⟨S_, .i32⟩
  | 44 => ⟨S8x1, .i32⟩
  | 45 => ⟨S8x1, .i32⟩
  | 46 => ⟨S8x1, .i32⟩
  | 47 => ⟨S2, .i32⟩
  | 48 => ⟨S1x2, .i32⟩
  | 49 => ⟨S8x2, .i32⟩
  | 50 => ⟨S8x2, .i32⟩
  | 51 => ⟨S8x2, .i1⟩
  | 52 => ⟨S8x2, .f32⟩
  | 53 => ⟨S8x2x1, .f32⟩
  | 54 => ⟨S1x8x2x1, .f32⟩
  | 55 => ⟨S1024x8x2x64, .f32⟩
  | 56 => ⟨S1024x8x2x64, .f32⟩
  | 57 => ⟨S1024x8x2x64, .f32⟩
  | 58 => ⟨S1024x1024, .f32⟩
  | 59 => ⟨S1024x8x1x64, .f32⟩
  | 60 => ⟨S8, .i32⟩
  | 61 => ⟨S8x1, .i32⟩
  | 62 => ⟨S_, .i32⟩
  | 63 => ⟨S_, .i32⟩
  | 64 => ⟨S8x1, .i32⟩
  | 65 => ⟨S8x1, .i32⟩
  | 66 => ⟨S8x1, .i32⟩
  | 67 => ⟨S_, .i32⟩
  | 68 => ⟨S8x1, .i32⟩
  | 69 => ⟨S8x1, .i1⟩
  | 70 => ⟨S8x1, .i32⟩
  | 71 => ⟨S8x1, .i32⟩
  | 72 => ⟨S_, .i32⟩
  | 73 => ⟨S8x1, .i32⟩
  | 74 => ⟨S8x1, .i1⟩
  | 75 => ⟨S8x1, .i1⟩
  | 76 => ⟨S_, .i32⟩
  | 77 => ⟨S8x1, .i32⟩
  | 78 => ⟨S8x1, .i32⟩
  | 79 => ⟨S8x1, .i32⟩
  | 80 => ⟨S2, .i32⟩
  | 81 => ⟨S1x2, .i32⟩
  | 82 => ⟨S8x2, .i32⟩
  | 83 => ⟨S8x2, .i32⟩
  | 84 => ⟨S8x2, .i1⟩
  | 85 => ⟨S8x2, .f32⟩
  | 86 => ⟨S8x2x1, .f32⟩
  | 87 => ⟨S1x8x2x1, .f32⟩
  | 88 => ⟨S1024x8x2x64, .f32⟩
  | 89 => ⟨S1024x8x2x64, .f32⟩
  | 90 => ⟨S1024x8x2x64, .f32⟩
  | 91 => ⟨S1024x1024, .f32⟩
  | 92 => ⟨S1024x7424, .f32⟩
  | 93 => ⟨S1024x7424, .bf16⟩
  | 94 => ⟨S8x8, .i32⟩
  | 95 => ⟨S8x8, .i32⟩
  | 96 => ⟨S_, .i32⟩
  | 97 => ⟨S8x8, .i32⟩
  | 98 => ⟨S8x8, .i32⟩
  | 99 => ⟨S8x8, .i1⟩
  | 100 => ⟨S8x8, .f32⟩
  | 101 => ⟨S8x64x128, .f32⟩
  | 102 => ⟨S8x64x1x128, .f32⟩
  | 103 => ⟨S8x1x8x1, .f32⟩
  | 104 => ⟨S8x64x8x128, .f32⟩
  | 105 => ⟨S8x64x8x128, .f32⟩
  | 106 => ⟨S8x64x8x128, .f32⟩
  | 107 => ⟨S512x1024, .f32⟩
  | 108 => ⟨S512x1024, .bf16⟩
  | 109 => ⟨S_, .i32⟩
  | 110 => ⟨S128, .i32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S32, .f32⟩
  | 119 => ⟨S128, .f32⟩
  | 120 => ⟨S128x1, .f32⟩
  | 121 => ⟨S1x32, .f32⟩
  | 122 => ⟨S128x32, .f32⟩
  | 123 => ⟨S128x32, .f32⟩
  | 124 => ⟨S128x32, .f32⟩
  | 125 => ⟨S128x32, .f32⟩
  | 126 => ⟨S128x32, .f32⟩
  | 127 => ⟨S128x64, .f32⟩
  | _ => ⟨S128x1024, .f32⟩

abbrev hbmTy0_1 (i : Nat) : BufTy := match i % 128 with
  | 0 => ⟨S1x128x1x64, .f32⟩
  | 1 => ⟨S1x128x2x64, .f32⟩
  | 2 => ⟨S128x128, .f32⟩
  | 3 => ⟨S128x32, .f32⟩
  | 4 => ⟨S128x64, .f32⟩
  | 5 => ⟨S1x128x1x64, .f32⟩
  | 6 => ⟨S1x128x2x64, .f32⟩
  | 7 => ⟨S128x128, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S128, .f32⟩
  | 17 => ⟨S128x1, .f32⟩
  | 18 => ⟨S1x16, .f32⟩
  | 19 => ⟨S128x16, .f32⟩
  | 20 => ⟨S128x16, .f32⟩
  | 21 => ⟨S128x16, .f32⟩
  | 22 => ⟨S128x16, .f32⟩
  | 23 => ⟨S128x16, .f32⟩
  | 24 => ⟨S128x32, .f32⟩
  | 25 => ⟨S1x128x1x32, .f32⟩
  | 26 => ⟨S1x128x4x32, .f32⟩
  | 27 => ⟨S128x128, .f32⟩
  | 28 => ⟨S128x16, .f32⟩
  | 29 => ⟨S128x32, .f32⟩
  | 30 => ⟨S1x128x1x32, .f32⟩
  | 31 => ⟨S1x128x4x32, .f32⟩
  | 32 => ⟨S128x128, .f32⟩
  | 33 => ⟨S1x1024, .f32⟩
  | 34 => ⟨S1x128, .f32⟩
  | 35 => ⟨S128x1024, .bf16⟩
  | 36 => ⟨S128x128, .f32⟩
  | 37 => ⟨S128x128, .f32⟩
  | 38 => ⟨S128x128, .bf16⟩
  | 39 => ⟨S128x128, .bf16⟩
  | 40 => ⟨S128x1024, .bf16⟩
  | 41 => ⟨S128x1024, .bf16⟩
  | 42 => ⟨S128x128, .f32⟩
  | 43 => ⟨S128x32, .f32⟩
  | 44 => ⟨S128x256, .bf16⟩
  | 45 => ⟨S128x1024, .f32⟩
  | 46 => ⟨S128x128, .f32⟩
  | 47 => ⟨S128x128, .f32⟩
  | 48 => ⟨S128x128, .bf16⟩
  | 49 => ⟨S128x128, .bf16⟩
  | 50 => ⟨S128x3072, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1x1024, .f32⟩
  | .local _ .vmem, ⟨2, _⟩ => ⟨S1024x7424, .bf16⟩
  | .local _ .vmem, ⟨3, _⟩ => ⟨S1x128, .f32⟩
  | .local _ .vmem, ⟨4, _⟩ => ⟨S512x1024, .bf16⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x1024, .bf16⟩
  | .local _ .vmem, ⟨10, _⟩ => ⟨S128x128, .f32⟩
  | .local _ .vmem, ⟨11, _⟩ => ⟨S128x128, .f32⟩
  | .local _ .vmem, ⟨12, _⟩ => ⟨S128x128, .bf16⟩
  | .local _ .vmem, ⟨13, _⟩ => ⟨S128x128, .bf16⟩
  | .local _ .vmem, ⟨14, _⟩ => ⟨S128x1024, .bf16⟩
  | .local _ .vmem, ⟨15, _⟩ => ⟨S128x1024, .bf16⟩
  | .local _ .vmem, ⟨16, _⟩ => ⟨S128x128, .f32⟩
  | .local _ .vmem, ⟨17, _⟩ => ⟨S128x32, .f32⟩
  | .local _ .vmem, ⟨18, _⟩ => ⟨S128x256, .bf16⟩
  | .local _ .vmem, ⟨19, _⟩ => ⟨S128x1024, .f32⟩
  | .local _ .vmem, ⟨20, _⟩ => ⟨S128x128, .f32⟩
  | .local _ .vmem, ⟨21, _⟩ => ⟨S128x128, .f32⟩
  | .local _ .vmem, ⟨22, _⟩ => ⟨S128x128, .bf16⟩
  | .local _ .vmem, ⟨23, _⟩ => ⟨S128x128, .bf16⟩
  | .local _ .vmem, ⟨24, _⟩ => ⟨S128x3072, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_0 : Ref sig .tc := ⟨.hbm, 43, rfl⟩
abbrev main_call2_v12 : Ref sig .tc := ⟨.hbm, 44, rfl⟩
abbrev main_call2_v13 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_2 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_c : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_3 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_4 : Ref sig .tc := ⟨.hbm, 109, rfl⟩
abbrev main_v65 : Ref sig .tc := ⟨.hbm, 110, rfl⟩
abbrev main_v66 : Ref sig .tc := ⟨.hbm, 111, rfl⟩
abbrev main_cst : Ref sig .tc := ⟨.hbm, 112, rfl⟩
abbrev main_v67 : Ref sig .tc := ⟨.hbm, 113, rfl⟩
abbrev main_v68 : Ref sig .tc := ⟨.hbm, 114, rfl⟩
abbrev main_cst_5 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_6 : Ref sig .tc := ⟨.hbm, 137, rfl⟩
abbrev main_v90 : Ref sig .tc := ⟨.hbm, 138, rfl⟩
abbrev main_v91 : Ref sig .tc := ⟨.hbm, 139, rfl⟩
abbrev main_cst_7 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114_0 : Ref sig .tc := ⟨.hbm, 163, rfl⟩
abbrev main_v114_1 : Ref sig .tc := ⟨.hbm, 164, rfl⟩
abbrev main_v114_2 : Ref sig .tc := ⟨.hbm, 165, rfl⟩
abbrev main_v114_3 : Ref sig .tc := ⟨.hbm, 166, rfl⟩
abbrev main_v114_4 : Ref sig .tc := ⟨.hbm, 167, rfl⟩
abbrev main_v114_5 : Ref sig .tc := ⟨.hbm, 168, rfl⟩
abbrev main_v114_6 : Ref sig .tc := ⟨.hbm, 169, rfl⟩
abbrev main_v114_7 : Ref sig .tc := ⟨.hbm, 170, rfl⟩
abbrev main_v114_8 : Ref sig .tc := ⟨.hbm, 171, rfl⟩
abbrev main_v114_9 : Ref sig .tc := ⟨.hbm, 172, rfl⟩
abbrev main_v114_10 : Ref sig .tc := ⟨.hbm, 173, rfl⟩
abbrev main_v114_11 : Ref sig .tc := ⟨.hbm, 174, rfl⟩
abbrev main_v114_12 : Ref sig .tc := ⟨.hbm, 175, rfl⟩
abbrev main_v114_13 : Ref sig .tc := ⟨.hbm, 176, rfl⟩
abbrev main_v114_14 : Ref sig .tc := ⟨.hbm, 177, rfl⟩
abbrev main_v114_15 : Ref sig .tc := ⟨.hbm, 178, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7424 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S128x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S128x3072 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]
-- ==== Reference7Ideal.lean ====
abbrev S128x1024 : Shape := ⟨2, ![128, 1024]⟩
abbrev S1024 : Shape := ⟨1, ![1024]⟩
abbrev S1024x5536 : Shape := ⟨2, ![1024, 5536]⟩
abbrev S128 : Shape := ⟨1, ![128]⟩
abbrev S128x8x64 : Shape := ⟨3, ![128, 8, 64]⟩
abbrev S_ : Shape := ⟨0, ![]⟩
abbrev S128x1 : Shape := ⟨2, ![128, 1]⟩
abbrev S1x1024 : Shape := ⟨2, ![1, 1024]⟩
abbrev S128x5536 : Shape := ⟨2, ![128, 5536]⟩
abbrev S128x512 : Shape := ⟨2, ![128, 512]⟩
abbrev S128x128 : Shape := ⟨2, ![128, 128]⟩
abbrev S128x768 : Shape := ⟨2, ![128, 768]⟩
abbrev S128x32 : Shape := ⟨2, ![128, 32]⟩
abbrev S128x3072 : Shape := ⟨2, ![128, 3072]⟩
abbrev S1 : Shape := ⟨1, ![1]⟩
abbrev S128x1x32 : Shape := ⟨3, ![128, 1, 32]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x16 : Shape := ⟨3, ![128, 1, 16]⟩
abbrev S128x2x64 : Shape := ⟨3, ![128, 2, 64]⟩
abbrev S32 : Shape := ⟨1, ![32]⟩
abbrev S1x32 : Shape := ⟨2, ![1, 32]⟩
abbrev S1x1x32 : Shape := ⟨3, ![1, 1, 32]⟩
abbrev S128x2x32 : Shape := ⟨3, ![128, 2, 32]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5536, .f32⟩
  | .hbm, ⟨3, _⟩ => ⟨S128, .f32⟩
  | .hbm, ⟨4, _⟩ => ⟨S128x8x64, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S128x5536, .f32⟩
  | .hbm, ⟨22, _⟩ => ⟨S128x512, .f32⟩
  | .hbm, ⟨23, _⟩ => ⟨S128x128, .f32⟩
  | .hbm, ⟨24, _⟩ => ⟨S128x128, .f32⟩
  | .hbm, ⟨25, _⟩ => ⟨S128x768, .f32⟩
  | .hbm, ⟨26, _⟩ => ⟨S128x128, .f32⟩
  | .hbm, ⟨27, _⟩ => ⟨S128x32, .f32⟩
  | .hbm, ⟨28, _⟩ => ⟨S128x512, .f32⟩
  | .hbm, ⟨29, _⟩ => ⟨S128x128, .f32⟩
  | .hbm, ⟨30, _⟩ => ⟨S128x128, .f32⟩
  | .hbm, ⟨31, _⟩ => ⟨S128x3072, .f32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S1, .i32⟩
  | .hbm, ⟨36, _⟩ => ⟨S128x1x32, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S1, .f32⟩
  | .hbm, ⟨46, _⟩ => ⟨S1x1, .f32⟩
  | .hbm, ⟨47, _⟩ => ⟨S1x16, .f32⟩
  | .hbm, ⟨48, _⟩ => ⟨S1x16, .f32⟩
  | .hbm, ⟨49, _⟩ => ⟨S1x16, .f32⟩
  | .hbm, ⟨50, _⟩ => ⟨S1x16, .f32⟩
  | .hbm, ⟨51, _⟩ => ⟨S1x1x16, .f32⟩
  | .hbm, ⟨52, _⟩ => ⟨S1x16, .f32⟩
  | .hbm, ⟨53, _⟩ => ⟨S1x1x16, .f32⟩
  | .hbm, ⟨54, _⟩ => ⟨S128x1x16, .f32⟩
  | .hbm, ⟨55, _⟩ => ⟨S128x1x16, .f32⟩
  | .hbm, ⟨56, _⟩ => ⟨S128x1x16, .f32⟩
  | .hbm, ⟨57, _⟩ => ⟨S128x1x16, .f32⟩
  | .hbm, ⟨58, _⟩ => ⟨S128x1x16, .f32⟩
  | .hbm, ⟨59, _⟩ => ⟨S128x1x16, .f32⟩
  | .hbm, ⟨60, _⟩ => ⟨S128x1x16, .f32⟩
  | .hbm, ⟨61, _⟩ => ⟨S128x1x16, .f32⟩
  | .hbm, ⟨62, _⟩ => ⟨S128x1x16, .f32⟩
  | .hbm, ⟨63, _⟩ => ⟨S128x1x16, .f32⟩
  | .hbm, ⟨64, _⟩ => ⟨S128x1x16, .f32⟩
  | .hbm, ⟨65, _⟩ => ⟨S128x1x16, .f32⟩
  | .hbm, ⟨66, _⟩ => ⟨S128x1x32, .f32⟩
  | .hbm, ⟨67, _⟩ => ⟨S128x32, .f32⟩
  | .hbm, ⟨68, _⟩ => ⟨S128x2x64, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S1, .f32⟩
  | .hbm, ⟨78, _⟩ => ⟨S1x1, .f32⟩
  | .hbm, ⟨79, _⟩ => ⟨S1x32, .f32⟩
  | .hbm, ⟨80, _⟩ => ⟨S1x32, .f32⟩
  | .hbm, ⟨81, _⟩ => ⟨S1x32, .f32⟩
  | .hbm, ⟨82, _⟩ => ⟨S1x32, .f32⟩
  | .hbm, ⟨83, _⟩ => ⟨S1x1x32, .f32⟩
  | .hbm, ⟨84, _⟩ => ⟨S1x32, .f32⟩
  | .hbm, ⟨85, _⟩ => ⟨S1x1x32, .f32⟩
  | .hbm, ⟨86, _⟩ => ⟨S128x2x32, .f32⟩
  | .hbm, ⟨87, _⟩ => ⟨S128x2x32, .f32⟩
  | .hbm, ⟨88, _⟩ => ⟨S128x2x32, .f32⟩
  | .hbm, ⟨89, _⟩ => ⟨S128x2x32, .f32⟩
  | .hbm, ⟨90, _⟩ => ⟨S128x2x32, .f32⟩
  | .hbm, ⟨91, _⟩ => ⟨S128x2x32, .f32⟩
  | .hbm, ⟨92, _⟩ => ⟨S128x2x32, .f32⟩
  | .hbm, ⟨93, _⟩ => ⟨S128x2x32, .f32⟩
  | .hbm, ⟨94, _⟩ => ⟨S128x2x32, .f32⟩
  | .hbm, ⟨95, _⟩ => ⟨S128x2x32, .f32⟩
  | .hbm, ⟨96, _⟩ => ⟨S128x2x32, .f32⟩
  | .hbm, ⟨97, _⟩ => ⟨S128x2x32, .f32⟩
  | .hbm, ⟨98, _⟩ => ⟨S128x2x64, .f32⟩
  | .hbm, ⟨99, _⟩ => ⟨S128x128, .f32⟩
  | .hbm, ⟨100, _⟩ => ⟨S128x128, .f32⟩
  | .hbm, ⟨101, _⟩ => ⟨S_, .f32⟩
  | .hbm, ⟨102, _⟩ => ⟨S128, .f32⟩
  | .hbm, ⟨103, _⟩ => ⟨S128x1, .f32⟩
  | .hbm, ⟨104, _⟩ => ⟨S_, .f32⟩
  | .hbm, ⟨105, _⟩ => ⟨S128x1, .f32⟩
  | .hbm, ⟨106, _⟩ => ⟨S128x1, .f32⟩
  | .hbm, ⟨107, _⟩ => ⟨S_, .f32⟩
  | .hbm, ⟨108, _⟩ => ⟨S128x1, .f32⟩
  | .hbm, ⟨109, _⟩ => ⟨S128x1, .f32⟩
  | .hbm, ⟨110, _⟩ => ⟨S128x1, .f32⟩
  | .hbm, ⟨111, _⟩ => ⟨S128x128, .f32⟩
  | .hbm, ⟨112, _⟩ => ⟨S128x128, .f32⟩
  | .hbm, ⟨113, _⟩ => ⟨S1x128, .f32⟩
  | .hbm, ⟨114, _⟩ => ⟨S128x128, .f32⟩
  | .hbm, ⟨115, _⟩ => ⟨S128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_6 : Ref sig .tc := ⟨.hbm, 101, rfl⟩
abbrev main_v88 : Ref sig .tc := ⟨.hbm, 102, rfl⟩
abbrev main_v89 : Ref sig .tc := ⟨.hbm, 103, rfl⟩
abbrev main_cst_7 : Ref sig .tc := ⟨.hbm, 104, rfl⟩
abbrev main_v90 : Ref sig .tc := ⟨.hbm, 105, rfl⟩
abbrev main_v91 : Ref sig .tc := ⟨.hbm, 106, rfl⟩
abbrev main_cst_8 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩

abbrev nD : Nat := 1
abbrev τ : Topo := Topo.v7x

variable {F : FTy → Type} [FloatOps F]
-- ==== Proof.Online.lean ====
/- Softmax taken block by block, over the reals: the arithmetic of the online recurrence, no program in it. -/
module

public import Idealize.ShloMosaic.Lib.Pointwise

@[expose] public section

set_option maxRecDepth 16384

noncomputable section

namespace Cert.Online

open Idealize.ShloMosaic

/-- The weight of a score `s` against a running shift `m`, at scale `c`. -/
def wt (c s m : ℝ) : ℝ := Real.rpow 2 ((s - m) * c)

theorem wt_pos (c s m : ℝ) : 0 < wt c s m := Real.rpow_pos_of_pos (by norm_num) _

/-- Moving the shift from `m` to `m'`. -/
theorem wt_shift (c s m m' : ℝ) : wt c s m * wt c m m' = wt c s m' := by
  unfold wt
  rw [show (s - m') * c = (s - m) * c + (m - m') * c by ring]
  exact (Real.rpow_add (by norm_num) _ _).symm

/-- The weighted sum over the positions `S`. -/
def ws (c : ℝ) (s v : ℕ → ℝ) (S : Finset ℕ) (m : ℝ) : ℝ := ∑ l ∈ S, wt c (s l) m * v l

theorem ws_shift (c : ℝ) (s v : ℕ → ℝ) (S : Finset ℕ) (m m' : ℝ) : ws c s v S m * wt c m m' = ws c s v S m' := by
  unfold ws
  rw [Finset.sum_mul]
  refine Finset.sum_congr rfl fun l _ => ?_
  rw [← wt_shift c (s l) m m']; ring

theorem exp2_wt (c s m : ℝ) : Ideal.exp2 (((s : EReal) - (m : EReal)) * (c : EReal)) = (wt c s m : EReal) := by
  rw [← EReal.coe_sub, ← EReal.coe_mul, Ideal.exp2_coe]; rfl

theorem exp2_masked {c : ℝ} (hc : 0 < c) (m : ℝ) : Ideal.exp2 (((⊥ : EReal) - (m : EReal)) * (c : EReal)) = 0 := by
  rw [EReal.bot_sub, EReal.bot_mul_coe_of_pos hc, Ideal.exp2_bot]

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A maximum of finitely many values none of which is `⊤` and one of which is a real is a real. -/
theorem fold_max_real {n : ℕ} (b : EReal) (hb : b ≠ ⊤) (f : Fin n → EReal) (ht : ∀ k, f k ≠ ⊤) (hr : b ≠ ⊥ ∨ ∃ k, f k ≠ ⊥) :
    ∃ r : ℝ, Finset.univ.fold max b f = (r : EReal) := by
  have h1 : Finset.univ.fold max b f < ⊤ := by
    rw [Finset.fold_max_lt]
    exact ⟨lt_top_iff_ne_top.2 hb, fun k _ => lt_top_iff_ne_top.2 (ht k)⟩
  have h2 : ⊥ < Finset.univ.fold max b f := by
    rw [Finset.lt_fold_max]
    rcases hr with h | ⟨k, h⟩
    · exact Or.inl (bot_lt_iff_ne_bot.2 h)
    · exact Or.inr ⟨k, Finset.mem_univ _, bot_lt_iff_ne_bot.2 h⟩
  exact ⟨_, (EReal.coe_toReal h1.ne h2.ne').symm⟩

/-- The first block, masked: positions `o .. o + t` of the `n` are kept. -/
theorem first {n : ℕ} {c : ℝ} (hc : 0 < c) (s v : ℕ → ℝ) (o t : ℕ) (ht : t < n) (m : ℝ) (x y : Fin n → EReal)
    (hx : ∀ k : Fin n, x k = if k.val ≤ t then (s (o + k.val) : EReal) else ⊥) (hy : ∀ k : Fin n, y k = (v (o + k.val) : EReal)) :
    ∑ k : Fin n, Ideal.exp2 ((x k - (m : EReal)) * (c : EReal)) * y k
      = ((∑ k ∈ Finset.range (t + 1), wt c (s (o + k)) m * v (o + k) : ℝ) : EReal) := by
  have h1 : ∀ k : Fin n, Ideal.exp2 ((x k - (m : EReal)) * (c : EReal)) * y k
      = ((if k.val ≤ t then wt c (s (o + k.val)) m * v (o + k.val) else 0 : ℝ) : EReal) := by
    intro k
    rw [hx, hy]
    split_ifs with h
    · rw [exp2_wt, EReal.coe_mul]
    · rw [exp2_masked hc, zero_mul, EReal.coe_zero]
  rw [Finset.sum_congr rfl fun k _ => h1 k, ← coe_sum, EReal.coe_eq_coe_iff,
    ← Finset.sum_range (fun k => if k ≤ t then wt c (s (o + k)) m * v (o + k) else 0), ← Finset.sum_filter]
  refine Finset.sum_congr (Finset.ext fun k => ?_) fun _ _ => rfl
  simp only [Finset.mem_filter, Finset.mem_range]; omega

/-- One further block of `n` positions from `o` on: the carried sum at its new shift. -/
theorem step {n : ℕ} (c : ℝ) (s v : ℕ → ℝ) (S : Finset ℕ) (o : ℕ) (m m' : ℝ) (x y : Fin n → EReal)
    (hx : ∀ k : Fin n, x k = (s (o + k.val) : EReal)) (hy : ∀ k : Fin n, y k = (v (o + k.val) : EReal)) :
    (ws c s v S m : EReal) * Ideal.exp2 (((m : EReal) - (m' : EReal)) * (c : EReal))
        + ∑ k : Fin n, Ideal.exp2 ((x k - (m' : EReal)) * (c : EReal)) * y k
      = ((ws c s v S m' + ∑ k ∈ Finset.range n, wt c (s (o + k)) m' * v (o + k) : ℝ) : EReal) := by
  rw [exp2_wt, ← EReal.coe_mul, ws_shift, EReal.coe_add]
  congr 1
  rw [Finset.sum_range, coe_sum]
  refine Finset.sum_congr rfl fun k _ => ?_
  rw [hx, hy, exp2_wt, EReal.coe_mul]

/-- The plain softmax of the first `T + 1` of `n` scores at scale `a`, weighing `v`, is the quotient of the two sums at
    any shift, when `c` is `a` taken to base two. -/
theorem softmax_eq {a c : ℝ} (hac : c * Real.log 2 = a) (s v : ℕ → ℝ) (S : Finset ℕ) (hS : S.Nonempty) (m M : ℝ) :
    ws c s v S m / ws c s (fun _ => 1) S m
      = ∑ l ∈ S, v l * (Real.exp (s l * a - M) / ∑ k ∈ S, Real.exp (s k * a - M)) := by
  have key : ∀ l, Real.exp (s l * a - M) = wt c (s l) m * Real.exp (m * a - M) := by
    intro l
    have hw : wt c (s l) m = Real.exp ((s l - m) * a) := by
      unfold wt
      show (2 : ℝ) ^ ((s l - m) * c) = _
      rw [Real.rpow_def_of_pos (by norm_num), ← hac]; congr 1; ring
    rw [hw, ← Real.exp_add]; congr 1; ring
  have hZ : ∑ k ∈ S, Real.exp (s k * a - M) = ws c s (fun _ => 1) S m * Real.exp (m * a - M) := by
    unfold ws; rw [Finset.sum_mul]; exact Finset.sum_congr rfl fun k _ => by rw [key k, mul_one]
  have hpos : 0 < ws c s (fun _ => 1) S m := by
    unfold ws; exact Finset.sum_pos (fun k _ => by rw [mul_one]; exact wt_pos _ _ _) hS
  rw [hZ]
  unfold ws at hpos ⊢
  rw [Finset.sum_div]
  refine Finset.sum_congr rfl fun l _ => ?_
  rw [key l]
  have he : Real.exp (m * a - M) ≠ 0 := (Real.exp_pos _).ne'
  field_simp

end Cert.Online

end
-- ==== Proof.Pay.lean ====
/- The latent attention kernel's payloads read at an index, at the ideal instance. -/
module

public import proofs.«01_k».proof.Proof.Gen.KernelIdeal.Skeleton
public import proofs.«01_k».proof.Proof.Online
public import Idealize.ShloMosaic.Lib.WordCmp
public import Idealize.ShloMosaic.Lib.Affine

@[expose] public section

set_option maxRecDepth 16384

noncomputable section

open Idealize.ShloMosaic Idealize.ShloMosaic.TcCoe Idealize.SL.Sem

namespace Cert.KernelIdeal.Pay

open Cert.KernelIdeal Cert.KernelIdeal.Gen Idealize.ShloMosaic.WordCmp

theorem ofBits_neg_inf : Ideal.ofBits .f32 0xFF800000#32 = ⊥ := by simp [Ideal.ofBits, Ideal.ieee]

/-- The kernel's scale in base two, `1 / (√96 · ln 2)`. -/
def sc : ℝ := (Real.sqrt 96)⁻¹ * (Real.log 2)⁻¹

theorem sc_pos : 0 < sc :=
  mul_pos (inv_pos.2 (Real.sqrt_pos.2 (by norm_num))) (inv_pos.2 (Real.log_pos (by norm_num)))

theorem named_sc : Named.named (F := Ideal) κ "scale_log2e" (φ := .f32) 0x3E16C740#32 = (sc : EReal) :=
  IdealRules.named_const.ideal_named_scalar _ _ _ _ rfl

/-- The value lanes: a lane below 128 holds the key's own entry, a lane from 128 on holds one. -/
def vx (K : FVec Ideal S512x256 .bf16) (k : Fin 512) (d : Fin 256) : EReal := if d.val < 128 then K (ix2 k d) else 1

theorem sel_vx (K : FVec Ideal S512x256 .bf16) (k : Fin 512) (d : Fin 256) :
    Scalar.select (IntOp.cmpi CmpIPredicate.slt (BitVec.ofNat 32 ↑d) 128#32) (K (ix2 k d)) 1 = vx K k d := by
  have hd := d.isLt
  rw [cmpi_slt_ofNat (w := 32) (by omega) (by omega), select_decide]
  rfl

theorem mask_row (r : Fin 4096) : (Scalar.select
          (IntOp.andi
            (IntOp.xori
              (IntOp.cmpi CmpIPredicate.slt
                (IntOp.remsi ArithUnit.vector (BitVec.ofNat 32 ↑r)
                  (Scalar.select (Scalar.cmpi CmpIPredicate.eq 512#32 0#32) 1#32 512#32))
                0#32)
              (Scalar.cmpi CmpIPredicate.slt (Scalar.select (Scalar.cmpi CmpIPredicate.eq 512#32 0#32) 1#32 512#32)
                0#32))
            (IntOp.cmpi CmpIPredicate.ne
              (IntOp.remsi ArithUnit.vector (BitVec.ofNat 32 ↑r)
                (Scalar.select (Scalar.cmpi CmpIPredicate.eq 512#32 0#32) 1#32 512#32))
              0#32))
          (IntOp.addi
            (IntOp.remsi ArithUnit.vector (BitVec.ofNat 32 ↑r)
              (Scalar.select (Scalar.cmpi CmpIPredicate.eq 512#32 0#32) 1#32 512#32))
            (Scalar.select (Scalar.cmpi CmpIPredicate.eq 512#32 0#32) 1#32 512#32))
          (IntOp.remsi ArithUnit.vector (BitVec.ofNat 32 ↑r)
            (Scalar.select (Scalar.cmpi CmpIPredicate.eq 512#32 0#32) 1#32 512#32))) = BitVec.ofNat 32 (r.val % 512) := by
  have hr := r.isLt
  have h512 : (Scalar.select (Scalar.cmpi CmpIPredicate.eq 512#32 0#32) 1#32 512#32) = BitVec.ofNat 32 512 := by decide
  have hm : IntOp.remsi ArithUnit.vector (BitVec.ofNat 32 r.val) (BitVec.ofNat 32 512) = BitVec.ofNat 32 (r.val % 512) := by
    apply BitVec.eq_of_toNat_eq
    rw [IntOp.toNat_remsi _ (by rw [BitVec.toNat_ofNat]; omega) 512 (by omega) (by omega), BitVec.toNat_ofNat, BitVec.toNat_ofNat]
    omega
  rw [h512, hm]
  have h0 : IntOp.cmpi CmpIPredicate.slt (BitVec.ofNat 32 (r.val % 512)) 0#32 = 0#1 := by
    rw [cmpi_slt_ofNat (w := 32) (by omega) (by omega)]; simp
  have h1 : Scalar.cmpi CmpIPredicate.slt (BitVec.ofNat 32 512) 0#32 = 0#1 := by decide
  rw [h0, h1]
  have h2 : ∀ x : BitVec 1, IntOp.andi (IntOp.xori 0#1 0#1) x = 0#1 := by decide
  rw [h2]; rfl

theorem pay19_at (q : FVec Ideal S4096x256 .bf16) (K : FVec Ideal S512x256 .bf16) (r : Fin 4096) (k : Fin 512) :
    k0_pay19 (F := Ideal) q K (ix2 r k) = ∑ d : Fin 256, q (ix2 r d) * K (ix2 k d) := by
  pointwise [k0_pay19, k0_pay18]

theorem rowMax_at (v : FVec Ideal S4096x512 .f32) (r : Fin 4096) :
    multiReduction .maximumf [1] S4096 v 0xFF800000#32 reduces_S4096x512_S4096 (.inl rfl) rfl (ix1 r)
      = Finset.univ.fold max (Ideal.ofBits .f32 0xFF800000#32) fun k : Fin 512 => v (ix2 r k) := by
  pointwise

theorem column_at (v : FVec Ideal S4096 .f32) (r : Fin 4096) : shapeCast S4096x1 v shapeCasts_S4096_S4096x1 (ix2 r 0) = v (ix1 r) := by
  pointwise

theorem rowMaxCol_at (v : FVec Ideal S4096x512 .f32) (r : Fin 4096) :
    shapeCast S4096x1 (multiReduction .maximumf [1] S4096 v 0xFF800000#32 reduces_S4096x512_S4096 (.inl rfl) rfl) shapeCasts_S4096_S4096x1 (ix2 r 0)
      = Finset.univ.fold max ⊥ fun k : Fin 512 => v (ix2 r k) :=
  (column_at _ r).trans ((rowMax_at v r).trans (by rw [ofBits_neg_inf]))

theorem pay20_at (q : FVec Ideal S4096x256 .bf16) (m : FVec Ideal S4096x1 .f32) (K : FVec Ideal S512x256 .bf16) (r : Fin 4096) :
    k0_pay20 (F := Ideal) q m K (ix2 r 0)
      = max (m (ix2 r 0)) (Finset.univ.fold max ⊥ fun k : Fin 512 => k0_pay19 (F := Ideal) q K (ix2 r k)) :=
  congrArg (max (m (ix2 r 0))) (rowMaxCol_at (k0_pay19 (F := Ideal) q K) r)

theorem pay21_at (q : FVec Ideal S4096x256 .bf16) (m : FVec Ideal S4096x1 .f32) (A : FVec Ideal S4096x256 .f32)
    (K : FVec Ideal S512x256 .bf16) (r : Fin 4096) (d : Fin 256) :
    k0_pay21 (F := Ideal) q k0_pay10 m A K (ix2 r d)
      = A (ix2 r d) * Ideal.exp2 ((m (ix2 r 0) - k0_pay20 (F := Ideal) q m K (ix2 r 0)) * (sc : EReal))
        + ∑ k : Fin 512, Ideal.exp2 ((k0_pay19 (F := Ideal) q K (ix2 r k) - k0_pay20 (F := Ideal) q m K (ix2 r 0)) * (sc : EReal)) * vx K k d := by
  pointwise [k0_pay21, k0_pay10, k0_pay18]
  simp only [named_sc, sel_vx]
  rfl

theorem pay17_at (x : FVec Ideal S4096x512 .f32) (K : FVec Ideal S512x256 .bf16) (r : Fin 4096) (d : Fin 256) :
    k0_pay17 (F := Ideal) (k0_pay12 K) x k0_pay16 (ix2 r d)
      = ∑ k : Fin 512, Ideal.exp2 (x (ix2 r k) * (sc : EReal)) * vx K k d := by
  pointwise [k0_pay17, k0_pay12, k0_pay11, k0_pay16, k0_pay10]
  simp only [named_sc, sel_vx]
  rfl

section diag
variable (v16 : FVec Ideal S4096x128 .bf16) (v18 v20 v22 v24 v26 v28 : FVec Ideal S512x128 .bf16) (v29 v31 : FVec Ideal S512x128 .bf16)

theorem pay13_at (K : FVec Ideal S512x256 .bf16) (r : Fin 4096) (k : Fin 512) :
    k0_pay13 (F := Ideal) v16 v18 v20 v22 v24 v26 v28 v29 v31 K (ix2 r k)
      = if k.val ≤ r.val % 512 then ∑ d : Fin 256, k0_pay9 (F := Ideal) v16 v18 v20 v22 v24 v26 v28 v29 v31 (ix2 r d) * K (ix2 k d) else ⊥ := by
  pointwise [k0_pay13, k0_pay11]
  have hk := k.isLt
  have hr := r.isLt
  rw [mask_row, ofBits_neg_inf, cmpi_sle_ofNat (w := 32) (by omega) (by omega), select_decide]

theorem pay14_at (K : FVec Ideal S512x256 .bf16) (r : Fin 4096) :
    k0_pay14 (F := Ideal) v16 v18 v20 v22 v24 v26 v28 v29 v31 K (ix2 r 0)
      = Finset.univ.fold max ⊥ fun k : Fin 512 => k0_pay13 (F := Ideal) v16 v18 v20 v22 v24 v26 v28 v29 v31 K (ix2 r k) :=
  rowMaxCol_at (k0_pay13 (F := Ideal) v16 v18 v20 v22 v24 v26 v28 v29 v31 K) r

theorem pay15_at (K : FVec Ideal S512x256 .bf16) (r : Fin 4096) (k : Fin 512) :
    k0_pay15 (F := Ideal) v16 v18 v20 v22 v24 v26 v28 v29 v31 K (ix2 r k)
      = k0_pay13 (F := Ideal) v16 v18 v20 v22 v24 v26 v28 v29 v31 K (ix2 r k)
        - k0_pay14 (F := Ideal) v16 v18 v20 v22 v24 v26 v28 v29 v31 K (ix2 r 0) := by
  pointwise [k0_pay15]

end diag

/-- The quotient of a value lane by its denominator lane. -/
theorem pay26_at (A : FVec Ideal S4096x256 .f32) (r : Fin 4096) (d : Fin 128) :
    k0_pay26 (F := Ideal) A (ix2 r d) = Ideal.div (A (ix2 r ⟨d.val, by omega⟩)) (A (ix2 r ⟨128 + d.val, by omega⟩)) := by
  pointwise [k0_pay26]

end Cert.KernelIdeal.Pay

end
-- ==== Proof.Loop.lean ====
/- The latent attention kernel's loop over the key blocks before the diagonal one: the carried running maximum and sums. -/
module

public import proofs.«01_k».proof.Proof.Gen.KernelIdeal.Value
public import proofs.«01_k».proof.Proof.Pay
public import Idealize.ShloMosaic.Lib.Pipeline.ValueKit

@[expose] public section

set_option maxRecDepth 16384

noncomputable section

open Idealize.ShloMosaic Idealize.ShloMosaic.TcCoe Idealize.SL.Sem

namespace Cert.KernelIdeal.Loop

open Cert.KernelIdeal Cert.KernelIdeal.Gen Cert.KernelIdeal.Pay Cert

/-- The positions attended to once the diagonal block and `j` full blocks are done. -/
def St (o t : ℕ) : ℕ → Finset ℕ
  | 0 => Finset.Ico o (o + (t + 1))
  | j + 1 => St o t j ∪ Finset.Ico (512 * j) (512 * j + 512)

theorem mem_St (o t j l : ℕ) : l ∈ St o t j ↔ (o ≤ l ∧ l < o + (t + 1)) ∨ l < 512 * j := by
  induction j with
  | zero => simp [St]
  | succ j ih => rw [St, Finset.mem_union, ih, Finset.mem_Ico]; omega

theorem St_eq (t j : ℕ) : St (512 * j) t j = Finset.range (512 * j + (t + 1)) := by
  ext l; rw [mem_St, Finset.mem_range]; omega

theorem ws_zero (c : ℝ) (s v : ℕ → ℝ) (o t : ℕ) (m : ℝ) :
    ∑ k ∈ Finset.range (t + 1), Online.wt c (s (o + k)) m * v (o + k) = Online.ws c s v (St o t 0) m := by
  unfold Online.ws St
  rw [Finset.sum_Ico_eq_sum_range, Nat.add_sub_cancel_left]

theorem ws_succ (c : ℝ) (s v : ℕ → ℝ) (o t j : ℕ) (h : 512 * (j + 1) ≤ o) (m : ℝ) :
    Online.ws c s v (St o t j) m + ∑ k ∈ Finset.range 512, Online.wt c (s (512 * j + k)) m * v (512 * j + k)
      = Online.ws c s v (St o t (j + 1)) m := by
  unfold Online.ws
  rw [St, Finset.sum_union, Finset.sum_Ico_eq_sum_range, Nat.add_sub_cancel_left]
  rw [Finset.disjoint_left]
  intro l hl; rw [mem_St] at hl; rw [Finset.mem_Ico]; omega

/-- A weighted position's value at a lane: the key's own entry below lane 128, one from there on. -/
def vv (κ : ℕ → Fin 256 → ℝ) (d : Fin 256) (l : ℕ) : ℝ := if d.val < 128 then κ l d else 1

theorem vx_coe (K : FVec Ideal S512x256 .bf16) (κ : ℕ → Fin 256 → ℝ) (o : ℕ) (hK : ∀ k d, K (ix2 k d) = (κ (o + k.val) d : EReal))
    (k : Fin 512) (d : Fin 256) : vx K k d = (vv κ d (o + k.val) : EReal) := by
  unfold vx vv; split_ifs
  · exact hK k d
  · rfl

/-- The score of a position: the query's row against the key's. -/
def scr (Q : Fin 256 → ℝ) (κ : ℕ → Fin 256 → ℝ) (l : ℕ) : ℝ := ∑ d, Q d * κ l d

theorem dot_coe (q : FVec Ideal S4096x256 .bf16) (K : FVec Ideal S512x256 .bf16) (r : Fin 4096) (Q : Fin 256 → ℝ) (κ : ℕ → Fin 256 → ℝ) (o : ℕ)
    (hq : ∀ d, q (ix2 r d) = (Q d : EReal)) (hK : ∀ k d, K (ix2 k d) = (κ (o + k.val) d : EReal)) (k : Fin 512) :
    ∑ d : Fin 256, q (ix2 r d) * K (ix2 k d) = (scr Q κ (o + k.val) : EReal) := by
  unfold scr; rw [Online.coe_sum]
  exact Finset.sum_congr rfl fun d _ => by rw [hq, hK, EReal.coe_mul]

/-- What the loop carries at row `r`: a real maximum, and the sums at that maximum over the positions done. -/
def Carried (r : Fin 4096) (Q : Fin 256 → ℝ) (κ : ℕ → Fin 256 → ℝ) (S : Finset ℕ) (a : FVec Ideal S4096x1 .f32 × FVec Ideal S4096x256 .f32) : Prop :=
  ∃ μ : ℝ, a.1 (ix2 r 0) = (μ : EReal) ∧ ∀ d, a.2 (ix2 r d) = (Online.ws sc (scr Q κ) (vv κ d) S μ : EReal)

section
variable (v16 : FVec Ideal S4096x128 .bf16) (v18 v20 v22 v24 v26 v28 : FVec Ideal S512x128 .bf16) (v29 v31 : FVec Ideal S512x128 .bf16)

theorem carried_zero (Kd : FVec Ideal S512x256 .bf16) (r : Fin 4096) (Q : Fin 256 → ℝ) (κ : ℕ → Fin 256 → ℝ) (o : ℕ)
    (hq : ∀ d, k0_pay9 (F := Ideal) v16 v18 v20 v22 v24 v26 v28 v29 v31 (ix2 r d) = (Q d : EReal))
    (hK : ∀ k d, Kd (ix2 k d) = (κ (o + k.val) d : EReal)) :
    Carried r Q κ (St o (r.val % 512) 0)
      (k0_pay14 (F := Ideal) v16 v18 v20 v22 v24 v26 v28 v29 v31 Kd,
        k0_pay17 (F := Ideal) (k0_pay12 Kd) (k0_pay15 v16 v18 v20 v22 v24 v26 v28 v29 v31 Kd) k0_pay16) := by
  have hx : ∀ k : Fin 512, k0_pay13 (F := Ideal) v16 v18 v20 v22 v24 v26 v28 v29 v31 Kd (ix2 r k)
      = if k.val ≤ r.val % 512 then (scr Q κ (o + k.val) : EReal) else ⊥ := by
    intro k; rw [pay13_at, dot_coe _ Kd r Q κ o hq hK]
  obtain ⟨μ, hμ⟩ := Online.fold_max_real ⊥ bot_ne_top (fun k : Fin 512 => k0_pay13 (F := Ideal) v16 v18 v20 v22 v24 v26 v28 v29 v31 Kd (ix2 r k))
    (fun k => by rw [hx]; split_ifs; exacts [EReal.coe_ne_top _, bot_ne_top])
    (Or.inr ⟨⟨0, by omega⟩, by rw [hx, if_pos (Nat.zero_le _)]; exact EReal.coe_ne_bot _⟩)
  have hm := (pay14_at v16 v18 v20 v22 v24 v26 v28 v29 v31 Kd r).trans hμ
  refine ⟨μ, by dsimp only; exact hm, fun d => ?_⟩
  dsimp only
  rw [pay17_at, ← ws_zero, ← Online.first sc_pos (scr Q κ) (vv κ d) o (r.val % 512) (Nat.mod_lt _ (by omega)) μ _ _ hx (fun k => vx_coe Kd κ o hK k d)]
  refine Finset.sum_congr rfl fun k _ => ?_
  rw [pay15_at, hm]

end

theorem carried_succ (q : FVec Ideal S4096x256 .bf16) (K : FVec Ideal S512x256 .bf16) (r : Fin 4096) (Q : Fin 256 → ℝ) (κ : ℕ → Fin 256 → ℝ) (o t j : ℕ)
    (hj : 512 * (j + 1) ≤ o)
    (hq : ∀ d, q (ix2 r d) = (Q d : EReal)) (hK : ∀ k d, K (ix2 k d) = (κ (512 * j + k.val) d : EReal))
    (a : FVec Ideal S4096x1 .f32 × FVec Ideal S4096x256 .f32) (h : Carried r Q κ (St o t j) a) :
    Carried r Q κ (St o t (j + 1)) (k0_pay20 (F := Ideal) q a.1 K, k0_pay21 (F := Ideal) q k0_pay10 a.1 a.2 K) := by
  obtain ⟨μ, h1, h2⟩ := h
  have hx : ∀ k : Fin 512, k0_pay19 (F := Ideal) q K (ix2 r k) = (scr Q κ (512 * j + k.val) : EReal) := by
    intro k; rw [pay19_at, dot_coe q K r Q κ _ hq hK]
  obtain ⟨x, hxm⟩ := Online.fold_max_real ⊥ bot_ne_top (fun k : Fin 512 => k0_pay19 (F := Ideal) q K (ix2 r k))
    (fun k => by rw [hx]; exact EReal.coe_ne_top _)
    (Or.inr ⟨⟨0, by omega⟩, by rw [hx]; exact EReal.coe_ne_bot _⟩)
  have hμ' : k0_pay20 (F := Ideal) q a.1 K (ix2 r 0) = ((max μ x : ℝ) : EReal) := by
    rw [pay20_at, hxm, h1]; exact (EReal.coe_strictMono.monotone.map_max).symm
  refine ⟨max μ x, by dsimp only; exact hμ', fun d => ?_⟩
  dsimp only
  rw [pay21_at, hμ', h1, h2, Online.step sc (scr Q κ) (vv κ d) (St o t j) (512 * j) μ _ _ _ hx (fun k => vx_coe K κ _ hK k d), ws_succ _ _ _ _ _ _ hj]

theorem carried_st (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S4096x256 .bf16) (harg4 : arg4.IsWhole) (arg5 : Memref sig .tc .vmem S512x1024 .bf16) (harg5 : arg5.IsWhole) (arg1 : BitVec 32) (q : FVec Ideal S4096x256 .bf16) (v63 : FVec Ideal S512x256 .bf16) (v68 : FVec Ideal S4096x1 .f32) (v70 : FVec Ideal S4096x512 .f32) (v71 : FVec Ideal S4096x512 .f32) (X_arg4 : BufTy.Contents (Elt Ideal) arg4.view.ty)
    (init : FVec Ideal S4096x1 .f32 × FVec Ideal S4096x256 .f32)
    (r : Fin 4096) (Q : Fin 256 → ℝ) (κ : ℕ → Fin 256 → ℝ) (o t : ℕ) (ho : 512 * (k0_t1_loop i).trips ≤ o)
    (hq : ∀ d, q (ix2 r d) = (Q d : EReal))
    (hK : ∀ (j : Fin (k0_t1_loop i).trips) (h : ∀ a, k0_off2 i j a + S512x256.size a ≤ S4096x256.size a) (k : Fin 512) (d : Fin 256),
      View.readAt (Elt Ideal) arg4.view (Rect.unit (s := S4096x256) (k0_off2 i j) S512x256.size h).toLoadRect X_arg4 (ix2 k d) = (κ (512 * j.val + k.val) d : EReal))
    (h0 : Carried r Q κ (St o t 0) init) (n : ℕ) (hn : n ≤ (k0_t1_loop i).trips) :
    Carried r Q κ (St o t n) (st_k0_t1 𝒱 c bd i arg2 harg2 arg3 harg3 arg4 harg4 arg5 harg5 arg1 q k0_pay10 v63 v68 v70 v71 X_arg4 init n) := by
  induction n with
  | zero => exact h0
  | succ n ih =>
    rw [st_k0_t1_succ (F := Ideal) (k := ⟨n, hn⟩)]
    unfold tripR_k0_t1 trip_k0_t1
    dsimp only
    exact carried_succ q _ r Q κ o t n (by omega) hq (hK ⟨n, hn⟩ _) _ (ih (by omega))

/-- The attention of a query row over the positions up to `T`, at lane `d`: the weighted mean of the keys' lanes. -/
def att (Q : Fin 256 → ℝ) (κ : ℕ → Fin 256 → ℝ) (T : ℕ) (d : Fin 128) : ℝ :=
  Online.ws sc (scr Q κ) (fun l => κ l ⟨d.val, by omega⟩) (Finset.range (T + 1)) 0 / Online.ws sc (scr Q κ) (fun _ => 1) (Finset.range (T + 1)) 0

theorem sc_log : sc * Real.log 2 = (Real.sqrt 96)⁻¹ := by
  unfold sc; rw [mul_assoc, inv_mul_cancel₀ (Real.log_pos (by norm_num)).ne', mul_one]

/-- The same as the plain softmax at scale `1/√96`, whatever real number is taken off the scores first. -/
theorem att_eq (Q : Fin 256 → ℝ) (κ : ℕ → Fin 256 → ℝ) (T : ℕ) (d : Fin 128) (M : ℝ) :
    att Q κ T d = ∑ l ∈ Finset.range (T + 1), κ l ⟨d.val, by omega⟩ * (Real.exp (scr Q κ l * (Real.sqrt 96)⁻¹ - M)
            / ∑ k ∈ Finset.range (T + 1), Real.exp (scr Q κ k * (Real.sqrt 96)⁻¹ - M)) :=
  Online.softmax_eq sc_log _ _ _ ⟨0, by simp⟩ 0 M

/-- The quotient the kernel stores. -/
theorem carried_quot (r : Fin 4096) (Q : Fin 256 → ℝ) (κ : ℕ → Fin 256 → ℝ) (T : ℕ)
    (a : FVec Ideal S4096x1 .f32 × FVec Ideal S4096x256 .f32) (h : Carried r Q κ (Finset.range (T + 1)) a) (d : Fin 128) :
    k0_pay26 (F := Ideal) a.2 (ix2 r d) = (att Q κ T d : EReal) := by
  obtain ⟨μ, -, h2⟩ := h
  rw [pay26_at, h2, h2]
  have e1 : vv κ ⟨d.val, by omega⟩ = fun l => κ l ⟨d.val, by omega⟩ := by
    funext l; unfold vv; rw [if_pos d.isLt]
  have e2 : vv κ ⟨128 + d.val, by omega⟩ = fun _ => 1 := by
    funext l; unfold vv; rw [if_neg (by dsimp only; omega)]
  rw [e1, e2]
  have hne : (Finset.range (T + 1)).Nonempty := ⟨0, by simp⟩
  have hpos : 0 < Online.ws sc (scr Q κ) (fun _ => 1) (Finset.range (T + 1)) μ := by
    unfold Online.ws; exact Finset.sum_pos (fun k _ => by rw [mul_one]; exact Online.wt_pos _ _ _) hne
  rw [Ideal.div_coe hpos.ne', ← EReal.coe_mul, ← div_eq_mul_one_div, att_eq Q κ T d 0, Online.softmax_eq sc_log _ _ _ hne μ 0]

theorem trips_t1 : ∀ i : grid0.Coords, (k0_t1_loop i).trips = (i 1).val := by decide +kernel

theorem trips_t2 : ∀ i : grid0.Coords, (k0_t2_loop i).trips = 0 := by decide +kernel

set_option maxHeartbeats 3200000 in
/-- The stacked query rows: row `512 h + y` is head `h`'s row `y`, its latent lanes then its rotary ones. -/
theorem pay9_at (l0 l1 l2 l3 l4 l5 l6 l7 n0 n1 n2 n3 n4 n5 n6 n7 : FVec Ideal S512x128 .bf16) (h : Fin 8) (y : Fin 512) (r : Fin 4096) (hr : r.val = 512 * h.val + y.val) (d : Fin 256) :
    k0_pay9 (F := Ideal) (k0_pay2 l0 l1 l2 l3 l4 l5 l6 l7) (k0_pay3 n0) (k0_pay4 n1) (k0_pay5 n2) (k0_pay6 n3) (k0_pay7 n4) (k0_pay8 n5) n6 n7 (ix2 r d)
      = if hd : d.val < 128 then (![l0, l1, l2, l3, l4, l5, l6, l7] : Fin 8 → FVec Ideal S512x128 .bf16) h (ix2 y ⟨d.val, hd⟩)
        else (![n0, n1, n2, n3, n4, n5, n6, n7] : Fin 8 → FVec Ideal S512x128 .bf16) h (ix2 y ⟨d.val - 128, by omega⟩) := by
  obtain ⟨r, hr'⟩ := r
  subst hr
  by_cases hd : d.val < 128
  · rw [dif_pos hd]
    fin_cases h <;> (pointwise [k0_pay9, k0_pay2, k0_pay3, k0_pay4, k0_pay5, k0_pay6, k0_pay7, k0_pay8, hd]; all_goals split_ifs <;> first | (exfalso; omega) | blk_ext)
  · rw [dif_neg hd]
    fin_cases h <;> (pointwise [k0_pay9, k0_pay2, k0_pay3, k0_pay4, k0_pay5, k0_pay6, k0_pay7, k0_pay8, hd]; all_goals split_ifs <;> first | (exfalso; omega) | blk_ext)

section
variable (v16 : FVec Ideal S4096x128 .bf16) (v18 v20 v22 v24 v26 v28 : FVec Ideal S512x128 .bf16) (v29 v31 : FVec Ideal S512x128 .bf16)

/-- What one grid point computes at row `r`: the attention of its query row over the positions up to it. -/
theorem point_at (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S4096x256 .bf16) (harg4 : arg4.IsWhole) (arg5 : Memref sig .tc .vmem S512x1024 .bf16) (harg5 : arg5.IsWhole) (arg1 : BitVec 32)
    (Kd : FVec Ideal S512x256 .bf16) (X_arg4 : BufTy.Contents (Elt Ideal) arg4.view.ty)
    (r : Fin 4096) (y : ℕ) (hy : r.val % 512 = y) (d : Fin 128) (Q : Fin 256 → ℝ) (κ : ℕ → Fin 256 → ℝ)
    (hq : ∀ d, k0_pay9 (F := Ideal) v16 v18 v20 v22 v24 v26 v28 v29 v31 (ix2 r d) = (Q d : EReal))
    (hKd : ∀ k d, Kd (ix2 k d) = (κ (512 * (i 1).val + k.val) d : EReal))
    (hK : ∀ (j : Fin (k0_t1_loop i).trips) (h : ∀ a, k0_off2 i j a + S512x256.size a ≤ S4096x256.size a) (k : Fin 512) (d : Fin 256),
      View.readAt (Elt Ideal) arg4.view (Rect.unit (s := S4096x256) (k0_off2 i j) S512x256.size h).toLoadRect X_arg4 (ix2 k d) = (κ (512 * j.val + k.val) d : EReal)) :
    k0_pay26 (F := Ideal) (st_k0_t2 𝒱 c bd i arg2 harg2 arg3 harg3 arg4 harg4 arg5 harg5 arg1
        (k0_pay9 v16 v18 v20 v22 v24 v26 v28 v29 v31) k0_pay10 (k0_pay12 Kd) (k0_pay14 v16 v18 v20 v22 v24 v26 v28 v29 v31 Kd) (k0_pay15 v16 v18 v20 v22 v24 v26 v28 v29 v31 Kd) k0_pay16 X_arg4
        (st_k0_t1 𝒱 c bd i arg2 harg2 arg3 harg3 arg4 harg4 arg5 harg5 arg1
          (k0_pay9 v16 v18 v20 v22 v24 v26 v28 v29 v31) k0_pay10 (k0_pay12 Kd) (k0_pay14 v16 v18 v20 v22 v24 v26 v28 v29 v31 Kd) (k0_pay15 v16 v18 v20 v22 v24 v26 v28 v29 v31 Kd) k0_pay16 X_arg4
          (k0_pay14 v16 v18 v20 v22 v24 v26 v28 v29 v31 Kd, k0_pay17 (k0_pay12 Kd) (k0_pay15 v16 v18 v20 v22 v24 v26 v28 v29 v31 Kd) k0_pay16)
          (k0_t1_loop i).trips) (k0_t2_loop i).trips).2 (ix2 r d)
      = (att Q κ (512 * (i 1).val + y) d : EReal) := by
  rw [trips_t2 i, st_k0_t2_zero]
  refine carried_quot r Q κ _ _ ?_ d
  have h0 := carried_zero v16 v18 v20 v22 v24 v26 v28 v29 v31 Kd r Q κ (512 * (i 1).val) hq hKd
  have h1 := carried_st 𝒱 c bd i arg2 harg2 arg3 harg3 arg4 harg4 arg5 harg5 arg1 (k0_pay9 v16 v18 v20 v22 v24 v26 v28 v29 v31) (k0_pay12 Kd) (k0_pay14 v16 v18 v20 v22 v24 v26 v28 v29 v31 Kd) (k0_pay15 v16 v18 v20 v22 v24 v26 v28 v29 v31 Kd) k0_pay16 X_arg4 _
    r Q κ (512 * (i 1).val) (r.val % 512) (by rw [trips_t1]) hq hK h0 (k0_t1_loop i).trips le_rfl
  rw [trips_t1 i] at h1 ⊢
  rw [St_eq, hy] at h1
  exact h1

end

end Cert.KernelIdeal.Loop

end
-- ==== Proof.Point.lean ====
module

public import proofs.«01_k».proof.Proof.Loop
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.MValue

open Cert.KernelIdeal Cert.KernelIdeal.Gen
variable (m : (ℓ : Loc nD τ sig) → Buf (Elt Ideal) ℓ)

/-- The four arguments, as vectors. -/
abbrev a0 (c : Dev nD) : FVec Ideal S4x4096x8x128 .bf16 := m ((c : Thread nD τ).loc main_arg0)
abbrev a1 (c : Dev nD) : FVec Ideal S4x4096x8x32 .bf16 := m ((c : Thread nD τ).loc main_arg1)
abbrev a2 (c : Dev nD) : FVec Ideal S4x4096x128 .bf16 := m ((c : Thread nD τ).loc main_arg2)
abbrev a3 (c : Dev nD) : FVec Ideal S4x4096x32 .bf16 := m ((c : Thread nD τ).loc main_arg3)

theorem idx : ∀ t : Fin grid0.N, win0_0.index t 0 = t.val ∧ win0_0.index t 1 = 0 ∧ win0_1.index t 0 = t.val ∧ win0_1.index t 1 = 0
    ∧ win0_2.index t 0 = t.val / 8 ∧ win0_2.index t 1 = 0 ∧ win0_3.index t 0 = t.val ∧ win0_3.index t 1 = 0
    ∧ (grid0.coords t 0).val = t.val / 8 ∧ (grid0.coords t 1).val = t.val % 8 := by decide +kernel

theorem trips_eq : ∀ t : Fin grid0.N, (k0_t1_loop (grid0.coords t)).trips = t.val % 8 := by decide +kernel

/-- The rotary queries as the kernel reads them: filled up with zeros to 128 lanes, the heads side by side. -/
abbrev hv2 (A1 : FVec Ideal S4x4096x8x32 .bf16) : FVec Ideal S16384x1024 .bf16 :=
  shapeCast S16384x1024 (pad S4x4096x8x128 ![0, 0, 0, 0] ![0, 0, 0, 96] ![0, 0, 0, 0] A1
    (sitofp (F := Ideal) .bf16 (constantI S_ 32 0#32)) pads_S4x4096x8x32_S4x4096x8x128_000_000_000_0960 h_S_) shapeCasts_S4x4096x8x128_S16384x1024

/-- The keys as the kernel reads them: the rotary part filled up with zeros to 128 lanes, behind the latent part. -/
abbrev hv5 (A2 : FVec Ideal S4x4096x128 .bf16) (A3 : FVec Ideal S4x4096x32 .bf16) : FVec Ideal S16384x256 .bf16 :=
  shapeCast S16384x256 (concatenate S4x4096x256 2 [⟨S4x4096x128, A2⟩, ⟨S4x4096x128, pad S4x4096x128 ![0, 0, 0] ![0, 0, 96] ![0, 0, 0] A3
    (sitofp (F := Ideal) .bf16 (constantI S_ 32 0#32)) pads_S4x4096x32_S4x4096x128_000_000_0960 h_S_⟩] concatenates_S4x4096x128_S4x4096x128_S4x4096x256_d2) shapeCasts_S4x4096x256_S16384x256

theorem V_v0 (c : Dev nD) : V m c main_v0 = shapeCast S16384x1024 (m ((c : Thread nD τ).loc main_arg0)) shapeCasts_S4x4096x8x128_S16384x1024 := by
  unfold V
  simp only [hostOps0, hostOps0_1, hostOps0_2, hostOps0_3, hostOps0_4, List.flatten_cons, List.flatten_nil, List.cons_append, List.nil_append, List.append_nil]
  entry_read
  rfl

theorem V_v2 (c : Dev nD) : V m c main_v2 = hv2 (m ((c : Thread nD τ).loc main_arg1)) := by
  unfold V
  simp only [hostOps0, hostOps0_1, hostOps0_2, hostOps0_3, hostOps0_4, List.flatten_cons, List.flatten_nil, List.cons_append, List.nil_append, List.append_nil]
  entry_read
  rfl

theorem V_v5 (c : Dev nD) : V m c main_v5 = hv5 (m ((c : Thread nD τ).loc main_arg2)) (m ((c : Thread nD τ).loc main_arg3)) := by
  unfold V
  simp only [hostOps0, hostOps0_1, hostOps0_2, hostOps0_3, hostOps0_4, List.flatten_cons, List.flatten_nil, List.cons_append, List.nil_append, List.append_nil]
  entry_read
  rfl

theorem iblk0_emb (c : Dev nD) (t : Fin cfg0.N) (y : Fin 512) (x : Fin 1024) :
    iblk m c 0 t (ix2 y x) = V m c main_v0 (ix2 ⟨512 * t.val + y.val, by have : t.val < 32 := t.isLt; omega⟩ x) := by
  blk_ext [iblk, idx t]

theorem iblk1_emb (c : Dev nD) (t : Fin cfg0.N) (y : Fin 512) (x : Fin 1024) :
    iblk m c 1 t (ix2 y x) = V m c main_v2 (ix2 ⟨512 * t.val + y.val, by have : t.val < 32 := t.isLt; omega⟩ x) := by
  blk_ext [iblk, idx t]

theorem iblk2_emb (c : Dev nD) (t : Fin cfg0.N) (y : Fin 4096) (x : Fin 256) :
    iblk m c 2 t (ix2 y x) = V m c main_v5 (ix2 ⟨4096 * (t.val / 8) + y.val, by have : t.val < 32 := t.isLt; omega⟩ x) := by
  blk_ext [iblk, idx t]

variable (A0 : FVec Ideal S4x4096x8x128 .bf16) (A1 : FVec Ideal S4x4096x8x32 .bf16) (A2 : FVec Ideal S4x4096x128 .bf16) (A3 : FVec Ideal S4x4096x32 .bf16)

theorem v0_at (b : Fin 4) (l : Fin 4096) (h : Fin 8) (d : Fin 128) :
    shapeCast S16384x1024 A0 shapeCasts_S4x4096x8x128_S16384x1024 (ix2 ⟨4096 * b.val + l.val, by omega⟩ ⟨128 * h.val + d.val, by omega⟩) = A0 (ix4 b l h d) := by
  pointwise
  blk_ext

theorem fill_zero : FloatOps.sitofp (F := Ideal) .bf16 0#32 = (0 : EReal) := by
  show (((0#32 : BitVec 32).toInt : ℝ) : EReal) = 0
  simp

theorem v2_at (b : Fin 4) (l : Fin 4096) (h : Fin 8) (d : Fin 128) :
    hv2 A1 (ix2 ⟨4096 * b.val + l.val, by omega⟩ ⟨128 * h.val + d.val, by omega⟩) = if hd : d.val < 32 then A1 (ix4 b l h ⟨d.val, hd⟩) else 0 := by
  pointwise [hv2]
  rw [fill_zero]

theorem v5_at (b : Fin 4) (l : Fin 4096) (d : Fin 256) :
    hv5 A2 A3 (ix2 ⟨4096 * b.val + l.val, by omega⟩ d)
      = if h1 : d.val < 128 then A2 (ix3 b l ⟨d.val, h1⟩) else if h2 : d.val - 128 < 32 then A3 (ix3 b l ⟨d.val - 128, h2⟩) else 0 := by
  pointwise [hv5]
  rw [fill_zero]

/-- The grid point's batch row, and its query's position. -/
def bb (t : Fin cfg0.N) : Fin 4 := ⟨t.val / 8, by have : t.val < 32 := t.isLt; omega⟩
def tt (t : Fin cfg0.N) (y : Fin 512) : Fin 4096 := ⟨512 * (t.val % 8) + y.val, by omega⟩

theorem row_eq (t : Fin cfg0.N) (y : Fin 512) (h : 512 * t.val + y.val < 16384) :
    (⟨512 * t.val + y.val, h⟩ : Fin 16384) = ⟨4096 * (bb t).val + (tt t y).val, by omega⟩ := by
  apply Fin.ext; simp only [bb, tt]; omega

theorem iblk0_at (c : Dev nD) (t : Fin cfg0.N) (y : Fin 512) (h : Fin 8) (d : Fin 128) (x : Fin 1024) (hx : x.val = 128 * h.val + d.val) :
    iblk m c 0 t (ix2 y x) = a0 m c (ix4 (bb t) (tt t y) h d) := by
  obtain ⟨x, hx'⟩ := x
  subst hx
  rw [iblk0_emb, V_v0, row_eq]
  exact v0_at (a0 m c) (bb t) (tt t y) h d

theorem iblk1_at (c : Dev nD) (t : Fin cfg0.N) (y : Fin 512) (h : Fin 8) (d : Fin 128) (x : Fin 1024) (hx : x.val = 128 * h.val + d.val) :
    iblk m c 1 t (ix2 y x) = if hd : d.val < 32 then a1 m c (ix4 (bb t) (tt t y) h ⟨d.val, hd⟩) else (0 : EReal) := by
  obtain ⟨x, hx'⟩ := x
  subst hx
  rw [iblk1_emb, V_v2, row_eq]
  exact v2_at (a1 m c) (bb t) (tt t y) h d

theorem iblk2_at (c : Dev nD) (t : Fin cfg0.N) (y : Fin 4096) (d : Fin 256) :
    iblk m c 2 t (ix2 y d) = if h1 : d.val < 128 then a2 m c (ix3 (bb t) y ⟨d.val, h1⟩)
      else if h2 : d.val - 128 < 32 then a3 m c (ix3 (bb t) y ⟨d.val - 128, h2⟩) else (0 : EReal) := by
  rw [iblk2_emb, V_v5]
  exact v5_at (a2 m c) (a3 m c) (bb t) y d

variable (R0 : S4x4096x8x128.Idx → ℝ) (R1 : S4x4096x8x32.Idx → ℝ) (R2 : S4x4096x128.Idx → ℝ) (R3 : S4x4096x32.Idx → ℝ)

/-- A query row's 256 lanes, and a key's, as real numbers. -/
def QQ (b : Fin 4) (l : Fin 4096) (h : Fin 8) (d : Fin 256) : ℝ :=
  if h1 : d.val < 128 then R0 (ix4 b l h ⟨d.val, h1⟩) else if h2 : d.val - 128 < 32 then R1 (ix4 b l h ⟨d.val - 128, h2⟩) else 0
def KK (b : Fin 4) (l : ℕ) (d : Fin 256) : ℝ :=
  if hl : l < 4096 then
    if h1 : d.val < 128 then R2 (ix3 b ⟨l, hl⟩ ⟨d.val, h1⟩) else if h2 : d.val - 128 < 32 then R3 (ix3 b ⟨l, hl⟩ ⟨d.val - 128, h2⟩) else 0
  else 0

/-- The result, as the call lays it out. -/
def G : FVec Ideal S16384x1024 .bf16 := fun z =>
  (Loop.att (QQ R0 R1 ⟨(z 0).val / 4096, by have : (z 0).val < 16384 := (z 0).isLt; omega⟩ ⟨(z 0).val % 4096, by omega⟩ ⟨(z 1).val / 128, by have : (z 1).val < 1024 := (z 1).isLt; omega⟩)
    (KK R2 R3 ⟨(z 0).val / 4096, by have : (z 0).val < 16384 := (z 0).isLt; omega⟩) ((z 0).val % 4096) ⟨(z 1).val % 128, by omega⟩ : EReal)

theorem pay27_at (A : FVec Ideal S4096x256 .f32) (x : S512x128.Idx) :
    k0_pay27 (F := Ideal) A x = k0_pay26 (F := Ideal) A (ix2 ⟨0 + (x 0).val, by have : (x 0).val < 512 := (x 0).isLt; omega⟩ (x 1)) := by
  pointwise [k0_pay27]
theorem pay28_at (A : FVec Ideal S4096x256 .f32) (x : S512x128.Idx) :
    k0_pay28 (F := Ideal) A x = k0_pay26 (F := Ideal) A (ix2 ⟨512 + (x 0).val, by have : (x 0).val < 512 := (x 0).isLt; omega⟩ (x 1)) := by
  pointwise [k0_pay28]
theorem pay29_at (A : FVec Ideal S4096x256 .f32) (x : S512x128.Idx) :
    k0_pay29 (F := Ideal) A x = k0_pay26 (F := Ideal) A (ix2 ⟨1024 + (x 0).val, by have : (x 0).val < 512 := (x 0).isLt; omega⟩ (x 1)) := by
  pointwise [k0_pay29]
theorem pay30_at (A : FVec Ideal S4096x256 .f32) (x : S512x128.Idx) :
    k0_pay30 (F := Ideal) A x = k0_pay26 (F := Ideal) A (ix2 ⟨1536 + (x 0).val, by have : (x 0).val < 512 := (x 0).isLt; omega⟩ (x 1)) := by
  pointwise [k0_pay30]
theorem pay31_at (A : FVec Ideal S4096x256 .f32) (x : S512x128.Idx) :
    k0_pay31 (F := Ideal) A x = k0_pay26 (F := Ideal) A (ix2 ⟨2048 + (x 0).val, by have : (x 0).val < 512 := (x 0).isLt; omega⟩ (x 1)) := by
  pointwise [k0_pay31]
theorem pay32_at (A : FVec Ideal S4096x256 .f32) (x : S512x128.Idx) :
    k0_pay32 (F := Ideal) A x = k0_pay26 (F := Ideal) A (ix2 ⟨2560 + (x 0).val, by have : (x 0).val < 512 := (x 0).isLt; omega⟩ (x 1)) := by
  pointwise [k0_pay32]
theorem pay33_at (A : FVec Ideal S4096x256 .f32) (x : S512x128.Idx) :
    k0_pay33 (F := Ideal) A x = k0_pay26 (F := Ideal) A (ix2 ⟨3072 + (x 0).val, by have : (x 0).val < 512 := (x 0).isLt; omega⟩ (x 1)) := by
  pointwise [k0_pay33]
theorem pay1_at (v : FVec Ideal S4096x128 .f32) (x : S512x128.Idx) :
    k0_pay1 (F := Ideal) v x = v (ix2 ⟨3584 + (x 0).val, by have : (x 0).val < 512 := (x 0).isLt; omega⟩ (x 1)) := by
  pointwise [k0_pay1]

theorem G_at (t : Fin cfg0.N) (y : Fin 512) (h : Fin 8) (d : Fin 128) (z : S16384x1024.Idx) (hz0 : (z 0).val = 512 * t.val + y.val) (hz1 : (z 1).val = 128 * h.val + d.val) :
    G R0 R1 R2 R3 z = (Loop.att (QQ R0 R1 (bb t) (tt t y) h) (KK R2 R3 (bb t)) (512 * (grid0.coords t 1).val + y.val) d : EReal) := by
  have hz : (z 0).val < 16384 := (z 0).isLt
  have hz' : (z 1).val < 1024 := (z 1).isLt
  have e1 : (⟨(z 0).val / 4096, by omega⟩ : Fin 4) = bb t := by apply Fin.ext; simp only [bb]; omega
  have e2 : (⟨(z 0).val % 4096, by omega⟩ : Fin 4096) = tt t y := by apply Fin.ext; simp only [tt]; omega
  have e3 : (⟨(z 1).val / 128, by omega⟩ : Fin 8) = h := by apply Fin.ext; simp only []; omega
  have e4 : (⟨(z 1).val % 128, by omega⟩ : Fin 128) = d := by apply Fin.ext; simp only []; omega
  have e5 : (z 0).val % 4096 = 512 * (t.val % 8) + y.val := by omega
  unfold G
  rw [e1, e2, e3, e4, e5, (idx t).2.2.2.2.2.2.2.2.2]

theorem ld_rows (B : Vec Ideal S4096x256 .bf16) (off : Fin S4096x256.rank → ℕ) (inb : ∀ a, off a + S512x256.size a ≤ S4096x256.size a) (o : ℕ) (ho : o + 512 ≤ 4096)
    (hoff : off = ![o, 0]) (k : Fin 512) (d : Fin 256) :
    View.ld (Val := Elt Ideal) B (Rect.unit (s := S4096x256) off S512x256.size inb) (ix2 k d) = B (ix2 ⟨o + k.val, by omega⟩ d) := by
  subst hoff
  pointwise

set_option maxHeartbeats 6400000 in
theorem final (c : Dev nD) (h0 : a0 m c = fun z => (R0 z : EReal)) (h1 : a1 m c = fun z => (R1 z : EReal)) (h2 : a2 m c = fun z => (R2 z : EReal))
    (h3 : a3 m c = fun z => (R3 z : EReal)) : (dats m 0 c).arrAt 3 cfg0.N = G R0 R1 R2 R3 := by
  refine (dats m 0 c).arrAt_eq_of_covers 3 _ (by decide +kernel) fun t _ y => ?_
  blk_simp
  rw [after0_3]
  unfold outsAt0
  frame_out
  have hr0 : ∀ z, a0 m c z = (R0 z : EReal) := fun z => congrFun h0 z
  have hr1 : ∀ z, a1 m c z = (R1 z : EReal) := fun z => congrFun h1 z
  have hr2 : ∀ z, a2 m c z = (R2 z : EReal) := fun z => congrFun h2 z
  have hr3 : ∀ z, a3 m c z = (R3 z : EReal) := fun z => congrFun h3 z
  clear h0 h1 h2 h3
  have hx2 : ∀ (l : Fin 4096) (d : Fin 256), iblk m c 2 t (ix2 l d) = (KK R2 R3 (bb t) l.val d : EReal) := by
    intro l d
    rw [iblk2_at]; unfold KK
    rw [dif_pos l.isLt]
    split_ifs
    exacts [hr2 _, hr3 _, rfl]
  have hx0 : ∀ (y : Fin 512) (h : Fin 8) (d : Fin 256) (hd : d.val < 128) (x : Fin 1024), x.val = 128 * h.val + d.val → iblk m c 0 t (ix2 y x) = (QQ R0 R1 (bb t) (tt t y) h d : EReal) := by
    intro y h d hd x hx
    rw [iblk0_at m c t y h ⟨d.val, hd⟩ x hx]; unfold QQ
    rw [dif_pos hd]; exact hr0 _
  have hx1 : ∀ (y : Fin 512) (h : Fin 8) (d : Fin 256) (hd : ¬ d.val < 128) (x : Fin 1024), x.val = 128 * h.val + (d.val - 128) → iblk m c 1 t (ix2 y x) = (QQ R0 R1 (bb t) (tt t y) h d : EReal) := by
    intro y h d hd x hx
    rw [iblk1_at m c t y h ⟨d.val - 128, by omega⟩ x hx]; unfold QQ
    rw [dif_neg hd]; split_ifs
    exacts [hr1 _, rfl]
  clear hr0 hr1 hr2 hr3
  have hi8 : (grid0.coords t 1).val < 8 := (grid0.coords t 1).isLt
  canon_tiles x h
  case piece0 =>
    refine (pay1_at _ x).trans ((Loop.point_at (y := (x 0).val) (Q := QQ R0 R1 (bb t) (tt t (x 0)) 7) (κ := KK R2 R3 (bb t)) (hy := ?_) (hq := fun d => ?_) (hKd := fun k d => ?_) (hK := fun j hj k d => ?_) ..).trans (G_at R0 R1 R2 R3 t (x 0) 7 (x 1) _ ?_ ?_).symm)
    · show (_ + (x 0).val) % 512 = (x 0).val
      omega
    · refine (Loop.pay9_at _ _ _ _ _ _ _ _ _ _ _ _ _ _ _ _ 7 (x 0) _ ?_ d).trans ?_
      · rfl
      · split_ifs with hd
        · refine Eq.trans ?_ (hx0 (x 0) 7 d hd ⟨128 * 7 + d.val, by omega⟩ rfl)
          simp only [Matrix.cons_val]
          clear hx0 hx1 hx2
          pointwise
        · refine Eq.trans ?_ (hx1 (x 0) 7 d hd ⟨128 * 7 + (d.val - 128), by omega⟩ rfl)
          simp only [Matrix.cons_val]
          clear hx0 hx1 hx2
          pointwise
    · refine Eq.trans ?_ (hx2 ⟨512 * (grid0.coords t 1).val + k.val, by omega⟩ d)
      exact ld_rows _ _ _ (512 * (grid0.coords t 1).val) (by omega) (k0_off1_eq _) k d
    · have hj8 : j.val < t.val % 8 := lt_of_lt_of_eq j.isLt (trips_eq t)
      refine Eq.trans ?_ (hx2 ⟨512 * j.val + k.val, by omega⟩ d)
      rw [View.readAt_eq_ld, Memref.IsWhole.read_unread]
      exact ld_rows _ _ _ (512 * j.val) (by omega) (k0_off2_eq _ _) k d
    · blk_simp [idx t]
      omega
    · blk_simp [idx t]
      omega

  case piece1 =>
    refine (pay33_at _ x).trans ((Loop.point_at (y := (x 0).val) (Q := QQ R0 R1 (bb t) (tt t (x 0)) 6) (κ := KK R2 R3 (bb t)) (hy := ?_) (hq := fun d => ?_) (hKd := fun k d => ?_) (hK := fun j hj k d => ?_) ..).trans (G_at R0 R1 R2 R3 t (x 0) 6 (x 1) _ ?_ ?_).symm)
    · show (_ + (x 0).val) % 512 = (x 0).val
      omega
    · refine (Loop.pay9_at _ _ _ _ _ _ _ _ _ _ _ _ _ _ _ _ 6 (x 0) _ ?_ d).trans ?_
      · rfl
      · split_ifs with hd
        · refine Eq.trans ?_ (hx0 (x 0) 6 d hd ⟨128 * 6 + d.val, by omega⟩ rfl)
          simp only [Matrix.cons_val]
          clear hx0 hx1 hx2
          pointwise
        · refine Eq.trans ?_ (hx1 (x 0) 6 d hd ⟨128 * 6 + (d.val - 128), by omega⟩ rfl)
          simp only [Matrix.cons_val]
          clear hx0 hx1 hx2
          pointwise
    · refine Eq.trans ?_ (hx2 ⟨512 * (grid0.coords t 1).val + k.val, by omega⟩ d)
      exact ld_rows _ _ _ (512 * (grid0.coords t 1).val) (by omega) (k0_off1_eq _) k d
    · have hj8 : j.val < t.val % 8 := lt_of_lt_of_eq j.isLt (trips_eq t)
      refine Eq.trans ?_ (hx2 ⟨512 * j.val + k.val, by omega⟩ d)
      rw [View.readAt_eq_ld, Memref.IsWhole.read_unread]
      exact ld_rows _ _ _ (512 * j.val) (by omega) (k0_off2_eq _ _) k d
    · blk_simp [idx t]
      omega
    · blk_simp [idx t]
      omega

  case piece2 =>
    refine (pay32_at _ x).trans ((Loop.point_at (y := (x 0).val) (Q := QQ R0 R1 (bb t) (tt t (x 0)) 5) (κ := KK R2 R3 (bb t)) (hy := ?_) (hq := fun d => ?_) (hKd := fun k d => ?_) (hK := fun j hj k d => ?_) ..).trans (G_at R0 R1 R2 R3 t (x 0) 5 (x 1) _ ?_ ?_).symm)
    · show (_ + (x 0).val) % 512 = (x 0).val
      omega
    · refine (Loop.pay9_at _ _ _ _ _ _ _ _ _ _ _ _ _ _ _ _ 5 (x 0) _ ?_ d).trans ?_
      · rfl
      · split_ifs with hd
        · refine Eq.trans ?_ (hx0 (x 0) 5 d hd ⟨128 * 5 + d.val, by omega⟩ rfl)
          simp only [Matrix.cons_val]
          clear hx0 hx1 hx2
          pointwise
        · refine Eq.trans ?_ (hx1 (x 0) 5 d hd ⟨128 * 5 + (d.val - 128), by omega⟩ rfl)
          simp only [Matrix.cons_val]
          clear hx0 hx1 hx2
          pointwise
    · refine Eq.trans ?_ (hx2 ⟨512 * (grid0.coords t 1).val + k.val, by omega⟩ d)
      exact ld_rows _ _ _ (512 * (grid0.coords t 1).val) (by omega) (k0_off1_eq _) k d
    · have hj8 : j.val < t.val % 8 := lt_of_lt_of_eq j.isLt (trips_eq t)
      refine Eq.trans ?_ (hx2 ⟨512 * j.val + k.val, by omega⟩ d)
      rw [View.readAt_eq_ld, Memref.IsWhole.read_unread]
      exact ld_rows _ _ _ (512 * j.val) (by omega) (k0_off2_eq _ _) k d
    · blk_simp [idx t]
      omega
    · blk_simp [idx t]
      omega

  case piece3 =>
    refine (pay31_at _ x).trans ((Loop.point_at (y := (x 0).val) (Q := QQ R0 R1 (bb t) (tt t (x 0)) 4) (κ := KK R2 R3 (bb t)) (hy := ?_) (hq := fun d => ?_) (hKd := fun k d => ?_) (hK := fun j hj k d => ?_) ..).trans (G_at R0 R1 R2 R3 t (x 0) 4 (x 1) _ ?_ ?_).symm)
    · show (_ + (x 0).val) % 512 = (x 0).val
      omega
    · refine (Loop.pay9_at _ _ _ _ _ _ _ _ _ _ _ _ _ _ _ _ 4 (x 0) _ ?_ d).trans ?_
      · rfl
      · split_ifs with hd
        · refine Eq.trans ?_ (hx0 (x 0) 4 d hd ⟨128 * 4 + d.val, by omega⟩ rfl)
          simp only [Matrix.cons_val]
          clear hx0 hx1 hx2
          pointwise
        · refine Eq.trans ?_ (hx1 (x 0) 4 d hd ⟨128 * 4 + (d.val - 128), by omega⟩ rfl)
          simp only [Matrix.cons_val]
          clear hx0 hx1 hx2
          pointwise
    · refine Eq.trans ?_ (hx2 ⟨512 * (grid0.coords t 1).val + k.val, by omega⟩ d)
      exact ld_rows _ _ _ (512 * (grid0.coords t 1).val) (by omega) (k0_off1_eq _) k d
    · have hj8 : j.val < t.val % 8 := lt_of_lt_of_eq j.isLt (trips_eq t)
      refine Eq.trans ?_ (hx2 ⟨512 * j.val + k.val, by omega⟩ d)
      rw [View.readAt_eq_ld, Memref.IsWhole.read_unread]
      exact ld_rows _ _ _ (512 * j.val) (by omega) (k0_off2_eq _ _) k d
    · blk_simp [idx t]
      omega
    · blk_simp [idx t]
      omega

  case piece4 =>
    refine (pay30_at _ x).trans ((Loop.point_at (y := (x 0).val) (Q := QQ R0 R1 (bb t) (tt t (x 0)) 3) (κ := KK R2 R3 (bb t)) (hy := ?_) (hq := fun d => ?_) (hKd := fun k d => ?_) (hK := fun j hj k d => ?_) ..).trans (G_at R0 R1 R2 R3 t (x 0) 3 (x 1) _ ?_ ?_).symm)
    · show (_ + (x 0).val) % 512 = (x 0).val
      omega
    · refine (Loop.pay9_at _ _ _ _ _ _ _ _ _ _ _ _ _ _ _ _ 3 (x 0) _ ?_ d).trans ?_
      · rfl
      · split_ifs with hd
        · refine Eq.trans ?_ (hx0 (x 0) 3 d hd ⟨128 * 3 + d.val, by omega⟩ rfl)
          simp only [Matrix.cons_val]
          clear hx0 hx1 hx2
          pointwise
        · refine Eq.trans ?_ (hx1 (x 0) 3 d hd ⟨128 * 3 + (d.val - 128), by omega⟩ rfl)
          simp only [Matrix.cons_val]
          clear hx0 hx1 hx2
          pointwise
    · refine Eq.trans ?_ (hx2 ⟨512 * (grid0.coords t 1).val + k.val, by omega⟩ d)
      exact ld_rows _ _ _ (512 * (grid0.coords t 1).val) (by omega) (k0_off1_eq _) k d
    · have hj8 : j.val < t.val % 8 := lt_of_lt_of_eq j.isLt (trips_eq t)
      refine Eq.trans ?_ (hx2 ⟨512 * j.val + k.val, by omega⟩ d)
      rw [View.readAt_eq_ld, Memref.IsWhole.read_unread]
      exact ld_rows _ _ _ (512 * j.val) (by omega) (k0_off2_eq _ _) k d
    · blk_simp [idx t]
      omega
    · blk_simp [idx t]
      omega

  case piece5 =>
    refine (pay29_at _ x).trans ((Loop.point_at (y := (x 0).val) (Q := QQ R0 R1 (bb t) (tt t (x 0)) 2) (κ := KK R2 R3 (bb t)) (hy := ?_) (hq := fun d => ?_) (hKd := fun k d => ?_) (hK := fun j hj k d => ?_) ..).trans (G_at R0 R1 R2 R3 t (x 0) 2 (x 1) _ ?_ ?_).symm)
    · show (_ + (x 0).val) % 512 = (x 0).val
      omega
    · refine (Loop.pay9_at _ _ _ _ _ _ _ _ _ _ _ _ _ _ _ _ 2 (x 0) _ ?_ d).trans ?_
      · rfl
      · split_ifs with hd
        · refine Eq.trans ?_ (hx0 (x 0) 2 d hd ⟨128 * 2 + d.val, by omega⟩ rfl)
          simp only [Matrix.cons_val]
          clear hx0 hx1 hx2
          pointwise
        · refine Eq.trans ?_ (hx1 (x 0) 2 d hd ⟨128 * 2 + (d.val - 128), by omega⟩ rfl)
          simp only [Matrix.cons_val]
          clear hx0 hx1 hx2
          pointwise
    · refine Eq.trans ?_ (hx2 ⟨512 * (grid0.coords t 1).val + k.val, by omega⟩ d)
      exact ld_rows _ _ _ (512 * (grid0.coords t 1).val) (by omega) (k0_off1_eq _) k d
    · have hj8 : j.val < t.val % 8 := lt_of_lt_of_eq j.isLt (trips_eq t)
      refine Eq.trans ?_ (hx2 ⟨512 * j.val + k.val, by omega⟩ d)
      rw [View.readAt_eq_ld, Memref.IsWhole.read_unread]
      exact ld_rows _ _ _ (512 * j.val) (by omega) (k0_off2_eq _ _) k d
    · blk_simp [idx t]
      omega
    · blk_simp [idx t]
      omega

  case piece6 =>
    refine (pay28_at _ x).trans ((Loop.point_at (y := (x 0).val) (Q := QQ R0 R1 (bb t) (tt t (x 0)) 1) (κ := KK R2 R3 (bb t)) (hy := ?_) (hq := fun d => ?_) (hKd := fun k d => ?_) (hK := fun j hj k d => ?_) ..).trans (G_at R0 R1 R2 R3 t (x 0) 1 (x 1) _ ?_ ?_).symm)
    · show (_ + (x 0).val) % 512 = (x 0).val
      omega
    · refine (Loop.pay9_at _ _ _ _ _ _ _ _ _ _ _ _ _ _ _ _ 1 (x 0) _ ?_ d).trans ?_
      · rfl
      · split_ifs with hd
        · refine Eq.trans ?_ (hx0 (x 0) 1 d hd ⟨128 * 1 + d.val, by omega⟩ rfl)
          simp only [Matrix.cons_val]
          clear hx0 hx1 hx2
          pointwise
        · refine Eq.trans ?_ (hx1 (x 0) 1 d hd ⟨128 * 1 + (d.val - 128), by omega⟩ rfl)
          simp only [Matrix.cons_val]
          clear hx0 hx1 hx2
          pointwise
    · refine Eq.trans ?_ (hx2 ⟨512 * (grid0.coords t 1).val + k.val, by omega⟩ d)
      exact ld_rows _ _ _ (512 * (grid0.coords t 1).val) (by omega) (k0_off1_eq _) k d
    · have hj8 : j.val < t.val % 8 := lt_of_lt_of_eq j.isLt (trips_eq t)
      refine Eq.trans ?_ (hx2 ⟨512 * j.val + k.val, by omega⟩ d)
      rw [View.readAt_eq_ld, Memref.IsWhole.read_unread]
      exact ld_rows _ _ _ (512 * j.val) (by omega) (k0_off2_eq _ _) k d
    · blk_simp [idx t]
      omega
    · blk_simp [idx t]
      omega

  case piece7 =>
    refine (pay27_at _ x).trans ((Loop.point_at (y := (x 0).val) (Q := QQ R0 R1 (bb t) (tt t (x 0)) 0) (κ := KK R2 R3 (bb t)) (hy := ?_) (hq := fun d => ?_) (hKd := fun k d => ?_) (hK := fun j hj k d => ?_) ..).trans (G_at R0 R1 R2 R3 t (x 0) 0 (x 1) _ ?_ ?_).symm)
    · show (_ + (x 0).val) % 512 = (x 0).val
      omega
    · refine (Loop.pay9_at _ _ _ _ _ _ _ _ _ _ _ _ _ _ _ _ 0 (x 0) _ ?_ d).trans ?_
      · rfl
      · split_ifs with hd
        · refine Eq.trans ?_ (hx0 (x 0) 0 d hd ⟨128 * 0 + d.val, by omega⟩ rfl)
          simp only [Matrix.cons_val]
          clear hx0 hx1 hx2
          pointwise
        · refine Eq.trans ?_ (hx1 (x 0) 0 d hd ⟨128 * 0 + (d.val - 128), by omega⟩ rfl)
          simp only [Matrix.cons_val]
          clear hx0 hx1 hx2
          pointwise
    · refine Eq.trans ?_ (hx2 ⟨512 * (grid0.coords t 1).val + k.val, by omega⟩ d)
      exact ld_rows _ _ _ (512 * (grid0.coords t 1).val) (by omega) (k0_off1_eq _) k d
    · have hj8 : j.val < t.val % 8 := lt_of_lt_of_eq j.isLt (trips_eq t)
      refine Eq.trans ?_ (hx2 ⟨512 * j.val + k.val, by omega⟩ d)
      rw [View.readAt_eq_ld, Memref.IsWhole.read_unread]
      exact ld_rows _ _ _ (512 * j.val) (by omega) (k0_off2_eq _ _) k d
    · blk_simp [idx t]
      omega
    · blk_simp [idx t]
      omega

end Cert.KernelIdeal.MValue

end
-- ==== Proof.Ref.lean ====
/- The reference's result read at an index, at the ideal instance. -/
module

public import proofs.«01_k».proof.Proof.Gen.ReferenceIdeal.Run
public import proofs.«01_k».proof.Proof.Point
public import Idealize.ShloMosaic.Lib.WordCmp

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Idealize.ShloMosaic.WordCmp Cert

abbrev Sc := FVec Ideal S4x8x4096x4096 .f32

variable (A0 : FVec Ideal S4x4096x8x128 .bf16) (A1 : FVec Ideal S4x4096x8x32 .bf16) (A2 : FVec Ideal S4x4096x128 .bf16) (A3 : FVec Ideal S4x4096x32 .bf16)

/-- The scores, scaled. -/
def scores : Sc :=
  Host.divf (addf (transpose S4x8x4096x4096 [0, 3, 2, 1] (Host.dotGeneral dot_S4x4096x128_S4x4096x8x128_S4x4096x4096x8_2_3_1_12_0_0 none (extf .f32 A2 bitsLt_bf16_f32) (extf .f32 A0 bitsLt_bf16_f32)) transposes_S4x4096x4096x8_S4x8x4096x4096_0_3_2_1) (transpose S4x8x4096x4096 [0, 3, 2, 1] (Host.dotGeneral dot_S4x4096x32_S4x4096x8x32_S4x4096x4096x8_2_3_1_12_0_0 none (extf .f32 A3 bitsLt_bf16_f32) (extf .f32 A1 bitsLt_bf16_f32)) transposes_S4x4096x4096x8_S4x8x4096x4096_0_3_2_1)) (broadcastInDim S4x8x4096x4096 ![] bcast_S_S4x8x4096x4096 (Host.sqrt (constant S_ .f32 0x42C00000#32)))

/-- The scores with the later positions masked. -/
def masked (s : Sc) : Sc :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s (broadcastInDim S4x8x4096x4096 ![] bcast_S_S4x8x4096x4096 (id (constant S_ .f32 0xFF800000#32)))

/-- The greatest score of each row. -/
def rowMax (s : Sc) : FVec Ideal S4x8x4096 .f32 :=
  maximumf (broadcastInDim S4x8x4096 ![] bcast_S_S4x8x4096 (constant S_ .f32 0xFF800000#32)) (Host.reduce FloatOps.maximumf s (constant S_ .f32 0xFF800000#32) reducesTo_S4x8x4096x4096_S4x8x4096_d3 h_S_)

/-- A row's number, repeated along the row. -/
def along (v : FVec Ideal S4x8x4096 .f32) : Sc :=
  broadcastInDim S4x8x4096x4096 ![0, 1, 2, 3] bcast_S4x8x4096x1_S4x8x4096x4096_0_1_2_3 (broadcastInDim S4x8x4096x1 ![0, 1, 2] bcast_S4x8x4096_S4x8x4096x1_0_1_2 v)

def weights (s : Sc) : Sc := Host.exp (subf s (along (rowMax s)))

def rowSum (w : Sc) : FVec Ideal S4x8x4096 .f32 :=
  Host.reduceAdd w (constant S_ .f32 0x00000000#32) reducesTo_S4x8x4096x4096_S4x8x4096_d3 h_S_

def outp (p : Sc) : FVec Ideal S16384x1024 .bf16 :=
  truncf .bf16 (shapeCast _ (transpose S4x4096x8x128 [0, 3, 2, 1] (Host.dotGeneral dot_S4x4096x128_S4x8x4096x4096_S4x128x8x4096_1_3_2_12_0_0 none (extf .f32 A2 bitsLt_bf16_f32) p) transposes_S4x128x8x4096_S4x4096x8x128_0_3_2_1) shapeCasts_S4x4096x8x128_S16384x1024) bitsLt_bf16_f32

theorem res_eq (m : (ℓ : Loc nD τ sig) → Buf (Elt Ideal) ℓ) (c : Dev nD) :
    Value.res_out0 m c
      = outp (m ((c.tc : Thread nD τ).loc main_arg2))
          (Host.divf (weights (masked (scores (m ((c.tc : Thread nD τ).loc main_arg0)) (m ((c.tc : Thread nD τ).loc main_arg1)) (m ((c.tc : Thread nD τ).loc main_arg2)) (m ((c.tc : Thread nD τ).loc main_arg3)))))
            (along (rowSum (weights (masked (scores (m ((c.tc : Thread nD τ).loc main_arg0)) (m ((c.tc : Thread nD τ).loc main_arg1)) (m ((c.tc : Thread nD τ).loc main_arg2)) (m ((c.tc : Thread nD τ).loc main_arg3)))))))) := rfl

theorem scores_at (b : Fin 4) (h : Fin 8) (t l : Fin 4096) :
    scores A0 A1 A2 A3 (ix4 b h t l)
      = Ideal.div ((∑ d : Fin 128, A2 (ix3 b l d) * A0 (ix4 b t h d)) + ∑ d : Fin 32, A3 (ix3 b l d) * A1 (ix4 b t h d)) (Ideal.sqrt (Ideal.ofBits .f32 0x42C00000#32)) := by
  pointwise [scores]

theorem masked_at (s : Sc) (b : Fin 4) (h : Fin 8) (t l : Fin 4096) :
    masked s (ix4 b h t l) = if l.val ≤ t.val then s (ix4 b h t l) else ⊥ := by
  pointwise [masked]
  have ht := t.isLt
  have hl := l.isLt
  have hb : id (constant (F := Ideal) S_ .f32 4286578688#32) ix0 = ⊥ := KernelIdeal.Pay.ofBits_neg_inf
  rw [hb, cmpi_sle_ofNat (w := 32) (by omega) (by omega), select_decide]

theorem reduceMax_at (s : Sc) (b : Fin 4) (h : Fin 8) (t : Fin 4096) :
    Host.reduce FloatOps.maximumf s (constant S_ .f32 0xFF800000#32) reducesTo_S4x8x4096x4096_S4x8x4096_d3 h_S_ (ix3 b h t)
      = Finset.univ.fold max (Ideal.ofBits .f32 0xFF800000#32) fun k : Fin 4096 => s (ix4 b h t k) := by
  pointwise

theorem max_at (u v : FVec Ideal S4x8x4096 .f32) (i : S4x8x4096.Idx) : maximumf u v i = max (u i) (v i) := rfl

theorem floor_at (i : S4x8x4096.Idx) :
    (broadcastInDim S4x8x4096 ![] bcast_S_S4x8x4096 (constant (F := Ideal) S_ .f32 0xFF800000#32) : FVec Ideal S4x8x4096 .f32) i = ⊥ :=
  KernelIdeal.Pay.ofBits_neg_inf

theorem rowMax_at (s : Sc) (b : Fin 4) (h : Fin 8) (t : Fin 4096) :
    rowMax s (ix3 b h t) = max ⊥ (Finset.univ.fold max ⊥ fun k : Fin 4096 => s (ix4 b h t k)) := by
  unfold rowMax
  rw [max_at, reduceMax_at, floor_at, KernelIdeal.Pay.ofBits_neg_inf]

theorem along_at (v : FVec Ideal S4x8x4096 .f32) (b : Fin 4) (h : Fin 8) (t l : Fin 4096) : along v (ix4 b h t l) = v (ix3 b h t) := by
  pointwise [along]

theorem weights_at (s : Sc) (b : Fin 4) (h : Fin 8) (t l : Fin 4096) :
    weights s (ix4 b h t l) = Ideal.exp (s (ix4 b h t l) - rowMax s (ix3 b h t)) := by
  unfold weights
  rw [← along_at (rowMax s) b h t l]
  rfl

theorem rowSum_at (w : Sc) (b : Fin 4) (h : Fin 8) (t : Fin 4096) : rowSum w (ix3 b h t) = ∑ k : Fin 4096, w (ix4 b h t k) := by
  pointwise [rowSum]

theorem outp_at (p : Sc) (r : Fin 16384) (x : Fin 1024) :
    outp A2 p (ix2 r x) = ∑ l : Fin 4096, A2 (ix3 ⟨r.val / 4096, by omega⟩ l ⟨x.val % 128, by omega⟩) * p (ix4 ⟨r.val / 4096, by omega⟩ ⟨x.val / 128, by omega⟩ ⟨r.val % 4096, by omega⟩ l) := by
  pointwise [outp]

end Cert.ReferenceIdeal.Ref

end
-- ==== Proof.Equal.lean ====
/- Kernel and reference compute one array: the attention of each query row over the positions up to its own. -/
module

public import proofs.«01_k».proof.Proof.Ref
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.Equal

open Cert.ReferenceIdeal Cert.ReferenceIdeal.Gen Cert Cert.ReferenceIdeal.Ref
open Cert.KernelIdeal.MValue (QQ KK G)

theorem ofBits_96 : Ideal.ofBits .f32 0x42C00000#32 = ((96 : ℝ) : EReal) := by
  simp [Ideal.ofBits, Ideal.ieee, -EReal.coe_mul]; norm_num

/-- The 256 lanes of a query against a key: 128 latent ones, 32 rotary ones, the rest zero. -/
theorem sum256 (f : Fin 256 → ℝ) (g : Fin 128 → ℝ) (k : Fin 32 → ℝ) (h1 : ∀ d : Fin 128, f ⟨d.val, by omega⟩ = g d)
    (h2 : ∀ d : Fin 32, f ⟨128 + d.val, by omega⟩ = k d) (h3 : ∀ d : Fin 256, 160 ≤ d.val → f d = 0) :
    ∑ d, f d = (∑ d, g d) + ∑ d, k d := by
  have e : ∑ d, f d = ∑ d : Fin (128 + (32 + 96)), f d := rfl
  rw [e, Fin.sum_univ_add, Fin.sum_univ_add]
  have e3 : ∑ i : Fin 96, f (Fin.natAdd 128 (Fin.natAdd 32 i)) = 0 :=
    Finset.sum_eq_zero fun i _ => h3 _ (by simp only [Fin.val_natAdd]; omega)
  rw [e3, add_zero]
  congr 1
  · exact Finset.sum_congr rfl fun i _ => h1 i
  · exact Finset.sum_congr rfl fun i _ => h2 i

/-- A sum over all positions whose later terms are zero. -/
theorem sum_upto (n t : ℕ) (ht : t < n) (f : ℕ → ℝ) : ∑ l : Fin n, (if l.val ≤ t then f l.val else 0) = ∑ l ∈ Finset.range (t + 1), f l := by
  rw [← Finset.sum_range (fun l => if l ≤ t then f l else 0), ← Finset.sum_filter]
  refine Finset.sum_congr (Finset.ext fun k => ?_) fun _ _ => rfl
  simp only [Finset.mem_filter, Finset.mem_range]; omega

variable (R0 : S4x4096x8x128.Idx → ℝ) (R1 : S4x4096x8x32.Idx → ℝ) (R2 : S4x4096x128.Idx → ℝ) (R3 : S4x4096x32.Idx → ℝ)
variable (A0 : FVec Ideal S4x4096x8x128 .bf16) (A1 : FVec Ideal S4x4096x8x32 .bf16) (A2 : FVec Ideal S4x4096x128 .bf16) (A3 : FVec Ideal S4x4096x32 .bf16)

theorem scr_eq (b : Fin 4) (h : Fin 8) (t l : Fin 4096) :
    KernelIdeal.Loop.scr (QQ R0 R1 b t h) (KK R2 R3 b) l.val
      = (∑ d : Fin 128, R2 (ix3 b l d) * R0 (ix4 b t h d)) + ∑ d : Fin 32, R3 (ix3 b l d) * R1 (ix4 b t h d) := by
  unfold KernelIdeal.Loop.scr
  refine sum256 _ _ _ (fun d => ?_) (fun d => ?_) fun d hd => ?_
  · unfold QQ KK
    rw [dif_pos l.isLt, dif_pos d.isLt, dif_pos d.isLt, mul_comm]
  · unfold QQ KK
    have e : 128 + d.val - 128 = d.val := by omega
    have n1 : ¬ 128 + d.val < 128 := by omega
    have n2 : 128 + d.val - 128 < 32 := by omega
    rw [dif_pos l.isLt, dif_neg n1, dif_neg n1, dif_pos n2, dif_pos n2, mul_comm]
    simp only [e]
  · unfold QQ
    rw [dif_neg (by omega), dif_neg (by omega), zero_mul]

section
variable (h0 : ∀ z, A0 z = (R0 z : EReal)) (h1 : ∀ z, A1 z = (R1 z : EReal)) (h2 : ∀ z, A2 z = (R2 z : EReal)) (h3 : ∀ z, A3 z = (R3 z : EReal))
include h0 h1 h2 h3

theorem scores_real (b : Fin 4) (h : Fin 8) (t l : Fin 4096) :
    scores A0 A1 A2 A3 (ix4 b h t l) = ((KernelIdeal.Loop.scr (QQ R0 R1 b t h) (KK R2 R3 b) l.val * (Real.sqrt 96)⁻¹ : ℝ) : EReal) := by
  rw [scores_at, scr_eq]
  have e1 : ∑ d : Fin 128, A2 (ix3 b l d) * A0 (ix4 b t h d) = ((∑ d : Fin 128, R2 (ix3 b l d) * R0 (ix4 b t h d) : ℝ) : EReal) := by
    rw [Online.coe_sum]; exact Finset.sum_congr rfl fun d _ => by rw [h2, h0, EReal.coe_mul]
  have e2 : ∑ d : Fin 32, A3 (ix3 b l d) * A1 (ix4 b t h d) = ((∑ d : Fin 32, R3 (ix3 b l d) * R1 (ix4 b t h d) : ℝ) : EReal) := by
    rw [Online.coe_sum]; exact Finset.sum_congr rfl fun d _ => by rw [h3, h1, EReal.coe_mul]
  have e3 : Ideal.sqrt (Ideal.ofBits .f32 0x42C00000#32) = ((Real.sqrt 96 : ℝ) : EReal) := by rw [ofBits_96, Ideal.sqrt_coe, if_neg (by norm_num)]
  rw [e1, e2, e3, Ideal.div_coe (Real.sqrt_pos.2 (by norm_num)).ne', ← EReal.coe_add, ← EReal.coe_mul, one_div]

theorem ref_real (r : Fin 16384) (x : Fin 1024) :
    outp A2 (Host.divf (weights (masked (scores A0 A1 A2 A3))) (along (rowSum (weights (masked (scores A0 A1 A2 A3)))))) (ix2 r x)
      = G R0 R1 R2 R3 (ix2 r x) := by
  have hG : G R0 R1 R2 R3 (ix2 r x)
      = (KernelIdeal.Loop.att (QQ R0 R1 ⟨r.val / 4096, by omega⟩ ⟨r.val % 4096, by omega⟩ ⟨x.val / 128, by omega⟩) (KK R2 R3 ⟨r.val / 4096, by omega⟩) (r.val % 4096) ⟨x.val % 128, by omega⟩ : EReal) := rfl
  rw [hG, outp_at]
  generalize hb : (⟨r.val / 4096, by omega⟩ : Fin 4) = b
  generalize hh : (⟨x.val / 128, by omega⟩ : Fin 8) = h
  generalize hd : (⟨x.val % 128, by omega⟩ : Fin 128) = d
  have ht : r.val % 4096 = (⟨r.val % 4096, by omega⟩ : Fin 4096).val := rfl
  generalize (⟨r.val % 4096, by omega⟩ : Fin 4096) = t at ht ⊢
  rw [ht]
  clear hb hh hd ht
  set s : ℕ → ℝ := fun l => KernelIdeal.Loop.scr (QQ R0 R1 b t h) (KK R2 R3 b) l * (Real.sqrt 96)⁻¹ with hs
  have hm : ∀ l : Fin 4096, masked (scores A0 A1 A2 A3) (ix4 b h t l) = if l.val ≤ t.val then (s l.val : EReal) else ⊥ := by
    intro l; rw [masked_at, scores_real R0 R1 R2 R3 A0 A1 A2 A3 h0 h1 h2 h3]
  obtain ⟨M, hM⟩ := Online.fold_max_real ⊥ bot_ne_top (fun k : Fin 4096 => masked (scores A0 A1 A2 A3) (ix4 b h t k))
    (fun k => by rw [hm]; split_ifs; exacts [EReal.coe_ne_top _, bot_ne_top])
    (Or.inr ⟨⟨0, by omega⟩, by rw [hm, if_pos (Nat.zero_le _)]; exact EReal.coe_ne_bot _⟩)
  have hmax : rowMax (masked (scores A0 A1 A2 A3)) (ix3 b h t) = (M : EReal) := by
    rw [Ref.rowMax_at, hM]; exact max_eq_right bot_le
  have hw : ∀ l : Fin 4096, weights (masked (scores A0 A1 A2 A3)) (ix4 b h t l) = ((if l.val ≤ t.val then Real.exp (s l.val - M) else 0 : ℝ) : EReal) := by
    intro l
    rw [weights_at, hmax, hm]
    split_ifs
    · rw [← EReal.coe_sub, Ideal.exp_coe]
    · rw [EReal.bot_sub, EReal.coe_zero]; rfl
  have hZ : rowSum (weights (masked (scores A0 A1 A2 A3))) (ix3 b h t) = ((∑ l ∈ Finset.range (t.val + 1), Real.exp (s l - M) : ℝ) : EReal) := by
    rw [rowSum_at, ← sum_upto 4096 t.val t.isLt, Online.coe_sum]
    exact Finset.sum_congr rfl fun l _ => hw l
  have hpos : (∑ l ∈ Finset.range (t.val + 1), Real.exp (s l - M)) ≠ 0 :=
    (Finset.sum_pos (fun l _ => Real.exp_pos _) ⟨0, by simp⟩).ne'
  have hp : ∀ l : Fin 4096, Host.divf (weights (masked (scores A0 A1 A2 A3))) (along (rowSum (weights (masked (scores A0 A1 A2 A3))))) (ix4 b h t l)
      = ((if l.val ≤ t.val then Real.exp (s l.val - M) / ∑ k ∈ Finset.range (t.val + 1), Real.exp (s k - M) else 0 : ℝ) : EReal) := by
    intro l
    have e : Host.divf (weights (masked (scores A0 A1 A2 A3))) (along (rowSum (weights (masked (scores A0 A1 A2 A3))))) (ix4 b h t l)
        = Ideal.div (weights (masked (scores A0 A1 A2 A3)) (ix4 b h t l)) (along (rowSum (weights (masked (scores A0 A1 A2 A3)))) (ix4 b h t l)) := rfl
    rw [e, along_at, hZ, hw, Ideal.div_coe hpos, ← EReal.coe_mul]
    split_ifs
    · rw [mul_one_div]
    · rw [zero_mul]
  rw [KernelIdeal.Loop.att_eq _ _ _ _ M, ← sum_upto 4096 t.val t.isLt, Online.coe_sum]
  refine Finset.sum_congr rfl fun l _ => ?_
  rw [hp, h2, ← EReal.coe_mul]
  refine congrArg (fun x : ℝ => (x : EReal)) ?_
  have hk : KK R2 R3 b l.val ⟨d.val, by omega⟩ = R2 (ix3 b l d) := by
    unfold KK; rw [dif_pos l.isLt, dif_pos d.isLt]
  split_ifs
  · rw [hk]
  · rw [mul_zero]

theorem ref_G : outp A2 (Host.divf (weights (masked (scores A0 A1 A2 A3))) (along (rowSum (weights (masked (scores A0 A1 A2 A3)))))) = G R0 R1 R2 R3 := by
  funext z
  rw [← ix2_eta z]
  exact ref_real R0 R1 R2 R3 A0 A1 A2 A3 h0 h1 h2 h3 _ _

end

/-- What the precondition's comparison says of one entry: it is a real number. -/
theorem real_of_lt {φ : FTy} (x : Ideal φ) (h : FloatOps.cmpf (F := Ideal) (φ := .f32) .olt (max (x : EReal) (-(x : EReal))) (Ideal.ofBits .f32 0x7F800000#32) = 1#1) : (x : EReal) = ((EReal.toReal x : ℝ) : EReal) := by
  have htop : Ideal.ofBits .f32 0x7F800000#32 = ⊤ := by simp [Ideal.ofBits, Ideal.ieee]
  rw [htop] at h
  have hlt : max (x : EReal) (-(x : EReal)) < ⊤ := by
    by_contra hn
    have : Ideal.cmp .olt (max (x : EReal) (-(x : EReal))) ⊤ = 1#1 := h
    unfold Ideal.cmp at this
    simp [hn] at this
  rw [max_lt_iff] at hlt
  refine (EReal.coe_toReal hlt.1.ne ?_).symm
  intro e
  rw [e, EReal.neg_bot] at hlt
  exact lt_irrefl _ hlt.2

/-- Under the precondition every entry of every argument is a real number. -/
theorem reals (h : Cert.Pre_finite.fn (F := Ideal) A0 A1 A2 A3 = fun _ => 1#1) :
    (∀ z, A0 z = ((EReal.toReal (A0 z) : ℝ) : EReal)) ∧ (∀ z, A1 z = ((EReal.toReal (A1 z) : ℝ) : EReal))
      ∧ (∀ z, A2 z = ((EReal.toReal (A2 z) : ℝ) : EReal)) ∧ ∀ z, A3 z = ((EReal.toReal (A3 z) : ℝ) : EReal) := by
  have h' := congrFun h (fun a => a.elim0)
  unfold Cert.Pre_finite.fn Cert.Pre_finite.fn_part1 at h'
  dsimp only at h'
  obtain ⟨h', k3⟩ := IntOp.andi_eq_one.1 h'
  obtain ⟨h', k2⟩ := IntOp.andi_eq_one.1 h'
  obtain ⟨k0, k1⟩ := IntOp.andi_eq_one.1 h'
  exact ⟨fun z => real_of_lt _ (Host.reduce_andi_all _ _ _ _ _ k0 z), fun z => real_of_lt _ (Host.reduce_andi_all _ _ _ _ _ k1 z),
    fun z => real_of_lt _ (Host.reduce_andi_all _ _ _ _ _ k2 z), fun z => real_of_lt _ (Host.reduce_andi_all _ _ _ _ _ k3 z)⟩

end Cert.Equal

end
-- ==== Proof.Ffn.lean ====
/- The feed-forward layer over the extended reals, and the feed-forward kernel's payloads read at an index. -/
module

public import proofs.«01_k».proof.Proof.Gen.Kernel2Ideal.Skeleton
public import Idealize.ShloMosaic.Lib.Pipeline.ValueKit
public import Idealize.ShloMosaic.Lib.Affine

@[expose] public section

set_option maxRecDepth 16384

noncomputable section

open Idealize.ShloMosaic Idealize.ShloMosaic.TcCoe Idealize.SL.Sem

namespace Cert.Ffn

open Cert.Kernel2Ideal Cert.Kernel2Ideal.Gen

/-- The three constants: the width, the small number under the root, and the weight of the branch. -/
abbrev n1024 : EReal := Ideal.ofBits .f32 0x44800000#32
abbrev eps : EReal := Ideal.ofBits .f32 0x358637BD#32
abbrev half : EReal := Ideal.ofBits .f32 0x3F000000#32

/-- A row divided by the root of its mean square, times the gains. -/
def nrm (ξ γ : Fin 1024 → EReal) (d : Fin 1024) : EReal :=
  ξ d * Ideal.rsqrt (Ideal.div (∑ k, ξ k * ξ k) n1024 + eps) * γ d

/-- One hidden unit: the gate `a * logistic a` times the other projection. -/
def glu (ν u w : Fin 1024 → EReal) : EReal :=
  (∑ k, ν k * u k) * Ideal.logistic (∑ k, ν k * u k) * ∑ k, ν k * w k

/-- One row of the layer: the row plus half of its gated projection. -/
def ffn (ξ γ : Fin 1024 → EReal) (U W : Fin 1024 → Fin 2816 → EReal) (D : Fin 2816 → Fin 1024 → EReal) (d : Fin 1024) : EReal :=
  ξ d + half * ∑ c : Fin 2816, glu (nrm ξ γ) (fun k => U k c) (fun k => W k c) * D c d

theorem column_at (v : FVec Ideal S512 .f32) (y : Fin 512) : shapeCast S512x1 v shapeCasts_S512_S512x1 (ix2 y 0) = v (ix1 y) := by
  pointwise

theorem sumSq_at (v : FVec Ideal S512x1024 .f32) (y : Fin 512) :
    multiReduction .add [1] S512 v 0x00000000#32 reduces_S512x1024_S512 (.inl rfl) rfl (ix1 y) = ∑ k : Fin 1024, v (ix2 y k) := by
  pointwise

theorem mm_at (N : FVec Ideal S512x1024 .bf16) (A : Vec Ideal S1024x256 .bf16) (y : Fin 512) (x : Fin 256) :
    k0_pay11 (F := Ideal) N A (ix2 y x) = ∑ k : Fin 1024, N (ix2 y k) * A (ix2 k x) := by
  pointwise [k0_pay11]

theorem chunk_at (N : FVec Ideal S512x1024 .bf16) (A B : Vec Ideal S1024x256 .bf16) (y : Fin 512) (x : Fin 256) :
    k0_pay2 (F := Ideal) N A B (ix2 y x) = glu (fun k => N (ix2 y k)) (fun k => A (ix2 k x)) (fun k => B (ix2 k x)) := by
  unfold glu
  rw [← mm_at, ← mm_at]
  have e : k0_pay2 (F := Ideal) N A B (ix2 y x) = k0_pay12 (F := Ideal) N (k0_pay11 N A) B (ix2 y x) := rfl
  rw [e]
  have e2 : k0_pay12 (F := Ideal) N (k0_pay11 N A) B
      = shapeCast S512x256 (truncf .bf16 (mulf (mulf (k0_pay11 (F := Ideal) N A) (logistic (k0_pay11 (F := Ideal) N A))) (k0_pay11 (F := Ideal) N B)) bitsLt_bf16_f32) shapeCasts_S512x256_S512x256 := rfl
  rw [e2]
  generalize k0_pay11 (F := Ideal) N A = a
  generalize k0_pay11 (F := Ideal) N B = b
  pointwise

theorem norm_at (X : Vec Ideal S512x1024 .f32) (g : Vec Ideal S1x1024 .f32) (y : Fin 512) (d : Fin 1024) :
    k0_pay4 (F := Ideal) X g (ix2 y d) = nrm (fun k => X (ix2 y k)) (fun k => g (ix2 0 k)) d := by
  pointwise [k0_pay4, nrm]

theorem out_at (X : Vec Ideal S512x1024 .f32) (H : Vec Ideal S512x2816 .bf16) (D : Vec Ideal S2816x1024 .bf16) (y : Fin 512) (d : Fin 1024) :
    k0_pay3 (F := Ideal) X H D (ix2 y d) = X (ix2 y d) + half * ∑ c : Fin 2816, H (ix2 y c) * D (ix2 c d) := by
  pointwise [k0_pay3]

/-- The hidden units of a block of rows. -/
def hid (X : Vec Ideal S512x1024 .f32) (g : Vec Ideal S1x1024 .f32) (U W : Vec Ideal S1024x2816 .bf16) : FVec Ideal S512x2816 .bf16 := fun z =>
  glu (nrm (fun k => X (ix2 (z 0) k)) (fun k => g (ix2 0 k))) (fun k => U (ix2 k (z 1))) (fun k => W (ix2 k (z 1)))

end Cert.Ffn

end
-- ==== Proof.Ffn2.lean ====
/- What the feed-forward kernel writes, at the ideal instance. -/
module

public import proofs.«01_k».proof.Proof.Ffn
public import proofs.«01_k».proof.Proof.Gen.Kernel2Ideal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

/-- A store of 256 hidden units is its part of all of them. -/
theorem store_at (X : Vec Ideal S512x1024 .f32) (g : Vec Ideal S1x1024 .f32) (U W : Vec Ideal S1024x2816 .bf16)
    (o : ℕ) (h1 : ∀ d, (![0, o] : Fin 2 → ℕ) d + (![1024, 256] : Fin 2 → ℕ) d ≤ S1024x2816.size d)
    (h2 : ∀ d, (![0, o] : Fin 2 → ℕ) d + (![512, 256] : Fin 2 → ℕ) d ≤ S512x2816.size d) (x : S512x256.Idx) :
    k0_pay2 (F := Ideal) (k0_pay4 X g) (View.ld U (Rect.unit (s := S1024x2816) ![0, o] ![1024, 256] h1)) (View.ld W (Rect.unit (s := S1024x2816) ![0, o] ![1024, 256] h1)) x
      = hid X g U W ((Rect.unit (s := S512x2816) ![0, o] ![512, 256] h2).emb x) := by
  obtain ⟨y, z, rfl⟩ : ∃ (y : Fin 512) (z : Fin 256), x = ix2 y z := ⟨x 0, x 1, (ix2_eta x).symm⟩
  rw [chunk_at]
  have hr : ∀ (V : Vec Ideal S1024x2816 .bf16) (k : Fin 1024),
      View.ld V (Rect.unit (s := S1024x2816) ![0, o] ![1024, 256] h1) (ix2 k z)
        = V (ix2 k (((Rect.unit (s := S512x2816) ![0, o] ![512, 256] h2).emb (ix2 y z)) 1)) := by
    intro V k
    refine congrArg V (funext fun i => Fin.ext ?_)
    match i with
    | 0 => simp [Rect.emb, Rect.unit]
    | 1 => simp [Rect.emb, Rect.unit]
  have h0 : ((Rect.unit (s := S512x2816) ![0, o] ![512, 256] h2).emb (ix2 y z)) 0 = y := by
    refine Fin.ext ?_
    simp [Rect.emb, Rect.unit]
  unfold hid
  rw [h0, show (fun k => k0_pay4 (F := Ideal) X g (ix2 y k)) = nrm (fun k => X (ix2 y k)) (fun k => g (ix2 0 k)) from funext fun k => norm_at X g y k]
  exact congrArg₂ (glu _) (funext (hr U)) (funext (hr W))

end Cert.Ffn

namespace Cert.Kernel2Ideal.FValue

open Cert.Kernel2Ideal Cert.Kernel2Ideal.Gen Cert.Ffn
variable (m : (ℓ : Loc nD τ sig) → Buf (Elt Ideal) ℓ)

abbrev a0 (c : Dev nD) : FVec Ideal S16384x1024 .f32 := m ((c : Thread nD τ).loc main_arg0)
abbrev a1 (c : Dev nD) : FVec Ideal S1024 .f32 := m ((c : Thread nD τ).loc main_arg1)
abbrev a2 (c : Dev nD) : FVec Ideal S1024x5632 .f32 := m ((c : Thread nD τ).loc main_arg2)
abbrev a3 (c : Dev nD) : FVec Ideal S2816x1024 .f32 := m ((c : Thread nD τ).loc main_arg3)

theorem idx : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_6.index t 0 = t.val ∧ win0_6.index t 1 = 0 := by decide +kernel

theorem V_v0 (c : Dev nD) : V m c main_v0 = shapeCast S1x1024 (m ((c : Thread nD τ).loc main_arg1)) shapeCasts_S1024_S1x1024 := by
  unfold V
  simp only [hostOps0, List.flatten_cons, List.flatten_nil, List.cons_append, List.nil_append, List.append_nil]
  entry_read
  rfl

theorem V_v2 (c : Dev nD) : V m c main_v2 = truncf (F := Ideal) .bf16 (extractStridedSlice S1024x2816 ![0, 0] (a2 m c) slices_S1024x5632_S1024x2816_0_0) bitsLt_bf16_f32 := by
  unfold V
  simp only [hostOps0, List.flatten_cons, List.flatten_nil, List.cons_append, List.nil_append, List.append_nil]
  entry_read
  rfl

theorem V_v4 (c : Dev nD) : V m c main_v4 = truncf (F := Ideal) .bf16 (extractStridedSlice S1024x2816 ![0, 2816] (a2 m c) slices_S1024x5632_S1024x2816_0_2816) bitsLt_bf16_f32 := by
  unfold V
  simp only [hostOps0, List.flatten_cons, List.flatten_nil, List.cons_append, List.nil_append, List.append_nil]
  entry_read
  rfl

theorem V_v5 (c : Dev nD) : V m c main_v5 = truncf (F := Ideal) .bf16 (a3 m c) bitsLt_bf16_f32 := by
  unfold V
  simp only [hostOps0, List.flatten_cons, List.flatten_nil, List.cons_append, List.nil_append, List.append_nil]
  entry_read
  rfl

theorem iblk0_at (c : Dev nD) (t : Fin cfg0.N) (y : Fin 512) (x : Fin 1024) :
    iblk m c 0 t (ix2 y x) = a0 m c (ix2 ⟨512 * t.val + y.val, by have : t.val < 32 := t.isLt; omega⟩ x) := by
  have e : iblk m c 0 t (ix2 y x) = V m c main_arg0 (ix2 ⟨512 * t.val + y.val, by have : t.val < 32 := t.isLt; omega⟩ x) := by
    blk_ext [iblk, idx t]
  rw [e]
  rfl

theorem iblk1_at (c : Dev nD) (t : Fin cfg0.N) (x : Fin 1024) : iblk m c 1 t (ix2 0 x) = a1 m c (ix1 x) := by
  have e : iblk m c 1 t (ix2 0 x) = V m c main_v0 (ix2 0 x) := by
    blk_ext [iblk, idx t]
  rw [e, V_v0]
  show shapeCast S1x1024 (a1 m c) shapeCasts_S1024_S1x1024 (ix2 0 x) = _
  generalize a1 m c = A
  pointwise

theorem iblk2_at (c : Dev nD) (t : Fin cfg0.N) (k : Fin 1024) (x : Fin 2816) :
    iblk m c 2 t (ix2 k x) = a2 m c (ix2 k ⟨x.val, by omega⟩) := by
  have e : iblk m c 2 t (ix2 k x) = V m c main_v2 (ix2 k x) := by
    blk_ext [iblk, idx t]
  rw [e, V_v2]
  generalize a2 m c = A
  pointwise

theorem iblk3_at (c : Dev nD) (t : Fin cfg0.N) (k : Fin 1024) (x : Fin 2816) :
    iblk m c 3 t (ix2 k x) = a2 m c (ix2 k ⟨2816 + x.val, by omega⟩) := by
  have e : iblk m c 3 t (ix2 k x) = V m c main_v4 (ix2 k x) := by
    blk_ext [iblk, idx t]
  rw [e, V_v4]
  generalize a2 m c = A
  pointwise

theorem iblk4_at (c : Dev nD) (t : Fin cfg0.N) (x : Fin 2816) (d : Fin 1024) :
    iblk m c 4 t (ix2 x d) = a3 m c (ix2 x d) := by
  have e : iblk m c 4 t (ix2 x d) = V m c main_v5 (ix2 x d) := by
    blk_ext [iblk, idx t]
  rw [e, V_v5]
  rfl

/-- The result. -/
def G (A0 : FVec Ideal S16384x1024 .f32) (A1 : FVec Ideal S1024 .f32) (A2 : FVec Ideal S1024x5632 .f32) (A3 : FVec Ideal S2816x1024 .f32) :
    FVec Ideal S16384x1024 .f32 := fun z =>
  ffn (fun k => A0 (ix2 (z 0) k)) (fun k => A1 (ix1 k)) (fun k c => A2 (ix2 k ⟨c.val, by omega⟩)) (fun k c => A2 (ix2 k ⟨2816 + c.val, by omega⟩))
    (fun c d => A3 (ix2 c d)) (z 1)

theorem block_at (c : Dev nD) (t : Fin cfg0.N) (y : Fin 512) (d : Fin 1024) :
    k0_pay3 (F := Ideal) (iblk m c 0 t) (hid (iblk m c 0 t) (iblk m c 1 t) (iblk m c 2 t) (iblk m c 3 t)) (iblk m c 4 t) (ix2 y d)
      = G (a0 m c) (a1 m c) (a2 m c) (a3 m c) (ix2 ⟨512 * t.val + y.val, by have : t.val < 32 := t.isLt; omega⟩ d) := by
  rw [out_at]
  have hh : ∀ x, hid (iblk m c 0 t) (iblk m c 1 t) (iblk m c 2 t) (iblk m c 3 t) (ix2 y x)
      = glu (nrm (fun k => iblk m c 0 t (ix2 y k)) (fun k => iblk m c 1 t (ix2 0 k))) (fun k => iblk m c 2 t (ix2 k x)) (fun k => iblk m c 3 t (ix2 k x)) := fun _ => rfl
  have e0 := fun k => iblk0_at m c t y k
  have e1 := fun k => iblk1_at m c t k
  have e2 := fun k x => iblk2_at m c t k x
  have e3 := fun k x => iblk3_at m c t k x
  have e4 := fun x d => iblk4_at m c t x d
  simp only [hh, e0, e1, e2, e3, e4]
  rfl

theorem final (c : Dev nD) : (dats m 0 c).arrAt 6 cfg0.N = G (a0 m c) (a1 m c) (a2 m c) (a3 m c) := by
  refine (dats m 0 c).arrAt_eq_of_covers 6 _ (by decide +kernel) fun t _ y => ?_
  blk_simp
  rw [after0_6]
  unfold outsAt0
  frame_out
  rw [View.readCov_eq_canon']
  obtain ⟨y, z, rfl⟩ : ∃ (a : Fin 512) (b : Fin 1024), y = ix2 a b := ⟨y 0, y 1, (ix2_eta y).symm⟩
  refine Eq.trans (congrArg (fun H => k0_pay3 (F := Ideal) (iblk m c 0 t) H (iblk m c 4 t) (ix2 y z)) (funext fun j => ?_)) ((block_at m c t y z).trans ?_)
  · refine (View.canon_apply_of_pieces (hid (iblk m c 0 t) (iblk m c 1 t) (iblk m c 2 t) (iblk m c 3 t)) _ ?_ _ ?_).trans ?_
    · simp only [List.forall_mem_cons]
      refine ⟨?_, ?_, ?_, ?_, ?_, ?_, ?_, ?_, ?_, ?_, ?_, ?_⟩
      iterate 11 exact fun x => store_at (iblk m c 0 t) (iblk m c 1 t) (iblk m c 2 t) (iblk m c 3 t) _ _ _ x
      simp
    · set_option maxRecDepth 1000000 in exact View.cover_of_tiled_head _ _ _ (by rfl) _
    · refine congrArg (hid (iblk m c 0 t) (iblk m c 1 t) (iblk m c 2 t) (iblk m c 3 t)) ?_
      exact funext fun i => Fin.ext (by match i with | 0 => simp [Rect.unit] | 1 => simp [Rect.unit])
  · refine congrArg (G (a0 m c) (a1 m c) (a2 m c) (a3 m c)) ?_
    blk_ext [idx t]

end Cert.Kernel2Ideal.FValue

end
-- ==== Proof.Ffn3.lean ====
/- What the feed-forward kernel with the model's last norm writes, at the ideal instance. -/
module

public import proofs.«01_k».proof.Proof.Ffn2
public import proofs.«01_k».proof.Proof.Gen.Kernel3Ideal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.FValue

open Cert.Kernel3Ideal Cert.Kernel3Ideal.Gen Cert.Ffn
variable (m : (ℓ : Loc nD τ sig) → Buf (Elt Ideal) ℓ)

abbrev a0 (c : Dev nD) : FVec Ideal S16384x1024 .f32 := m ((c : Thread nD τ).loc main_arg0)
abbrev a1 (c : Dev nD) : FVec Ideal S1024 .f32 := m ((c : Thread nD τ).loc main_arg1)
abbrev a2 (c : Dev nD) : FVec Ideal S1024x5632 .f32 := m ((c : Thread nD τ).loc main_arg2)
abbrev a3 (c : Dev nD) : FVec Ideal S2816x1024 .f32 := m ((c : Thread nD τ).loc main_arg3)
abbrev a4 (c : Dev nD) : FVec Ideal S1024 .f32 := m ((c : Thread nD τ).loc main_arg4)

/-- The payload that ends this kernel: the layer's rows, normed. -/
theorem out_eq (X : Vec Ideal S512x1024 .f32) (H : Vec Ideal S512x2816 .bf16) (D : Vec Ideal S2816x1024 .bf16) (g : Vec Ideal S1x1024 .f32) :
    k0_pay17 (F := Ideal) X H D g = Kernel2Ideal.Gen.k0_pay4 (F := Ideal) (Kernel2Ideal.Gen.k0_pay3 (F := Ideal) X H D) g := rfl

theorem idx : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 ∧ win0_6.index t 0 = t.val ∧ win0_6.index t 1 = 0 := by decide +kernel

theorem V_v0 (c : Dev nD) : V m c main_v0 = shapeCast S1x1024 (m ((c : Thread nD τ).loc main_arg1)) shapeCasts_S1024_S1x1024 := by
  unfold V
  simp only [hostOps0, List.flatten_cons, List.flatten_nil, List.cons_append, List.nil_append, List.append_nil]
  entry_read
  rfl

theorem V_v2 (c : Dev nD) : V m c main_v2 = truncf (F := Ideal) .bf16 (extractStridedSlice S1024x2816 ![0, 0] (a2 m c) slices_S1024x5632_S1024x2816_0_0) bitsLt_bf16_f32 := by
  unfold V
  simp only [hostOps0, List.flatten_cons, List.flatten_nil, List.cons_append, List.nil_append, List.append_nil]
  entry_read
  rfl

theorem V_v4 (c : Dev nD) : V m c main_v4 = truncf (F := Ideal) .bf16 (extractStridedSlice S1024x2816 ![0, 2816] (a2 m c) slices_S1024x5632_S1024x2816_0_2816) bitsLt_bf16_f32 := by
  unfold V
  simp only [hostOps0, List.flatten_cons, List.flatten_nil, List.cons_append, List.nil_append, List.append_nil]
  entry_read
  rfl

theorem V_v5 (c : Dev nD) : V m c main_v5 = truncf (F := Ideal) .bf16 (a3 m c) bitsLt_bf16_f32 := by
  unfold V
  simp only [hostOps0, List.flatten_cons, List.flatten_nil, List.cons_append, List.nil_append, List.append_nil]
  entry_read
  rfl

theorem V_v6 (c : Dev nD) : V m c main_v6 = shapeCast S1x1024 (m ((c : Thread nD τ).loc main_arg4)) shapeCasts_S1024_S1x1024 := by
  unfold V
  simp only [hostOps0, List.flatten_cons, List.flatten_nil, List.cons_append, List.nil_append, List.append_nil]
  entry_read
  rfl

theorem iblk0_at (c : Dev nD) (t : Fin cfg0.N) (y : Fin 512) (x : Fin 1024) :
    iblk m c 0 t (ix2 y x) = a0 m c (ix2 ⟨512 * t.val + y.val, by have : t.val < 32 := t.isLt; omega⟩ x) := by
  have e : iblk m c 0 t (ix2 y x) = V m c main_arg0 (ix2 ⟨512 * t.val + y.val, by have : t.val < 32 := t.isLt; omega⟩ x) := by
    blk_ext [iblk, idx t]
  rw [e]
  rfl

theorem iblk1_at (c : Dev nD) (t : Fin cfg0.N) (x : Fin 1024) : iblk m c 1 t (ix2 0 x) = a1 m c (ix1 x) := by
  have e : iblk m c 1 t (ix2 0 x) = V m c main_v0 (ix2 0 x) := by
    blk_ext [iblk, idx t]
  rw [e, V_v0]
  show shapeCast S1x1024 (a1 m c) shapeCasts_S1024_S1x1024 (ix2 0 x) = _
  generalize a1 m c = A
  pointwise

theorem iblk2_at (c : Dev nD) (t : Fin cfg0.N) (k : Fin 1024) (x : Fin 2816) :
    iblk m c 2 t (ix2 k x) = a2 m c (ix2 k ⟨x.val, by omega⟩) := by
  have e : iblk m c 2 t (ix2 k x) = V m c main_v2 (ix2 k x) := by
    blk_ext [iblk, idx t]
  rw [e, V_v2]
  generalize a2 m c = A
  pointwise

theorem iblk3_at (c : Dev nD) (t : Fin cfg0.N) (k : Fin 1024) (x : Fin 2816) :
    iblk m c 3 t (ix2 k x) = a2 m c (ix2 k ⟨2816 + x.val, by omega⟩) := by
  have e : iblk m c 3 t (ix2 k x) = V m c main_v4 (ix2 k x) := by
    blk_ext [iblk, idx t]
  rw [e, V_v4]
  generalize a2 m c = A
  pointwise

theorem iblk4_at (c : Dev nD) (t : Fin cfg0.N) (x : Fin 2816) (d : Fin 1024) :
    iblk m c 4 t (ix2 x d) = a3 m c (ix2 x d) := by
  have e : iblk m c 4 t (ix2 x d) = V m c main_v5 (ix2 x d) := by
    blk_ext [iblk, idx t]
  rw [e, V_v5]
  rfl

theorem iblk5_at (c : Dev nD) (t : Fin cfg0.N) (x : Fin 1024) : iblk m c 5 t (ix2 0 x) = a4 m c (ix1 x) := by
  have e : iblk m c 5 t (ix2 0 x) = V m c main_v6 (ix2 0 x) := by
    blk_ext [iblk, idx t]
  rw [e, V_v6]
  show shapeCast S1x1024 (a4 m c) shapeCasts_S1024_S1x1024 (ix2 0 x) = _
  generalize a4 m c = A
  pointwise

/-- The result. -/
def G3 (A0 : FVec Ideal S16384x1024 .f32) (A1 : FVec Ideal S1024 .f32) (A2 : FVec Ideal S1024x5632 .f32) (A3 : FVec Ideal S2816x1024 .f32)
    (A4 : FVec Ideal S1024 .f32) : FVec Ideal S16384x1024 .f32 := fun z =>
  nrm (fun k => Kernel2Ideal.FValue.G A0 A1 A2 A3 (ix2 (z 0) k)) (fun k => A4 (ix1 k)) (z 1)

theorem row_at (c : Dev nD) (t : Fin cfg0.N) (y : Fin 512) (d : Fin 1024) :
    Kernel2Ideal.Gen.k0_pay3 (F := Ideal) (iblk m c 0 t) (hid (iblk m c 0 t) (iblk m c 1 t) (iblk m c 2 t) (iblk m c 3 t)) (iblk m c 4 t) (ix2 y d)
      = Kernel2Ideal.FValue.G (a0 m c) (a1 m c) (a2 m c) (a3 m c) (ix2 ⟨512 * t.val + y.val, by have : t.val < 32 := t.isLt; omega⟩ d) := by
  rw [out_at]
  have hh : ∀ x, hid (iblk m c 0 t) (iblk m c 1 t) (iblk m c 2 t) (iblk m c 3 t) (ix2 y x)
      = glu (nrm (fun k => iblk m c 0 t (ix2 y k)) (fun k => iblk m c 1 t (ix2 0 k))) (fun k => iblk m c 2 t (ix2 k x)) (fun k => iblk m c 3 t (ix2 k x)) := fun _ => rfl
  have e0 := fun k => iblk0_at m c t y k
  have e1 := fun k => iblk1_at m c t k
  have e2 := fun k x => iblk2_at m c t k x
  have e3 := fun k x => iblk3_at m c t k x
  have e4 := fun x d => iblk4_at m c t x d
  simp only [hh, e0, e1, e2, e3, e4]
  rfl

theorem block_at (c : Dev nD) (t : Fin cfg0.N) (y : Fin 512) (d : Fin 1024) :
    k0_pay17 (F := Ideal) (iblk m c 0 t) (hid (iblk m c 0 t) (iblk m c 1 t) (iblk m c 2 t) (iblk m c 3 t)) (iblk m c 4 t) (iblk m c 5 t) (ix2 y d)
      = G3 (a0 m c) (a1 m c) (a2 m c) (a3 m c) (a4 m c) (ix2 ⟨512 * t.val + y.val, by have : t.val < 32 := t.isLt; omega⟩ d) := by
  rw [out_eq, norm_at]
  exact congrArg₂ (fun u v => nrm u v d) (funext fun k => row_at m c t y k) (funext fun k => iblk5_at m c t k)

theorem final (c : Dev nD) : (dats m 0 c).arrAt 6 cfg0.N = G3 (a0 m c) (a1 m c) (a2 m c) (a3 m c) (a4 m c) := by
  refine (dats m 0 c).arrAt_eq_of_covers 6 _ (by decide +kernel) fun t _ y => ?_
  blk_simp
  rw [after0_6]
  unfold outsAt0
  frame_out
  rw [View.readCov_eq_canon']
  obtain ⟨y, z, rfl⟩ : ∃ (a : Fin 512) (b : Fin 1024), y = ix2 a b := ⟨y 0, y 1, (ix2_eta y).symm⟩
  refine Eq.trans (congrArg (fun H => k0_pay17 (F := Ideal) (iblk m c 0 t) H (iblk m c 4 t) (iblk m c 5 t) (ix2 y z)) (funext fun j => ?_)) ((block_at m c t y z).trans ?_)
  · refine (View.canon_apply_of_pieces (hid (iblk m c 0 t) (iblk m c 1 t) (iblk m c 2 t) (iblk m c 3 t)) _ ?_ _ ?_).trans ?_
    · simp only [List.forall_mem_cons]
      refine ⟨?_, ?_, ?_, ?_, ?_, ?_, ?_, ?_, ?_, ?_, ?_, ?_⟩
      iterate 11 exact fun x => store_at (iblk m c 0 t) (iblk m c 1 t) (iblk m c 2 t) (iblk m c 3 t) _ _ _ x
      simp
    · set_option maxRecDepth 1000000 in exact View.cover_of_tiled_head _ _ _ (by rfl) _
    · refine congrArg (hid (iblk m c 0 t) (iblk m c 1 t) (iblk m c 2 t) (iblk m c 3 t)) ?_
      exact funext fun i => Fin.ext (by match i with | 0 => simp [Rect.unit] | 1 => simp [Rect.unit])
  · refine congrArg (G3 (a0 m c) (a1 m c) (a2 m c) (a3 m c) (a4 m c)) ?_
    blk_ext [idx t]

end Cert.Kernel3Ideal.FValue

end
-- ==== Proof.RefFfn.lean ====
/- The feed-forward references' results read at an index, at the ideal instance. -/
module

public import proofs.«01_k».proof.Proof.Ffn3
public import proofs.«01_k».proof.Proof.Gen.Reference2Ideal.Run
public import proofs.«01_k».proof.Proof.Gen.Reference3Ideal.Run

@[expose] public section

set_option maxRecDepth 16384

noncomputable section

open Idealize.ShloMosaic Idealize.ShloMosaic.TcCoe Idealize.SL.Sem

namespace Cert.Reference2Ideal.Ref

open Cert.Reference2Ideal Cert.Reference2Ideal.Gen Cert.Ffn

/-- The sum of each row's squares. -/
def sq (X : FVec Ideal S16384x1024 .f32) : FVec Ideal S16384 .f32 :=
  Host.reduceAdd (mulf X X) (constant S_ .f32 0x00000000#32) reducesTo_S16384x1024_S16384_d1 h_S_

/-- Rows divided by the roots of their mean squares, times the gains. -/
def rms (X : FVec Ideal S16384x1024 .f32) (g : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (sq X)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

def up (N : FVec Ideal S16384x1024 .f32) (A : FVec Ideal S1024x5632 .f32) : FVec Ideal S16384x5632 .f32 :=
  Host.dotGeneral dot_S16384x1024_S1024x5632_S16384x5632_1_0_0_1_n_n none N A

/-- The hidden units, from both projections side by side. -/
def gated (P : FVec Ideal S16384x5632 .f32) : FVec Ideal S16384x2816 .f32 :=
  mulf (mulf (extractStridedSlice S16384x2816 ![0, 0] P slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] P slices_S16384x5632_S16384x2816_0_0)))))) (extractStridedSlice S16384x2816 ![0, 2816] P slices_S16384x5632_S16384x2816_0_2816)

def outp (X : FVec Ideal S16384x1024 .f32) (H : FVec Ideal S16384x2816 .f32) (D : FVec Ideal S2816x1024 .f32) : FVec Ideal S16384x1024 .f32 :=
  addf X (mulf (broadcastInDim S16384x1024 ![] bcast_S_S16384x1024 (constant S_ .f32 0x3F000000#32)) (Host.dotGeneral dot_S16384x2816_S2816x1024_S16384x1024_1_0_0_1_n_n none H D))

variable (X : FVec Ideal S16384x1024 .f32) (g gf : FVec Ideal S1024 .f32) (A : FVec Ideal S1024x5632 .f32) (D : FVec Ideal S2816x1024 .f32)

def layer : FVec Ideal S16384x1024 .f32 := outp X (gated (up (rms X g) A)) D

theorem res3_eq (m : (ℓ : Loc Reference3Ideal.nD Reference3Ideal.τ Reference3Ideal.sig) → Buf (Elt Ideal) ℓ) (c : Dev Reference3Ideal.nD) :
    Reference3Ideal.Value.res_out0 m c
      = rms (layer (m ((c.tc : Thread Reference3Ideal.nD Reference3Ideal.τ).loc Reference3Ideal.main_arg0)) (m ((c.tc : Thread Reference3Ideal.nD Reference3Ideal.τ).loc Reference3Ideal.main_arg1)) (m ((c.tc : Thread Reference3Ideal.nD Reference3Ideal.τ).loc Reference3Ideal.main_arg2)) (m ((c.tc : Thread Reference3Ideal.nD Reference3Ideal.τ).loc Reference3Ideal.main_arg3)))
          (m ((c.tc : Thread Reference3Ideal.nD Reference3Ideal.τ).loc Reference3Ideal.main_arg4)) := rfl

theorem sq_at (r : Fin 16384) : sq X (ix1 r) = ∑ k : Fin 1024, X (ix2 r k) * X (ix2 r k) := by
  pointwise [sq]

theorem rms_at (r : Fin 16384) (d : Fin 1024) : rms X g (ix2 r d) = nrm (fun k => X (ix2 r k)) (fun k => g (ix1 k)) d := by
  unfold nrm
  rw [← sq_at]
  unfold rms
  generalize sq X = s
  pointwise

theorem up_at (N : FVec Ideal S16384x1024 .f32) (r : Fin 16384) (x : Fin 5632) : up N A (ix2 r x) = ∑ k : Fin 1024, N (ix2 r k) * A (ix2 k x) := by
  pointwise [up]

theorem one_bits : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

theorem gated_at (P : FVec Ideal S16384x5632 .f32) (r : Fin 16384) (x : Fin 2816) :
    gated P (ix2 r x) = P (ix2 r ⟨x.val, by omega⟩) * Ideal.logistic (P (ix2 r ⟨x.val, by omega⟩)) * P (ix2 r ⟨2816 + x.val, by omega⟩) := by
  unfold Ideal.logistic
  rw [← one_bits]
  pointwise [gated]

theorem outp_at (H : FVec Ideal S16384x2816 .f32) (r : Fin 16384) (d : Fin 1024) :
    outp X H D (ix2 r d) = X (ix2 r d) + half * ∑ c : Fin 2816, H (ix2 r c) * D (ix2 c d) := by
  pointwise [outp]

theorem layer_eq : layer X g A D = Kernel2Ideal.FValue.G X g A D := by
  funext z
  obtain ⟨r, d, rfl⟩ : ∃ (r : Fin 16384) (d : Fin 1024), z = ix2 r d := ⟨z 0, z 1, (ix2_eta z).symm⟩
  unfold layer
  rw [outp_at]
  refine congrArg (fun s => X (ix2 r d) + half * s) (Finset.sum_congr rfl fun c _ => congrArg (· * D (ix2 c d)) ?_)
  have e := fun k => rms_at X g r k
  rw [gated_at, up_at, up_at]
  simp only [e]
  rfl

theorem rms_layer_eq : rms (layer X g A D) gf = Kernel3Ideal.FValue.G3 X g A D gf := by
  funext z
  obtain ⟨r, d, rfl⟩ : ∃ (r : Fin 16384) (d : Fin 1024), z = ix2 r d := ⟨z 0, z 1, (ix2_eta z).symm⟩
  rw [rms_at, layer_eq]
  rfl

end Cert.Reference2Ideal.Ref

end
-- ==== Proof.Merge.lean ====
/- The merge call's host arrays and payload read at an index, at the ideal instance. -/
module

public import proofs.«01_k».proof.Proof.Gen.Kernel4Ideal.Value
public import Idealize.ShloMosaic.Lib.Pipeline.ValueKit
public import Idealize.ShloMosaic.Lib.Claim
public import Idealize.ShloMosaic.Lib.Affine

@[expose] public section

set_option maxRecDepth 16384

noncomputable section

open Idealize.ShloMosaic Idealize.ShloMosaic.TcCoe Idealize.SL.Sem
open Idealize.ShloMosaic.Pipeline (Dat)

namespace Cert.Slots

/-- A one-bit number as an extended real. -/
theorem bit_one : FloatOps.uitofp (F := Ideal) .f32 1#1 = (1 : EReal) := by
  show (((1#1 : BitVec 1).toNat : ℝ) : EReal) = 1
  simp

theorem bit_zero : FloatOps.uitofp (F := Ideal) .f32 0#1 = (0 : EReal) := by
  show (((0#1 : BitVec 1).toNat : ℝ) : EReal) = 0
  simp

/-- A sum over the 1024 lanes of the heads' slots, each head's own group's 64 of its 128 lanes being the only ones that count. -/
theorem sum_slots (f : Fin 1024 → EReal) (g : Fin 512 → EReal)
    (h : ∀ i : Fin 512, f ⟨128 * (i.val / 64) + 64 * (i.val / 256) + i.val % 64, by omega⟩ = g i)
    (h0 : ∀ s : Fin 1024, s.val % 128 / 64 ≠ s.val / 512 → f s = 0) : ∑ s, f s = ∑ i, g i := by
  symm
  refine Fintype.sum_of_injective (fun i : Fin 512 => (⟨128 * (i.val / 64) + 64 * (i.val / 256) + i.val % 64, by omega⟩ : Fin 1024)) ?_ g f ?_ fun i => (h i).symm
  · intro i j hij
    have := congrArg Fin.val hij
    dsimp only at this
    exact Fin.ext (by omega)
  · intro s hs
    refine h0 s fun e => hs ⟨⟨64 * (s.val / 128) + s.val % 64, by omega⟩, Fin.ext ?_⟩
    dsimp only
    omega

/-- A sum over the 1024 lanes of which only one head's 128 count. -/
theorem sum_head (f : Fin 1024 → EReal) (h : Fin 8) (g : Fin 128 → EReal) (e : ∀ i : Fin 128, f ⟨128 * h.val + i.val, by omega⟩ = g i)
    (h0 : ∀ s : Fin 1024, s.val / 128 ≠ h.val → f s = 0) : ∑ s, f s = ∑ i, g i := by
  symm
  refine Fintype.sum_of_injective (fun i : Fin 128 => (⟨128 * h.val + i.val, by omega⟩ : Fin 1024)) ?_ g f ?_ fun i => (e i).symm
  · intro i j hij
    have := congrArg Fin.val hij
    dsimp only at this
    exact Fin.ext (by omega)
  · intro s hs
    refine h0 s fun e => hs ⟨⟨s.val % 128, by omega⟩, Fin.ext ?_⟩
    dsimp only
    omega

end Cert.Slots

namespace Cert.Kernel4Ideal.MValue

open Cert.Kernel4Ideal Cert.Kernel4Ideal.Gen Cert.Slots
variable (m : (ℓ : Loc nD τ sig) → Buf (Elt Ideal) ℓ)

abbrev a0 (c : Dev nD) : FVec Ideal S16384x1024 .f32 := m ((c : Thread nD τ).loc main_arg0)
abbrev a1 (c : Dev nD) : FVec Ideal S16384x1024 .bf16 := m ((c : Thread nD τ).loc main_arg1)
abbrev a2 (c : Dev nD) : FVec Ideal S16384x1024 .bf16 := m ((c : Thread nD τ).loc main_arg2)
abbrev a3 (c : Dev nD) : FVec Ideal S16384x1024 .bf16 := m ((c : Thread nD τ).loc main_arg3)
abbrev a4 (c : Dev nD) : FVec Ideal S16384x3072 .f32 := m ((c : Thread nD τ).loc main_arg4)
abbrev a5 (c : Dev nD) : FVec Ideal S512x1024 .f32 := m ((c : Thread nD τ).loc main_arg5)
abbrev a6 (c : Dev nD) : FVec Ideal S128x8x64 .f32 := m ((c : Thread nD τ).loc main_arg6)
abbrev a7 (c : Dev nD) : FVec Ideal S512x1024 .f32 := m ((c : Thread nD τ).loc main_arg7)
abbrev a8 (c : Dev nD) : FVec Ideal S512x1024 .f32 := m ((c : Thread nD τ).loc main_arg8)
abbrev a9 (c : Dev nD) : FVec Ideal S1024x1024 .f32 := m ((c : Thread nD τ).loc main_arg9)

/-- The unit matrix of the heads. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- A head's number divided by four, and which group each head is of. -/
def quarter : S8x1.Idx → BitVec 32 :=
  select (andi (cmpi .ne (signi (broadcastInDim S8x1 ![0] bcast_S8_S8x1_0 (iotaInDim S8 32 0))) (broadcastInDim S8x1 ![] bcast_S_S8x1 (signi (id (constantI S_ 32 4#32)))))
      (cmpi .ne (Host.remsi (broadcastInDim S8x1 ![0] bcast_S8_S8x1_0 (iotaInDim S8 32 0)) (broadcastInDim S8x1 ![] bcast_S_S8x1 (id (constantI S_ 32 4#32)))) (broadcastInDim S8x1 ![] bcast_S_S8x1 (constantI S_ 32 0#32))))
    (subi (Host.divsi (broadcastInDim S8x1 ![0] bcast_S8_S8x1_0 (iotaInDim S8 32 0)) (broadcastInDim S8x1 ![] bcast_S_S8x1 (id (constantI S_ 32 4#32)))) (broadcastInDim S8x1 ![] bcast_S_S8x1 (constantI S_ 32 1#32)))
    (Host.divsi (broadcastInDim S8x1 ![0] bcast_S8_S8x1_0 (iotaInDim S8 32 0)) (broadcastInDim S8x1 ![] bcast_S_S8x1 (id (constantI S_ 32 4#32))))

def group : FVec Ideal S8x2 .f32 :=
  uitofp .f32 (cmpi .eq (broadcastInDim S8x2 ![0, 1] bcast_S8x1_S8x2_0_1 quarter) (broadcastInDim S8x2 ![0, 1] bcast_S1x2_S8x2_0_1 (broadcastInDim S1x2 ![1] bcast_S2_S1x2_1 (iotaInDim S2 32 0))))

/-- A weight's rows filled up to the heads' slots. -/
def spread (W : FVec Ideal S512x1024 .f32) : FVec Ideal S1024x1024 .bf16 :=
  truncf .bf16 (transpose S1024x1024 [1, 0] (shapeCast S1024x1024
    (mulf (broadcastInDim S1024x8x2x64 ![0, 1, 2, 3] bcast_S1024x8x1x64_S1024x8x2x64_0_1_2_3 (shapeCast S1024x8x1x64 (transpose S1024x512 [1, 0] W transposes_S512x1024_S1024x512_1_0) shapeCasts_S1024x512_S1024x8x1x64))
      (broadcastInDim S1024x8x2x64 ![0, 1, 2, 3] bcast_S1x8x2x1_S1024x8x2x64_0_1_2_3 (broadcastInDim S1x8x2x1 ![1, 2, 3] bcast_S8x2x1_S1x8x2x1_1_2_3 (broadcastInDim S8x2x1 ![0, 1] bcast_S8x2_S8x2x1_0_1 group))))
    shapeCasts_S1024x8x2x64_S1024x1024) transposes_S1024x1024_S1024x1024_1_0) bitsLt_bf16_f32

/-- The heads' value projections as one block-diagonal matrix. -/
def diag (W : FVec Ideal S128x8x64 .f32) : FVec Ideal S1024x512 .bf16 :=
  truncf .bf16 (shapeCast S1024x512
    (mulf (broadcastInDim S8x128x8x64 ![0, 1, 2, 3] bcast_S8x128x1x64_S8x128x8x64_0_1_2_3 (broadcastInDim S8x128x1x64 ![0, 1, 3] bcast_S8x128x64_S8x128x1x64_0_1_3 (transpose S8x128x64 [1, 0, 2] W transposes_S128x8x64_S8x128x64_1_0_2)))
      (broadcastInDim S8x128x8x64 ![0, 1, 2, 3] bcast_S8x1x8x1_S8x128x8x64_0_1_2_3 (broadcastInDim S8x1x8x1 ![0, 2] bcast_S8x8_S8x1x8x1_0_2 eye)))
    shapeCasts_S8x128x8x64_S1024x512) bitsLt_bf16_f32

theorem V_v32 (c : Dev nD) : V m c main_v32 = spread (m ((c : Thread nD τ).loc main_arg5)) := by
  unfold V
  simp only [hostOps0, hostOps0_1, hostOps0_2, hostOps0_3, hostOps0_4, List.flatten_cons, List.flatten_nil, List.cons_append, List.nil_append, List.append_nil]
  entry_read
  rfl

theorem V_v51 (c : Dev nD) : V m c main_v51 = spread (m ((c : Thread nD τ).loc main_arg8)) := by
  unfold V
  simp only [hostOps0, hostOps0_1, hostOps0_2, hostOps0_3, hostOps0_4, List.flatten_cons, List.flatten_nil, List.cons_append, List.nil_append, List.append_nil]
  entry_read
  rfl

theorem V_v13 (c : Dev nD) : V m c main_v13 = diag (m ((c : Thread nD τ).loc main_arg6)) := by
  unfold V
  simp only [hostOps0, hostOps0_1, hostOps0_2, hostOps0_3, hostOps0_4, List.flatten_cons, List.flatten_nil, List.cons_append, List.nil_append, List.append_nil]
  entry_read
  rfl

theorem V_v52 (c : Dev nD) : V m c main_v52 = truncf (F := Ideal) .bf16 (a7 m c) bitsLt_bf16_f32 := by
  unfold V
  simp only [hostOps0, hostOps0_1, hostOps0_2, hostOps0_3, hostOps0_4, List.flatten_cons, List.flatten_nil, List.cons_append, List.nil_append, List.append_nil]
  entry_read
  rfl

theorem V_v53 (c : Dev nD) : V m c main_v53 = truncf (F := Ideal) .bf16 (a9 m c) bitsLt_bf16_f32 := by
  unfold V
  simp only [hostOps0, hostOps0_1, hostOps0_2, hostOps0_3, hostOps0_4, List.flatten_cons, List.flatten_nil, List.cons_append, List.nil_append, List.append_nil]
  entry_read
  rfl

theorem quarter_at : ∀ h : Fin 8, quarter (ix2 h 0) = BitVec.ofNat 32 (h.val / 4) := by decide +kernel

theorem group_at (h : Fin 8) (n : Fin 2) : group (ix2 h n) = if h.val / 4 = n.val then 1 else 0 := by
  have e : group (ix2 h n) = FloatOps.uitofp (F := Ideal) .f32 (IntOp.cmpi .eq (quarter (ix2 h 0)) (BitVec.ofNat 32 n.val)) := by
    unfold group
    generalize quarter = q
    pointwise
  rw [e, quarter_at]
  have hb : ∀ (h : Fin 8) (n : Fin 2), IntOp.cmpi .eq (BitVec.ofNat 32 (h.val / 4)) (BitVec.ofNat 32 n.val) = if h.val / 4 = n.val then 1#1 else 0#1 := by decide +kernel
  rw [hb]
  split
  · exact bit_one
  · exact bit_zero

theorem eye_at (h n : Fin 8) : eye (ix2 h n) = if h = n then 1 else 0 := by
  have e : eye (ix2 h n) = FloatOps.uitofp (F := Ideal) .f32 (IntOp.cmpi .eq (IntOp.addi (BitVec.ofNat 32 h.val) 0#32) (BitVec.ofNat 32 n.val)) := by
    pointwise [eye]
  rw [e]
  have hb : ∀ (h n : Fin 8), IntOp.cmpi .eq (IntOp.addi (BitVec.ofNat 32 h.val) 0#32) (BitVec.ofNat 32 n.val) = if h = n then 1#1 else 0#1 := by decide +kernel
  rw [hb]
  split
  · exact bit_one
  · exact bit_zero

theorem spread_at (W : FVec Ideal S512x1024 .f32) (s d : Fin 1024) :
    spread W (ix2 s d) = W (ix2 ⟨s.val / 128 * 64 + s.val % 64, by omega⟩ d) * group (ix2 ⟨s.val / 128, by omega⟩ ⟨s.val / 64 % 2, by omega⟩) := by
  unfold spread
  generalize group = g
  pointwise

theorem diag_at (W : FVec Ideal S128x8x64 .f32) (s : Fin 1024) (j : Fin 512) :
    diag W (ix2 s j) = W (ix3 ⟨s.val % 128, by omega⟩ ⟨s.val / 128, by omega⟩ ⟨j.val % 64, by omega⟩) * eye (ix2 ⟨s.val / 128, by omega⟩ ⟨j.val / 64, by omega⟩) := by
  unfold diag
  generalize eye = g
  pointwise

theorem pay_at (v0 : Vec Ideal S512x1024 .bf16) (v1 : Vec Ideal S1024x1024 .bf16) (v4 : Vec Ideal S512x1024 .bf16) (v5 : Vec Ideal S1024x512 .bf16) (v9 : Vec Ideal S512x1024 .bf16) (v12 : Vec Ideal S512x1024 .bf16) (v13 : Vec Ideal S1024x1024 .bf16) (v16 : Vec Ideal S512x1024 .f32) (v18 : Vec Ideal S512x1024 .f32) (v21 : Vec Ideal S512x1024 .f32) (v24 : Vec Ideal S512x1024 .f32) (v26 : Vec Ideal S1024x1024 .bf16)
    (y : Fin 512) (d : Fin 1024) :
    k0_pay1 (F := Ideal) v0 v1 v4 v5 v9 v12 v13 v16 v18 v21 v24 v26 (ix2 y d)
      = v24 (ix2 y d) + ∑ e : Fin 1024, (v16 (ix2 y e) * (∑ s : Fin 1024, v0 (ix2 y s) * v1 (ix2 s e))
          + v18 (ix2 y e) * (∑ j : Fin 512, (∑ s : Fin 1024, v4 (ix2 y s) * v5 (ix2 s j)) * v9 (ix2 j e))
          + v21 (ix2 y e) * (∑ s : Fin 1024, v12 (ix2 y s) * v13 (ix2 s e))) * v26 (ix2 e d) := by
  pointwise [k0_pay1]

/-- A head's own 64 of its slot's 128 lanes. -/
abbrev slot (i : Fin 512) : Fin 1024 := ⟨128 * (i.val / 64) + 64 * (i.val / 256) + i.val % 64, by omega⟩

theorem sum_spread (o : Fin 1024 → EReal) (W : FVec Ideal S512x1024 .f32) (e : Fin 1024) :
    (∑ s, o s * spread W (ix2 s e)) = ∑ i : Fin 512, o (slot i) * W (ix2 i e) := by
  refine sum_slots _ _ (fun i => ?_) fun s hs => ?_
  · have h1 : (slot i).val / 128 = i.val / 64 := by dsimp only; omega
    have h2 : (slot i).val / 64 = 2 * (i.val / 64) + i.val / 256 := by dsimp only; omega
    have h3 : (slot i).val / 128 / 4 = (slot i).val / 64 % 2 := by
      have h4 : i.val / 256 = i.val / 64 / 4 := by omega
      have h5 : i.val / 64 < 8 := by omega
      rw [h1, h2, h4]
      generalize i.val / 64 = n at *
      omega
    rw [spread_at, group_at, if_pos h3, mul_one]
    refine congrArg (fun j => o (slot i) * W (ix2 j e)) (Fin.ext ?_)
    dsimp only
    omega
  · have h1 : s.val % 128 / 64 = s.val / 64 % 2 := by omega
    have h2 : s.val / 128 / 4 = s.val / 512 := by omega
    have h3 : ¬ s.val / 128 / 4 = s.val / 64 % 2 := by rw [← h1, h2]; exact fun h => hs h.symm
    rw [spread_at, group_at, if_neg h3, mul_zero, mul_zero]

theorem sum_diag (o : Fin 1024 → EReal) (W : FVec Ideal S128x8x64 .f32) (j : Fin 512) :
    (∑ s, o s * diag W (ix2 s j)) = ∑ i : Fin 128, o ⟨128 * (j.val / 64) + i.val, by omega⟩ * W (ix3 i ⟨j.val / 64, by omega⟩ ⟨j.val % 64, by omega⟩) := by
  refine sum_head _ ⟨j.val / 64, by omega⟩ _ (fun i => ?_) fun s hs => ?_
  · rw [diag_at, eye_at, if_pos (Fin.ext (by dsimp only; omega)), mul_one]
    refine congrArg₂ (fun a b => o ⟨128 * (j.val / 64) + i.val, by omega⟩ * W (ix3 a b ⟨j.val % 64, by omega⟩)) (Fin.ext ?_) (Fin.ext ?_)
    · dsimp only
      omega
    · dsimp only
      omega
  · rw [diag_at, eye_at, if_neg (fun h => hs (congrArg Fin.val h)), mul_zero, mul_zero]

theorem idx : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = 0 ∧ win0_9.index t 1 = 0
    ∧ win0_10.index t 0 = t.val ∧ win0_10.index t 1 = 0 := by decide +kernel

/-- The row of the whole array a point's row is. -/
abbrev row (t : Fin cfg0.N) (y : Fin 512) : Fin 16384 := ⟨512 * t.val + y.val, by have : t.val < 32 := t.isLt; omega⟩

theorem iblk0_at (c : Dev nD) (t : Fin cfg0.N) (y : Fin 512) (x : Fin 1024) : iblk m c 0 t (ix2 y x) = a0 m c (ix2 (row t y) x) := by
  have e : iblk m c 0 t (ix2 y x) = V m c main_arg0 (ix2 (row t y) x) := by
    blk_ext [iblk, idx t]
  rw [e]
  rfl

theorem iblk1_at (c : Dev nD) (t : Fin cfg0.N) (y : Fin 512) (x : Fin 1024) : iblk m c 1 t (ix2 y x) = a1 m c (ix2 (row t y) x) := by
  have e : iblk m c 1 t (ix2 y x) = V m c main_arg1 (ix2 (row t y) x) := by
    blk_ext [iblk, idx t]
  rw [e]
  rfl

theorem iblk2_at (c : Dev nD) (t : Fin cfg0.N) (y : Fin 512) (x : Fin 1024) : iblk m c 2 t (ix2 y x) = a2 m c (ix2 (row t y) x) := by
  have e : iblk m c 2 t (ix2 y x) = V m c main_arg2 (ix2 (row t y) x) := by
    blk_ext [iblk, idx t]
  rw [e]
  rfl

theorem iblk3_at (c : Dev nD) (t : Fin cfg0.N) (y : Fin 512) (x : Fin 1024) : iblk m c 3 t (ix2 y x) = a3 m c (ix2 (row t y) x) := by
  have e : iblk m c 3 t (ix2 y x) = V m c main_arg3 (ix2 (row t y) x) := by
    blk_ext [iblk, idx t]
  rw [e]
  rfl

theorem iblk4_at (c : Dev nD) (t : Fin cfg0.N) (y : Fin 512) (x : Fin 3072) : iblk m c 4 t (ix2 y x) = a4 m c (ix2 (row t y) x) := by
  have e : iblk m c 4 t (ix2 y x) = V m c main_arg4 (ix2 (row t y) x) := by
    blk_ext [iblk, idx t]
  rw [e]
  rfl

theorem iblk5_at (c : Dev nD) (t : Fin cfg0.N) (s : Fin 1024) (x : Fin 1024) : iblk m c 5 t (ix2 s x) = spread (a5 m c) (ix2 s x) := by
  have e : iblk m c 5 t (ix2 s x) = V m c main_v32 (ix2 s x) := by
    blk_ext [iblk, idx t]
  rw [e, V_v32]

theorem iblk6_at (c : Dev nD) (t : Fin cfg0.N) (s : Fin 1024) (x : Fin 512) : iblk m c 6 t (ix2 s x) = diag (a6 m c) (ix2 s x) := by
  have e : iblk m c 6 t (ix2 s x) = V m c main_v13 (ix2 s x) := by
    blk_ext [iblk, idx t]
  rw [e, V_v13]

theorem iblk7_at (c : Dev nD) (t : Fin cfg0.N) (s : Fin 512) (x : Fin 1024) : iblk m c 7 t (ix2 s x) = a7 m c (ix2 s x) := by
  have e : iblk m c 7 t (ix2 s x) = V m c main_v52 (ix2 s x) := by
    blk_ext [iblk, idx t]
  rw [e, V_v52]
  rfl

theorem iblk8_at (c : Dev nD) (t : Fin cfg0.N) (s : Fin 1024) (x : Fin 1024) : iblk m c 8 t (ix2 s x) = spread (a8 m c) (ix2 s x) := by
  have e : iblk m c 8 t (ix2 s x) = V m c main_v51 (ix2 s x) := by
    blk_ext [iblk, idx t]
  rw [e, V_v51]

theorem iblk9_at (c : Dev nD) (t : Fin cfg0.N) (s : Fin 1024) (x : Fin 1024) : iblk m c 9 t (ix2 s x) = a9 m c (ix2 s x) := by
  have e : iblk m c 9 t (ix2 s x) = V m c main_v53 (ix2 s x) := by
    blk_ext [iblk, idx t]
  rw [e, V_v53]
  rfl

/-- The result: the three attentions' outputs projected, gated and projected again, added to the rows. -/
def G (A0 : FVec Ideal S16384x1024 .f32) (A1 A2 A3 : FVec Ideal S16384x1024 .bf16) (A4 : FVec Ideal S16384x3072 .f32) (A5 : FVec Ideal S512x1024 .f32)
    (A6 : FVec Ideal S128x8x64 .f32) (A7 A8 : FVec Ideal S512x1024 .f32) (A9 : FVec Ideal S1024x1024 .f32) : FVec Ideal S16384x1024 .f32 := fun z =>
  A0 (ix2 (z 0) (z 1)) + ∑ e : Fin 1024,
    (A4 (ix2 (z 0) ⟨e.val, by omega⟩) * (∑ i : Fin 512, A1 (ix2 (z 0) (slot i)) * A5 (ix2 i e))
      + A4 (ix2 (z 0) ⟨1024 + e.val, by omega⟩) * (∑ j : Fin 512, (∑ i : Fin 128, A2 (ix2 (z 0) ⟨128 * (j.val / 64) + i.val, by omega⟩) * A6 (ix3 i ⟨j.val / 64, by omega⟩ ⟨j.val % 64, by omega⟩)) * A7 (ix2 j e))
      + A4 (ix2 (z 0) ⟨2048 + e.val, by omega⟩) * (∑ i : Fin 512, A3 (ix2 (z 0) (slot i)) * A8 (ix2 i e))) * A9 (ix2 e (z 1))

/-- A part of the gates' columns. -/
theorem ld_at (X : Vec Ideal S512x3072 .f32) (o : ℕ) (h : ∀ d, (![0, o] : Fin 2 → ℕ) d + (![512, 1024] : Fin 2 → ℕ) d ≤ S512x3072.size d)
    (y : Fin 512) (e : Fin 1024) (n : Fin 3072) (hn : n.val = o + e.val) :
    View.ld X (Rect.unit (s := S512x3072) ![0, o] ![512, 1024] h) (ix2 y e) = X (ix2 y n) := by
  refine congrArg X (funext fun i => Fin.ext ?_)
  match i with
  | 0 => simp [Rect.emb, Rect.unit]
  | 1 => simp [Rect.emb, Rect.unit, hn]

theorem block_at (c : Dev nD) (t : Fin cfg0.N) (y : Fin 512) (d : Fin 1024) :
    k0_pay1 (F := Ideal) (iblk m c 1 t) (iblk m c 5 t) (iblk m c 2 t) (iblk m c 6 t) (iblk m c 7 t) (iblk m c 3 t) (iblk m c 8 t)
        (View.ld (iblk m c 4 t) r0_3) (View.ld (iblk m c 4 t) r0_4) (View.ld (iblk m c 4 t) r0_5) (iblk m c 0 t) (iblk m c 9 t) (ix2 y d)
      = G (a0 m c) (a1 m c) (a2 m c) (a3 m c) (a4 m c) (a5 m c) (a6 m c) (a7 m c) (a8 m c) (a9 m c) (ix2 (row t y) d) := by
  rw [pay_at]
  have l0 := fun e : Fin 1024 => ld_at (iblk m c 4 t) 0 (by decide) y e ⟨e.val, by omega⟩ (by simp)
  have l1 := fun e : Fin 1024 => ld_at (iblk m c 4 t) 1024 (by decide) y e ⟨1024 + e.val, by omega⟩ (by simp)
  have l2 := fun e : Fin 1024 => ld_at (iblk m c 4 t) 2048 (by decide) y e ⟨2048 + e.val, by omega⟩ (by simp)
  have l0' : ∀ e : Fin 1024, View.ld (iblk m c 4 t) r0_3 (ix2 y e) = _ := l0
  have l1' : ∀ e : Fin 1024, View.ld (iblk m c 4 t) r0_4 (ix2 y e) = _ := l1
  have l2' : ∀ e : Fin 1024, View.ld (iblk m c 4 t) r0_5 (ix2 y e) = _ := l2
  have e0 := fun k => iblk0_at m c t y k
  have e1 := fun k => iblk1_at m c t y k
  have e2 := fun k => iblk2_at m c t y k
  have e3 := fun k => iblk3_at m c t y k
  have e4 := fun k => iblk4_at m c t y k
  have e5 := fun k x => iblk5_at m c t k x
  have e6 := fun k x => iblk6_at m c t k x
  have e7 := fun k x => iblk7_at m c t k x
  have e8 := fun k x => iblk8_at m c t k x
  have e9 := fun k x => iblk9_at m c t k x
  simp only [l0', l1', l2', e0, e1, e2, e3, e4, e5, e6, e7, e8, e9, sum_spread, sum_diag]
  rfl

theorem final (c : Dev nD) : (dats m 0 c).arrAt 10 cfg0.N = G (a0 m c) (a1 m c) (a2 m c) (a3 m c) (a4 m c) (a5 m c) (a6 m c) (a7 m c) (a8 m c) (a9 m c) := by
  refine (dats m 0 c).arrAt_eq_of_covers 10 _ (by decide +kernel) fun t _ y => ?_
  blk_simp
  rw [after0_10]
  unfold out0_10
  frame_out
  obtain ⟨y, z, rfl⟩ : ∃ (a : Fin 512) (b : Fin 1024), y = ix2 a b := ⟨y 0, y 1, (ix2_eta y).symm⟩
  refine (block_at m c t y z).trans ?_
  refine congrArg (G (a0 m c) (a1 m c) (a2 m c) (a3 m c) (a4 m c) (a5 m c) (a6 m c) (a7 m c) (a8 m c) (a9 m c)) ?_
  blk_ext [idx t]

end Cert.Kernel4Ideal.MValue

end
-- ==== Proof.RefMerge.lean ====
/- The merge reference's result read at an index, at the ideal instance. -/
module

public import proofs.«01_k».proof.Proof.Merge
public import proofs.«01_k».proof.Proof.Gen.Reference4Ideal.Run

@[expose] public section

set_option maxRecDepth 16384

noncomputable section

open Idealize.ShloMosaic Idealize.ShloMosaic.TcCoe Idealize.SL.Sem

namespace Cert.Reference4Ideal.Ref

open Cert.Reference4Ideal Cert.Reference4Ideal.Gen
open Cert.Kernel4Ideal.MValue (slot)

def gate0 (Q : FVec Ideal S16384x3072 .f32) : FVec Ideal S16384x1024 .f32 :=
  shapeCast _ (extractStridedSlice S16384x1x1024 ![0, 0, 0] (shapeCast _ Q shapeCasts_S16384x3072_S16384x3x1024) slices_S16384x3x1024_S16384x1x1024_0_0_0) shapeCasts_S16384x1x1024_S16384x1024
def gate1 (Q : FVec Ideal S16384x3072 .f32) : FVec Ideal S16384x1024 .f32 :=
  shapeCast _ (extractStridedSlice S16384x1x1024 ![0, 1, 0] (shapeCast _ Q shapeCasts_S16384x3072_S16384x3x1024) slices_S16384x3x1024_S16384x1x1024_0_1_0) shapeCasts_S16384x1x1024_S16384x1024
def gate2 (Q : FVec Ideal S16384x3072 .f32) : FVec Ideal S16384x1024 .f32 :=
  shapeCast _ (extractStridedSlice S16384x1x1024 ![0, 2, 0] (shapeCast _ Q shapeCasts_S16384x3072_S16384x3x1024) slices_S16384x3x1024_S16384x1x1024_0_2_0) shapeCasts_S16384x1x1024_S16384x1024

/-- Each head's own group's half of its slot, one group's heads. -/
def own0 (O : FVec Ideal S16384x1024 .bf16) : FVec Ideal S16384x256 .f32 :=
  shapeCast _ (shapeCast _ (extractStridedSlice S16384x1x4x1x64 ![0, 0, 0, 0, 0] (shapeCast _ (extf .f32 O bitsLt_bf16_f32) shapeCasts_S16384x1024_S16384x2x4x2x64) slices_S16384x2x4x2x64_S16384x1x4x1x64_0_0_0_0_0) shapeCasts_S16384x1x4x1x64_S16384x4x64) shapeCasts_S16384x4x64_S16384x256
def own1 (O : FVec Ideal S16384x1024 .bf16) : FVec Ideal S16384x256 .f32 :=
  shapeCast _ (shapeCast _ (extractStridedSlice S16384x1x4x1x64 ![0, 1, 0, 1, 0] (shapeCast _ (extf .f32 O bitsLt_bf16_f32) shapeCasts_S16384x1024_S16384x2x4x2x64) slices_S16384x2x4x2x64_S16384x1x4x1x64_0_1_0_1_0) shapeCasts_S16384x1x4x1x64_S16384x4x64) shapeCasts_S16384x4x64_S16384x256

def own (O : FVec Ideal S16384x1024 .bf16) : FVec Ideal S16384x512 .f32 :=
  concatenate S16384x512 1 [⟨S16384x256, own0 O⟩, ⟨S16384x256, own1 O⟩] concatenates_S16384x256_S16384x256_S16384x512_d1

def lift (O : FVec Ideal S16384x1024 .bf16) (W : FVec Ideal S128x8x64 .f32) : FVec Ideal S16384x512 .f32 :=
  shapeCast _ (transpose S16384x8x64 [2, 0, 1] (Host.dotGeneral dot_S128x8x64_S16384x8x128_S8x64x16384_0_2_2_0_1_1 none W (shapeCast _ (extf .f32 O bitsLt_bf16_f32) shapeCasts_S16384x1024_S16384x8x128)) transposes_S8x64x16384_S16384x8x64_2_0_1) shapeCasts_S16384x8x64_S16384x512

def dot5 (O : FVec Ideal S16384x512 .f32) (W : FVec Ideal S512x1024 .f32) : FVec Ideal S16384x1024 .f32 :=
  Host.dotGeneral dot_S16384x512_S512x1024_S16384x1024_1_0_0_1_n_n none O W

def outp (X Y : FVec Ideal S16384x1024 .f32) (W : FVec Ideal S1024x1024 .f32) : FVec Ideal S16384x1024 .f32 :=
  addf X (Host.dotGeneral dot_S16384x1024_S1024x1024_S16384x1024_1_0_0_1_n_n none Y W)

variable (A0 : FVec Ideal S16384x1024 .f32) (A1 A2 A3 : FVec Ideal S16384x1024 .bf16) (A4 : FVec Ideal S16384x3072 .f32) (A5 : FVec Ideal S512x1024 .f32)
    (A6 : FVec Ideal S128x8x64 .f32) (A7 A8 : FVec Ideal S512x1024 .f32) (A9 : FVec Ideal S1024x1024 .f32)

def mixed : FVec Ideal S16384x1024 .f32 :=
  addf (addf (mulf (gate0 A4) (dot5 (own A1) A5)) (mulf (gate1 A4) (dot5 (lift A2 A6) A7))) (mulf (gate2 A4) (dot5 (own A3) A8))

def layer : FVec Ideal S16384x1024 .f32 := outp A0 (mixed A1 A2 A3 A4 A5 A6 A7 A8) A9

theorem gate0_at (r : Fin 16384) (e : Fin 1024) : gate0 A4 (ix2 r e) = A4 (ix2 r ⟨e.val, by omega⟩) := by
  pointwise [gate0]
theorem gate1_at (r : Fin 16384) (e : Fin 1024) : gate1 A4 (ix2 r e) = A4 (ix2 r ⟨1024 + e.val, by omega⟩) := by
  pointwise [gate1]
theorem gate2_at (r : Fin 16384) (e : Fin 1024) : gate2 A4 (ix2 r e) = A4 (ix2 r ⟨2048 + e.val, by omega⟩) := by
  pointwise [gate2]

theorem own0_at (O : FVec Ideal S16384x1024 .bf16) (r : Fin 16384) (i : Fin 256) (n : Fin 1024) (hn : n.val = 128 * (i.val / 64) + i.val % 64) :
    own0 O (ix2 r i) = O (ix2 r n) := by
  rw [show n = (⟨i.val / 64 * 128 + i.val % 64, by omega⟩ : Fin 1024) from Fin.ext (by dsimp only; omega)]
  pointwise [own0]
theorem own1_at (O : FVec Ideal S16384x1024 .bf16) (r : Fin 16384) (i : Fin 256) (n : Fin 1024) (hn : n.val = 128 * (4 + i.val / 64) + 64 + i.val % 64) :
    own1 O (ix2 r i) = O (ix2 r n) := by
  rw [show n = (⟨512 + i.val / 64 * 128 + 64 + i.val % 64, by omega⟩ : Fin 1024) from Fin.ext (by dsimp only; omega)]
  pointwise [own1]

theorem own_at (O : FVec Ideal S16384x1024 .bf16) (r : Fin 16384) (i : Fin 512) : own O (ix2 r i) = O (ix2 r (slot i)) := by
  by_cases h : i.val < 256
  · rw [← own0_at O r ⟨i.val, h⟩ (slot i) (by dsimp only; omega)]
    unfold own
    generalize own0 O = P
    generalize own1 O = Q
    pointwise [h]
  · rw [← own1_at O r ⟨i.val - 256, by omega⟩ (slot i) (by dsimp only; omega)]
    unfold own
    generalize own0 O = P
    generalize own1 O = Q
    pointwise [h]

theorem lift_at (O : FVec Ideal S16384x1024 .bf16) (r : Fin 16384) (j : Fin 512) :
    lift O A6 (ix2 r j) = ∑ i : Fin 128, A6 (ix3 i ⟨j.val / 64, by omega⟩ ⟨j.val % 64, by omega⟩) * O (ix2 r ⟨128 * (j.val / 64) + i.val, by omega⟩) := by
  have e : ∀ i : Fin 128, (⟨128 * (j.val / 64) + i.val, by omega⟩ : Fin 1024) = ⟨j.val / 64 * 128 + i.val, by omega⟩ := fun i => Fin.ext (by dsimp only; omega)
  simp only [e]
  pointwise [lift]

theorem dot5_at (O : FVec Ideal S16384x512 .f32) (W : FVec Ideal S512x1024 .f32) (r : Fin 16384) (e : Fin 1024) :
    dot5 O W (ix2 r e) = ∑ i : Fin 512, O (ix2 r i) * W (ix2 i e) := by
  pointwise [dot5]

theorem outp_at (X Y : FVec Ideal S16384x1024 .f32) (W : FVec Ideal S1024x1024 .f32) (r : Fin 16384) (d : Fin 1024) :
    outp X Y W (ix2 r d) = X (ix2 r d) + ∑ e : Fin 1024, Y (ix2 r e) * W (ix2 e d) := by
  pointwise [outp]

theorem mixed_at (r : Fin 16384) (e : Fin 1024) : mixed A1 A2 A3 A4 A5 A6 A7 A8 (ix2 r e)
    = gate0 A4 (ix2 r e) * dot5 (own A1) A5 (ix2 r e) + gate1 A4 (ix2 r e) * dot5 (lift A2 A6) A7 (ix2 r e) + gate2 A4 (ix2 r e) * dot5 (own A3) A8 (ix2 r e) := rfl

theorem layer_eq : layer A0 A1 A2 A3 A4 A5 A6 A7 A8 A9 = Kernel4Ideal.MValue.G A0 A1 A2 A3 A4 A5 A6 A7 A8 A9 := by
  funext z
  obtain ⟨r, d, rfl⟩ : ∃ (r : Fin 16384) (d : Fin 1024), z = ix2 r d := ⟨z 0, z 1, (ix2_eta z).symm⟩
  unfold layer
  rw [outp_at]
  refine congrArg (fun s => A0 (ix2 r d) + s) (Finset.sum_congr rfl fun e _ => congrArg (· * A9 (ix2 e d)) ?_)
  rw [mixed_at, gate0_at, gate1_at, gate2_at, dot5_at, dot5_at, dot5_at]
  have h1 := fun i => own_at A1 r i
  have h2 := fun i => lift_at A6 A2 r i
  have h3 := fun i => own_at A3 r i
  simp only [h1, h2, h3, mul_comm (A6 _)]
  rfl

end Cert.Reference4Ideal.Ref

end
-- ==== Proof.Proj.lean ====
/- The projections' payloads read at an index, at the ideal instance. -/
module

public import proofs.«01_k».proof.Proof.Gen.Kernel5Ideal.Value
public import Idealize.ShloMosaic.Lib.Pipeline.ValueKit
public import Idealize.ShloMosaic.Lib.Claim
public import Idealize.ShloMosaic.Lib.Affine
public import Idealize.ShloMosaic.Lib.KernelVsHost

@[expose] public section

set_option maxRecDepth 16384

noncomputable section

open Idealize.ShloMosaic Idealize.ShloMosaic.TcCoe Idealize.SL.Sem

namespace Cert.Kernel5Ideal.PValue

open Cert.Kernel5Ideal Cert.Kernel5Ideal.Gen

/-- A row's root-mean-square norm, times a weight, over 1024 features. -/
def nrm (ξ γ : Fin 1024 → EReal) (d : Fin 1024) : EReal :=
  ξ d * Ideal.rsqrt (Ideal.div (∑ k : Fin 1024, ξ k * ξ k) (Ideal.ofBits .f32 0x44800000#32) + Ideal.ofBits .f32 0x358637BD#32) * γ d

/-- The same over 128 features. -/
def nrm128 (ξ γ : Fin 128 → EReal) (d : Fin 128) : EReal :=
  ξ d * Ideal.rsqrt (Ideal.div (∑ k : Fin 128, ξ k * ξ k) (Ideal.ofBits .f32 0x43000000#32) + Ideal.ofBits .f32 0x358637BD#32) * γ d

/-- A row against a weight's column. -/
abbrev prod (N : FVec Ideal S512x1024 .bf16) (W : Vec Ideal S1024x128 .bf16) (y : Fin 512) (l : Fin 128) : EReal := ∑ k : Fin 1024, N (ix2 y k) * W (ix2 k l)

theorem norm_at (X : Vec Ideal S512x1024 .f32) (g : Vec Ideal S1x1024 .f32) (y : Fin 512) (d : Fin 1024) :
    k0_pay1 (F := Ideal) X g (ix2 y d) = nrm (fun k => X (ix2 y k)) (fun k => g (ix2 0 k)) d := by
  pointwise [k0_pay1, nrm]

theorem prod_at (N : FVec Ideal S512x1024 .bf16) (W : Vec Ideal S1024x128 .bf16) (y : Fin 512) (l : Fin 128) :
    k0_pay9 (F := Ideal) N W (ix2 y l) = prod N W y l := by
  pointwise [k0_pay9, prod]

theorem scaled_at (N : FVec Ideal S512x1024 .bf16) (W : Vec Ideal S1024x128 .bf16) (y : Fin 512) (l : Fin 128) :
    k0_pay14 (F := Ideal) N W (ix2 y l) = prod N W y l * Ideal.ofBits .f32 0x3E000000#32 := by
  pointwise [k0_pay14, prod]

theorem nope_at (N : FVec Ideal S512x1024 .bf16) (W : Vec Ideal S1024x512 .bf16) (y : Fin 512) (l : Fin 512) :
    k0_pay61 (F := Ideal) N W (ix2 y l) = ∑ k : Fin 1024, N (ix2 y k) * W (ix2 k l) := by
  pointwise [k0_pay61]

theorem lat_at (Q : FVec Ideal S512x512 .f32) (W : Vec Ideal S512x1024 .bf16) (y : Fin 512) (l : Fin 1024) :
    k0_pay62 (F := Ideal) Q W (ix2 y l) = ∑ k : Fin 512, Q (ix2 y k) * W (ix2 k l) := by
  pointwise [k0_pay62]

theorem gate_at (N : FVec Ideal S512x1024 .bf16) (W : Vec Ideal S1024x512 .bf16) (y : Fin 512) (l : Fin 512) :
    k0_pay79 (F := Ideal) N W (ix2 y l) = Ideal.logistic (∑ k : Fin 1024, N (ix2 y k) * W (ix2 k l)) := by
  pointwise [k0_pay79]

theorem ckv_at (N : FVec Ideal S512x1024 .bf16) (W : Vec Ideal S1024x128 .bf16) (g : Vec Ideal S1x128 .f32) (y : Fin 512) (l : Fin 128) :
    k0_pay63 (F := Ideal) N W g (ix2 y l) = nrm128 (prod N W y) (fun k => g (ix2 0 k)) l := by
  pointwise [k0_pay63, nrm128, prod]

/-- Which lanes are of the first half of their 64. -/
def first64 : IVec S512x128 1 :=
  cmpi .slt (select (andi (xori k0_pay12 (broadcastTo S512x128 (broadcast S512x128 (Scalar.cmpi .slt (Scalar.select (Scalar.cmpi .eq 64#32 0#32) 1#32 64#32) 0#32)) broadcasts_S512x128_S512x128)) k0_pay11)
    (addi k0_pay10 (broadcast S512x128 (Scalar.select (Scalar.cmpi .eq 64#32 0#32) 1#32 64#32))) k0_pay10) (broadcast S512x128 32#32)

/-- Which lanes are of the first half of their 32. -/
def first32 : IVec S512x128 1 :=
  cmpi .slt (select (andi (xori k0_pay18 (broadcastTo S512x128 k0_pay19 broadcasts_S512x128_S512x128)) k0_pay17)
    (addi k0_pay16 (broadcast S512x128 (Scalar.select (Scalar.cmpi .eq 32#32 0#32) 1#32 32#32))) k0_pay16) (broadcast S512x128 16#32)

theorem first64_at (y : Fin 512) (l : Fin 128) : first64 (ix2 y l) = if l.val % 64 < 32 then 1#1 else 0#1 := by
  have h : ∀ l : Fin 128, first64 (ix2 0 l) = if l.val % 64 < 32 then 1#1 else 0#1 := by decide +kernel
  exact h l

theorem first32_at (y : Fin 512) (l : Fin 128) : first32 (ix2 y l) = if l.val % 32 < 16 then 1#1 else 0#1 := by
  have h : ∀ l : Fin 128, first32 (ix2 0 l) = if l.val % 32 < 16 then 1#1 else 0#1 := by decide +kernel
  exact h l

/-- The two halves of every 64 lanes turned by the position's angles. -/
def rp64 (P c s : FVec Ideal S512x128 .f32) : FVec Ideal S512x128 .f32 :=
  addf (mulf P c) (mulf (select first64 (dynamicRotate 1 96#32 none P rotates_S512x128_d1) (dynamicRotate 1 32#32 none P rotates_S512x128_d1)) s)

/-- The two halves of every 32 lanes turned by the position's angles. -/
def rp32 (P c s : FVec Ideal S512x128 .f32) : FVec Ideal S512x128 .f32 :=
  addf (mulf P c) (mulf (select first32 (dynamicRotate 1 112#32 none P rotates_S512x128_d1) (dynamicRotate 1 16#32 none P rotates_S512x128_d1)) s)

theorem rp64_at (P c s : FVec Ideal S512x128 .f32) (y : Fin 512) (l : Fin 128) :
    rp64 P c s (ix2 y l) = P (ix2 y l) * c (ix2 y l) + (if l.val % 64 < 32 then P (ix2 y ⟨(l.val + 32) % 128, by omega⟩) else P (ix2 y ⟨(l.val + 96) % 128, by omega⟩)) * s (ix2 y l) := by
  have e : rp64 P c s (ix2 y l) = P (ix2 y l) * c (ix2 y l) + (if first64 (ix2 y l) = 1#1 then dynamicRotate 1 96#32 none P rotates_S512x128_d1 (ix2 y l) else dynamicRotate 1 32#32 none P rotates_S512x128_d1 (ix2 y l)) * s (ix2 y l) := rfl
  rw [e, first64_at,
    dynamicRotate_apply 1 96#32 P rotates_S512x128_d1 (ix2 y l) (ix2 y ⟨(l.val + 32) % 128, by omega⟩) (fun b => by match b with | 0 => rfl | 1 => show (l.val + 32) % 128 = (l.val + 128 - 96 % 128) % 128; omega),
    dynamicRotate_apply 1 32#32 P rotates_S512x128_d1 (ix2 y l) (ix2 y ⟨(l.val + 96) % 128, by omega⟩) (fun b => by match b with | 0 => rfl | 1 => show (l.val + 96) % 128 = (l.val + 128 - 32 % 128) % 128; omega)]
  by_cases h : l.val % 64 < 32
  · rw [if_pos h, if_pos h, if_pos rfl]
  · rw [if_neg h, if_neg h, if_neg (by decide)]

theorem rp32_at (P c s : FVec Ideal S512x128 .f32) (y : Fin 512) (l : Fin 128) :
    rp32 P c s (ix2 y l) = P (ix2 y l) * c (ix2 y l) + (if l.val % 32 < 16 then P (ix2 y ⟨(l.val + 16) % 128, by omega⟩) else P (ix2 y ⟨(l.val + 112) % 128, by omega⟩)) * s (ix2 y l) := by
  have e : rp32 P c s (ix2 y l) = P (ix2 y l) * c (ix2 y l) + (if first32 (ix2 y l) = 1#1 then dynamicRotate 1 112#32 none P rotates_S512x128_d1 (ix2 y l) else dynamicRotate 1 16#32 none P rotates_S512x128_d1 (ix2 y l)) * s (ix2 y l) := rfl
  rw [e, first32_at,
    dynamicRotate_apply 1 112#32 P rotates_S512x128_d1 (ix2 y l) (ix2 y ⟨(l.val + 16) % 128, by omega⟩) (fun b => by match b with | 0 => rfl | 1 => show (l.val + 16) % 128 = (l.val + 128 - 112 % 128) % 128; omega),
    dynamicRotate_apply 1 16#32 P rotates_S512x128_d1 (ix2 y l) (ix2 y ⟨(l.val + 112) % 128, by omega⟩) (fun b => by match b with | 0 => rfl | 1 => show (l.val + 112) % 128 = (l.val + 128 - 16 % 128) % 128; omega)]
  by_cases h : l.val % 32 < 16
  · rw [if_pos h, if_pos h, if_pos rfl]
  · rw [if_neg h, if_neg h, if_neg (by decide)]

end Cert.Kernel5Ideal.PValue
-- ==== Proof.ProjHost.lean ====
/- The projections' host arrays read at an index, at the ideal instance. -/
module

public import proofs.«01_k».proof.Proof.Merge
public import proofs.«01_k».proof.Proof.Proj

@[expose] public section

set_option maxRecDepth 16384

noncomputable section

open Idealize.ShloMosaic Idealize.ShloMosaic.TcCoe Idealize.SL.Sem
open Idealize.ShloMosaic.Pipeline (Dat)

namespace Cert.Kernel5Ideal.PValue

open Cert.Kernel5Ideal Cert.Kernel5Ideal.Gen
variable (m : (ℓ : Loc nD τ sig) → Buf (Elt Ideal) ℓ)

abbrev a0 (c : Dev nD) : FVec Ideal S16384x1024 .f32 := m ((c : Thread nD τ).loc main_arg0)
abbrev a1 (c : Dev nD) : FVec Ideal S1024 .f32 := m ((c : Thread nD τ).loc main_arg1)
abbrev a2 (c : Dev nD) : FVec Ideal S1024x5536 .f32 := m ((c : Thread nD τ).loc main_arg2)
abbrev a3 (c : Dev nD) : FVec Ideal S128 .f32 := m ((c : Thread nD τ).loc main_arg3)
abbrev a4 (c : Dev nD) : FVec Ideal S128x8x64 .f32 := m ((c : Thread nD τ).loc main_arg4)

/-- The unit matrix of the heads. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- A head's number divided by four, and which group each head is of. -/
def quarter : S8x1.Idx → BitVec 32 :=
  select (andi (cmpi .ne (signi (broadcastInDim S8x1 ![0] bcast_S8_S8x1_0 (iotaInDim S8 32 0))) (broadcastInDim S8x1 ![] bcast_S_S8x1 (signi (id (constantI S_ 32 4#32)))))
      (cmpi .ne (Host.remsi (broadcastInDim S8x1 ![0] bcast_S8_S8x1_0 (iotaInDim S8 32 0)) (broadcastInDim S8x1 ![] bcast_S_S8x1 (id (constantI S_ 32 4#32)))) (broadcastInDim S8x1 ![] bcast_S_S8x1 (constantI S_ 32 0#32))))
    (subi (Host.divsi (broadcastInDim S8x1 ![0] bcast_S8_S8x1_0 (iotaInDim S8 32 0)) (broadcastInDim S8x1 ![] bcast_S_S8x1 (id (constantI S_ 32 4#32)))) (broadcastInDim S8x1 ![] bcast_S_S8x1 (constantI S_ 32 1#32)))
    (Host.divsi (broadcastInDim S8x1 ![0] bcast_S8_S8x1_0 (iotaInDim S8 32 0)) (broadcastInDim S8x1 ![] bcast_S_S8x1 (id (constantI S_ 32 4#32))))

def group : FVec Ideal S8x2 .f32 :=
  uitofp .f32 (cmpi .eq (broadcastInDim S8x2 ![0, 1] bcast_S8x1_S8x2_0_1 quarter) (broadcastInDim S8x2 ![0, 1] bcast_S1x2_S8x2_0_1 (broadcastInDim S1x2 ![1] bcast_S2_S1x2_1 (iotaInDim S2 32 0))))

/-- A weight's columns filled up to the heads' slots. -/
def spread (U : FVec Ideal S1024x512 .f32) : FVec Ideal S1024x1024 .f32 :=
  shapeCast S1024x1024
    (mulf (broadcastInDim S1024x8x2x64 ![0, 1, 2, 3] bcast_S1024x8x1x64_S1024x8x2x64_0_1_2_3 (shapeCast S1024x8x1x64 U shapeCasts_S1024x512_S1024x8x1x64))
      (broadcastInDim S1024x8x2x64 ![0, 1, 2, 3] bcast_S1x8x2x1_S1024x8x2x64_0_1_2_3 (broadcastInDim S1x8x2x1 ![1, 2, 3] bcast_S8x2x1_S1x8x2x1_1_2_3 (broadcastInDim S8x2x1 ![0, 1] bcast_S8x2_S8x2x1_0_1 group))))
    shapeCasts_S1024x8x2x64_S1024x1024

/-- The latent queries' columns, the heads' nope parts and their rope parts filled up to slots. -/
def heads (W : FVec Ideal S1024x5536 .f32) : FVec Ideal S1024x8x96 .f32 :=
  shapeCast S1024x8x96 (extractStridedSlice S1024x768 ![0, 768] W slices_S1024x5536_S1024x768_0_768) shapeCasts_S1024x768_S1024x8x96

def nope (W : FVec Ideal S1024x5536 .f32) : FVec Ideal S1024x512 .f32 :=
  shapeCast S1024x512 (extractStridedSlice S1024x8x64 ![0, 0, 0] (heads W) slices_S1024x8x96_S1024x8x64_0_0_0) shapeCasts_S1024x8x64_S1024x512

def rope (W : FVec Ideal S1024x5536 .f32) : FVec Ideal S1024x1024 .f32 :=
  shapeCast S1024x1024 (pad S1024x8x128 ![0, 0, 0] ![0, 0, 96] ![0, 0, 0] (extractStridedSlice S1024x8x32 ![0, 0, 64] (heads W) slices_S1024x8x96_S1024x8x32_0_0_64)
    (sitofp (F := Ideal) .f32 (constantI S_ 32 0#32)) pads_S1024x8x32_S1024x8x128_000_000_0960 h_S_) shapeCasts_S1024x8x128_S1024x1024

def ropek (W : FVec Ideal S1024x5536 .f32) : FVec Ideal S1024x128 .f32 :=
  pad S1024x128 ![0, 0] ![0, 96] ![0, 0] (extractStridedSlice S1024x32 ![0, 1664] W slices_S1024x5536_S1024x32_0_1664)
    (sitofp (F := Ideal) .f32 (constantI S_ 32 0#32)) pads_S1024x32_S1024x128_000_0960 h_S_

/-- The weights side by side. -/
def wall (W : FVec Ideal S1024x5536 .f32) : FVec Ideal S1024x7424 .bf16 :=
  truncf .bf16 (concatenate S1024x7424 1 [⟨S1024x1024, spread (extractStridedSlice S1024x512 ![0, 0] W slices_S1024x5536_S1024x512_0_0)⟩,
    ⟨S1024x128, extractStridedSlice S1024x128 ![0, 512] W slices_S1024x5536_S1024x128_0_512⟩,
    ⟨S1024x128, extractStridedSlice S1024x128 ![0, 640] W slices_S1024x5536_S1024x128_0_640⟩,
    ⟨S1024x512, nope W⟩, ⟨S1024x1024, rope W⟩,
    ⟨S1024x128, extractStridedSlice S1024x128 ![0, 1536] W slices_S1024x5536_S1024x128_0_1536⟩,
    ⟨S1024x128, ropek W⟩,
    ⟨S1024x1024, spread (extractStridedSlice S1024x512 ![0, 1696] W slices_S1024x5536_S1024x512_0_1696)⟩,
    ⟨S1024x128, extractStridedSlice S1024x128 ![0, 2208] W slices_S1024x5536_S1024x128_0_2208⟩,
    ⟨S1024x128, extractStridedSlice S1024x128 ![0, 2336] W slices_S1024x5536_S1024x128_0_2336⟩,
    ⟨S1024x3072, extractStridedSlice S1024x3072 ![0, 2464] W slices_S1024x5536_S1024x3072_0_2464⟩]
    concatenates_S1024x1024_S1024x128_S1024x128_S1024x512_S1024x1024_S1024x128_S1024x128_S1024x1024_S1024x128_S1024x128_S1024x3072_S1024x7424_d1) bitsLt_bf16_f32

/-- The heads' key projections as one block-diagonal matrix. -/
def diag (W : FVec Ideal S128x8x64 .f32) : FVec Ideal S512x1024 .bf16 :=
  truncf .bf16 (shapeCast S512x1024
    (mulf (broadcastInDim S8x64x8x128 ![0, 1, 2, 3] bcast_S8x64x1x128_S8x64x8x128_0_1_2_3 (broadcastInDim S8x64x1x128 ![0, 1, 3] bcast_S8x64x128_S8x64x1x128_0_1_3 (transpose S8x64x128 [1, 2, 0] W transposes_S128x8x64_S8x64x128_1_2_0)))
      (broadcastInDim S8x64x8x128 ![0, 1, 2, 3] bcast_S8x1x8x1_S8x64x8x128_0_1_2_3 (broadcastInDim S8x1x8x1 ![0, 2] bcast_S8x8_S8x1x8x1_0_2 eye)))
    shapeCasts_S8x64x8x128_S512x1024) bitsLt_bf16_f32

/-- The positions' angles. -/
def ang64 : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1 (Host.exp (Host.divf (mulf (broadcastInDim S32 ![] bcast_S_S32 (constant S_ .f32 0xC1935D8E#32)) (sitofp .f32 (iotaInDim S32 32 0))) (broadcastInDim S32 ![] bcast_S_S32 (constant S_ .f32 0x42800000#32))))))

def ang32 : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1 (Host.exp (Host.divf (mulf (broadcastInDim S16 ![] bcast_S_S16 (constant S_ .f32 0xC1935D8E#32)) (sitofp .f32 (iotaInDim S16 32 0))) (broadcastInDim S16 ![] bcast_S_S16 (constant S_ .f32 0x42000000#32))))))

/-- A table of two halves repeated along the lanes. -/
def tab64 (A B : FVec Ideal S4096x32 .f32) : FVec Ideal S4096x128 .f32 :=
  shapeCast S4096x128 (broadcastInDim S1x4096x2x64 ![0, 1, 2, 3] bcast_S1x4096x1x64_S1x4096x2x64_0_1_2_3 (shapeCast S1x4096x1x64
    (concatenate S4096x64 1 [⟨S4096x32, A⟩, ⟨S4096x32, B⟩] concatenates_S4096x32_S4096x32_S4096x64_d1) shapeCasts_S4096x64_S1x4096x1x64)) shapeCasts_S1x4096x2x64_S4096x128

def tab32 (A B : FVec Ideal S4096x16 .f32) : FVec Ideal S4096x128 .f32 :=
  shapeCast S4096x128 (broadcastInDim S1x4096x4x32 ![0, 1, 2, 3] bcast_S1x4096x1x32_S1x4096x4x32_0_1_2_3 (shapeCast S1x4096x1x32
    (concatenate S4096x32 1 [⟨S4096x16, A⟩, ⟨S4096x16, B⟩] concatenates_S4096x16_S4096x16_S4096x32_d1) shapeCasts_S4096x32_S1x4096x1x32)) shapeCasts_S1x4096x4x32_S4096x128

open Idealize.ShloMosaic.StableHlo (after after_append)

/-- The host operations up to the weights, and those of the tables. -/
abbrev opsW : List (HloOp τ sig (Elt Ideal)) := hostOps0_8.take 29
abbrev opsT : List (HloOp τ sig (Elt Ideal)) := hostOps0_8.drop 29

theorem ops_split : (hostOps0_8 : List (HloOp τ sig (Elt Ideal))) = opsW ++ opsT := (List.take_append_drop 29 _).symm

/-- The buffers before the weights' last operations. -/
def before (c : Dev nD) : Valuation τ sig (Elt Ideal) :=
  after (List.flatten [hostOps0, hostOps0_1, hostOps0_2, hostOps0_3, hostOps0_4, hostOps0_5, hostOps0_6, hostOps0_7]) (fun b => m (c, b))

theorem flatten_snoc {α : Type} (l : List (List α)) (x : List α) : List.flatten (l ++ [x]) = List.flatten l ++ x := by simp

theorem V_eq (c : Dev nD) (b : Ref sig .tc) : V m c b = after opsT (after opsW (before m c)) (Proc.devRef .tc b) := by
  unfold V before
  rw [← after_append, ← after_append, ← ops_split]
  exact congrArg (fun l => after l (fun b => m (c, b)) (Proc.devRef .tc b)) (flatten_snoc [hostOps0, hostOps0_1, hostOps0_2, hostOps0_3, hostOps0_4, hostOps0_5, hostOps0_6, hostOps0_7] hostOps0_8)

set_option maxHeartbeats 4000000 in
theorem T_v83 (σ : Valuation τ sig (Elt Ideal)) : after opsT σ (Proc.devRef .tc main_v83) = tab64 (Host.cos ang64) (Host.cos ang64) := by
  simp only [opsT, hostOps0_8, List.drop_succ_cons, List.drop_zero]
  after_results_simp
  all_goals rfl

set_option maxHeartbeats 4000000 in
theorem T_v88 (σ : Valuation τ sig (Elt Ideal)) : after opsT σ (Proc.devRef .tc main_v88) = tab64 (Host.negf (Host.sin ang64)) (Host.sin ang64) := by
  simp only [opsT, hostOps0_8, List.drop_succ_cons, List.drop_zero]
  after_results_simp
  all_goals rfl

set_option maxHeartbeats 4000000 in
theorem T_v106 (σ : Valuation τ sig (Elt Ideal)) : after opsT σ (Proc.devRef .tc main_v106) = tab32 (Host.cos ang32) (Host.cos ang32) := by
  simp only [opsT, hostOps0_8, List.drop_succ_cons, List.drop_zero]
  after_results_simp
  all_goals rfl

set_option maxHeartbeats 4000000 in
theorem T_v111 (σ : Valuation τ sig (Elt Ideal)) : after opsT σ (Proc.devRef .tc main_v111) = tab32 (Host.negf (Host.sin ang32)) (Host.sin ang32) := by
  simp only [opsT, hostOps0_8, List.drop_succ_cons, List.drop_zero]
  after_results_simp
  all_goals rfl

set_option maxHeartbeats 4000000 in
theorem T_v112 (σ : Valuation τ sig (Elt Ideal)) : after opsT σ (Proc.devRef .tc main_v112) = shapeCast (s := S1024) (α := Ideal .f32) S1x1024 (σ (Proc.devRef .tc main_arg1)) shapeCasts_S1024_S1x1024 := by
  simp only [opsT, hostOps0_8, List.drop_succ_cons, List.drop_zero]
  after_results_simp
  all_goals rfl

set_option maxHeartbeats 4000000 in
theorem T_v113 (σ : Valuation τ sig (Elt Ideal)) : after opsT σ (Proc.devRef .tc main_v113) = shapeCast (s := S128) (α := Ideal .f32) S1x128 (σ (Proc.devRef .tc main_arg3)) shapeCasts_S128_S1x128 := by
  simp only [opsT, hostOps0_8, List.drop_succ_cons, List.drop_zero]
  after_results_simp
  all_goals rfl

set_option maxHeartbeats 4000000 in
theorem T_v50 (σ : Valuation τ sig (Elt Ideal)) : after opsT σ (Proc.devRef .tc main_v50) = σ (Proc.devRef .tc main_v50) := by
  simp only [opsT, hostOps0_8, List.drop_succ_cons, List.drop_zero]
  after_results_simp
  all_goals rfl

set_option maxHeartbeats 4000000 in
theorem T_v64 (σ : Valuation τ sig (Elt Ideal)) : after opsT σ (Proc.devRef .tc main_v64) = σ (Proc.devRef .tc main_v64) := by
  simp only [opsT, hostOps0_8, List.drop_succ_cons, List.drop_zero]
  after_results_simp
  all_goals rfl

set_option maxHeartbeats 4000000 in
theorem T_arg1 (σ : Valuation τ sig (Elt Ideal)) : after opsT σ (Proc.devRef .tc main_arg1) = σ (Proc.devRef .tc main_arg1) := by
  simp only [opsT, hostOps0_8, List.drop_succ_cons, List.drop_zero]
  after_results_simp
  all_goals rfl

set_option maxHeartbeats 4000000 in
theorem T_arg3 (σ : Valuation τ sig (Elt Ideal)) : after opsT σ (Proc.devRef .tc main_arg3) = σ (Proc.devRef .tc main_arg3) := by
  simp only [opsT, hostOps0_8, List.drop_succ_cons, List.drop_zero]
  after_results_simp
  all_goals rfl

set_option maxHeartbeats 4000000 in
theorem B_v32 (c : Dev nD) : before m c (Proc.devRef .tc main_v32) = spread (extractStridedSlice S1024x512 ![0, 0] (a2 m c) slices_S1024x5536_S1024x512_0_0) := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v1 (c : Dev nD) : before m c (Proc.devRef .tc main_v1) = extractStridedSlice S1024x128 ![0, 512] (a2 m c) slices_S1024x5536_S1024x128_0_512 := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v2 (c : Dev nD) : before m c (Proc.devRef .tc main_v2) = extractStridedSlice S1024x128 ![0, 640] (a2 m c) slices_S1024x5536_S1024x128_0_640 := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v12 (c : Dev nD) : before m c (Proc.devRef .tc main_v12) = nope (a2 m c) := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v15 (c : Dev nD) : before m c (Proc.devRef .tc main_v15) = rope (a2 m c) := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v4 (c : Dev nD) : before m c (Proc.devRef .tc main_v4) = extractStridedSlice S1024x128 ![0, 1536] (a2 m c) slices_S1024x5536_S1024x128_0_1536 := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v16 (c : Dev nD) : before m c (Proc.devRef .tc main_v16) = ropek (a2 m c) := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v33 (c : Dev nD) : before m c (Proc.devRef .tc main_v33) = shapeCast S1024x8x1x64 (extractStridedSlice S1024x512 ![0, 1696] (a2 m c) slices_S1024x5536_S1024x512_0_1696) shapeCasts_S1024x512_S1024x8x1x64 := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v36 (c : Dev nD) : before m c (Proc.devRef .tc main_v36) = quarter := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v7 (c : Dev nD) : before m c (Proc.devRef .tc main_v7) = extractStridedSlice S1024x128 ![0, 2208] (a2 m c) slices_S1024x5536_S1024x128_0_2208 := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v8 (c : Dev nD) : before m c (Proc.devRef .tc main_v8) = extractStridedSlice S1024x128 ![0, 2336] (a2 m c) slices_S1024x5536_S1024x128_0_2336 := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_v9 (c : Dev nD) : before m c (Proc.devRef .tc main_v9) = extractStridedSlice S1024x3072 ![0, 2464] (a2 m c) slices_S1024x5536_S1024x3072_0_2464 := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

set_option maxHeartbeats 4000000 in
theorem B_arg4 (c : Dev nD) : before m c (Proc.devRef .tc main_arg4) = a4 m c := by
  unfold before
  simp only [hostOps0, hostOps0_1, hostOps0_2, hostOps0_3, hostOps0_4, hostOps0_5, hostOps0_6, hostOps0_7, List.flatten_cons, List.flatten_nil, List.cons_append, List.nil_append, List.append_nil]
  after_results_simp
  all_goals rfl

/-- The spread of the second queries' columns, and the weights put side by side. -/
abbrev opsS : List (HloOp τ sig (Elt Ideal)) := hostOps0_8.take 12
abbrev opsC : List (HloOp τ sig (Elt Ideal)) := (hostOps0_8.drop 12).take 17

theorem opsW_split : opsW = opsS ++ opsC := rfl

def spreadAll (c : Dev nD) : Valuation τ sig (Elt Ideal) := after opsS (before m c)

set_option maxHeartbeats 4000000 in
theorem S_v32 (c : Dev nD) : spreadAll m c (Proc.devRef .tc main_v32) = spread (extractStridedSlice S1024x512 ![0, 0] (a2 m c) slices_S1024x5536_S1024x512_0_0) := by
  unfold spreadAll
  simp only [opsS, hostOps0_8, List.take_succ_cons, List.take_zero]
  after_results_simp
  exact B_v32 m c

set_option maxHeartbeats 4000000 in
theorem S_v1 (c : Dev nD) : spreadAll m c (Proc.devRef .tc main_v1) = extractStridedSlice S1024x128 ![0, 512] (a2 m c) slices_S1024x5536_S1024x128_0_512 := by
  unfold spreadAll
  simp only [opsS, hostOps0_8, List.take_succ_cons, List.take_zero]
  after_results_simp
  exact B_v1 m c

set_option maxHeartbeats 4000000 in
theorem S_v2 (c : Dev nD) : spreadAll m c (Proc.devRef .tc main_v2) = extractStridedSlice S1024x128 ![0, 640] (a2 m c) slices_S1024x5536_S1024x128_0_640 := by
  unfold spreadAll
  simp only [opsS, hostOps0_8, List.take_succ_cons, List.take_zero]
  after_results_simp
  exact B_v2 m c

set_option maxHeartbeats 4000000 in
theorem S_v12 (c : Dev nD) : spreadAll m c (Proc.devRef .tc main_v12) = nope (a2 m c) := by
  unfold spreadAll
  simp only [opsS, hostOps0_8, List.take_succ_cons, List.take_zero]
  after_results_simp
  exact B_v12 m c

set_option maxHeartbeats 4000000 in
theorem S_v15 (c : Dev nD) : spreadAll m c (Proc.devRef .tc main_v15) = rope (a2 m c) := by
  unfold spreadAll
  simp only [opsS, hostOps0_8, List.take_succ_cons, List.take_zero]
  after_results_simp
  exact B_v15 m c

set_option maxHeartbeats 4000000 in
theorem S_v4 (c : Dev nD) : spreadAll m c (Proc.devRef .tc main_v4) = extractStridedSlice S1024x128 ![0, 1536] (a2 m c) slices_S1024x5536_S1024x128_0_1536 := by
  unfold spreadAll
  simp only [opsS, hostOps0_8, List.take_succ_cons, List.take_zero]
  after_results_simp
  exact B_v4 m c

set_option maxHeartbeats 4000000 in
theorem S_v16 (c : Dev nD) : spreadAll m c (Proc.devRef .tc main_v16) = ropek (a2 m c) := by
  unfold spreadAll
  simp only [opsS, hostOps0_8, List.take_succ_cons, List.take_zero]
  after_results_simp
  exact B_v16 m c

set_option maxHeartbeats 4000000 in
theorem S_v7 (c : Dev nD) : spreadAll m c (Proc.devRef .tc main_v7) = extractStridedSlice S1024x128 ![0, 2208] (a2 m c) slices_S1024x5536_S1024x128_0_2208 := by
  unfold spreadAll
  simp only [opsS, hostOps0_8, List.take_succ_cons, List.take_zero]
  after_results_simp
  exact B_v7 m c

set_option maxHeartbeats 4000000 in
theorem S_v8 (c : Dev nD) : spreadAll m c (Proc.devRef .tc main_v8) = extractStridedSlice S1024x128 ![0, 2336] (a2 m c) slices_S1024x5536_S1024x128_0_2336 := by
  unfold spreadAll
  simp only [opsS, hostOps0_8, List.take_succ_cons, List.take_zero]
  after_results_simp
  exact B_v8 m c

set_option maxHeartbeats 4000000 in
theorem S_v9 (c : Dev nD) : spreadAll m c (Proc.devRef .tc main_v9) = extractStridedSlice S1024x3072 ![0, 2464] (a2 m c) slices_S1024x5536_S1024x3072_0_2464 := by
  unfold spreadAll
  simp only [opsS, hostOps0_8, List.take_succ_cons, List.take_zero]
  after_results_simp
  exact B_v9 m c

set_option maxHeartbeats 4000000 in
theorem S_v48 (c : Dev nD) : spreadAll m c (Proc.devRef .tc main_v48) = spread (extractStridedSlice S1024x512 ![0, 1696] (a2 m c) slices_S1024x5536_S1024x512_0_1696) := by
  unfold spreadAll
  simp only [opsS, hostOps0_8, List.take_succ_cons, List.take_zero]
  after_results_simp
  rw [B_v33, B_v36]
  rfl

set_option maxHeartbeats 4000000 in
theorem W_v50 (c : Dev nD) : after opsW (before m c) (Proc.devRef .tc main_v50) = wall (a2 m c) := by
  rw [opsW_split, after_append]
  change after opsC (spreadAll m c) (Proc.devRef .tc main_v50) = _
  have e32 := S_v32 m c
  have e1 := S_v1 m c
  have e2 := S_v2 m c
  have e12 := S_v12 m c
  have e15 := S_v15 m c
  have e4 := S_v4 m c
  have e16 := S_v16 m c
  have e48 := S_v48 m c
  have e7 := S_v7 m c
  have e8 := S_v8 m c
  have e9 := S_v9 m c
  revert e32 e1 e2 e12 e15 e4 e16 e48 e7 e8 e9
  generalize spreadAll m c = σ
  intro e32 e1 e2 e12 e15 e4 e16 e48 e7 e8 e9
  simp only [opsC, hostOps0_8, List.drop_succ_cons, List.drop_zero, List.take_succ_cons, List.take_zero]
  after_results_simp
  try dsimp only [Matrix.cons_val]
  rw [e32, e1, e2, e12, e15, e4, e16, e48, e7, e8, e9]
  rfl

set_option maxHeartbeats 4000000 in
theorem W_v64 (c : Dev nD) : after opsW (before m c) (Proc.devRef .tc main_v64) = diag (a4 m c) := by
  simp only [opsW, hostOps0_8, List.take_succ_cons, List.take_zero]
  after_results_simp
  rw [B_arg4]
  rfl

theorem V_v50 (c : Dev nD) : V m c main_v50 = wall (a2 m c) := by rw [V_eq, T_v50, W_v50]
theorem V_v64 (c : Dev nD) : V m c main_v64 = diag (a4 m c) := by rw [V_eq, T_v64, W_v64]
theorem V_v83 (c : Dev nD) : V m c main_v83 = tab64 (Host.cos ang64) (Host.cos ang64) := by rw [V_eq, T_v83]
theorem V_v88 (c : Dev nD) : V m c main_v88 = tab64 (Host.negf (Host.sin ang64)) (Host.sin ang64) := by rw [V_eq, T_v88]
theorem V_v106 (c : Dev nD) : V m c main_v106 = tab32 (Host.cos ang32) (Host.cos ang32) := by rw [V_eq, T_v106]
theorem V_v111 (c : Dev nD) : V m c main_v111 = tab32 (Host.negf (Host.sin ang32)) (Host.sin ang32) := by rw [V_eq, T_v111]
theorem V_v112 (c : Dev nD) : V m c main_v112 = shapeCast S1x1024 (a1 m c) shapeCasts_S1024_S1x1024 := by
  have h := V_main_arg1 m c
  rw [V_eq, T_arg1] at h
  rw [V_eq, T_v112, h]
theorem V_v113 (c : Dev nD) : V m c main_v113 = shapeCast S1x128 (a3 m c) shapeCasts_S128_S1x128 := by
  have h := V_main_arg3 m c
  rw [V_eq, T_arg3] at h
  rw [V_eq, T_v113, h]

end Cert.Kernel5Ideal.PValue

end
-- ==== Proof.ProjAt.lean ====
/- The projections' weights and tables read at an index, at the ideal instance. -/
module

public import proofs.«01_k».proof.Proof.ProjHost

@[expose] public section

set_option maxRecDepth 16384

noncomputable section

open Idealize.ShloMosaic Idealize.ShloMosaic.TcCoe Idealize.SL.Sem
open Idealize.ShloMosaic.Pipeline (Dat)

namespace Cert.Kernel5Ideal.PValue

open Cert.Kernel5Ideal Cert.Kernel5Ideal.Gen Cert.Slots

theorem quarter_at : ∀ h : Fin 8, quarter (ix2 h 0) = BitVec.ofNat 32 (h.val / 4) := by decide +kernel

theorem group_at (h : Fin 8) (n : Fin 2) : group (ix2 h n) = if h.val / 4 = n.val then 1 else 0 := by
  have e : group (ix2 h n) = FloatOps.uitofp (F := Ideal) .f32 (IntOp.cmpi .eq (quarter (ix2 h 0)) (BitVec.ofNat 32 n.val)) := by
    unfold group
    generalize quarter = q
    pointwise
  rw [e, quarter_at]
  have hb : ∀ (h : Fin 8) (n : Fin 2), IntOp.cmpi .eq (BitVec.ofNat 32 (h.val / 4)) (BitVec.ofNat 32 n.val) = if h.val / 4 = n.val then 1#1 else 0#1 := by decide +kernel
  rw [hb]
  split
  · exact bit_one
  · exact bit_zero

theorem eye_at (h n : Fin 8) : eye (ix2 h n) = if h = n then 1 else 0 := by
  have e : eye (ix2 h n) = FloatOps.uitofp (F := Ideal) .f32 (IntOp.cmpi .eq (IntOp.addi (BitVec.ofNat 32 h.val) 0#32) (BitVec.ofNat 32 n.val)) := by
    pointwise [eye]
  rw [e]
  have hb : ∀ (h n : Fin 8), IntOp.cmpi .eq (IntOp.addi (BitVec.ofNat 32 h.val) 0#32) (BitVec.ofNat 32 n.val) = if h = n then 1#1 else 0#1 := by decide +kernel
  rw [hb]
  split
  · exact bit_one
  · exact bit_zero

theorem zero_int : FloatOps.sitofp (F := Ideal) .f32 0#32 = (0 : EReal) := by
  show (((0#32 : BitVec 32).toInt : ℝ) : EReal) = 0
  simp

theorem spread_at (U : FVec Ideal S1024x512 .f32) (k s : Fin 1024) :
    spread U (ix2 k s) = U (ix2 k ⟨s.val / 128 * 64 + s.val % 64, by omega⟩) * group (ix2 ⟨s.val / 128, by omega⟩ ⟨s.val / 64 % 2, by omega⟩) := by
  unfold spread
  generalize group = g
  pointwise

theorem heads_at (W : FVec Ideal S1024x5536 .f32) (k : Fin 1024) (h : Fin 8) (j : Fin 96) (n : Fin 5536) (hn : n.val = 768 + 96 * h.val + j.val) :
    heads W (ix3 k h j) = W (ix2 k n) := by
  rw [show n = (⟨768 + (h.val * 96 + j.val), by omega⟩ : Fin 5536) from Fin.ext (by dsimp only; omega)]
  pointwise [heads]

theorem nope_col (W : FVec Ideal S1024x5536 .f32) (k : Fin 1024) (e : Fin 512) (n : Fin 5536) (hn : n.val = 768 + 96 * (e.val / 64) + e.val % 64) :
    nope W (ix2 k e) = W (ix2 k n) := by
  rw [← heads_at W k ⟨e.val / 64, by omega⟩ ⟨e.val % 64, by omega⟩ n (by dsimp only; omega)]
  unfold nope
  generalize heads W = H
  pointwise

/-- The lanes after a head's rope part are zero. -/
theorem pad3_in (X : FVec Ideal S1024x8x32 .f32) (v : FVec Ideal S_ .f32) (k : Fin 1024) (h : Fin 8) (l : Fin 128) (hl : l.val < 32) :
    pad S1024x8x128 ![0, 0, 0] ![0, 0, 96] ![0, 0, 0] X v pads_S1024x8x32_S1024x8x128_000_000_0960 h_S_ (ix3 k h l) = X (ix3 k h ⟨l.val, hl⟩) :=
  pad_apply_of_inside (s := S1024x8x32) (t := S1024x8x128) _ _ _ X v _ h_S_ (ix3 k h l) (ix3 k h ⟨l.val, hl⟩)
    (fun a => by match a with | 0 => simp | 1 => simp | 2 => simp)

theorem pad3_out (X : FVec Ideal S1024x8x32 .f32) (v : FVec Ideal S_ .f32) (k : Fin 1024) (h : Fin 8) (l : Fin 128) (hl : ¬ l.val < 32) :
    pad S1024x8x128 ![0, 0, 0] ![0, 0, 96] ![0, 0, 0] X v pads_S1024x8x32_S1024x8x128_000_000_0960 h_S_ (ix3 k h l) = v (Shape.Idx.first h_S_) :=
  pad_apply_of_not_inside (s := S1024x8x32) (t := S1024x8x128) _ _ _ X v _ h_S_ (ix3 k h l) 2
    (fun hh => hl (by have := hh.2.2; simpa using this))

theorem pad2_in (X : FVec Ideal S1024x32 .f32) (v : FVec Ideal S_ .f32) (k : Fin 1024) (l : Fin 128) (hl : l.val < 32) :
    pad S1024x128 ![0, 0] ![0, 96] ![0, 0] X v pads_S1024x32_S1024x128_000_0960 h_S_ (ix2 k l) = X (ix2 k ⟨l.val, hl⟩) :=
  pad_apply_of_inside (s := S1024x32) (t := S1024x128) _ _ _ X v _ h_S_ (ix2 k l) (ix2 k ⟨l.val, hl⟩)
    (fun a => by match a with | 0 => simp | 1 => simp)

theorem pad2_out (X : FVec Ideal S1024x32 .f32) (v : FVec Ideal S_ .f32) (k : Fin 1024) (l : Fin 128) (hl : ¬ l.val < 32) :
    pad S1024x128 ![0, 0] ![0, 96] ![0, 0] X v pads_S1024x32_S1024x128_000_0960 h_S_ (ix2 k l) = v (Shape.Idx.first h_S_) :=
  pad_apply_of_not_inside (s := S1024x32) (t := S1024x128) _ _ _ X v _ h_S_ (ix2 k l) 1
    (fun hh => hl (by have := hh.2.2; simpa using this))

theorem fold_at (P : FVec Ideal S1024x8x128 .f32) (k : Fin 1024) (e : Fin 1024) :
    shapeCast S1024x1024 P shapeCasts_S1024x8x128_S1024x1024 (ix2 k e) = P (ix3 k ⟨e.val / 128, by omega⟩ ⟨e.val % 128, by omega⟩) := by
  pointwise

/-- The weights' columns are a head's rope part's, in the first 32 of the head's lanes. -/
theorem rope_in (W : FVec Ideal S1024x5536 .f32) (k : Fin 1024) (e : Fin 1024) (h : e.val % 128 < 32) (n : Fin 5536) (hn : n.val = 832 + 96 * (e.val / 128) + e.val % 128) :
    rope W (ix2 k e) = W (ix2 k n) := by
  rw [← heads_at W k ⟨e.val / 128, by omega⟩ ⟨64 + e.val % 128, by omega⟩ n (by dsimp only; omega)]
  unfold rope
  rw [fold_at, pad3_in _ _ k _ _ h]
  generalize heads W = H
  pointwise

theorem rope_out (W : FVec Ideal S1024x5536 .f32) (k : Fin 1024) (e : Fin 1024) (h : ¬ e.val % 128 < 32) : rope W (ix2 k e) = 0 := by
  unfold rope
  rw [fold_at, pad3_out _ _ k _ _ h]
  exact zero_int

/-- A piece that is a slice of the weights, as it is. -/
theorem slice_at {w : ℕ} (o : ℕ) (W : FVec Ideal S1024x5536 .f32) (h : Shape.Slices S1024x5536 ![0, o] ⟨2, ![1024, w]⟩) (k : Fin 1024) (s : Fin w) (n : Fin 5536) (hn : n.val = o + s.val) :
    extractStridedSlice ⟨2, ![1024, w]⟩ ![0, o] W h (ix2 k s) = W (ix2 k n) :=
  extractStridedSlice_apply _ W h (ix2 k s) (ix2 k n) fun a => by
    match a with
    | 0 => simp
    | 1 => simp [hn]

theorem ropek_in (W : FVec Ideal S1024x5536 .f32) (k : Fin 1024) (e : Fin 128) (h : e.val < 32) (n : Fin 5536) (hn : n.val = 1664 + e.val) :
    ropek W (ix2 k e) = W (ix2 k n) := by
  unfold ropek
  rw [pad2_in _ _ k _ h]
  exact slice_at 1664 W _ k ⟨e.val, h⟩ n hn

theorem ropek_out (W : FVec Ideal S1024x5536 .f32) (k : Fin 1024) (e : Fin 128) (h : ¬ e.val < 32) : ropek W (ix2 k e) = 0 := by
  unfold ropek
  rw [pad2_out _ _ k _ h]
  exact zero_int

/-- Eleven pieces side by side, a column by the piece it is in. -/
abbrev sides (p0 : FVec Ideal S1024x1024 .f32) (p1 : FVec Ideal S1024x128 .f32) (p2 : FVec Ideal S1024x128 .f32) (p3 : FVec Ideal S1024x512 .f32) (p4 : FVec Ideal S1024x1024 .f32) (p5 : FVec Ideal S1024x128 .f32) (p6 : FVec Ideal S1024x128 .f32) (p7 : FVec Ideal S1024x1024 .f32) (p8 : FVec Ideal S1024x128 .f32) (p9 : FVec Ideal S1024x128 .f32) (p10 : FVec Ideal S1024x3072 .f32) : List ((s : Shape) × FVec Ideal s .f32) :=
  [⟨S1024x1024, p0⟩, ⟨S1024x128, p1⟩, ⟨S1024x128, p2⟩, ⟨S1024x512, p3⟩, ⟨S1024x1024, p4⟩, ⟨S1024x128, p5⟩, ⟨S1024x128, p6⟩, ⟨S1024x1024, p7⟩, ⟨S1024x128, p8⟩, ⟨S1024x128, p9⟩, ⟨S1024x3072, p10⟩]

abbrev side (p0 : FVec Ideal S1024x1024 .f32) (p1 : FVec Ideal S1024x128 .f32) (p2 : FVec Ideal S1024x128 .f32) (p3 : FVec Ideal S1024x512 .f32) (p4 : FVec Ideal S1024x1024 .f32) (p5 : FVec Ideal S1024x128 .f32) (p6 : FVec Ideal S1024x128 .f32) (p7 : FVec Ideal S1024x1024 .f32) (p8 : FVec Ideal S1024x128 .f32) (p9 : FVec Ideal S1024x128 .f32) (p10 : FVec Ideal S1024x3072 .f32) : FVec Ideal S1024x7424 .f32 :=
  concatenate S1024x7424 1 (sides p0 p1 p2 p3 p4 p5 p6 p7 p8 p9 p10)
    concatenates_S1024x1024_S1024x128_S1024x128_S1024x512_S1024x1024_S1024x128_S1024x128_S1024x1024_S1024x128_S1024x128_S1024x3072_S1024x7424_d1

section Side
variable (p0 : FVec Ideal S1024x1024 .f32) (p1 : FVec Ideal S1024x128 .f32) (p2 : FVec Ideal S1024x128 .f32) (p3 : FVec Ideal S1024x512 .f32) (p4 : FVec Ideal S1024x1024 .f32) (p5 : FVec Ideal S1024x128 .f32) (p6 : FVec Ideal S1024x128 .f32) (p7 : FVec Ideal S1024x1024 .f32) (p8 : FVec Ideal S1024x128 .f32) (p9 : FVec Ideal S1024x128 .f32) (p10 : FVec Ideal S1024x3072 .f32)

theorem side0 (k : Fin 1024) (s : Fin 1024) (c : Fin 7424) (hc : c.val = 0 + s.val) : side p0 p1 p2 p3 p4 p5 p6 p7 p8 p9 p10 (ix2 k c) = p0 (ix2 k s) :=
  concatenate_apply_piece (t := S1024x7424) 1 (sides p0 p1 p2 p3 p4 p5 p6 p7 p8 p9 p10) _ (ix2 k c) 0 (by simp) S1024x1024 p0 rfl rfl 0 rfl (ix2 k s) (fun b hb => by
    match b with
    | 0 => rfl
    | 1 => exact absurd rfl hb) hc.symm

theorem side1 (k : Fin 1024) (s : Fin 128) (c : Fin 7424) (hc : c.val = 1024 + s.val) : side p0 p1 p2 p3 p4 p5 p6 p7 p8 p9 p10 (ix2 k c) = p1 (ix2 k s) :=
  concatenate_apply_piece (t := S1024x7424) 1 (sides p0 p1 p2 p3 p4 p5 p6 p7 p8 p9 p10) _ (ix2 k c) 1 (by simp) S1024x128 p1 rfl rfl 1024 rfl (ix2 k s) (fun b hb => by
    match b with
    | 0 => rfl
    | 1 => exact absurd rfl hb) hc.symm

theorem side2 (k : Fin 1024) (s : Fin 128) (c : Fin 7424) (hc : c.val = 1152 + s.val) : side p0 p1 p2 p3 p4 p5 p6 p7 p8 p9 p10 (ix2 k c) = p2 (ix2 k s) :=
  concatenate_apply_piece (t := S1024x7424) 1 (sides p0 p1 p2 p3 p4 p5 p6 p7 p8 p9 p10) _ (ix2 k c) 2 (by simp) S1024x128 p2 rfl rfl 1152 rfl (ix2 k s) (fun b hb => by
    match b with
    | 0 => rfl
    | 1 => exact absurd rfl hb) hc.symm

theorem side3 (k : Fin 1024) (s : Fin 512) (c : Fin 7424) (hc : c.val = 1280 + s.val) : side p0 p1 p2 p3 p4 p5 p6 p7 p8 p9 p10 (ix2 k c) = p3 (ix2 k s) :=
  concatenate_apply_piece (t := S1024x7424) 1 (sides p0 p1 p2 p3 p4 p5 p6 p7 p8 p9 p10) _ (ix2 k c) 3 (by simp) S1024x512 p3 rfl rfl 1280 rfl (ix2 k s) (fun b hb => by
    match b with
    | 0 => rfl
    | 1 => exact absurd rfl hb) hc.symm

theorem side4 (k : Fin 1024) (s : Fin 1024) (c : Fin 7424) (hc : c.val = 1792 + s.val) : side p0 p1 p2 p3 p4 p5 p6 p7 p8 p9 p10 (ix2 k c) = p4 (ix2 k s) :=
  concatenate_apply_piece (t := S1024x7424) 1 (sides p0 p1 p2 p3 p4 p5 p6 p7 p8 p9 p10) _ (ix2 k c) 4 (by simp) S1024x1024 p4 rfl rfl 1792 rfl (ix2 k s) (fun b hb => by
    match b with
    | 0 => rfl
    | 1 => exact absurd rfl hb) hc.symm

theorem side5 (k : Fin 1024) (s : Fin 128) (c : Fin 7424) (hc : c.val = 2816 + s.val) : side p0 p1 p2 p3 p4 p5 p6 p7 p8 p9 p10 (ix2 k c) = p5 (ix2 k s) :=
  concatenate_apply_piece (t := S1024x7424) 1 (sides p0 p1 p2 p3 p4 p5 p6 p7 p8 p9 p10) _ (ix2 k c) 5 (by simp) S1024x128 p5 rfl rfl 2816 rfl (ix2 k s) (fun b hb => by
    match b with
    | 0 => rfl
    | 1 => exact absurd rfl hb) hc.symm

theorem side6 (k : Fin 1024) (s : Fin 128) (c : Fin 7424) (hc : c.val = 2944 + s.val) : side p0 p1 p2 p3 p4 p5 p6 p7 p8 p9 p10 (ix2 k c) = p6 (ix2 k s) :=
  concatenate_apply_piece (t := S1024x7424) 1 (sides p0 p1 p2 p3 p4 p5 p6 p7 p8 p9 p10) _ (ix2 k c) 6 (by simp) S1024x128 p6 rfl rfl 2944 rfl (ix2 k s) (fun b hb => by
    match b with
    | 0 => rfl
    | 1 => exact absurd rfl hb) hc.symm

theorem side7 (k : Fin 1024) (s : Fin 1024) (c : Fin 7424) (hc : c.val = 3072 + s.val) : side p0 p1 p2 p3 p4 p5 p6 p7 p8 p9 p10 (ix2 k c) = p7 (ix2 k s) :=
  concatenate_apply_piece (t := S1024x7424) 1 (sides p0 p1 p2 p3 p4 p5 p6 p7 p8 p9 p10) _ (ix2 k c) 7 (by simp) S1024x1024 p7 rfl rfl 3072 rfl (ix2 k s) (fun b hb => by
    match b with
    | 0 => rfl
    | 1 => exact absurd rfl hb) hc.symm

theorem side8 (k : Fin 1024) (s : Fin 128) (c : Fin 7424) (hc : c.val = 4096 + s.val) : side p0 p1 p2 p3 p4 p5 p6 p7 p8 p9 p10 (ix2 k c) = p8 (ix2 k s) :=
  concatenate_apply_piece (t := S1024x7424) 1 (sides p0 p1 p2 p3 p4 p5 p6 p7 p8 p9 p10) _ (ix2 k c) 8 (by simp) S1024x128 p8 rfl rfl 4096 rfl (ix2 k s) (fun b hb => by
    match b with
    | 0 => rfl
    | 1 => exact absurd rfl hb) hc.symm

theorem side9 (k : Fin 1024) (s : Fin 128) (c : Fin 7424) (hc : c.val = 4224 + s.val) : side p0 p1 p2 p3 p4 p5 p6 p7 p8 p9 p10 (ix2 k c) = p9 (ix2 k s) :=
  concatenate_apply_piece (t := S1024x7424) 1 (sides p0 p1 p2 p3 p4 p5 p6 p7 p8 p9 p10) _ (ix2 k c) 9 (by simp) S1024x128 p9 rfl rfl 4224 rfl (ix2 k s) (fun b hb => by
    match b with
    | 0 => rfl
    | 1 => exact absurd rfl hb) hc.symm

theorem side10 (k : Fin 1024) (s : Fin 3072) (c : Fin 7424) (hc : c.val = 4352 + s.val) : side p0 p1 p2 p3 p4 p5 p6 p7 p8 p9 p10 (ix2 k c) = p10 (ix2 k s) :=
  concatenate_apply_piece (t := S1024x7424) 1 (sides p0 p1 p2 p3 p4 p5 p6 p7 p8 p9 p10) _ (ix2 k c) 10 (by simp) S1024x3072 p10 rfl rfl 4352 rfl (ix2 k s) (fun b hb => by
    match b with
    | 0 => rfl
    | 1 => exact absurd rfl hb) hc.symm

end Side

variable (W : FVec Ideal S1024x5536 .f32)

theorem wall_eq : wall W = side (spread (extractStridedSlice S1024x512 ![0, 0] W slices_S1024x5536_S1024x512_0_0))
    (extractStridedSlice S1024x128 ![0, 512] W slices_S1024x5536_S1024x128_0_512)
    (extractStridedSlice S1024x128 ![0, 640] W slices_S1024x5536_S1024x128_0_640)
    (nope W) (rope W)
    (extractStridedSlice S1024x128 ![0, 1536] W slices_S1024x5536_S1024x128_0_1536)
    (ropek W)
    (spread (extractStridedSlice S1024x512 ![0, 1696] W slices_S1024x5536_S1024x512_0_1696))
    (extractStridedSlice S1024x128 ![0, 2208] W slices_S1024x5536_S1024x128_0_2208)
    (extractStridedSlice S1024x128 ![0, 2336] W slices_S1024x5536_S1024x128_0_2336)
    (extractStridedSlice S1024x3072 ![0, 2464] W slices_S1024x5536_S1024x3072_0_2464) := rfl

/-- A spread weight's columns, those of the other group's half zero. -/
theorem spread_own (U : FVec Ideal S1024x512 .f32) (k s : Fin 1024) (h : s.val % 128 / 64 = s.val / 512) :
    spread U (ix2 k s) = U (ix2 k ⟨s.val / 128 * 64 + s.val % 64, by omega⟩) := by
  have h1 : s.val % 128 / 64 = s.val / 64 % 2 := by omega
  have h2 : s.val / 128 / 4 = s.val / 512 := by omega
  rw [spread_at, group_at, if_pos (h2.trans (h.symm.trans h1)), mul_one]

theorem spread_other (U : FVec Ideal S1024x512 .f32) (k s : Fin 1024) (h : ¬ s.val % 128 / 64 = s.val / 512) : spread U (ix2 k s) = 0 := by
  have h1 : s.val % 128 / 64 = s.val / 64 % 2 := by omega
  have h2 : s.val / 128 / 4 = s.val / 512 := by omega
  have h3 : ¬ s.val / 128 / 4 = s.val / 64 % 2 := by rw [← h1, h2]; exact fun e => h e.symm
  rw [spread_at, group_at, if_neg h3, mul_zero]

theorem wall_sbq_own (k s : Fin 1024) (c : Fin 7424) (hc : c.val = s.val) (h : s.val % 128 / 64 = s.val / 512) (n : Fin 5536) (hn : n.val = s.val / 128 * 64 + s.val % 64) :
    wall W (ix2 k c) = W (ix2 k n) := by
  rw [wall_eq, side0 _ _ _ _ _ _ _ _ _ _ _ k s c (by omega), spread_own _ k s h]
  exact slice_at 0 W _ k _ n (by dsimp only; omega)
theorem wall_sbq_other (k s : Fin 1024) (c : Fin 7424) (hc : c.val = s.val) (h : ¬ s.val % 128 / 64 = s.val / 512) : wall W (ix2 k c) = 0 := by
  rw [wall_eq, side0 _ _ _ _ _ _ _ _ _ _ _ k s c (by omega), spread_other _ k s h]
theorem wall_mbq_own (k s : Fin 1024) (c : Fin 7424) (hc : c.val = 3072 + s.val) (h : s.val % 128 / 64 = s.val / 512) (n : Fin 5536) (hn : n.val = 1696 + (s.val / 128 * 64 + s.val % 64)) :
    wall W (ix2 k c) = W (ix2 k n) := by
  rw [wall_eq, side7 _ _ _ _ _ _ _ _ _ _ _ k s c hc, spread_own _ k s h]
  exact slice_at 1696 W _ k _ n hn
theorem wall_mbq_other (k s : Fin 1024) (c : Fin 7424) (hc : c.val = 3072 + s.val) (h : ¬ s.val % 128 / 64 = s.val / 512) : wall W (ix2 k c) = 0 := by
  rw [wall_eq, side7 _ _ _ _ _ _ _ _ _ _ _ k s c hc, spread_other _ k s h]
theorem wall_nope (k : Fin 1024) (s : Fin 512) (c : Fin 7424) (hc : c.val = 1280 + s.val) (n : Fin 5536) (hn : n.val = 768 + 96 * (s.val / 64) + s.val % 64) :
    wall W (ix2 k c) = W (ix2 k n) := by
  rw [wall_eq, side3 _ _ _ _ _ _ _ _ _ _ _ k s c hc, nope_col W k s n hn]
theorem wall_rope_in (k s : Fin 1024) (c : Fin 7424) (hc : c.val = 1792 + s.val) (h : s.val % 128 < 32) (n : Fin 5536) (hn : n.val = 832 + 96 * (s.val / 128) + s.val % 128) :
    wall W (ix2 k c) = W (ix2 k n) := by
  rw [wall_eq, side4 _ _ _ _ _ _ _ _ _ _ _ k s c hc, rope_in W k s h n hn]
theorem wall_rope_out (k s : Fin 1024) (c : Fin 7424) (hc : c.val = 1792 + s.val) (h : ¬ s.val % 128 < 32) : wall W (ix2 k c) = 0 := by
  rw [wall_eq, side4 _ _ _ _ _ _ _ _ _ _ _ k s c hc, rope_out W k s h]
theorem wall_ropek_in (k : Fin 1024) (s : Fin 128) (c : Fin 7424) (hc : c.val = 2944 + s.val) (h : s.val < 32) (n : Fin 5536) (hn : n.val = 1664 + s.val) :
    wall W (ix2 k c) = W (ix2 k n) := by
  rw [wall_eq, side6 _ _ _ _ _ _ _ _ _ _ _ k s c hc, ropek_in W k s h n hn]
theorem wall_ropek_out (k : Fin 1024) (s : Fin 128) (c : Fin 7424) (hc : c.val = 2944 + s.val) (h : ¬ s.val < 32) : wall W (ix2 k c) = 0 := by
  rw [wall_eq, side6 _ _ _ _ _ _ _ _ _ _ _ k s c hc, ropek_out W k s h]
theorem wall_plain512 (k : Fin 1024) (s : Fin 128) (c : Fin 7424) (hc : c.val = 1024 + s.val) (n : Fin 5536) (hn : n.val = 512 + s.val) : wall W (ix2 k c) = W (ix2 k n) := by
  rw [wall_eq, side1 _ _ _ _ _ _ _ _ _ _ _ k s c hc]
  exact slice_at 512 W _ k s n hn
theorem wall_plain640 (k : Fin 1024) (s : Fin 128) (c : Fin 7424) (hc : c.val = 1152 + s.val) (n : Fin 5536) (hn : n.val = 640 + s.val) : wall W (ix2 k c) = W (ix2 k n) := by
  rw [wall_eq, side2 _ _ _ _ _ _ _ _ _ _ _ k s c hc]
  exact slice_at 640 W _ k s n hn
theorem wall_plain1536 (k : Fin 1024) (s : Fin 128) (c : Fin 7424) (hc : c.val = 2816 + s.val) (n : Fin 5536) (hn : n.val = 1536 + s.val) : wall W (ix2 k c) = W (ix2 k n) := by
  rw [wall_eq, side5 _ _ _ _ _ _ _ _ _ _ _ k s c hc]
  exact slice_at 1536 W _ k s n hn
theorem wall_plain2208 (k : Fin 1024) (s : Fin 128) (c : Fin 7424) (hc : c.val = 4096 + s.val) (n : Fin 5536) (hn : n.val = 2208 + s.val) : wall W (ix2 k c) = W (ix2 k n) := by
  rw [wall_eq, side8 _ _ _ _ _ _ _ _ _ _ _ k s c hc]
  exact slice_at 2208 W _ k s n hn
theorem wall_plain2336 (k : Fin 1024) (s : Fin 128) (c : Fin 7424) (hc : c.val = 4224 + s.val) (n : Fin 5536) (hn : n.val = 2336 + s.val) : wall W (ix2 k c) = W (ix2 k n) := by
  rw [wall_eq, side9 _ _ _ _ _ _ _ _ _ _ _ k s c hc]
  exact slice_at 2336 W _ k s n hn
theorem wall_plain2464 (k : Fin 1024) (s : Fin 3072) (c : Fin 7424) (hc : c.val = 4352 + s.val) (n : Fin 5536) (hn : n.val = 2464 + s.val) : wall W (ix2 k c) = W (ix2 k n) := by
  rw [wall_eq, side10 _ _ _ _ _ _ _ _ _ _ _ k s c hc]
  exact slice_at 2464 W _ k s n hn

end Cert.Kernel5Ideal.PValue

end
-- ==== Proof.ProjRot.lean ====
/- The projections' tables and rotations read at an index, at the ideal instance. -/
module

public import proofs.«01_k».proof.Proof.ProjAt

@[expose] public section

set_option maxRecDepth 16384

noncomputable section

open Idealize.ShloMosaic Idealize.ShloMosaic.TcCoe Idealize.SL.Sem
open Idealize.ShloMosaic.Pipeline (Dat)

namespace Cert.Kernel5Ideal.PValue

open Cert.Kernel5Ideal Cert.Kernel5Ideal.Gen Cert.Slots

/-- The block-diagonal matrix at an index: a head's own block is its key projection. -/
theorem diag_at (U : FVec Ideal S128x8x64 .f32) (e : Fin 512) (s : Fin 1024) :
    diag U (ix2 e s) = U (ix3 ⟨s.val % 128, by omega⟩ ⟨e.val / 64, by omega⟩ ⟨e.val % 64, by omega⟩) * eye (ix2 ⟨e.val / 64, by omega⟩ ⟨s.val / 128, by omega⟩) := by
  unfold diag
  generalize eye = E
  pointwise

theorem cat64_first (A B : FVec Ideal S4096x32 .f32) (p : Fin 4096) (n : Fin 64) (h : n.val < 32) :
    concatenate S4096x64 1 [⟨S4096x32, A⟩, ⟨S4096x32, B⟩] concatenates_S4096x32_S4096x32_S4096x64_d1 (ix2 p n) = A (ix2 p ⟨n.val, h⟩) := by
  pointwise [h]

theorem cat64_second (A B : FVec Ideal S4096x32 .f32) (p : Fin 4096) (n : Fin 64) (h : ¬ n.val < 32) :
    concatenate S4096x64 1 [⟨S4096x32, A⟩, ⟨S4096x32, B⟩] concatenates_S4096x32_S4096x32_S4096x64_d1 (ix2 p n) = B (ix2 p ⟨n.val - 32, by omega⟩) := by
  pointwise [h]

theorem cat32_first (A B : FVec Ideal S4096x16 .f32) (p : Fin 4096) (n : Fin 32) (h : n.val < 16) :
    concatenate S4096x32 1 [⟨S4096x16, A⟩, ⟨S4096x16, B⟩] concatenates_S4096x16_S4096x16_S4096x32_d1 (ix2 p n) = A (ix2 p ⟨n.val, h⟩) := by
  pointwise [h]

theorem cat32_second (A B : FVec Ideal S4096x16 .f32) (p : Fin 4096) (n : Fin 32) (h : ¬ n.val < 16) :
    concatenate S4096x32 1 [⟨S4096x16, A⟩, ⟨S4096x16, B⟩] concatenates_S4096x16_S4096x16_S4096x32_d1 (ix2 p n) = B (ix2 p ⟨n.val - 16, by omega⟩) := by
  pointwise [h]

theorem tile64_at (T : FVec Ideal S4096x64 .f32) (p : Fin 4096) (l : Fin 128) :
    shapeCast S4096x128 (broadcastInDim S1x4096x2x64 ![0, 1, 2, 3] bcast_S1x4096x1x64_S1x4096x2x64_0_1_2_3 (shapeCast S1x4096x1x64 T shapeCasts_S4096x64_S1x4096x1x64)) shapeCasts_S1x4096x2x64_S4096x128 (ix2 p l)
      = T (ix2 p ⟨l.val % 64, by omega⟩) := by
  pointwise

theorem tile32_at (T : FVec Ideal S4096x32 .f32) (p : Fin 4096) (l : Fin 128) :
    shapeCast S4096x128 (broadcastInDim S1x4096x4x32 ![0, 1, 2, 3] bcast_S1x4096x1x32_S1x4096x4x32_0_1_2_3 (shapeCast S1x4096x1x32 T shapeCasts_S4096x32_S1x4096x1x32)) shapeCasts_S1x4096x4x32_S4096x128 (ix2 p l)
      = T (ix2 p ⟨l.val % 32, by omega⟩) := by
  pointwise

theorem tab64_at (A B : FVec Ideal S4096x32 .f32) (p : Fin 4096) (l : Fin 128) :
    tab64 A B (ix2 p l) = if l.val % 64 < 32 then A (ix2 p ⟨l.val % 32, by omega⟩) else B (ix2 p ⟨l.val % 32, by omega⟩) := by
  unfold tab64
  rw [tile64_at]
  by_cases h : l.val % 64 < 32
  · rw [if_pos h, cat64_first _ _ _ _ h]
    exact congrArg (fun n => A (ix2 p n)) (Fin.ext (by dsimp only; omega))
  · rw [if_neg h, cat64_second _ _ _ _ h]
    exact congrArg (fun n => B (ix2 p n)) (Fin.ext (by dsimp only; omega))

theorem tab32_at (A B : FVec Ideal S4096x16 .f32) (p : Fin 4096) (l : Fin 128) :
    tab32 A B (ix2 p l) = if l.val % 32 < 16 then A (ix2 p ⟨l.val % 16, by omega⟩) else B (ix2 p ⟨l.val % 16, by omega⟩) := by
  unfold tab32
  rw [tile32_at]
  by_cases h : l.val % 32 < 16
  · rw [if_pos h, cat32_first _ _ _ _ h]
    exact congrArg (fun n => A (ix2 p n)) (Fin.ext (by dsimp only; omega))
  · rw [if_neg h, cat32_second _ _ _ _ h]
    exact congrArg (fun n => B (ix2 p n)) (Fin.ext (by dsimp only; omega))

/-- The rotation of 64 and of 32 features by a position's angles. -/
def rot64 (u : ℕ → EReal) (C S : Fin 32 → EReal) (n : ℕ) : EReal :=
  if n < 32 then u n * C ⟨n % 32, by omega⟩ - u (n + 32) * S ⟨n % 32, by omega⟩ else u n * C ⟨n % 32, by omega⟩ + u (n - 32) * S ⟨n % 32, by omega⟩

def rot32 (u : ℕ → EReal) (C S : Fin 16 → EReal) (n : ℕ) : EReal :=
  if n < 16 then u n * C ⟨n % 16, by omega⟩ - u (n + 16) * S ⟨n % 16, by omega⟩ else u n * C ⟨n % 16, by omega⟩ + u (n - 16) * S ⟨n % 16, by omega⟩

theorem rp64_rot (P c s : FVec Ideal S512x128 .f32) (y : Fin 512) (l : Fin 128) (u : ℕ → EReal) (C S : Fin 32 → EReal)
    (hP : ∀ e : Fin 128, e.val / 64 = l.val / 64 → P (ix2 y e) = u (e.val % 64))
    (hc : c (ix2 y l) = C ⟨l.val % 32, by omega⟩)
    (hs : s (ix2 y l) = if l.val % 64 < 32 then -S ⟨l.val % 32, by omega⟩ else S ⟨l.val % 32, by omega⟩) :
    rp64 P c s (ix2 y l) = rot64 u C S (l.val % 64) := by
  have hm : (⟨l.val % 64 % 32, by omega⟩ : Fin 32) = ⟨l.val % 32, by omega⟩ := Fin.ext (by dsimp only; omega)
  rw [rp64_at, hc, hs, hP l rfl]
  unfold rot64
  rw [hm]
  by_cases h : l.val % 64 < 32
  · rw [if_pos h, if_pos h, if_pos h, hP _ (by dsimp only; omega), show (l.val + 32) % 128 % 64 = l.val % 64 + 32 by omega, mul_neg, ← sub_eq_add_neg]
  · rw [if_neg h, if_neg h, if_neg h, hP _ (by dsimp only; omega), show (l.val + 96) % 128 % 64 = l.val % 64 - 32 by omega]

theorem rp64_zero (P c s : FVec Ideal S512x128 .f32) (y : Fin 512) (l : Fin 128) (hP : ∀ e : Fin 128, e.val / 64 = l.val / 64 → P (ix2 y e) = 0) :
    rp64 P c s (ix2 y l) = 0 := by
  rw [rp64_at, hP l rfl, zero_mul, zero_add]
  split
  · rw [hP _ (by dsimp only; omega), zero_mul]
  · rw [hP _ (by dsimp only; omega), zero_mul]

theorem rp32_rot (P c s : FVec Ideal S512x128 .f32) (y : Fin 512) (l : Fin 128) (u : ℕ → EReal) (C S : Fin 16 → EReal)
    (hP : ∀ e : Fin 128, e.val / 32 = l.val / 32 → P (ix2 y e) = u (e.val % 32))
    (hc : c (ix2 y l) = C ⟨l.val % 16, by omega⟩)
    (hs : s (ix2 y l) = if l.val % 32 < 16 then -S ⟨l.val % 16, by omega⟩ else S ⟨l.val % 16, by omega⟩) :
    rp32 P c s (ix2 y l) = rot32 u C S (l.val % 32) := by
  have hm : (⟨l.val % 32 % 16, by omega⟩ : Fin 16) = ⟨l.val % 16, by omega⟩ := Fin.ext (by dsimp only; omega)
  rw [rp32_at, hc, hs, hP l rfl]
  unfold rot32
  rw [hm]
  by_cases h : l.val % 32 < 16
  · rw [if_pos h, if_pos h, if_pos h, hP _ (by dsimp only; omega), show (l.val + 16) % 128 % 32 = l.val % 32 + 16 by omega, mul_neg, ← sub_eq_add_neg]
  · rw [if_neg h, if_neg h, if_neg h, hP _ (by dsimp only; omega), show (l.val + 112) % 128 % 32 = l.val % 32 - 16 by omega]

theorem rp32_zero (P c s : FVec Ideal S512x128 .f32) (y : Fin 512) (l : Fin 128) (hP : ∀ e : Fin 128, e.val / 32 = l.val / 32 → P (ix2 y e) = 0) :
    rp32 P c s (ix2 y l) = 0 := by
  rw [rp32_at, hP l rfl, zero_mul, zero_add]
  split
  · rw [hP _ (by dsimp only; omega), zero_mul]
  · rw [hP _ (by dsimp only; omega), zero_mul]

/-- All rows by all features. -/
abbrev S16384x5536 : Shape := ⟨2, ![16384, 5536]⟩

/-- The rows' projection, all features of it. -/
def proj (x : FVec Ideal S16384x1024 .f32) (g : FVec Ideal S1024 .f32) (W : FVec Ideal S1024x5536 .f32) : FVec Ideal S16384x5536 .f32 :=
  fun i => ∑ k : Fin 1024, nrm (fun k => x (ix2 (i 0) k)) (fun k => g (ix1 k)) k * W (ix2 k (i 1))

section Spec
variable (Y : FVec Ideal S16384x5536 .f32)

/-- One feature of a row. -/
def feat (r : Fin 16384) (j : ℕ) : EReal := Y (ix2 r ⟨j % 5536, Nat.mod_lt _ (by decide)⟩)

theorem feat_eq (r : Fin 16384) (j : ℕ) (n : Fin 5536) (h : n.val = j) : feat Y r j = Y (ix2 r n) :=
  congrArg (fun n => Y (ix2 r n)) (Fin.ext ((Nat.mod_eq_of_lt (h ▸ n.isLt)).trans h.symm))

/-- A row's position in its sequence, and the cosines and sines there. -/
def posn (r : Fin 16384) : Fin 4096 := ⟨r.val % 4096, Nat.mod_lt _ (by decide)⟩
def cos64 (r : Fin 16384) (n : Fin 32) : EReal := Host.cos ang64 (ix2 (posn r) n)
def sin64 (r : Fin 16384) (n : Fin 32) : EReal := Host.sin ang64 (ix2 (posn r) n)
def cos32 (r : Fin 16384) (n : Fin 16) : EReal := Host.cos ang32 (ix2 (posn r) n)
def sin32 (r : Fin 16384) (n : Fin 16) : EReal := Host.sin ang32 (ix2 (posn r) n)

def sbqAt (r : Fin 16384) (s : Fin 1024) : EReal :=
  if s.val % 128 / 64 = s.val / 512 then feat Y r (s.val / 128 * 64 + s.val % 64) * Ideal.ofBits .f32 0x3E000000#32 else 0
def qlatAt (U : FVec Ideal S128x8x64 .f32) (r : Fin 16384) (s : Fin 1024) : EReal :=
  ∑ n : Fin 64, U (ix3 ⟨s.val % 128, by omega⟩ ⟨s.val / 128, by omega⟩ n) * feat Y r (768 + 96 * (s.val / 128) + n.val)
def qropeAt (r : Fin 16384) (s : Fin 1024) : EReal :=
  if s.val % 128 < 32 then rot32 (fun j => feat Y r (832 + 96 * (s.val / 128) + j)) (cos32 r) (sin32 r) (s.val % 128) else 0
def ckvAt (γ : FVec Ideal S128 .f32) (r : Fin 16384) (l : Fin 128) : EReal :=
  nrm128 (fun k => feat Y r (1536 + k.val)) (fun k => γ (ix1 k)) l
def krAt (r : Fin 16384) (l : ℕ) : EReal := rot32 (fun j => feat Y r (1664 + j)) (cos32 r) (sin32 r) l
def kcatAt (γ : FVec Ideal S128 .f32) (r : Fin 16384) (l : Fin 256) : EReal :=
  if h : l.val < 128 then ckvAt Y γ r ⟨l.val, h⟩ else if l.val < 160 then krAt Y r (l.val - 128) else 0
def mbqAt (r : Fin 16384) (s : Fin 1024) : EReal :=
  if s.val % 128 / 64 = s.val / 512 then rot64 (fun j => feat Y r (1696 + (s.val / 128 * 64 + j))) (cos64 r) (sin64 r) (s.val % 64) else 0
def mbkAt (r : Fin 16384) (l : Fin 128) : EReal :=
  rot64 (fun j => feat Y r (2208 + (l.val / 64 * 64 + j))) (cos64 r) (sin64 r) (l.val % 64)

def Gsbq : FVec Ideal S16384x1024 .bf16 := fun i => sbqAt Y (i 0) (i 1)
def Gcut (o : ℕ) : FVec Ideal S16384x128 .f32 := fun i => feat Y (i 0) (o + (i 1).val)
def Gqlat (U : FVec Ideal S128x8x64 .f32) : FVec Ideal S16384x1024 .bf16 := fun i => qlatAt Y U (i 0) (i 1)
def Gqrope : FVec Ideal S16384x1024 .bf16 := fun i => qropeAt Y (i 0) (i 1)
def Gckv (γ : FVec Ideal S128 .f32) : FVec Ideal S16384x128 .f32 := fun i => ckvAt Y γ (i 0) (i 1)
def Gkr : FVec Ideal S16384x32 .f32 := fun i => krAt Y (i 0) (i 1).val
def Gkcat (γ : FVec Ideal S128 .f32) : FVec Ideal S16384x256 .bf16 := fun i => kcatAt Y γ (i 0) (i 1)
def Gmbq : FVec Ideal S16384x1024 .f32 := fun i => mbqAt Y (i 0) (i 1)
def Gmbk : FVec Ideal S16384x128 .f32 := fun i => mbkAt Y (i 0) (i 1)
def Ggates : FVec Ideal S16384x3072 .f32 := fun i => Ideal.logistic (feat Y (i 0) (2464 + (i 1).val))

end Spec

end Cert.Kernel5Ideal.PValue

end
-- ==== Proof.ProjOut.lean ====
/- The projections' windows at the ideal instance, block by block. -/
module

public import proofs.«01_k».proof.Proof.ProjRot

@[expose] public section

set_option maxRecDepth 16384

noncomputable section

open Idealize.ShloMosaic Idealize.ShloMosaic.TcCoe Idealize.SL.Sem
open Idealize.ShloMosaic.Pipeline (Dat)

namespace Cert.Kernel5Ideal.PValue

open Cert.Kernel5Ideal Cert.Kernel5Ideal.Gen

section Block
variable (N : FVec Ideal S512x1024 .bf16) (W : Vec Ideal S1024x7424 .bf16)

/-- A row against one of the columns side by side. -/
def big (y : Fin 512) (j : ℕ) : EReal := ∑ k : Fin 1024, N (ix2 y k) * W (ix2 k ⟨j % 7424, Nat.mod_lt _ (by decide)⟩)

/-- A hundred and twenty-eight of the columns. -/
def cut (o : ℕ) : Vec Ideal S1024x128 .bf16 := fun i => W (ix2 (i 0) ⟨(o + (i 1).val) % 7424, Nat.mod_lt _ (by decide)⟩)
def cut512 (o : ℕ) : Vec Ideal S1024x512 .bf16 := fun i => W (ix2 (i 0) ⟨(o + (i 1).val) % 7424, Nat.mod_lt _ (by decide)⟩)

theorem ld_cut (o : ℕ) (h : ∀ d, (![0, o] : Fin 2 → ℕ) d + S1024x128.size d ≤ S1024x7424.size d) :
    View.ld W (Rect.unit (s := S1024x7424) ![0, o] S1024x128.size h) = cut W o := by
  funext i
  have h1 : o + 128 ≤ 7424 := h 1
  have h2 : (i 1).val < 128 := (i 1).isLt
  refine congrArg W (funext fun d => Fin.ext ?_)
  match d with
  | 0 => simp [Rect.emb, Rect.unit]
  | 1 =>
    have : (o + (i 1).val) % 7424 = o + (i 1).val := Nat.mod_eq_of_lt (by omega)
    simp [Rect.emb, Rect.unit, this]

theorem ld_cut512 (o : ℕ) (h : ∀ d, (![0, o] : Fin 2 → ℕ) d + S1024x512.size d ≤ S1024x7424.size d) :
    View.ld W (Rect.unit (s := S1024x7424) ![0, o] S1024x512.size h) = cut512 W o := by
  funext i
  have h1 : o + 512 ≤ 7424 := h 1
  have h2 : (i 1).val < 512 := (i 1).isLt
  refine congrArg W (funext fun d => Fin.ext ?_)
  match d with
  | 0 => simp [Rect.emb, Rect.unit]
  | 1 =>
    have : (o + (i 1).val) % 7424 = o + (i 1).val := Nat.mod_eq_of_lt (by omega)
    simp [Rect.emb, Rect.unit, this]

/-- A window of a block stored a hundred and twenty-eight lanes at a time. -/
def tiles (f : ℕ → S512x128.Idx → EReal) : S512x1024.Idx → EReal :=
  fun i => f ((i 1).val / 128 * 128) (ix2 (i 0) ⟨(i 1).val % 128, Nat.mod_lt _ (by decide)⟩)

theorem tile_at (f : ℕ → S512x128.Idx → EReal) (o : ℕ) (ho : o % 128 = 0)
    (h : ∀ d, (![0, o] : Fin 2 → ℕ) d + S512x128.size d ≤ S512x1024.size d) (x : S512x128.Idx) :
    f o x = tiles f ((Rect.unit (s := S512x1024) ![0, o] S512x128.size h).emb x) := by
  obtain ⟨y, z, rfl⟩ : ∃ (y : Fin 512) (z : Fin 128), x = ix2 y z := ⟨x 0, x 1, (ix2_eta x).symm⟩
  have e1 : (((Rect.unit (s := S512x1024) ![0, o] S512x128.size h).emb (ix2 y z)) 1).val = o + z.val := by simp [Rect.emb, Rect.unit]
  have e0 : ((Rect.unit (s := S512x1024) ![0, o] S512x128.size h).emb (ix2 y z)) 0 = y := Fin.ext (by simp [Rect.emb, Rect.unit])
  unfold tiles
  simp only [e1]
  rw [e0, show (o + z.val) / 128 * 128 = o by omega]
  exact congrArg (fun n => f o (ix2 y n)) (Fin.ext (by dsimp only; omega))

def tiles512 (f : ℕ → S512x512.Idx → EReal) : S512x3072.Idx → EReal :=
  fun i => f ((i 1).val / 512 * 512) (ix2 (i 0) ⟨(i 1).val % 512, Nat.mod_lt _ (by decide)⟩)

theorem tile512_at (f : ℕ → S512x512.Idx → EReal) (o : ℕ) (ho : o % 512 = 0)
    (h : ∀ d, (![0, o] : Fin 2 → ℕ) d + S512x512.size d ≤ S512x3072.size d) (x : S512x512.Idx) :
    f o x = tiles512 f ((Rect.unit (s := S512x3072) ![0, o] S512x512.size h).emb x) := by
  obtain ⟨y, z, rfl⟩ : ∃ (y : Fin 512) (z : Fin 512), x = ix2 y z := ⟨x 0, x 1, (ix2_eta x).symm⟩
  have e1 : (((Rect.unit (s := S512x3072) ![0, o] S512x512.size h).emb (ix2 y z)) 1).val = o + z.val := by simp [Rect.emb, Rect.unit]
  have e0 : ((Rect.unit (s := S512x3072) ![0, o] S512x512.size h).emb (ix2 y z)) 0 = y := Fin.ext (by simp [Rect.emb, Rect.unit])
  unfold tiles512
  simp only [e1]
  rw [e0, show (o + z.val) / 512 * 512 = o by omega]
  exact congrArg (fun n => f o (ix2 y n)) (Fin.ext (by dsimp only; omega))

end Block

variable (m : (ℓ : Loc nD τ sig) → Buf (Elt Ideal) ℓ)

/-- The block's normalised rows. -/
abbrev NB (c : Dev nD) (t : Fin cfg0.N) : FVec Ideal S512x1024 .bf16 := k0_pay1 (F := Ideal) (iblk m c 0 t) (iblk m c 1 t)

/-- The block's weights, its tables and the projection of all rows. -/
abbrev WB (c : Dev nD) (t : Fin cfg0.N) : Vec Ideal S1024x7424 .bf16 := iblk m c 2 t
abbrev CB64 (c : Dev nD) (t : Fin cfg0.N) : FVec Ideal S512x128 .f32 := k0_pay2 (F := Ideal) (iblk m c 5 t)
abbrev SB64 (c : Dev nD) (t : Fin cfg0.N) : FVec Ideal S512x128 .f32 := k0_pay3 (F := Ideal) (iblk m c 6 t)
abbrev CB32 (c : Dev nD) (t : Fin cfg0.N) : FVec Ideal S512x128 .f32 := k0_pay4 (F := Ideal) (iblk m c 7 t)
abbrev SB32 (c : Dev nD) (t : Fin cfg0.N) : FVec Ideal S512x128 .f32 := k0_pay5 (F := Ideal) (iblk m c 8 t)
abbrev YY (c : Dev nD) : FVec Ideal S16384x5536 .f32 := proj (a0 m c) (a1 m c) (a2 m c)

theorem idx : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 := by decide +kernel
theorem idxT : ∀ t : Fin grid0.N, win0_5.index t 0 = t.val % 8 ∧ win0_5.index t 1 = 0 ∧ win0_6.index t 0 = t.val % 8 ∧ win0_6.index t 1 = 0
    ∧ win0_7.index t 0 = t.val % 8 ∧ win0_7.index t 1 = 0 ∧ win0_8.index t 0 = t.val % 8 ∧ win0_8.index t 1 = 0 := by decide +kernel
theorem idxO : ∀ t : Fin grid0.N, win0_9.index t 0 = t.val ∧ win0_9.index t 1 = 0 ∧ win0_10.index t 0 = t.val ∧ win0_10.index t 1 = 0
    ∧ win0_11.index t 0 = t.val ∧ win0_11.index t 1 = 0 ∧ win0_12.index t 0 = t.val ∧ win0_12.index t 1 = 0
    ∧ win0_13.index t 0 = t.val ∧ win0_13.index t 1 = 0 ∧ win0_14.index t 0 = t.val ∧ win0_14.index t 1 = 0
    ∧ win0_15.index t 0 = t.val ∧ win0_15.index t 1 = 0 ∧ win0_16.index t 0 = t.val ∧ win0_16.index t 1 = 0 := by decide +kernel
theorem idxP : ∀ t : Fin grid0.N, win0_17.index t 0 = t.val ∧ win0_17.index t 1 = 0 ∧ win0_18.index t 0 = t.val ∧ win0_18.index t 1 = 0
    ∧ win0_19.index t 0 = t.val ∧ win0_19.index t 1 = 0 ∧ win0_20.index t 0 = t.val ∧ win0_20.index t 1 = 0
    ∧ win0_21.index t 0 = t.val ∧ win0_21.index t 1 = 0 ∧ win0_22.index t 0 = t.val ∧ win0_22.index t 1 = 0
    ∧ win0_23.index t 0 = t.val ∧ win0_23.index t 1 = 0 ∧ win0_24.index t 0 = t.val ∧ win0_24.index t 1 = 0 := by decide +kernel

/-- A block's row among all rows. -/
abbrev row (t : Fin cfg0.N) (y : Fin 512) : Fin 16384 := ⟨512 * t.val + y.val, by have : t.val < 32 := t.isLt; omega⟩

/-- A block's row among the positions. -/
abbrev prow (t : Fin cfg0.N) (y : Fin 512) : Fin 4096 := ⟨512 * (t.val % 8) + y.val, by omega⟩

theorem prow_eq (t : Fin cfg0.N) (y : Fin 512) : posn (row t y) = prow t y := Fin.ext (by
  have : t.val < 32 := t.isLt
  show (512 * t.val + y.val) % 4096 = 512 * (t.val % 8) + y.val
  omega)

theorem iblk0_at (c : Dev nD) (t : Fin cfg0.N) (y : Fin 512) (x : Fin 1024) : iblk m c 0 t (ix2 y x) = a0 m c (ix2 (row t y) x) := by
  have e : iblk m c 0 t (ix2 y x) = V m c main_arg0 (ix2 (row t y) x) := by
    blk_ext [iblk, idx t]
  rw [e]
  rfl

theorem row_at (γ : FVec Ideal S1024 .f32) (x : Fin 1024) : shapeCast S1x1024 γ shapeCasts_S1024_S1x1024 (ix2 0 x) = γ (ix1 x) := by pointwise
theorem row128_at (γ : FVec Ideal S128 .f32) (x : Fin 128) : shapeCast S1x128 γ shapeCasts_S128_S1x128 (ix2 0 x) = γ (ix1 x) := by pointwise

theorem iblk1_at (c : Dev nD) (t : Fin cfg0.N) (x : Fin 1024) : iblk m c 1 t (ix2 0 x) = a1 m c (ix1 x) := by
  have e : iblk m c 1 t (ix2 0 x) = V m c main_v112 (ix2 0 x) := by
    blk_ext [iblk, idx t]
  rw [e, V_v112]
  exact row_at _ x

theorem iblk2_at (c : Dev nD) (t : Fin cfg0.N) (k : Fin 1024) (j : Fin 7424) : iblk m c 2 t (ix2 k j) = wall (a2 m c) (ix2 k j) := by
  have e : iblk m c 2 t (ix2 k j) = V m c main_v50 (ix2 k j) := by
    blk_ext [iblk, idx t]
  rw [e, V_v50]

theorem WB_at (c : Dev nD) (t : Fin cfg0.N) (k : Fin 1024) (j : Fin 7424) : WB m c t (ix2 k j) = wall (a2 m c) (ix2 k j) := iblk2_at m c t k j

theorem proj_at (x : FVec Ideal S16384x1024 .f32) (g : FVec Ideal S1024 .f32) (W : FVec Ideal S1024x5536 .f32) (r : Fin 16384) (n : Fin 5536) :
    proj x g W (ix2 r n) = ∑ k : Fin 1024, nrm (fun k => x (ix2 r k)) (fun k => g (ix1 k)) k * W (ix2 k n) := rfl

theorem iblk3_at (c : Dev nD) (t : Fin cfg0.N) (x : Fin 128) : iblk m c 3 t (ix2 0 x) = a3 m c (ix1 x) := by
  have e : iblk m c 3 t (ix2 0 x) = V m c main_v113 (ix2 0 x) := by
    blk_ext [iblk, idx t]
  rw [e, V_v113]
  exact row128_at _ x

theorem iblk4_at (c : Dev nD) (t : Fin cfg0.N) (k : Fin 512) (j : Fin 1024) : iblk m c 4 t (ix2 k j) = diag (a4 m c) (ix2 k j) := by
  have e : iblk m c 4 t (ix2 k j) = V m c main_v64 (ix2 k j) := by
    blk_ext [iblk, idx t]
  rw [e, V_v64]

theorem same_at (X : Vec Ideal S512x128 .f32) (y : Fin 512) (l : Fin 128) : k0_pay2 (F := Ideal) X (ix2 y l) = X (ix2 y l) := by
  pointwise [k0_pay2]

theorem c64_at (c : Dev nD) (t : Fin cfg0.N) (y : Fin 512) (l : Fin 128) : CB64 m c t (ix2 y l) = cos64 (row t y) ⟨l.val % 32, by omega⟩ := by
  have e : iblk m c 5 t (ix2 y l) = V m c main_v83 (ix2 (prow t y) l) := by
    blk_ext [iblk, idxT t]
  refine (same_at _ y l).trans ?_
  rw [e, V_v83, tab64_at, ite_self]
  unfold cos64
  rw [prow_eq]

theorem c32_at (c : Dev nD) (t : Fin cfg0.N) (y : Fin 512) (l : Fin 128) : CB32 m c t (ix2 y l) = cos32 (row t y) ⟨l.val % 16, by omega⟩ := by
  have e : iblk m c 7 t (ix2 y l) = V m c main_v106 (ix2 (prow t y) l) := by
    blk_ext [iblk, idxT t]
  refine (same_at _ y l).trans ?_
  rw [e, V_v106, tab32_at, ite_self]
  unfold cos32
  rw [prow_eq]

theorem s64_at (c : Dev nD) (t : Fin cfg0.N) (y : Fin 512) (l : Fin 128) :
    SB64 m c t (ix2 y l) = if l.val % 64 < 32 then -sin64 (row t y) ⟨l.val % 32, by omega⟩ else sin64 (row t y) ⟨l.val % 32, by omega⟩ := by
  have e : iblk m c 6 t (ix2 y l) = V m c main_v88 (ix2 (prow t y) l) := by
    blk_ext [iblk, idxT t]
  refine (same_at _ y l).trans ?_
  rw [e, V_v88, tab64_at]
  unfold sin64
  rw [prow_eq]
  rfl

theorem s32_at (c : Dev nD) (t : Fin cfg0.N) (y : Fin 512) (l : Fin 128) :
    SB32 m c t (ix2 y l) = if l.val % 32 < 16 then -sin32 (row t y) ⟨l.val % 16, by omega⟩ else sin32 (row t y) ⟨l.val % 16, by omega⟩ := by
  have e : iblk m c 8 t (ix2 y l) = V m c main_v111 (ix2 (prow t y) l) := by
    blk_ext [iblk, idxT t]
  refine (same_at _ y l).trans ?_
  rw [e, V_v111, tab32_at]
  unfold sin32
  rw [prow_eq]
  rfl

theorem NB_at (c : Dev nD) (t : Fin cfg0.N) (y : Fin 512) (k : Fin 1024) :
    NB m c t (ix2 y k) = nrm (fun k => a0 m c (ix2 (row t y) k)) (fun k => a1 m c (ix1 k)) k := by
  refine (norm_at _ _ y k).trans ?_
  simp only [iblk0_at, iblk1_at]

/-- A column of the block's product is a feature of the row, where the column is the feature's; a zero column's is zero. -/
theorem big_own (c : Dev nD) (t : Fin cfg0.N) (y : Fin 512) (j n : ℕ) (hj : j < 7424) (hn : n < 5536)
    (h : ∀ k, wall (a2 m c) (ix2 k ⟨j, hj⟩) = a2 m c (ix2 k ⟨n, hn⟩)) : big (NB m c t) (WB m c t) y j = feat (YY m c) (row t y) n := by
  rw [feat_eq _ _ n ⟨n, hn⟩ rfl]
  refine Eq.trans ?_ (proj_at (a0 m c) (a1 m c) (a2 m c) (row t y) ⟨n, hn⟩).symm
  refine Finset.sum_congr rfl fun k _ => ?_
  rw [NB_at, WB_at, show (⟨j % 7424, Nat.mod_lt _ (by decide)⟩ : Fin 7424) = ⟨j, hj⟩ from Fin.ext (Nat.mod_eq_of_lt hj), h]

theorem big_zero (c : Dev nD) (t : Fin cfg0.N) (y : Fin 512) (j : ℕ) (hj : j < 7424)
    (h : ∀ k, wall (a2 m c) (ix2 k ⟨j, hj⟩) = 0) : big (NB m c t) (WB m c t) y j = 0 := by
  refine Finset.sum_eq_zero fun k _ => ?_
  rw [WB_at, show (⟨j % 7424, Nat.mod_lt _ (by decide)⟩ : Fin 7424) = ⟨j, hj⟩ from Fin.ext (Nat.mod_eq_of_lt hj), h, mul_zero]

theorem pcut_at (N : FVec Ideal S512x1024 .bf16) (W : Vec Ideal S1024x7424 .bf16) (o : ℕ) (y : Fin 512) (l : Fin 128) :
    k0_pay9 (F := Ideal) N (cut W o) (ix2 y l) = big N W y (o + l.val) := prod_at N _ y l

end Cert.Kernel5Ideal.PValue

end
-- ==== Proof.ProjWin.lean ====
/- The projections' windows at the ideal instance, over all rows. -/
module

public import proofs.«01_k».proof.Proof.ProjOut

@[expose] public section

set_option maxRecDepth 16384

noncomputable section

open Idealize.ShloMosaic Idealize.ShloMosaic.TcCoe Idealize.SL.Sem
open Idealize.ShloMosaic.Pipeline (Dat)

namespace Cert.Kernel5Ideal.PValue

open Cert.Kernel5Ideal Cert.Kernel5Ideal.Gen

variable (m : (ℓ : Loc nD τ sig) → Buf (Elt Ideal) ℓ)

/-- The head's own 64 of the 512 columns are the only ones that count. -/
theorem sum_block (f : Fin 512 → EReal) (h : Fin 8) (g : Fin 64 → EReal) (e : ∀ n : Fin 64, f ⟨64 * h.val + n.val, by omega⟩ = g n)
    (e0 : ∀ i : Fin 512, i.val / 64 ≠ h.val → f i = 0) : ∑ i, f i = ∑ n, g n := by
  symm
  refine Fintype.sum_of_injective (fun n : Fin 64 => (⟨64 * h.val + n.val, by omega⟩ : Fin 512)) ?_ g f ?_ fun n => (e n).symm
  · intro i j hij
    have := congrArg Fin.val hij
    dsimp only at this
    exact Fin.ext (by omega)
  · intro i hi
    refine e0 i fun he => hi ⟨⟨i.val % 64, by omega⟩, Fin.ext ?_⟩
    dsimp only
    omega

/-- A hundred and twenty-eight plain columns. -/
theorem sbk_big (c : Dev nD) (t : Fin cfg0.N) (y : Fin 512) (l : Fin 128) : big (NB m c t) (WB m c t) y (1024 + l.val) = feat (YY m c) (row t y) (512 + l.val) :=
  big_own m c t y _ _ (by omega) (by omega) fun k => wall_plain512 _ k l _ rfl _ rfl
theorem sbv_big (c : Dev nD) (t : Fin cfg0.N) (y : Fin 512) (l : Fin 128) : big (NB m c t) (WB m c t) y (1152 + l.val) = feat (YY m c) (row t y) (640 + l.val) :=
  big_own m c t y _ _ (by omega) (by omega) fun k => wall_plain640 _ k l _ rfl _ rfl
theorem ckv_big (c : Dev nD) (t : Fin cfg0.N) (y : Fin 512) (l : Fin 128) : big (NB m c t) (WB m c t) y (2816 + l.val) = feat (YY m c) (row t y) (1536 + l.val) :=
  big_own m c t y _ _ (by omega) (by omega) fun k => wall_plain1536 _ k l _ rfl _ rfl
theorem mbk_big (c : Dev nD) (t : Fin cfg0.N) (y : Fin 512) (l : Fin 128) : big (NB m c t) (WB m c t) y (4096 + l.val) = feat (YY m c) (row t y) (2208 + l.val) :=
  big_own m c t y _ _ (by omega) (by omega) fun k => wall_plain2208 _ k l _ rfl _ rfl
theorem mbv_big (c : Dev nD) (t : Fin cfg0.N) (y : Fin 512) (l : Fin 128) : big (NB m c t) (WB m c t) y (4224 + l.val) = feat (YY m c) (row t y) (2336 + l.val) :=
  big_own m c t y _ _ (by omega) (by omega) fun k => wall_plain2336 _ k l _ rfl _ rfl

theorem ckv_row (c : Dev nD) (t : Fin cfg0.N) (y : Fin 512) (l : Fin 128) :
    k0_pay63 (F := Ideal) (NB m c t) (cut (WB m c t) 2816) (iblk m c 3 t) (ix2 y l) = ckvAt (YY m c) (a3 m c) (row t y) l := by
  refine (ckv_at _ _ _ y l).trans ?_
  unfold ckvAt
  refine congrArg₂ (fun a b => nrm128 a b l) (funext fun k => ckv_big m c t y k) (funext fun k => iblk3_at m c t k)

/-- The rope keys' 128 lanes, 32 of them the rotated features and the others zero. -/
theorem kr_row (c : Dev nD) (t : Fin cfg0.N) (y : Fin 512) (l : Fin 128) :
    rp32 (k0_pay9 (F := Ideal) (NB m c t) (cut (WB m c t) 2944)) (CB32 m c t) (SB32 m c t) (ix2 y l) = if l.val < 32 then krAt (YY m c) (row t y) l.val else 0 := by
  by_cases h : l.val < 32
  · rw [if_pos h]
    refine (rp32_rot _ _ _ y l (fun j => feat (YY m c) (row t y) (1664 + j)) (cos32 (row t y)) (sin32 (row t y)) (fun e he => ?_) (c32_at m c t y l) (s32_at m c t y l)).trans ?_
    · rw [pcut_at]
      have h1 : e.val < 32 := by omega
      rw [Nat.mod_eq_of_lt h1]
      exact big_own m c t y _ _ (by omega) (by omega) fun k => wall_ropek_in _ k e _ rfl h1 _ rfl
    · rw [Nat.mod_eq_of_lt h]
      rfl
  · rw [if_neg h]
    refine rp32_zero _ _ _ y l fun e he => ?_
    rw [pcut_at]
    exact big_zero m c t y _ (by omega) fun k => wall_ropek_out _ k e _ rfl (by omega)

theorem mbk_row (c : Dev nD) (t : Fin cfg0.N) (y : Fin 512) (l : Fin 128) :
    rp64 (k0_pay9 (F := Ideal) (NB m c t) (cut (WB m c t) 4096)) (CB64 m c t) (SB64 m c t) (ix2 y l) = mbkAt (YY m c) (row t y) l := by
  refine rp64_rot _ _ _ y l (fun j => feat (YY m c) (row t y) (2208 + (l.val / 64 * 64 + j))) _ _ (fun e he => ?_) (c64_at m c t y l) (s64_at m c t y l)
  rw [pcut_at, mbk_big]
  exact congrArg (feat _ _) (by omega)

theorem scut_at (N : FVec Ideal S512x1024 .bf16) (W : Vec Ideal S1024x7424 .bf16) (o : ℕ) (y : Fin 512) (l : Fin 128) :
    k0_pay14 (F := Ideal) N (cut W o) (ix2 y l) = big N W y (o + l.val) * Ideal.ofBits .f32 0x3E000000#32 := scaled_at N _ y l

theorem at9 (c : Dev nD) (t : Fin cfg0.N) (y : Fin 512) (z : Fin 1024) : (dats m 0 c).after 9 t (ix2 y z) = sbqAt (YY m c) (row t y) z := by
  have st : ∀ (o : ℕ) (ho : o % 128 = 0) (h1 : ∀ d, (![0, o] : Fin 2 → ℕ) d + S1024x128.size d ≤ S1024x7424.size d)
      (h2 : ∀ d, (![0, o] : Fin 2 → ℕ) d + S512x128.size d ≤ S512x1024.size d) (x : S512x128.Idx),
      k0_pay14 (F := Ideal) (NB m c t) (View.ld (iblk m c 2 t) (Rect.unit (s := S1024x7424) ![0, o] S1024x128.size h1)) x
        = tiles (fun o => k0_pay14 (F := Ideal) (NB m c t) (cut (WB m c t) o)) ((Rect.unit (s := S512x1024) ![0, o] S512x128.size h2).emb x) :=
    fun o ho h1 h2 x => (congrFun (congrArg (k0_pay14 (F := Ideal) (NB m c t)) (ld_cut _ o h1)) x).trans (tile_at (fun o => k0_pay14 (F := Ideal) (NB m c t) (cut (WB m c t) o)) o ho h2 x)
  rw [after0_9]
  unfold_out out0_9
  frame_out
  refine (View.canon_apply_of_pieces (tiles (fun o => k0_pay14 (F := Ideal) (NB m c t) (cut (WB m c t) o))) _ ?_ _ ?_).trans ?_
  · simp only [List.forall_mem_cons]
    exact ⟨fun x => st 896 rfl _ _ x, fun x => st 768 rfl _ _ x, fun x => st 640 rfl _ _ x, fun x => st 512 rfl _ _ x, fun x => st 384 rfl _ _ x,
      fun x => st 256 rfl _ _ x, fun x => st 128 rfl _ _ x, fun x => st 0 rfl _ _ x, by simp⟩
  · set_option maxRecDepth 1000000 in exact View.cover_of_tiled_head _ _ _ (by rfl) _
  · refine (scut_at (NB m c t) (WB m c t) (z.val / 128 * 128) y ⟨z.val % 128, by omega⟩).trans ?_
    dsimp only
    have e : z.val / 128 * 128 + z.val % 128 = z.val := by omega
    unfold sbqAt
    rw [e]
    by_cases h : z.val % 128 / 64 = z.val / 512
    · rw [if_pos h, big_own m c t y z.val (z.val / 128 * 64 + z.val % 64) (by omega) (by omega) fun k => wall_sbq_own _ k z _ rfl h _ rfl]
    · rw [if_neg h, big_zero m c t y z.val (by omega) fun k => wall_sbq_other _ k z _ rfl h, zero_mul]

theorem at15 (c : Dev nD) (t : Fin cfg0.N) (y : Fin 512) (z : Fin 1024) : (dats m 0 c).after 15 t (ix2 y z) = qropeAt (YY m c) (row t y) z := by
  have st : ∀ (o : ℕ) (ho : o % 128 = 0) (h1 : ∀ d, (![0, 1792 + o] : Fin 2 → ℕ) d + S1024x128.size d ≤ S1024x7424.size d)
      (h2 : ∀ d, (![0, o] : Fin 2 → ℕ) d + S512x128.size d ≤ S512x1024.size d) (x : S512x128.Idx),
      rp32 (k0_pay9 (F := Ideal) (NB m c t) (View.ld (iblk m c 2 t) (Rect.unit (s := S1024x7424) ![0, 1792 + o] S1024x128.size h1))) (CB32 m c t) (SB32 m c t) x
        = tiles (fun o => rp32 (k0_pay9 (F := Ideal) (NB m c t) (cut (WB m c t) (1792 + o))) (CB32 m c t) (SB32 m c t)) ((Rect.unit (s := S512x1024) ![0, o] S512x128.size h2).emb x) :=
    fun o ho h1 h2 x => (congrFun (congrArg (fun w => rp32 (k0_pay9 (F := Ideal) (NB m c t) w) (CB32 m c t) (SB32 m c t)) (ld_cut _ (1792 + o) h1)) x).trans
      (tile_at (fun o => rp32 (k0_pay9 (F := Ideal) (NB m c t) (cut (WB m c t) (1792 + o))) (CB32 m c t) (SB32 m c t)) o ho h2 x)
  rw [after0_15]
  unfold_out out0_15
  frame_out
  refine (View.canon_apply_of_pieces (tiles (fun o => rp32 (k0_pay9 (F := Ideal) (NB m c t) (cut (WB m c t) (1792 + o))) (CB32 m c t) (SB32 m c t))) _ ?_ _ ?_).trans ?_
  · simp only [List.forall_mem_cons]
    exact ⟨fun x => st 896 rfl _ _ x, fun x => st 768 rfl _ _ x, fun x => st 640 rfl _ _ x, fun x => st 512 rfl _ _ x, fun x => st 384 rfl _ _ x,
      fun x => st 256 rfl _ _ x, fun x => st 128 rfl _ _ x, fun x => st 0 rfl _ _ x, by simp⟩
  · set_option maxRecDepth 1000000 in exact View.cover_of_tiled_head _ _ _ (by rfl) _
  · show rp32 (k0_pay9 (F := Ideal) (NB m c t) (cut (WB m c t) (1792 + z.val / 128 * 128))) (CB32 m c t) (SB32 m c t) (ix2 y ⟨z.val % 128, by omega⟩) = _
    unfold qropeAt
    by_cases h : z.val % 128 < 32
    · rw [if_pos h]
      refine (rp32_rot _ _ _ y ⟨z.val % 128, by omega⟩ (fun j => feat (YY m c) (row t y) (832 + 96 * (z.val / 128) + j)) (cos32 (row t y)) (sin32 (row t y)) (fun e he => ?_) (c32_at m c t y _) (s32_at m c t y _)).trans ?_
      · have he' : e.val / 32 = z.val % 128 / 32 := he
        have h1 : e.val < 32 := by omega
        have h2 : (z.val / 128 * 128 + e.val) / 128 = z.val / 128 := by omega
        have h3 : (z.val / 128 * 128 + e.val) % 128 = e.val := by omega
        rw [pcut_at, Nat.mod_eq_of_lt h1]
        exact big_own m c t y _ _ (by omega) (by omega) fun k =>
          wall_rope_in _ k ⟨z.val / 128 * 128 + e.val, by omega⟩ _ (by dsimp only; omega) (by dsimp only; omega) _ (by dsimp only; rw [h2, h3])
      · dsimp only
        rw [Nat.mod_eq_of_lt h]
    · rw [if_neg h]
      refine rp32_zero _ _ _ y _ fun e he => ?_
      have he' : e.val / 32 = z.val % 128 / 32 := he
      rw [pcut_at]
      exact big_zero m c t y _ (by omega) fun k => wall_rope_out _ k ⟨z.val / 128 * 128 + e.val, by omega⟩ _ (by dsimp only; omega) (by dsimp only; omega)

theorem at19 (c : Dev nD) (t : Fin cfg0.N) (y : Fin 512) (z : Fin 1024) : (dats m 0 c).after 19 t (ix2 y z) = mbqAt (YY m c) (row t y) z := by
  have st : ∀ (o : ℕ) (ho : o % 128 = 0) (h1 : ∀ d, (![0, 3072 + o] : Fin 2 → ℕ) d + S1024x128.size d ≤ S1024x7424.size d)
      (h2 : ∀ d, (![0, o] : Fin 2 → ℕ) d + S512x128.size d ≤ S512x1024.size d) (x : S512x128.Idx),
      rp64 (k0_pay9 (F := Ideal) (NB m c t) (View.ld (iblk m c 2 t) (Rect.unit (s := S1024x7424) ![0, 3072 + o] S1024x128.size h1))) (CB64 m c t) (SB64 m c t) x
        = tiles (fun o => rp64 (k0_pay9 (F := Ideal) (NB m c t) (cut (WB m c t) (3072 + o))) (CB64 m c t) (SB64 m c t)) ((Rect.unit (s := S512x1024) ![0, o] S512x128.size h2).emb x) :=
    fun o ho h1 h2 x => (congrFun (congrArg (fun w => rp64 (k0_pay9 (F := Ideal) (NB m c t) w) (CB64 m c t) (SB64 m c t)) (ld_cut _ (3072 + o) h1)) x).trans
      (tile_at (fun o => rp64 (k0_pay9 (F := Ideal) (NB m c t) (cut (WB m c t) (3072 + o))) (CB64 m c t) (SB64 m c t)) o ho h2 x)
  rw [after0_19]
  unfold_out out0_19
  frame_out
  refine (View.canon_apply_of_pieces (tiles (fun o => rp64 (k0_pay9 (F := Ideal) (NB m c t) (cut (WB m c t) (3072 + o))) (CB64 m c t) (SB64 m c t))) _ ?_ _ ?_).trans ?_
  · simp only [List.forall_mem_cons]
    exact ⟨fun x => st 896 rfl _ _ x, fun x => st 768 rfl _ _ x, fun x => st 640 rfl _ _ x, fun x => st 512 rfl _ _ x, fun x => st 384 rfl _ _ x,
      fun x => st 256 rfl _ _ x, fun x => st 128 rfl _ _ x, fun x => st 0 rfl _ _ x, by simp⟩
  · set_option maxRecDepth 1000000 in exact View.cover_of_tiled_head _ _ _ (by rfl) _
  · show rp64 (k0_pay9 (F := Ideal) (NB m c t) (cut (WB m c t) (3072 + z.val / 128 * 128))) (CB64 m c t) (SB64 m c t) (ix2 y ⟨z.val % 128, by omega⟩) = _
    unfold mbqAt
    by_cases h : z.val % 128 / 64 = z.val / 512
    · rw [if_pos h]
      refine (rp64_rot _ _ _ y ⟨z.val % 128, by omega⟩ (fun j => feat (YY m c) (row t y) (1696 + (z.val / 128 * 64 + j))) (cos64 (row t y)) (sin64 (row t y)) (fun e he => ?_) ((c64_at m c t y _).trans ?_) ((s64_at m c t y _).trans ?_)).trans ?_
      · have he' : e.val / 64 = z.val % 128 / 64 := he
        have h1 : (z.val / 128 * 128 + e.val) % 128 = e.val := by omega
        have h2 : (z.val / 128 * 128 + e.val) / 512 = z.val / 512 := by omega
        have h3 : (z.val / 128 * 128 + e.val) / 128 = z.val / 128 := by omega
        have h4 : (z.val / 128 * 128 + e.val) % 64 = e.val % 64 := by omega
        rw [pcut_at]
        exact big_own m c t y _ _ (by omega) (by omega) fun k =>
          wall_mbq_own _ k ⟨z.val / 128 * 128 + e.val, by omega⟩ _ (by dsimp only; omega) (by dsimp only; rw [h1, h2, he', h]) _ (by dsimp only; rw [h3, h4])
      · rfl
      · rfl
      · exact congrArg (rot64 _ _ _) (by dsimp only; omega)
    · rw [if_neg h]
      refine rp64_zero _ _ _ y _ fun e he => ?_
      have he' : e.val / 64 = z.val % 128 / 64 := he
      have h1 : (z.val / 128 * 128 + e.val) % 128 = e.val := by omega
      have h2 : (z.val / 128 * 128 + e.val) / 512 = z.val / 512 := by omega
      rw [pcut_at]
      exact big_zero m c t y _ (by omega) fun k => wall_mbq_other _ k ⟨z.val / 128 * 128 + e.val, by omega⟩ _ (by dsimp only; omega) (by dsimp only; rw [h1, h2, he']; exact h)

/-- A plain product, as it is stored. -/
theorem plain_at (N : FVec Ideal S512x1024 .bf16) (W : Vec Ideal S1024x7424 .bf16) (o : ℕ)
    (h : ∀ d, (![0, o] : Fin 2 → ℕ) d + S1024x128.size d ≤ S1024x7424.size d) (y : Fin 512) (l : Fin 128) :
    k0_pay9 (F := Ideal) N (View.ld W (Rect.unit (s := S1024x7424) ![0, o] S1024x128.size h)) (ix2 y l) = big N W y (o + l.val) :=
  (congrFun (congrArg (k0_pay9 (F := Ideal) N) (ld_cut W o h)) (ix2 y l)).trans (pcut_at N W o y l)

theorem at10 (c : Dev nD) (t : Fin cfg0.N) (y : Fin 512) (l : Fin 128) : (dats m 0 c).after 10 t (ix2 y l) = feat (YY m c) (row t y) (512 + l.val) := by
  rw [after0_10]
  unfold_out out0_10
  frame_out
  refine (plain_at _ _ 1024 _ y l).trans (sbk_big m c t y l)

theorem at11 (c : Dev nD) (t : Fin cfg0.N) (y : Fin 512) (l : Fin 128) : (dats m 0 c).after 11 t (ix2 y l) = feat (YY m c) (row t y) (640 + l.val) := by
  rw [after0_11]
  unfold_out out0_11
  frame_out
  refine (plain_at _ _ 1152 _ y l).trans (sbv_big m c t y l)

theorem at12 (c : Dev nD) (t : Fin cfg0.N) (y : Fin 512) (l : Fin 128) : (dats m 0 c).after 12 t (ix2 y l) = feat (YY m c) (row t y) (512 + l.val) := by
  rw [after0_12]
  unfold_out out0_12
  frame_out
  refine (plain_at _ _ 1024 _ y l).trans (sbk_big m c t y l)

theorem at13 (c : Dev nD) (t : Fin cfg0.N) (y : Fin 512) (l : Fin 128) : (dats m 0 c).after 13 t (ix2 y l) = feat (YY m c) (row t y) (640 + l.val) := by
  rw [after0_13]
  unfold_out out0_13
  frame_out
  refine (plain_at _ _ 1152 _ y l).trans (sbv_big m c t y l)

theorem at21 (c : Dev nD) (t : Fin cfg0.N) (y : Fin 512) (l : Fin 128) : (dats m 0 c).after 21 t (ix2 y l) = feat (YY m c) (row t y) (2336 + l.val) := by
  rw [after0_21]
  unfold_out out0_21
  frame_out
  refine (plain_at _ _ 4224 _ y l).trans (mbv_big m c t y l)

theorem at23 (c : Dev nD) (t : Fin cfg0.N) (y : Fin 512) (l : Fin 128) : (dats m 0 c).after 23 t (ix2 y l) = feat (YY m c) (row t y) (2336 + l.val) := by
  rw [after0_23]
  unfold_out out0_23
  frame_out
  refine (plain_at _ _ 4224 _ y l).trans (mbv_big m c t y l)

theorem at14 (c : Dev nD) (t : Fin cfg0.N) (y : Fin 512) (z : Fin 1024) : (dats m 0 c).after 14 t (ix2 y z) = qlatAt (YY m c) (a4 m c) (row t y) z := by
  rw [after0_14]
  unfold_out out0_14
  frame_out
  refine (lat_at _ _ y z).trans ?_
  have hq : ∀ e : Fin 512, k0_pay61 (F := Ideal) (NB m c t) (View.ld (iblk m c 2 t) r0_37) (ix2 y e) = feat (YY m c) (row t y) (768 + 96 * (e.val / 64) + e.val % 64) := fun e => by
    refine (congrFun (congrArg (k0_pay61 (F := Ideal) (NB m c t)) (ld_cut512 (WB m c t) 1280 (by decide))) (ix2 y e)).trans ((nope_at _ _ y e).trans ?_)
    exact big_own m c t y (1280 + e.val) _ (by omega) (by omega) fun k => wall_nope _ k e _ rfl _ rfl
  unfold qlatAt
  refine sum_block _ ⟨z.val / 128, by omega⟩ _ (fun n => ?_) fun e he => ?_
  · refine (congrArg₂ (· * ·) (hq _) ((iblk4_at m c t _ z).trans (diag_at _ _ z))).trans ?_
    dsimp only
    rw [eye_at]
    have h1 : (64 * (z.val / 128) + n.val) / 64 = z.val / 128 := by omega
    have h2 : (64 * (z.val / 128) + n.val) % 64 = n.val := by omega
    simp only [h1, h2, if_true, mul_one]
    exact mul_comm _ _
  · refine (congrArg₂ (· * ·) (hq _) ((iblk4_at m c t _ z).trans (diag_at _ _ z))).trans ?_
    dsimp only
    rw [eye_at, if_neg fun hh => he (congrArg Fin.val hh), mul_zero, mul_zero]

theorem at16 (c : Dev nD) (t : Fin cfg0.N) (y : Fin 512) (l : Fin 128) : (dats m 0 c).after 16 t (ix2 y l) = ckvAt (YY m c) (a3 m c) (row t y) l := by
  rw [after0_16]
  unfold_out out0_16
  frame_out
  refine Eq.trans ?_ (ckv_row m c t y l)
  exact congrFun (congrArg (fun w => k0_pay63 (F := Ideal) (NB m c t) w (iblk m c 3 t)) (ld_cut (WB m c t) 2816 (by decide))) (ix2 y l)

theorem first32_of (P : FVec Ideal S512x128 .f32) (y : Fin 512) (l : Fin 32) :
    extractStridedSlice S512x32 ![0, 0] P slices_S512x128_o0_0_S512x32 (ix2 y l) = P (ix2 y ⟨l.val, by omega⟩) := by pointwise

/-- The rope keys as the body computes them, over 128 lanes. -/
abbrev KB (c : Dev nD) (t : Fin cfg0.N) : FVec Ideal S512x128 .f32 :=
  rp32 (k0_pay9 (F := Ideal) (NB m c t) (View.ld (iblk m c 2 t) r0_41)) (CB32 m c t) (SB32 m c t)

theorem KB_at (c : Dev nD) (t : Fin cfg0.N) (y : Fin 512) (l : Fin 128) : KB m c t (ix2 y l) = if l.val < 32 then krAt (YY m c) (row t y) l.val else 0 := by
  refine Eq.trans ?_ (kr_row m c t y l)
  exact congrFun (congrArg (fun w => rp32 (k0_pay9 (F := Ideal) (NB m c t) w) (CB32 m c t) (SB32 m c t)) (ld_cut (WB m c t) 2944 (by decide))) (ix2 y l)

theorem at17 (c : Dev nD) (t : Fin cfg0.N) (y : Fin 512) (l : Fin 32) : (dats m 0 c).after 17 t (ix2 y l) = krAt (YY m c) (row t y) l.val := by
  rw [after0_17]
  unfold_out out0_17
  frame_out
  refine (first32_of (KB m c t) y l).trans ((KB_at m c t y _).trans (if_pos l.isLt))

theorem at18 (c : Dev nD) (t : Fin cfg0.N) (y : Fin 512) (l : Fin 256) : (dats m 0 c).after 18 t (ix2 y l) = kcatAt (YY m c) (a3 m c) (row t y) l := by
  rw [after0_18]
  unfold_out out0_18
  frame_out
  refine (View.canon_apply_of_pieces (fun i : S512x256.Idx => kcatAt (YY m c) (a3 m c) (row t (i 0)) (i 1)) _ ?_ _ ?_).trans rfl
  · simp only [List.forall_mem_cons]
    refine ⟨fun x => ?_, fun x => ?_, by simp⟩
    · obtain ⟨y, z, rfl⟩ : ∃ (y : Fin 512) (z : Fin 128), x = ix2 y z := ⟨x 0, x 1, (ix2_eta x).symm⟩
      have key : ∀ i : S512x256.Idx, i 0 = y → (i 1).val = 128 + z.val → (if z.val < 32 then krAt (YY m c) (row t y) z.val else 0) = kcatAt (YY m c) (a3 m c) (row t (i 0)) (i 1) := by
        intro i h0 h1
        obtain ⟨a, b, rfl⟩ : ∃ (a : Fin 512) (b : Fin 256), i = ix2 a b := ⟨i 0, i 1, (ix2_eta i).symm⟩
        change a = y at h0
        change b.val = _ at h1
        subst h0
        show _ = kcatAt (YY m c) (a3 m c) (row t a) b
        unfold kcatAt
        rw [dif_neg (by omega), h1, show 128 + z.val - 128 = z.val by omega]
        by_cases h : z.val < 32
        · rw [if_pos h, if_pos (by omega)]
        · rw [if_neg h, if_neg (by omega)]
      exact (KB_at m c t y z).trans (key _ (Fin.ext (by simp [r0_43, Rect.emb, Rect.unit])) (by simp [r0_43, Rect.emb, Rect.unit]))
    · obtain ⟨y, z, rfl⟩ : ∃ (y : Fin 512) (z : Fin 128), x = ix2 y z := ⟨x 0, x 1, (ix2_eta x).symm⟩
      have key : ∀ i : S512x256.Idx, i 0 = y → (i 1).val = z.val → ckvAt (YY m c) (a3 m c) (row t y) z = kcatAt (YY m c) (a3 m c) (row t (i 0)) (i 1) := by
        intro i h0 h1
        obtain ⟨a, b, rfl⟩ : ∃ (a : Fin 512) (b : Fin 256), i = ix2 a b := ⟨i 0, i 1, (ix2_eta i).symm⟩
        change a = y at h0
        change b.val = _ at h1
        subst h0
        show _ = kcatAt (YY m c) (a3 m c) (row t a) b
        unfold kcatAt
        rw [dif_pos (by omega)]
        exact congrArg (ckvAt _ _ _) (Fin.ext h1.symm)
      exact (congrFun (congrArg (fun w => k0_pay63 (F := Ideal) (NB m c t) w (iblk m c 3 t)) (ld_cut (WB m c t) 2816 (by decide))) (ix2 y z)).trans
        ((ckv_row m c t y z).trans (key _ (Fin.ext (by simp [r0_40, Rect.emb, Rect.unit])) (by simp [r0_40, Rect.emb, Rect.unit])))
  · set_option maxRecDepth 1000000 in exact View.cover_of_tiled_head _ _ _ (by rfl) _

theorem MB_at (c : Dev nD) (t : Fin cfg0.N) (y : Fin 512) (l : Fin 128) :
    rp64 (k0_pay9 (F := Ideal) (NB m c t) (View.ld (iblk m c 2 t) r0_44)) (CB64 m c t) (SB64 m c t) (ix2 y l) = mbkAt (YY m c) (row t y) l := by
  refine Eq.trans ?_ (mbk_row m c t y l)
  exact congrFun (congrArg (fun w => rp64 (k0_pay9 (F := Ideal) (NB m c t) w) (CB64 m c t) (SB64 m c t)) (ld_cut (WB m c t) 4096 (by decide))) (ix2 y l)

theorem at20 (c : Dev nD) (t : Fin cfg0.N) (y : Fin 512) (l : Fin 128) : (dats m 0 c).after 20 t (ix2 y l) = mbkAt (YY m c) (row t y) l := by
  rw [after0_20]
  unfold_out out0_20
  frame_out
  exact MB_at m c t y l

theorem at22 (c : Dev nD) (t : Fin cfg0.N) (y : Fin 512) (l : Fin 128) : (dats m 0 c).after 22 t (ix2 y l) = mbkAt (YY m c) (row t y) l := by
  rw [after0_22]
  unfold_out out0_22
  frame_out
  exact MB_at m c t y l

theorem gcut_at (N : FVec Ideal S512x1024 .bf16) (W : Vec Ideal S1024x7424 .bf16) (o : ℕ) (y l : Fin 512) :
    k0_pay79 (F := Ideal) N (cut512 W o) (ix2 y l) = Ideal.logistic (big N W y (o + l.val)) := gate_at N _ y l

theorem at24 (c : Dev nD) (t : Fin cfg0.N) (y : Fin 512) (z : Fin 3072) : (dats m 0 c).after 24 t (ix2 y z) = Ideal.logistic (feat (YY m c) (row t y) (2464 + z.val)) := by
  have st : ∀ (o : ℕ) (ho : o % 512 = 0) (h1 : ∀ d, (![0, 4352 + o] : Fin 2 → ℕ) d + S1024x512.size d ≤ S1024x7424.size d)
      (h2 : ∀ d, (![0, o] : Fin 2 → ℕ) d + S512x512.size d ≤ S512x3072.size d) (x : S512x512.Idx),
      k0_pay79 (F := Ideal) (NB m c t) (View.ld (iblk m c 2 t) (Rect.unit (s := S1024x7424) ![0, 4352 + o] S1024x512.size h1)) x
        = tiles512 (fun o => k0_pay79 (F := Ideal) (NB m c t) (cut512 (WB m c t) (4352 + o))) ((Rect.unit (s := S512x3072) ![0, o] S512x512.size h2).emb x) :=
    fun o ho h1 h2 x => (congrFun (congrArg (k0_pay79 (F := Ideal) (NB m c t)) (ld_cut512 _ (4352 + o) h1)) x).trans (tile512_at (fun o => k0_pay79 (F := Ideal) (NB m c t) (cut512 (WB m c t) (4352 + o))) o ho h2 x)
  rw [after0_24]
  unfold_out out0_24
  frame_out
  refine (View.canon_apply_of_pieces (tiles512 (fun o => k0_pay79 (F := Ideal) (NB m c t) (cut512 (WB m c t) (4352 + o)))) _ ?_ _ ?_).trans ?_
  · simp only [List.forall_mem_cons]
    exact ⟨fun x => st 2560 rfl _ _ x, fun x => st 2048 rfl _ _ x, fun x => st 1536 rfl _ _ x, fun x => st 1024 rfl _ _ x, fun x => st 512 rfl _ _ x,
      fun x => st 0 rfl _ _ x, by simp⟩
  · set_option maxRecDepth 1000000 in exact View.cover_of_tiled_head _ _ _ (by rfl) _
  · refine (gcut_at (NB m c t) (WB m c t) (4352 + z.val / 512 * 512) y ⟨z.val % 512, by omega⟩).trans (congrArg Ideal.logistic ?_)
    dsimp only
    have e : 4352 + z.val / 512 * 512 + z.val % 512 = 4352 + z.val := by omega
    rw [e]
    exact big_own m c t y _ _ (by omega) (by omega) fun k => wall_plain2464 _ k z _ rfl _ rfl

end Cert.Kernel5Ideal.PValue

end
-- ==== Proof.ProjFin.lean ====
/- The projections' windows at the ideal instance, as whole arrays. -/
module

public import proofs.«01_k».proof.Proof.ProjWin

@[expose] public section

set_option maxRecDepth 16384

noncomputable section

open Idealize.ShloMosaic Idealize.ShloMosaic.TcCoe Idealize.SL.Sem
open Idealize.ShloMosaic.Pipeline (Dat)

namespace Cert.Kernel5Ideal.PValue

open Cert.Kernel5Ideal Cert.Kernel5Ideal.Gen

variable (m : (ℓ : Loc nD τ sig) → Buf (Elt Ideal) ℓ)

section Eqs
variable (Y : FVec Ideal S16384x5536 .f32) (γ : FVec Ideal S128 .f32) (U : FVec Ideal S128x8x64 .f32) (r : Fin 16384)
theorem Gsbq_at (z : Fin 1024) : sbqAt Y r z = Gsbq Y (ix2 r z) := rfl
theorem Gcut_at (o : ℕ) (z : Fin 128) : feat Y r (o + z.val) = Gcut Y o (ix2 r z) := rfl
theorem Gqlat_at (z : Fin 1024) : qlatAt Y U r z = Gqlat Y U (ix2 r z) := rfl
theorem Gqrope_at (z : Fin 1024) : qropeAt Y r z = Gqrope Y (ix2 r z) := rfl
theorem Gckv_at (z : Fin 128) : ckvAt Y γ r z = Gckv Y γ (ix2 r z) := rfl
theorem Gkr_at (z : Fin 32) : krAt Y r z.val = Gkr Y (ix2 r z) := rfl
theorem Gkcat_at (z : Fin 256) : kcatAt Y γ r z = Gkcat Y γ (ix2 r z) := rfl
theorem Gmbq_at (z : Fin 1024) : mbqAt Y r z = Gmbq Y (ix2 r z) := rfl
theorem Gmbk_at (z : Fin 128) : mbkAt Y r z = Gmbk Y (ix2 r z) := rfl
theorem Ggates_at (z : Fin 3072) : Ideal.logistic (feat Y r (2464 + z.val)) = Ggates Y (ix2 r z) := rfl
end Eqs

theorem final9 (c : Dev nD) : (dats m 0 c).arrAt 9 cfg0.N = Gsbq (YY m c) := by
  refine (dats m 0 c).arrAt_eq_of_covers 9 _ (by decide +kernel) fun t _ y => ?_
  blk_simp
  obtain ⟨y, z, rfl⟩ : ∃ (a : Fin 512) (b : Fin 1024), y = ix2 a b := ⟨y 0, y 1, (ix2_eta y).symm⟩
  refine (at9 m c t y z).trans ((Gsbq_at (YY m c) (row t y) z).trans (congrArg (Gsbq (YY m c)) ?_))
  blk_ext [idxO t]

theorem final10 (c : Dev nD) : (dats m 0 c).arrAt 10 cfg0.N = Gcut (YY m c) 512 := by
  refine (dats m 0 c).arrAt_eq_of_covers 10 _ (by decide +kernel) fun t _ y => ?_
  blk_simp
  obtain ⟨y, z, rfl⟩ : ∃ (a : Fin 512) (b : Fin 128), y = ix2 a b := ⟨y 0, y 1, (ix2_eta y).symm⟩
  refine (at10 m c t y z).trans ((Gcut_at (YY m c) (row t y) 512 z).trans (congrArg (Gcut (YY m c) 512) ?_))
  blk_ext [idxO t]

theorem final11 (c : Dev nD) : (dats m 0 c).arrAt 11 cfg0.N = Gcut (YY m c) 640 := by
  refine (dats m 0 c).arrAt_eq_of_covers 11 _ (by decide +kernel) fun t _ y => ?_
  blk_simp
  obtain ⟨y, z, rfl⟩ : ∃ (a : Fin 512) (b : Fin 128), y = ix2 a b := ⟨y 0, y 1, (ix2_eta y).symm⟩
  refine (at11 m c t y z).trans ((Gcut_at (YY m c) (row t y) 640 z).trans (congrArg (Gcut (YY m c) 640) ?_))
  blk_ext [idxO t]

theorem final12 (c : Dev nD) : (dats m 0 c).arrAt 12 cfg0.N = Gcut (YY m c) 512 := by
  refine (dats m 0 c).arrAt_eq_of_covers 12 _ (by decide +kernel) fun t _ y => ?_
  blk_simp
  obtain ⟨y, z, rfl⟩ : ∃ (a : Fin 512) (b : Fin 128), y = ix2 a b := ⟨y 0, y 1, (ix2_eta y).symm⟩
  refine (at12 m c t y z).trans ((Gcut_at (YY m c) (row t y) 512 z).trans (congrArg (Gcut (YY m c) 512) ?_))
  blk_ext [idxO t]

theorem final13 (c : Dev nD) : (dats m 0 c).arrAt 13 cfg0.N = Gcut (YY m c) 640 := by
  refine (dats m 0 c).arrAt_eq_of_covers 13 _ (by decide +kernel) fun t _ y => ?_
  blk_simp
  obtain ⟨y, z, rfl⟩ : ∃ (a : Fin 512) (b : Fin 128), y = ix2 a b := ⟨y 0, y 1, (ix2_eta y).symm⟩
  refine (at13 m c t y z).trans ((Gcut_at (YY m c) (row t y) 640 z).trans (congrArg (Gcut (YY m c) 640) ?_))
  blk_ext [idxO t]

theorem final14 (c : Dev nD) : (dats m 0 c).arrAt 14 cfg0.N = Gqlat (YY m c) (a4 m c) := by
  refine (dats m 0 c).arrAt_eq_of_covers 14 _ (by decide +kernel) fun t _ y => ?_
  blk_simp
  obtain ⟨y, z, rfl⟩ : ∃ (a : Fin 512) (b : Fin 1024), y = ix2 a b := ⟨y 0, y 1, (ix2_eta y).symm⟩
  refine (at14 m c t y z).trans ((Gqlat_at (YY m c) (a4 m c) (row t y) z).trans (congrArg (Gqlat (YY m c) (a4 m c)) ?_))
  blk_ext [idxO t]

theorem final15 (c : Dev nD) : (dats m 0 c).arrAt 15 cfg0.N = Gqrope (YY m c) := by
  refine (dats m 0 c).arrAt_eq_of_covers 15 _ (by decide +kernel) fun t _ y => ?_
  blk_simp
  obtain ⟨y, z, rfl⟩ : ∃ (a : Fin 512) (b : Fin 1024), y = ix2 a b := ⟨y 0, y 1, (ix2_eta y).symm⟩
  refine (at15 m c t y z).trans ((Gqrope_at (YY m c) (row t y) z).trans (congrArg (Gqrope (YY m c)) ?_))
  blk_ext [idxO t]

theorem final16 (c : Dev nD) : (dats m 0 c).arrAt 16 cfg0.N = Gckv (YY m c) (a3 m c) := by
  refine (dats m 0 c).arrAt_eq_of_covers 16 _ (by decide +kernel) fun t _ y => ?_
  blk_simp
  obtain ⟨y, z, rfl⟩ : ∃ (a : Fin 512) (b : Fin 128), y = ix2 a b := ⟨y 0, y 1, (ix2_eta y).symm⟩
  refine (at16 m c t y z).trans ((Gckv_at (YY m c) (a3 m c) (row t y) z).trans (congrArg (Gckv (YY m c) (a3 m c)) ?_))
  blk_ext [idxO t]

theorem final17 (c : Dev nD) : (dats m 0 c).arrAt 17 cfg0.N = Gkr (YY m c) := by
  refine (dats m 0 c).arrAt_eq_of_covers 17 _ (by decide +kernel) fun t _ y => ?_
  blk_simp
  obtain ⟨y, z, rfl⟩ : ∃ (a : Fin 512) (b : Fin 32), y = ix2 a b := ⟨y 0, y 1, (ix2_eta y).symm⟩
  refine (at17 m c t y z).trans ((Gkr_at (YY m c) (row t y) z).trans (congrArg (Gkr (YY m c)) ?_))
  blk_ext [idxP t]

theorem final18 (c : Dev nD) : (dats m 0 c).arrAt 18 cfg0.N = Gkcat (YY m c) (a3 m c) := by
  refine (dats m 0 c).arrAt_eq_of_covers 18 _ (by decide +kernel) fun t _ y => ?_
  blk_simp
  obtain ⟨y, z, rfl⟩ : ∃ (a : Fin 512) (b : Fin 256), y = ix2 a b := ⟨y 0, y 1, (ix2_eta y).symm⟩
  refine (at18 m c t y z).trans ((Gkcat_at (YY m c) (a3 m c) (row t y) z).trans (congrArg (Gkcat (YY m c) (a3 m c)) ?_))
  blk_ext [idxP t]

theorem final19 (c : Dev nD) : (dats m 0 c).arrAt 19 cfg0.N = Gmbq (YY m c) := by
  refine (dats m 0 c).arrAt_eq_of_covers 19 _ (by decide +kernel) fun t _ y => ?_
  blk_simp
  obtain ⟨y, z, rfl⟩ : ∃ (a : Fin 512) (b : Fin 1024), y = ix2 a b := ⟨y 0, y 1, (ix2_eta y).symm⟩
  refine (at19 m c t y z).trans ((Gmbq_at (YY m c) (row t y) z).trans (congrArg (Gmbq (YY m c)) ?_))
  blk_ext [idxP t]

theorem final20 (c : Dev nD) : (dats m 0 c).arrAt 20 cfg0.N = Gmbk (YY m c) := by
  refine (dats m 0 c).arrAt_eq_of_covers 20 _ (by decide +kernel) fun t _ y => ?_
  blk_simp
  obtain ⟨y, z, rfl⟩ : ∃ (a : Fin 512) (b : Fin 128), y = ix2 a b := ⟨y 0, y 1, (ix2_eta y).symm⟩
  refine (at20 m c t y z).trans ((Gmbk_at (YY m c) (row t y) z).trans (congrArg (Gmbk (YY m c)) ?_))
  blk_ext [idxP t]

theorem final21 (c : Dev nD) : (dats m 0 c).arrAt 21 cfg0.N = Gcut (YY m c) 2336 := by
  refine (dats m 0 c).arrAt_eq_of_covers 21 _ (by decide +kernel) fun t _ y => ?_
  blk_simp
  obtain ⟨y, z, rfl⟩ : ∃ (a : Fin 512) (b : Fin 128), y = ix2 a b := ⟨y 0, y 1, (ix2_eta y).symm⟩
  refine (at21 m c t y z).trans ((Gcut_at (YY m c) (row t y) 2336 z).trans (congrArg (Gcut (YY m c) 2336) ?_))
  blk_ext [idxP t]

theorem final22 (c : Dev nD) : (dats m 0 c).arrAt 22 cfg0.N = Gmbk (YY m c) := by
  refine (dats m 0 c).arrAt_eq_of_covers 22 _ (by decide +kernel) fun t _ y => ?_
  blk_simp
  obtain ⟨y, z, rfl⟩ : ∃ (a : Fin 512) (b : Fin 128), y = ix2 a b := ⟨y 0, y 1, (ix2_eta y).symm⟩
  refine (at22 m c t y z).trans ((Gmbk_at (YY m c) (row t y) z).trans (congrArg (Gmbk (YY m c)) ?_))
  blk_ext [idxP t]

theorem final23 (c : Dev nD) : (dats m 0 c).arrAt 23 cfg0.N = Gcut (YY m c) 2336 := by
  refine (dats m 0 c).arrAt_eq_of_covers 23 _ (by decide +kernel) fun t _ y => ?_
  blk_simp
  obtain ⟨y, z, rfl⟩ : ∃ (a : Fin 512) (b : Fin 128), y = ix2 a b := ⟨y 0, y 1, (ix2_eta y).symm⟩
  refine (at23 m c t y z).trans ((Gcut_at (YY m c) (row t y) 2336 z).trans (congrArg (Gcut (YY m c) 2336) ?_))
  blk_ext [idxP t]

theorem final24 (c : Dev nD) : (dats m 0 c).arrAt 24 cfg0.N = Ggates (YY m c) := by
  refine (dats m 0 c).arrAt_eq_of_covers 24 _ (by decide +kernel) fun t _ y => ?_
  blk_simp
  obtain ⟨y, z, rfl⟩ : ∃ (a : Fin 512) (b : Fin 3072), y = ix2 a b := ⟨y 0, y 1, (ix2_eta y).symm⟩
  refine (at24 m c t y z).trans ((Ggates_at (YY m c) (row t y) z).trans (congrArg (Ggates (YY m c)) ?_))
  blk_ext [idxP t]

end Cert.Kernel5Ideal.PValue

end
-- ==== Proof.RefRot.lean ====
/- The projections' reference read at an index, at the ideal instance. -/
module

public import proofs.«01_k».proof.Proof.ProjFin
public import proofs.«01_k».proof.Proof.RefFfn
public import proofs.«01_k».proof.Proof.Gen.Reference5Ideal.Run

@[expose] public section

set_option maxRecDepth 16384

noncomputable section

open Idealize.ShloMosaic Idealize.ShloMosaic.TcCoe Idealize.SL.Sem

namespace Cert.Reference5Ideal.Ref

open Cert.Reference5Ideal Cert.Reference5Ideal.Gen
open Cert.Kernel5Ideal.PValue (nrm nrm128 proj feat feat_eq posn cos64 sin64 cos32 sin32 rot64 rot32 ang64 ang32 sbqAt qlatAt qropeAt ckvAt krAt kcatAt mbqAt mbkAt
  Gsbq Gcut Gqlat Gqrope Gckv Gkr Gkcat Gmbq Gmbk Ggates)

/-- The rows' norms, their sums of squares and their projection. -/
def sq (X : FVec Ideal S16384x1024 .f32) : FVec Ideal S16384 .f32 :=
  Host.reduceAdd (mulf X X) (constant S_ .f32 0x00000000#32) reducesTo_S16384x1024_S16384_d1 h_S_

def rms (X : FVec Ideal S16384x1024 .f32) (g : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (sq X)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

def up (N : FVec Ideal S16384x1024 .f32) (W : FVec Ideal S1024x5536 .f32) : FVec Ideal S16384x5536 .f32 :=
  Host.dotGeneral dot_S16384x1024_S1024x5536_S16384x5536_1_0_0_1_n_n none N W

theorem sq_at (X : FVec Ideal S16384x1024 .f32) (r : Fin 16384) : sq X (ix1 r) = ∑ k : Fin 1024, X (ix2 r k) * X (ix2 r k) := by
  pointwise [sq]

theorem rms_at (X : FVec Ideal S16384x1024 .f32) (g : FVec Ideal S1024 .f32) (r : Fin 16384) (d : Fin 1024) :
    rms X g (ix2 r d) = nrm (fun k => X (ix2 r k)) (fun k => g (ix1 k)) d := by
  unfold nrm
  rw [← sq_at]
  unfold rms
  generalize sq X = s
  pointwise

theorem up_at (N : FVec Ideal S16384x1024 .f32) (W : FVec Ideal S1024x5536 .f32) (r : Fin 16384) (x : Fin 5536) :
    up N W (ix2 r x) = ∑ k : Fin 1024, N (ix2 r k) * W (ix2 k x) := by
  pointwise [up]

theorem up_eq (X : FVec Ideal S16384x1024 .f32) (g : FVec Ideal S1024 .f32) (W : FVec Ideal S1024x5536 .f32) : up (rms X g) W = proj X g W := by
  funext z
  obtain ⟨r, d, rfl⟩ : ∃ (r : Fin 16384) (d : Fin 5536), z = ix2 r d := ⟨z 0, z 1, (ix2_eta z).symm⟩
  have e := fun k => rms_at X g r k
  rw [up_at]
  simp only [e]
  rfl

/-- The same norm over 128 features. -/
def sq128 (X : FVec Ideal S16384x128 .f32) : FVec Ideal S16384 .f32 :=
  Host.reduceAdd (mulf X X) (constant S_ .f32 0x00000000#32) reducesTo_S16384x128_S16384_d1 h_S_

def rms128 (X : FVec Ideal S16384x128 .f32) (g : FVec Ideal S128 .f32) : FVec Ideal S16384x128 .f32 :=
  mulf (mulf X (broadcastInDim S16384x128 ![0, 1] bcast_S16384x1_S16384x128_0_1 (Host.rsqrt (addf (Host.divf (broadcastInDim S16384x1 ![0] bcast_S16384_S16384x1_0 (sq128 X)) (broadcastInDim S16384x1 ![] bcast_S_S16384x1 (constant S_ .f32 0x43000000#32))) (broadcastInDim S16384x1 ![] bcast_S_S16384x1 (constant S_ .f32 0x358637BD#32)))))) (broadcastInDim S16384x128 ![0, 1] bcast_S1x128_S16384x128_0_1 (broadcastInDim S1x128 ![1] bcast_S128_S1x128_1 g))

theorem sq128_at (X : FVec Ideal S16384x128 .f32) (r : Fin 16384) : sq128 X (ix1 r) = ∑ k : Fin 128, X (ix2 r k) * X (ix2 r k) := by
  pointwise [sq128]

theorem rms128_at (X : FVec Ideal S16384x128 .f32) (g : FVec Ideal S128 .f32) (r : Fin 16384) (d : Fin 128) :
    rms128 X g (ix2 r d) = nrm128 (fun k => X (ix2 r k)) (fun k => g (ix1 k)) d := by
  unfold nrm128
  rw [← sq128_at]
  unfold rms128
  generalize sq128 X = s
  pointwise

/-- The rotation of 8 heads' 64 features, in halves. -/
def fst8_64 (X : FVec Ideal S4x4096x8x64 .f32) (C S : FVec Ideal S4096x32 .f32) : FVec Ideal S4x4096x8x32 .f32 :=
  subf (mulf (extractStridedSlice S4x4096x8x32 ![0, 0, 0, 0] X slices_S4x4096x8x64_S4x4096x8x32_0_0_0_0) (broadcastInDim S4x4096x8x32 ![0, 1, 2, 3] bcast_S1x4096x1x32_S4x4096x8x32_0_1_2_3 (broadcastInDim S1x4096x1x32 ![1, 3] bcast_S4096x32_S1x4096x1x32_1_3 C))) (mulf (extractStridedSlice S4x4096x8x32 ![0, 0, 0, 32] X slices_S4x4096x8x64_S4x4096x8x32_0_0_0_32) (broadcastInDim S4x4096x8x32 ![0, 1, 2, 3] bcast_S1x4096x1x32_S4x4096x8x32_0_1_2_3 (broadcastInDim S1x4096x1x32 ![1, 3] bcast_S4096x32_S1x4096x1x32_1_3 S)))
def snd8_64 (X : FVec Ideal S4x4096x8x64 .f32) (C S : FVec Ideal S4096x32 .f32) : FVec Ideal S4x4096x8x32 .f32 :=
  addf (mulf (extractStridedSlice S4x4096x8x32 ![0, 0, 0, 32] X slices_S4x4096x8x64_S4x4096x8x32_0_0_0_32) (broadcastInDim S4x4096x8x32 ![0, 1, 2, 3] bcast_S1x4096x1x32_S4x4096x8x32_0_1_2_3 (broadcastInDim S1x4096x1x32 ![1, 3] bcast_S4096x32_S1x4096x1x32_1_3 C))) (mulf (extractStridedSlice S4x4096x8x32 ![0, 0, 0, 0] X slices_S4x4096x8x64_S4x4096x8x32_0_0_0_0) (broadcastInDim S4x4096x8x32 ![0, 1, 2, 3] bcast_S1x4096x1x32_S4x4096x8x32_0_1_2_3 (broadcastInDim S1x4096x1x32 ![1, 3] bcast_S4096x32_S1x4096x1x32_1_3 S)))
def rope8_64 (X : FVec Ideal S4x4096x8x64 .f32) (C S : FVec Ideal S4096x32 .f32) : FVec Ideal S4x4096x8x64 .f32 :=
  concatenate S4x4096x8x64 3 [⟨S4x4096x8x32, fst8_64 X C S⟩, ⟨S4x4096x8x32, snd8_64 X C S⟩] concatenates_S4x4096x8x32_S4x4096x8x32_S4x4096x8x64_d3

theorem fst8_64_at (X : FVec Ideal S4x4096x8x64 .f32) (C S : FVec Ideal S4096x32 .f32) (b : Fin 4) (p : Fin 4096) (h : Fin 8) (k : Fin 32) :
    fst8_64 X C S (ix4 b p h k) = X (ix4 b p h ⟨k.val, by omega⟩) * C (ix2 p k) - X (ix4 b p h ⟨32 + k.val, by omega⟩) * S (ix2 p k) := by
  pointwise [fst8_64]
theorem snd8_64_at (X : FVec Ideal S4x4096x8x64 .f32) (C S : FVec Ideal S4096x32 .f32) (b : Fin 4) (p : Fin 4096) (h : Fin 8) (k : Fin 32) :
    snd8_64 X C S (ix4 b p h k) = X (ix4 b p h ⟨32 + k.val, by omega⟩) * C (ix2 p k) + X (ix4 b p h ⟨k.val, by omega⟩) * S (ix2 p k) := by
  pointwise [snd8_64]
theorem rope8_64_at (X : FVec Ideal S4x4096x8x64 .f32) (C S : FVec Ideal S4096x32 .f32) (b : Fin 4) (p : Fin 4096) (h : Fin 8) (n : Fin 64) (u : ℕ → EReal) (hu : ∀ j : Fin 64, X (ix4 b p h j) = u j.val) :
    rope8_64 X C S (ix4 b p h n) = rot64 u (fun k => C (ix2 p k)) (fun k => S (ix2 p k)) n.val := by
  unfold rot64
  by_cases hn : n.val < 32
  · have e : rope8_64 X C S (ix4 b p h n) = fst8_64 X C S (ix4 b p h ⟨n.val, hn⟩) := by
      unfold rope8_64
      generalize fst8_64 X C S = P
      generalize snd8_64 X C S = Q
      pointwise [hn]
    rw [e, fst8_64_at, if_pos hn, hu, hu, show (⟨n.val % 32, by omega⟩ : Fin 32) = ⟨n.val, hn⟩ from Fin.ext (Nat.mod_eq_of_lt hn)]
    exact congrArg (fun a => u n.val * _ - u a * _) (Nat.add_comm _ _)
  · have e : rope8_64 X C S (ix4 b p h n) = snd8_64 X C S (ix4 b p h ⟨n.val - 32, by omega⟩) := by
      unfold rope8_64
      generalize fst8_64 X C S = P
      generalize snd8_64 X C S = Q
      pointwise [hn]
    rw [e, snd8_64_at, if_neg hn, hu, hu, show (⟨n.val % 32, by omega⟩ : Fin 32) = ⟨n.val - 32, by omega⟩ from Fin.ext (by dsimp only; omega)]
    exact congrArg (fun a => u a * _ + u (n.val - 32) * _) (show 32 + (n.val - 32) = n.val by omega)

/-- The rotation of 8 heads' 32 features, in halves. -/
def fst8_32 (X : FVec Ideal S4x4096x8x32 .f32) (C S : FVec Ideal S4096x16 .f32) : FVec Ideal S4x4096x8x16 .f32 :=
  subf (mulf (extractStridedSlice S4x4096x8x16 ![0, 0, 0, 0] X slices_S4x4096x8x32_S4x4096x8x16_0_0_0_0) (broadcastInDim S4x4096x8x16 ![0, 1, 2, 3] bcast_S1x4096x1x16_S4x4096x8x16_0_1_2_3 (broadcastInDim S1x4096x1x16 ![1, 3] bcast_S4096x16_S1x4096x1x16_1_3 C))) (mulf (extractStridedSlice S4x4096x8x16 ![0, 0, 0, 16] X slices_S4x4096x8x32_S4x4096x8x16_0_0_0_16) (broadcastInDim S4x4096x8x16 ![0, 1, 2, 3] bcast_S1x4096x1x16_S4x4096x8x16_0_1_2_3 (broadcastInDim S1x4096x1x16 ![1, 3] bcast_S4096x16_S1x4096x1x16_1_3 S)))
def snd8_32 (X : FVec Ideal S4x4096x8x32 .f32) (C S : FVec Ideal S4096x16 .f32) : FVec Ideal S4x4096x8x16 .f32 :=
  addf (mulf (extractStridedSlice S4x4096x8x16 ![0, 0, 0, 16] X slices_S4x4096x8x32_S4x4096x8x16_0_0_0_16) (broadcastInDim S4x4096x8x16 ![0, 1, 2, 3] bcast_S1x4096x1x16_S4x4096x8x16_0_1_2_3 (broadcastInDim S1x4096x1x16 ![1, 3] bcast_S4096x16_S1x4096x1x16_1_3 C))) (mulf (extractStridedSlice S4x4096x8x16 ![0, 0, 0, 0] X slices_S4x4096x8x32_S4x4096x8x16_0_0_0_0) (broadcastInDim S4x4096x8x16 ![0, 1, 2, 3] bcast_S1x4096x1x16_S4x4096x8x16_0_1_2_3 (broadcastInDim S1x4096x1x16 ![1, 3] bcast_S4096x16_S1x4096x1x16_1_3 S)))
def rope8_32 (X : FVec Ideal S4x4096x8x32 .f32) (C S : FVec Ideal S4096x16 .f32) : FVec Ideal S4x4096x8x32 .f32 :=
  concatenate S4x4096x8x32 3 [⟨S4x4096x8x16, fst8_32 X C S⟩, ⟨S4x4096x8x16, snd8_32 X C S⟩] concatenates_S4x4096x8x16_S4x4096x8x16_S4x4096x8x32_d3

theorem fst8_32_at (X : FVec Ideal S4x4096x8x32 .f32) (C S : FVec Ideal S4096x16 .f32) (b : Fin 4) (p : Fin 4096) (h : Fin 8) (k : Fin 16) :
    fst8_32 X C S (ix4 b p h k) = X (ix4 b p h ⟨k.val, by omega⟩) * C (ix2 p k) - X (ix4 b p h ⟨16 + k.val, by omega⟩) * S (ix2 p k) := by
  pointwise [fst8_32]
theorem snd8_32_at (X : FVec Ideal S4x4096x8x32 .f32) (C S : FVec Ideal S4096x16 .f32) (b : Fin 4) (p : Fin 4096) (h : Fin 8) (k : Fin 16) :
    snd8_32 X C S (ix4 b p h k) = X (ix4 b p h ⟨16 + k.val, by omega⟩) * C (ix2 p k) + X (ix4 b p h ⟨k.val, by omega⟩) * S (ix2 p k) := by
  pointwise [snd8_32]
theorem rope8_32_at (X : FVec Ideal S4x4096x8x32 .f32) (C S : FVec Ideal S4096x16 .f32) (b : Fin 4) (p : Fin 4096) (h : Fin 8) (n : Fin 32) (u : ℕ → EReal) (hu : ∀ j : Fin 32, X (ix4 b p h j) = u j.val) :
    rope8_32 X C S (ix4 b p h n) = rot32 u (fun k => C (ix2 p k)) (fun k => S (ix2 p k)) n.val := by
  unfold rot32
  by_cases hn : n.val < 16
  · have e : rope8_32 X C S (ix4 b p h n) = fst8_32 X C S (ix4 b p h ⟨n.val, hn⟩) := by
      unfold rope8_32
      generalize fst8_32 X C S = P
      generalize snd8_32 X C S = Q
      pointwise [hn]
    rw [e, fst8_32_at, if_pos hn, hu, hu, show (⟨n.val % 16, by omega⟩ : Fin 16) = ⟨n.val, hn⟩ from Fin.ext (Nat.mod_eq_of_lt hn)]
    exact congrArg (fun a => u n.val * _ - u a * _) (Nat.add_comm _ _)
  · have e : rope8_32 X C S (ix4 b p h n) = snd8_32 X C S (ix4 b p h ⟨n.val - 16, by omega⟩) := by
      unfold rope8_32
      generalize fst8_32 X C S = P
      generalize snd8_32 X C S = Q
      pointwise [hn]
    rw [e, snd8_32_at, if_neg hn, hu, hu, show (⟨n.val % 16, by omega⟩ : Fin 16) = ⟨n.val - 16, by omega⟩ from Fin.ext (by dsimp only; omega)]
    exact congrArg (fun a => u a * _ + u (n.val - 16) * _) (show 16 + (n.val - 16) = n.val by omega)

/-- The rotation of 1 heads' 32 features, in halves. -/
def fst1_32 (X : FVec Ideal S4x4096x1x32 .f32) (C S : FVec Ideal S4096x16 .f32) : FVec Ideal S4x4096x1x16 .f32 :=
  subf (mulf (extractStridedSlice S4x4096x1x16 ![0, 0, 0, 0] X slices_S4x4096x1x32_S4x4096x1x16_0_0_0_0) (broadcastInDim S4x4096x1x16 ![0, 1, 2, 3] bcast_S1x4096x1x16_S4x4096x1x16_0_1_2_3 (broadcastInDim S1x4096x1x16 ![1, 3] bcast_S4096x16_S1x4096x1x16_1_3 C))) (mulf (extractStridedSlice S4x4096x1x16 ![0, 0, 0, 16] X slices_S4x4096x1x32_S4x4096x1x16_0_0_0_16) (broadcastInDim S4x4096x1x16 ![0, 1, 2, 3] bcast_S1x4096x1x16_S4x4096x1x16_0_1_2_3 (broadcastInDim S1x4096x1x16 ![1, 3] bcast_S4096x16_S1x4096x1x16_1_3 S)))
def snd1_32 (X : FVec Ideal S4x4096x1x32 .f32) (C S : FVec Ideal S4096x16 .f32) : FVec Ideal S4x4096x1x16 .f32 :=
  addf (mulf (extractStridedSlice S4x4096x1x16 ![0, 0, 0, 16] X slices_S4x4096x1x32_S4x4096x1x16_0_0_0_16) (broadcastInDim S4x4096x1x16 ![0, 1, 2, 3] bcast_S1x4096x1x16_S4x4096x1x16_0_1_2_3 (broadcastInDim S1x4096x1x16 ![1, 3] bcast_S4096x16_S1x4096x1x16_1_3 C))) (mulf (extractStridedSlice S4x4096x1x16 ![0, 0, 0, 0] X slices_S4x4096x1x32_S4x4096x1x16_0_0_0_0) (broadcastInDim S4x4096x1x16 ![0, 1, 2, 3] bcast_S1x4096x1x16_S4x4096x1x16_0_1_2_3 (broadcastInDim S1x4096x1x16 ![1, 3] bcast_S4096x16_S1x4096x1x16_1_3 S)))
def rope1_32 (X : FVec Ideal S4x4096x1x32 .f32) (C S : FVec Ideal S4096x16 .f32) : FVec Ideal S4x4096x1x32 .f32 :=
  concatenate S4x4096x1x32 3 [⟨S4x4096x1x16, fst1_32 X C S⟩, ⟨S4x4096x1x16, snd1_32 X C S⟩] concatenates_S4x4096x1x16_S4x4096x1x16_S4x4096x1x32_d3

theorem fst1_32_at (X : FVec Ideal S4x4096x1x32 .f32) (C S : FVec Ideal S4096x16 .f32) (b : Fin 4) (p : Fin 4096) (k : Fin 16) :
    fst1_32 X C S (ix4 b p 0 k) = X (ix4 b p 0 ⟨k.val, by omega⟩) * C (ix2 p k) - X (ix4 b p 0 ⟨16 + k.val, by omega⟩) * S (ix2 p k) := by
  pointwise [fst1_32]
theorem snd1_32_at (X : FVec Ideal S4x4096x1x32 .f32) (C S : FVec Ideal S4096x16 .f32) (b : Fin 4) (p : Fin 4096) (k : Fin 16) :
    snd1_32 X C S (ix4 b p 0 k) = X (ix4 b p 0 ⟨16 + k.val, by omega⟩) * C (ix2 p k) + X (ix4 b p 0 ⟨k.val, by omega⟩) * S (ix2 p k) := by
  pointwise [snd1_32]
theorem rope1_32_at (X : FVec Ideal S4x4096x1x32 .f32) (C S : FVec Ideal S4096x16 .f32) (b : Fin 4) (p : Fin 4096) (n : Fin 32) (u : ℕ → EReal) (hu : ∀ j : Fin 32, X (ix4 b p 0 j) = u j.val) :
    rope1_32 X C S (ix4 b p 0 n) = rot32 u (fun k => C (ix2 p k)) (fun k => S (ix2 p k)) n.val := by
  unfold rot32
  by_cases hn : n.val < 16
  · have e : rope1_32 X C S (ix4 b p 0 n) = fst1_32 X C S (ix4 b p 0 ⟨n.val, hn⟩) := by
      unfold rope1_32
      generalize fst1_32 X C S = P
      generalize snd1_32 X C S = Q
      pointwise [hn]
    rw [e, fst1_32_at, if_pos hn, hu, hu, show (⟨n.val % 16, by omega⟩ : Fin 16) = ⟨n.val, hn⟩ from Fin.ext (Nat.mod_eq_of_lt hn)]
    exact congrArg (fun a => u n.val * _ - u a * _) (Nat.add_comm _ _)
  · have e : rope1_32 X C S (ix4 b p 0 n) = snd1_32 X C S (ix4 b p 0 ⟨n.val - 16, by omega⟩) := by
      unfold rope1_32
      generalize fst1_32 X C S = P
      generalize snd1_32 X C S = Q
      pointwise [hn]
    rw [e, snd1_32_at, if_neg hn, hu, hu, show (⟨n.val % 16, by omega⟩ : Fin 16) = ⟨n.val - 16, by omega⟩ from Fin.ext (by dsimp only; omega)]
    exact congrArg (fun a => u a * _ + u (n.val - 16) * _) (show 16 + (n.val - 16) = n.val by omega)

/-- The rotation of 2 heads' 64 features, in halves. -/
def fst2_64 (X : FVec Ideal S4x4096x2x64 .f32) (C S : FVec Ideal S4096x32 .f32) : FVec Ideal S4x4096x2x32 .f32 :=
  subf (mulf (extractStridedSlice S4x4096x2x32 ![0, 0, 0, 0] X slices_S4x4096x2x64_S4x4096x2x32_0_0_0_0) (broadcastInDim S4x4096x2x32 ![0, 1, 2, 3] bcast_S1x4096x1x32_S4x4096x2x32_0_1_2_3 (broadcastInDim S1x4096x1x32 ![1, 3] bcast_S4096x32_S1x4096x1x32_1_3 C))) (mulf (extractStridedSlice S4x4096x2x32 ![0, 0, 0, 32] X slices_S4x4096x2x64_S4x4096x2x32_0_0_0_32) (broadcastInDim S4x4096x2x32 ![0, 1, 2, 3] bcast_S1x4096x1x32_S4x4096x2x32_0_1_2_3 (broadcastInDim S1x4096x1x32 ![1, 3] bcast_S4096x32_S1x4096x1x32_1_3 S)))
def snd2_64 (X : FVec Ideal S4x4096x2x64 .f32) (C S : FVec Ideal S4096x32 .f32) : FVec Ideal S4x4096x2x32 .f32 :=
  addf (mulf (extractStridedSlice S4x4096x2x32 ![0, 0, 0, 32] X slices_S4x4096x2x64_S4x4096x2x32_0_0_0_32) (broadcastInDim S4x4096x2x32 ![0, 1, 2, 3] bcast_S1x4096x1x32_S4x4096x2x32_0_1_2_3 (broadcastInDim S1x4096x1x32 ![1, 3] bcast_S4096x32_S1x4096x1x32_1_3 C))) (mulf (extractStridedSlice S4x4096x2x32 ![0, 0, 0, 0] X slices_S4x4096x2x64_S4x4096x2x32_0_0_0_0) (broadcastInDim S4x4096x2x32 ![0, 1, 2, 3] bcast_S1x4096x1x32_S4x4096x2x32_0_1_2_3 (broadcastInDim S1x4096x1x32 ![1, 3] bcast_S4096x32_S1x4096x1x32_1_3 S)))
def rope2_64 (X : FVec Ideal S4x4096x2x64 .f32) (C S : FVec Ideal S4096x32 .f32) : FVec Ideal S4x4096x2x64 .f32 :=
  concatenate S4x4096x2x64 3 [⟨S4x4096x2x32, fst2_64 X C S⟩, ⟨S4x4096x2x32, snd2_64 X C S⟩] concatenates_S4x4096x2x32_S4x4096x2x32_S4x4096x2x64_d3

theorem fst2_64_at (X : FVec Ideal S4x4096x2x64 .f32) (C S : FVec Ideal S4096x32 .f32) (b : Fin 4) (p : Fin 4096) (h : Fin 2) (k : Fin 32) :
    fst2_64 X C S (ix4 b p h k) = X (ix4 b p h ⟨k.val, by omega⟩) * C (ix2 p k) - X (ix4 b p h ⟨32 + k.val, by omega⟩) * S (ix2 p k) := by
  pointwise [fst2_64]
theorem snd2_64_at (X : FVec Ideal S4x4096x2x64 .f32) (C S : FVec Ideal S4096x32 .f32) (b : Fin 4) (p : Fin 4096) (h : Fin 2) (k : Fin 32) :
    snd2_64 X C S (ix4 b p h k) = X (ix4 b p h ⟨32 + k.val, by omega⟩) * C (ix2 p k) + X (ix4 b p h ⟨k.val, by omega⟩) * S (ix2 p k) := by
  pointwise [snd2_64]
theorem rope2_64_at (X : FVec Ideal S4x4096x2x64 .f32) (C S : FVec Ideal S4096x32 .f32) (b : Fin 4) (p : Fin 4096) (h : Fin 2) (n : Fin 64) (u : ℕ → EReal) (hu : ∀ j : Fin 64, X (ix4 b p h j) = u j.val) :
    rope2_64 X C S (ix4 b p h n) = rot64 u (fun k => C (ix2 p k)) (fun k => S (ix2 p k)) n.val := by
  unfold rot64
  by_cases hn : n.val < 32
  · have e : rope2_64 X C S (ix4 b p h n) = fst2_64 X C S (ix4 b p h ⟨n.val, hn⟩) := by
      unfold rope2_64
      generalize fst2_64 X C S = P
      generalize snd2_64 X C S = Q
      pointwise [hn]
    rw [e, fst2_64_at, if_pos hn, hu, hu, show (⟨n.val % 32, by omega⟩ : Fin 32) = ⟨n.val, hn⟩ from Fin.ext (Nat.mod_eq_of_lt hn)]
    exact congrArg (fun a => u n.val * _ - u a * _) (Nat.add_comm _ _)
  · have e : rope2_64 X C S (ix4 b p h n) = snd2_64 X C S (ix4 b p h ⟨n.val - 32, by omega⟩) := by
      unfold rope2_64
      generalize fst2_64 X C S = P
      generalize snd2_64 X C S = Q
      pointwise [hn]
    rw [e, snd2_64_at, if_neg hn, hu, hu, show (⟨n.val % 32, by omega⟩ : Fin 32) = ⟨n.val - 32, by omega⟩ from Fin.ext (by dsimp only; omega)]
    exact congrArg (fun a => u a * _ + u (n.val - 32) * _) (show 32 + (n.val - 32) = n.val by omega)

end Cert.Reference5Ideal.Ref

end
-- ==== Proof.RefProj.lean ====
/- The projections' reference results as whole arrays, at the ideal instance. -/
module

public import proofs.«01_k».proof.Proof.RefRot

@[expose] public section

set_option maxRecDepth 16384

noncomputable section

open Idealize.ShloMosaic Idealize.ShloMosaic.TcCoe Idealize.SL.Sem

namespace Cert.Reference5Ideal.Ref

open Cert.Reference5Ideal Cert.Reference5Ideal.Gen
open Cert.Kernel5Ideal.PValue (nrm nrm128 proj feat feat_eq posn cos64 sin64 cos32 sin32 rot64 rot32 ang64 ang32 sbqAt qlatAt qropeAt ckvAt krAt kcatAt mbqAt mbkAt
  Gsbq Gcut Gqlat Gqrope Gckv Gkr Gkcat Gmbq Gmbk Ggates zero_int)

section Parts
variable (Y : FVec Ideal S16384x5536 .f32) (U : FVec Ideal S128x8x64 .f32) (γ : FVec Ideal S128 .f32)

/-- A slice of the features. -/
theorem slice_at {w : ℕ} (o : ℕ) (h : Shape.Slices S16384x5536 ![0, o] ⟨2, ![16384, w]⟩) (hw : o + w ≤ 5536) (r : Fin 16384) (s : Fin w) :
    extractStridedSlice ⟨2, ![16384, w]⟩ ![0, o] Y h (ix2 r s) = feat Y r (o + s.val) := by
  rw [feat_eq Y r _ ⟨o + s.val, by omega⟩ rfl]
  exact extractStridedSlice_apply _ Y h (ix2 r s) (ix2 r ⟨o + s.val, by omega⟩) fun a => by
    match a with
    | 0 => simp
    | 1 => simp

/-- The heads' queries among the features. -/
def lat : FVec Ideal S16384x8x96 .f32 :=
  shapeCast _ (extractStridedSlice S16384x768 ![0, 768] Y slices_S16384x5536_S16384x768_0_768) shapeCasts_S16384x768_S16384x8x96
def latRope : FVec Ideal S4x4096x8x32 .f32 :=
  shapeCast _ (extractStridedSlice S16384x8x32 ![0, 0, 64] (lat Y) slices_S16384x8x96_S16384x8x32_0_0_64) shapeCasts_S16384x8x32_S4x4096x8x32
def keyRope : FVec Ideal S4x4096x1x32 .f32 :=
  shapeCast _ (broadcastInDim S16384x1x32 ![0, 2] bcast_S16384x32_S16384x1x32_0_2 (extractStridedSlice S16384x32 ![0, 1664] Y slices_S16384x5536_S16384x32_0_1664)) shapeCasts_S16384x1x32_S4x4096x1x32
def mobaQ : FVec Ideal S4x4096x8x64 .f32 :=
  shapeCast _ (shapeCast _ (extractStridedSlice S16384x512 ![0, 1696] Y slices_S16384x5536_S16384x512_0_1696) shapeCasts_S16384x512_S16384x8x64) shapeCasts_S16384x8x64_S4x4096x8x64
def mobaK : FVec Ideal S4x4096x2x64 .f32 :=
  shapeCast _ (shapeCast _ (extractStridedSlice S16384x128 ![0, 2208] Y slices_S16384x5536_S16384x128_0_2208) shapeCasts_S16384x128_S16384x2x64) shapeCasts_S16384x2x64_S4x4096x2x64
def stickQ : FVec Ideal S16384x8x64 .f32 :=
  shapeCast _ (mulf (extractStridedSlice S16384x512 ![0, 0] Y slices_S16384x5536_S16384x512_0_0) (broadcastInDim S16384x512 ![] bcast_S_S16384x512 (constant S_ .f32 0x3E000000#32))) shapeCasts_S16384x512_S16384x8x64

theorem latRope_at (r : Fin 16384) (h : Fin 8) (j : Fin 32) :
    latRope Y (ix4 ⟨r.val / 4096, by omega⟩ ⟨r.val % 4096, by omega⟩ h j) = feat Y r (832 + 96 * h.val + j.val) := by
  have e : ∀ (b : Fin 4) (p : Fin 4096), latRope Y (ix4 b p h j) = Y (ix2 ⟨b.val * 4096 + p.val, by omega⟩ ⟨768 + (h.val * 96 + (64 + j.val)), by omega⟩) := by
    intro b p
    pointwise [latRope, lat]
  rw [e, feat_eq Y r _ ⟨768 + (h.val * 96 + (64 + j.val)), by omega⟩ (by dsimp only; omega)]
  exact congrArg (fun a => Y (ix2 a _)) (Fin.ext (by dsimp only; omega))

theorem keyRope_at (r : Fin 16384) (j : Fin 32) :
    keyRope Y (ix4 ⟨r.val / 4096, by omega⟩ ⟨r.val % 4096, by omega⟩ 0 j) = feat Y r (1664 + j.val) := by
  have e : ∀ (b : Fin 4) (p : Fin 4096), keyRope Y (ix4 b p 0 j) = Y (ix2 ⟨b.val * 4096 + p.val, by omega⟩ ⟨1664 + j.val, by omega⟩) := by
    intro b p
    pointwise [keyRope]
  rw [e, feat_eq Y r _ ⟨1664 + j.val, by omega⟩ rfl]
  exact congrArg (fun a => Y (ix2 a _)) (Fin.ext (by dsimp only; omega))

theorem mobaQ_at (r : Fin 16384) (h : Fin 8) (j : Fin 64) :
    mobaQ Y (ix4 ⟨r.val / 4096, by omega⟩ ⟨r.val % 4096, by omega⟩ h j) = feat Y r (1696 + (h.val * 64 + j.val)) := by
  have e : ∀ (b : Fin 4) (p : Fin 4096), mobaQ Y (ix4 b p h j) = Y (ix2 ⟨b.val * 4096 + p.val, by omega⟩ ⟨1696 + (h.val * 64 + j.val), by omega⟩) := by
    intro b p
    pointwise [mobaQ]
  rw [e, feat_eq Y r _ ⟨1696 + (h.val * 64 + j.val), by omega⟩ rfl]
  exact congrArg (fun a => Y (ix2 a _)) (Fin.ext (by dsimp only; omega))

theorem mobaK_at (r : Fin 16384) (h : Fin 2) (j : Fin 64) :
    mobaK Y (ix4 ⟨r.val / 4096, by omega⟩ ⟨r.val % 4096, by omega⟩ h j) = feat Y r (2208 + (h.val * 64 + j.val)) := by
  have e : ∀ (b : Fin 4) (p : Fin 4096), mobaK Y (ix4 b p h j) = Y (ix2 ⟨b.val * 4096 + p.val, by omega⟩ ⟨2208 + (h.val * 64 + j.val), by omega⟩) := by
    intro b p
    pointwise [mobaK]
  rw [e, feat_eq Y r _ ⟨2208 + (h.val * 64 + j.val), by omega⟩ rfl]
  exact congrArg (fun a => Y (ix2 a _)) (Fin.ext (by dsimp only; omega))

theorem stickQ_at (r : Fin 16384) (h : Fin 8) (j : Fin 64) :
    stickQ Y (ix3 r h j) = feat Y r (h.val * 64 + j.val) * Ideal.ofBits .f32 0x3E000000#32 := by
  rw [feat_eq Y r _ ⟨h.val * 64 + j.val, by omega⟩ rfl]
  pointwise [stickQ]

/-- Each head's features in its own group's half of its slot, zeros in the other half. -/
def lo (Q : FVec Ideal S16384x8x64 .f32) : FVec Ideal S16384x4x128 .f32 :=
  concatenate S16384x4x128 2 [⟨S16384x4x64, (extractStridedSlice S16384x4x64 ![0, 0, 0] Q slices_S16384x8x64_S16384x4x64_0_0_0)⟩, ⟨S16384x4x64, (broadcastInDim S16384x4x64 ![] bcast_S_S16384x4x64 (constant S_ .f32 0x00000000#32))⟩] concatenates_S16384x4x64_S16384x4x64_S16384x4x128_d2
def hi (Q : FVec Ideal S16384x8x64 .f32) : FVec Ideal S16384x4x128 .f32 :=
  concatenate S16384x4x128 2 [⟨S16384x4x64, (broadcastInDim S16384x4x64 ![] bcast_S_S16384x4x64 (constant S_ .f32 0x00000000#32))⟩, ⟨S16384x4x64, (extractStridedSlice S16384x4x64 ![0, 4, 0] Q slices_S16384x8x64_S16384x4x64_0_4_0)⟩] concatenates_S16384x4x64_S16384x4x64_S16384x4x128_d2
def slots (Q : FVec Ideal S16384x8x64 .f32) : FVec Ideal S16384x1024 .f32 :=
  shapeCast _ (concatenate S16384x8x128 1 [⟨S16384x4x128, lo Q⟩, ⟨S16384x4x128, hi Q⟩] concatenates_S16384x4x128_S16384x4x128_S16384x8x128_d1) shapeCasts_S16384x8x128_S16384x1024

theorem zero_at (r : Fin 16384) (h : Fin 4) (l : Fin 64) : (broadcastInDim S16384x4x64 ![] bcast_S_S16384x4x64 (constant (F := Ideal) S_ .f32 0x00000000#32)) (ix3 r h l) = (0 : EReal) := by
  pointwise

theorem lo_own (Q : FVec Ideal S16384x8x64 .f32) (r : Fin 16384) (h : Fin 4) (l : Fin 128) (hl : l.val < 64) :
    lo Q (ix3 r h l) = Q (ix3 r ⟨h.val, by omega⟩ ⟨l.val, hl⟩) := by
  pointwise [lo, hl]
theorem lo_other (Q : FVec Ideal S16384x8x64 .f32) (r : Fin 16384) (h : Fin 4) (l : Fin 128) (hl : ¬ l.val < 64) : lo Q (ix3 r h l) = (0 : EReal) := by
  rw [← zero_at r h ⟨l.val - 64, by omega⟩]
  unfold lo
  generalize (broadcastInDim S16384x4x64 ![] bcast_S_S16384x4x64 (constant (F := Ideal) S_ .f32 0x00000000#32)) = Z
  pointwise [hl]
theorem hi_own (Q : FVec Ideal S16384x8x64 .f32) (r : Fin 16384) (h : Fin 4) (l : Fin 128) (hl : ¬ l.val < 64) :
    hi Q (ix3 r h l) = Q (ix3 r ⟨4 + h.val, by omega⟩ ⟨l.val - 64, by omega⟩) := by
  pointwise [hi, hl]
theorem hi_other (Q : FVec Ideal S16384x8x64 .f32) (r : Fin 16384) (h : Fin 4) (l : Fin 128) (hl : l.val < 64) : hi Q (ix3 r h l) = (0 : EReal) := by
  rw [← zero_at r h ⟨l.val, hl⟩]
  unfold hi
  generalize (broadcastInDim S16384x4x64 ![] bcast_S_S16384x4x64 (constant (F := Ideal) S_ .f32 0x00000000#32)) = Z
  pointwise [hl]

theorem slots_lo (Q : FVec Ideal S16384x8x64 .f32) (r : Fin 16384) (s : Fin 1024) (hs : s.val / 128 < 4) :
    slots Q (ix2 r s) = lo Q (ix3 r ⟨s.val / 128, hs⟩ ⟨s.val % 128, by omega⟩) := by
  unfold slots
  generalize lo Q = A
  generalize hi Q = B
  pointwise [hs]
theorem slots_hi (Q : FVec Ideal S16384x8x64 .f32) (r : Fin 16384) (s : Fin 1024) (hs : ¬ s.val / 128 < 4) :
    slots Q (ix2 r s) = hi Q (ix3 r ⟨s.val / 128 - 4, by omega⟩ ⟨s.val % 128, by omega⟩) := by
  unfold slots
  generalize lo Q = A
  generalize hi Q = B
  pointwise [hs]

theorem slots_at (Q : FVec Ideal S16384x8x64 .f32) (r : Fin 16384) (s : Fin 1024) :
    slots Q (ix2 r s) = if s.val % 128 / 64 = s.val / 512 then Q (ix3 r ⟨s.val / 128, by omega⟩ ⟨s.val % 64, by omega⟩) else 0 := by
  by_cases hs : s.val / 128 < 4
  · rw [slots_lo Q r s hs]
    by_cases hl : s.val % 128 < 64
    · rw [lo_own Q r _ _ hl, if_pos (by omega)]
      exact congrArg (fun n => Q (ix3 r _ n)) (Fin.ext (by dsimp only; omega))
    · rw [lo_other Q r _ _ hl, if_neg (by omega)]
  · rw [slots_hi Q r s hs]
    by_cases hl : s.val % 128 < 64
    · rw [hi_other Q r _ _ hl, if_neg (by omega)]
    · rw [hi_own Q r _ _ hl, if_pos (by omega)]
      exact congrArg₂ (fun a n => Q (ix3 r a n)) (Fin.ext (by dsimp only; omega)) (Fin.ext (by dsimp only; omega))

/-- The rotated features, over all rows. -/
def qropeHeads : FVec Ideal S16384x8x32 .f32 :=
  shapeCast _ (rope8_32 (latRope Y) (Host.cos ang32) (Host.sin ang32)) shapeCasts_S4x4096x8x32_S16384x8x32
def mbqHeads : FVec Ideal S16384x8x64 .f32 :=
  shapeCast _ (rope8_64 (mobaQ Y) (Host.cos ang64) (Host.sin ang64)) shapeCasts_S4x4096x8x64_S16384x8x64
def kr : FVec Ideal S16384x32 .f32 :=
  shapeCast _ (shapeCast _ (rope1_32 (keyRope Y) (Host.cos ang32) (Host.sin ang32)) shapeCasts_S4x4096x1x32_S16384x1x32) shapeCasts_S16384x1x32_S16384x32
def mbk : FVec Ideal S16384x128 .f32 :=
  shapeCast _ (shapeCast _ (rope2_64 (mobaK Y) (Host.cos ang64) (Host.sin ang64)) shapeCasts_S4x4096x2x64_S16384x2x64) shapeCasts_S16384x2x64_S16384x128

theorem flat8_32 (R : FVec Ideal S4x4096x8x32 .f32) (r : Fin 16384) (h : Fin 8) (n : Fin 32) :
    shapeCast S16384x8x32 R shapeCasts_S4x4096x8x32_S16384x8x32 (ix3 r h n) = R (ix4 ⟨r.val / 4096, by omega⟩ ⟨r.val % 4096, by omega⟩ h n) := by pointwise
theorem flat8_64 (R : FVec Ideal S4x4096x8x64 .f32) (r : Fin 16384) (h : Fin 8) (n : Fin 64) :
    shapeCast S16384x8x64 R shapeCasts_S4x4096x8x64_S16384x8x64 (ix3 r h n) = R (ix4 ⟨r.val / 4096, by omega⟩ ⟨r.val % 4096, by omega⟩ h n) := by pointwise
theorem flat1_32 (R : FVec Ideal S4x4096x1x32 .f32) (r : Fin 16384) (n : Fin 32) :
    shapeCast S16384x32 (shapeCast S16384x1x32 R shapeCasts_S4x4096x1x32_S16384x1x32) shapeCasts_S16384x1x32_S16384x32 (ix2 r n) = R (ix4 ⟨r.val / 4096, by omega⟩ ⟨r.val % 4096, by omega⟩ 0 n) := by pointwise
theorem flat2_64 (R : FVec Ideal S4x4096x2x64 .f32) (r : Fin 16384) (l : Fin 128) :
    shapeCast S16384x128 (shapeCast S16384x2x64 R shapeCasts_S4x4096x2x64_S16384x2x64) shapeCasts_S16384x2x64_S16384x128 (ix2 r l)
      = R (ix4 ⟨r.val / 4096, by omega⟩ ⟨r.val % 4096, by omega⟩ ⟨l.val / 64, by omega⟩ ⟨l.val % 64, by omega⟩) := by pointwise

theorem qropeHeads_at (r : Fin 16384) (h : Fin 8) (n : Fin 32) :
    qropeHeads Y (ix3 r h n) = rot32 (fun j => feat Y r (832 + 96 * h.val + j)) (cos32 r) (sin32 r) n.val :=
  (flat8_32 _ r h n).trans (rope8_32_at _ _ _ _ _ h n _ fun j => latRope_at Y r h j)
theorem mbqHeads_at (r : Fin 16384) (h : Fin 8) (n : Fin 64) :
    mbqHeads Y (ix3 r h n) = rot64 (fun j => feat Y r (1696 + (h.val * 64 + j))) (cos64 r) (sin64 r) n.val :=
  (flat8_64 _ r h n).trans (rope8_64_at _ _ _ _ _ h n _ fun j => mobaQ_at Y r h j)
theorem kr_at (r : Fin 16384) (n : Fin 32) : kr Y (ix2 r n) = krAt Y r n.val :=
  (flat1_32 _ r n).trans (rope1_32_at _ _ _ _ _ n _ fun j => keyRope_at Y r j)
theorem mbk_at (r : Fin 16384) (l : Fin 128) : mbk Y (ix2 r l) = mbkAt Y r l :=
  (flat2_64 _ r l).trans (rope2_64_at _ _ _ _ _ _ _ _ fun j => mobaK_at Y r _ j)

def qrope : FVec Ideal S16384x1024 .f32 :=
  shapeCast _ (pad S16384x8x128 ![0, 0, 0] ![0, 0, 96] ![0, 0, 0] (qropeHeads Y) (sitofp (F := Ideal) .f32 (constantI S_ 32 0#32)) pads_S16384x8x32_S16384x8x128_000_000_0960 h_S_) shapeCasts_S16384x8x128_S16384x1024

theorem pad_in (X : FVec Ideal S16384x8x32 .f32) (v : FVec Ideal S_ .f32) (k : Fin 16384) (h : Fin 8) (l : Fin 128) (hl : l.val < 32) :
    pad S16384x8x128 ![0, 0, 0] ![0, 0, 96] ![0, 0, 0] X v pads_S16384x8x32_S16384x8x128_000_000_0960 h_S_ (ix3 k h l) = X (ix3 k h ⟨l.val, hl⟩) :=
  pad_apply_of_inside (s := S16384x8x32) (t := S16384x8x128) _ _ _ X v _ h_S_ (ix3 k h l) (ix3 k h ⟨l.val, hl⟩)
    (fun a => by match a with | 0 => simp | 1 => simp | 2 => simp)

theorem pad_out (X : FVec Ideal S16384x8x32 .f32) (v : FVec Ideal S_ .f32) (k : Fin 16384) (h : Fin 8) (l : Fin 128) (hl : ¬ l.val < 32) :
    pad S16384x8x128 ![0, 0, 0] ![0, 0, 96] ![0, 0, 0] X v pads_S16384x8x32_S16384x8x128_000_000_0960 h_S_ (ix3 k h l) = v (Shape.Idx.first h_S_) :=
  pad_apply_of_not_inside (s := S16384x8x32) (t := S16384x8x128) _ _ _ X v _ h_S_ (ix3 k h l) 2
    (fun hh => hl (by have := hh.2.2; simpa using this))

theorem fold_at (P : FVec Ideal S16384x8x128 .f32) (r : Fin 16384) (s : Fin 1024) :
    shapeCast S16384x1024 P shapeCasts_S16384x8x128_S16384x1024 (ix2 r s) = P (ix3 r ⟨s.val / 128, by omega⟩ ⟨s.val % 128, by omega⟩) := by
  pointwise

theorem qrope_at (r : Fin 16384) (s : Fin 1024) : qrope Y (ix2 r s) = qropeAt Y r s := by
  unfold qrope qropeAt
  rw [fold_at]
  by_cases h : s.val % 128 < 32
  · rw [pad_in _ _ r _ _ h, if_pos h, qropeHeads_at]
  · rw [pad_out _ _ r _ _ h, if_neg h]
    exact zero_int

/-- The latent queries: each head's features through its key projection. -/
def qlat : FVec Ideal S16384x1024 .f32 :=
  shapeCast _ (transpose S16384x8x128 [2, 0, 1] (Host.dotGeneral dot_S128x8x64_S16384x8x64_S8x128x16384_2_2_0_0_1_1 none U (extractStridedSlice S16384x8x64 ![0, 0, 0] (lat Y) slices_S16384x8x96_S16384x8x64_0_0_0)) transposes_S8x128x16384_S16384x8x128_2_0_1) shapeCasts_S16384x8x128_S16384x1024

theorem qlat_at (r : Fin 16384) (s : Fin 1024) : qlat Y U (ix2 r s) = qlatAt Y U r s := by
  have e : qlat Y U (ix2 r s) = ∑ n : Fin 64, U (ix3 ⟨s.val % 128, by omega⟩ ⟨s.val / 128, by omega⟩ n) * Y (ix2 r ⟨768 + (s.val / 128 * 96 + n.val), by omega⟩) := by
    pointwise [qlat, lat]
  rw [e]
  unfold qlatAt
  refine Finset.sum_congr rfl fun n _ => congrArg (_ * ·) ?_
  exact (feat_eq Y r _ _ (by dsimp only; omega)).symm

def latent : FVec Ideal S16384x128 .f32 := rms128 (extractStridedSlice S16384x128 ![0, 1536] Y slices_S16384x5536_S16384x128_0_1536) γ

theorem latent_at (r : Fin 16384) (l : Fin 128) : latent Y γ (ix2 r l) = ckvAt Y γ r l := by
  have e := fun k : Fin 128 => slice_at Y 1536 slices_S16384x5536_S16384x128_0_1536 (by omega) r k
  unfold latent ckvAt
  rw [rms128_at]
  exact congrArg (fun a => nrm128 a _ l) (funext e)

/-- Latents, rope keys and zeros side by side. -/
def kcat (A : FVec Ideal S16384x128 .f32) (B : FVec Ideal S16384x32 .f32) : FVec Ideal S16384x256 .f32 :=
  concatenate S16384x256 1 [⟨S16384x128, A⟩, ⟨S16384x32, B⟩, ⟨S16384x96, (broadcastInDim S16384x96 ![] bcast_S_S16384x96 (constant S_ .f32 0x00000000#32))⟩] concatenates_S16384x128_S16384x32_S16384x96_S16384x256_d1

theorem kcat_at (A : FVec Ideal S16384x128 .f32) (B : FVec Ideal S16384x32 .f32) (r : Fin 16384) (l : Fin 256) :
    kcat A B (ix2 r l) = if h : l.val < 128 then A (ix2 r ⟨l.val, h⟩) else if h2 : l.val < 160 then B (ix2 r ⟨l.val - 128, by omega⟩) else 0 := by
  by_cases h : l.val < 128
  · rw [dif_pos h]
    exact concatenate_apply_piece (t := S16384x256) 1 [⟨S16384x128, A⟩, ⟨S16384x32, B⟩, ⟨S16384x96, _⟩] _ (ix2 r l) 0 (by simp) S16384x128 A rfl rfl 0 rfl (ix2 r ⟨l.val, h⟩)
      (fun b hb => by match b with | 0 => rfl | 1 => exact absurd rfl hb) (by simp)
  · rw [dif_neg h]
    by_cases h2 : l.val < 160
    · rw [dif_pos h2]
      exact concatenate_apply_piece (t := S16384x256) 1 [⟨S16384x128, A⟩, ⟨S16384x32, B⟩, ⟨S16384x96, _⟩] _ (ix2 r l) 1 (by simp) S16384x32 B rfl rfl 128 rfl (ix2 r ⟨l.val - 128, by omega⟩)
        (fun b hb => by match b with | 0 => rfl | 1 => exact absurd rfl hb) (by simp; omega)
    · rw [dif_neg h2]
      refine (concatenate_apply_piece (t := S16384x256) 1 [⟨S16384x128, A⟩, ⟨S16384x32, B⟩, ⟨S16384x96, (broadcastInDim S16384x96 ![] bcast_S_S16384x96 (constant (F := Ideal) S_ .f32 0x00000000#32))⟩] _ (ix2 r l) 2 (by simp) S16384x96 _ rfl rfl 160 rfl (ix2 r ⟨l.val - 160, by omega⟩)
        (fun b hb => by match b with | 0 => rfl | 1 => exact absurd rfl hb) (by simp; omega)).trans ?_
      pointwise

def gates (P : FVec Ideal S16384x3072 .f32) : FVec Ideal S16384x3072 .f32 :=
  Host.divf (broadcastInDim S16384x3072 ![] bcast_S_S16384x3072 (constant S_ .f32 0x3F800000#32)) (addf (broadcastInDim S16384x3072 ![] bcast_S_S16384x3072 (constant S_ .f32 0x3F800000#32)) (Host.exp (Host.negf P)))

theorem gates_at (P : FVec Ideal S16384x3072 .f32) (r : Fin 16384) (l : Fin 3072) : gates P (ix2 r l) = Ideal.logistic (P (ix2 r l)) := by
  unfold Ideal.logistic
  rw [← Cert.Reference2Ideal.Ref.one_bits]
  pointwise [gates]

end Parts

end Cert.Reference5Ideal.Ref

end
-- ==== Proof.RefRun.lean ====
/- The projections' reference run, at the ideal instance. -/
module

public import proofs.«01_k».proof.Proof.RefProj

@[expose] public section

set_option maxRecDepth 16384

noncomputable section

open Idealize.ShloMosaic Idealize.ShloMosaic.TcCoe Idealize.SL.Sem

namespace Cert.Reference5Ideal.Ref

open Cert.Reference5Ideal Cert.Reference5Ideal.Gen
open Cert.Kernel5Ideal.PValue (nrm nrm128 proj feat feat_eq posn cos64 sin64 cos32 sin32 rot64 rot32 ang64 ang32 sbqAt qlatAt qropeAt ckvAt krAt kcatAt mbqAt mbkAt
  Gsbq Gcut Gqlat Gqrope Gckv Gkr Gkcat Gmbq Gmbk Ggates zero_int)

/-- The arguments of a launch, and the projection of all rows. -/
abbrev b0 (m : (ℓ : Loc nD τ sig) → Buf (Elt Ideal) ℓ) (c : Dev nD) : FVec Ideal S16384x1024 .f32 := m ((c.tc : Thread nD τ).loc main_arg0)
abbrev b1 (m : (ℓ : Loc nD τ sig) → Buf (Elt Ideal) ℓ) (c : Dev nD) : FVec Ideal S1024 .f32 := m ((c.tc : Thread nD τ).loc main_arg1)
abbrev b2 (m : (ℓ : Loc nD τ sig) → Buf (Elt Ideal) ℓ) (c : Dev nD) : FVec Ideal S1024x5536 .f32 := m ((c.tc : Thread nD τ).loc main_arg2)
abbrev b3 (m : (ℓ : Loc nD τ sig) → Buf (Elt Ideal) ℓ) (c : Dev nD) : FVec Ideal S128 .f32 := m ((c.tc : Thread nD τ).loc main_arg3)
abbrev b4 (m : (ℓ : Loc nD τ sig) → Buf (Elt Ideal) ℓ) (c : Dev nD) : FVec Ideal S128x8x64 .f32 := m ((c.tc : Thread nD τ).loc main_arg4)

section Arrays
variable (Y : FVec Ideal S16384x5536 .f32) (U : FVec Ideal S128x8x64 .f32) (γ : FVec Ideal S128 .f32)

/-- An array is known by its entries. -/
theorem ext2 {a b : ℕ} {P Q : (⟨2, ![a, b]⟩ : Shape).Idx → EReal} (h : ∀ (r : Fin a) (s : Fin b), P (ix2 r s) = Q (ix2 r s)) : P = Q :=
  funext fun z => by
    rw [← ix2_eta z]
    exact h _ _

theorem sbq_eq : slots (stickQ Y) = Gsbq Y := ext2 fun r s => by
  rw [slots_at, stickQ_at]
  rfl
theorem cut_eq (o : ℕ) (h : Shape.Slices S16384x5536 ![0, o] S16384x128) (hw : o + 128 ≤ 5536) : extractStridedSlice S16384x128 ![0, o] Y h = Gcut Y o :=
  ext2 fun r s => slice_at Y o h hw r s
theorem qlat_eq : qlat Y U = Gqlat Y U := ext2 fun r s => qlat_at Y U r s
theorem qrope_eq : qrope Y = Gqrope Y := ext2 fun r s => qrope_at Y r s
theorem latent_eq : latent Y γ = Gckv Y γ := ext2 fun r s => latent_at Y γ r s
theorem kr_eq : kr Y = Gkr Y := ext2 fun r s => kr_at Y r s
theorem kcat_eq : kcat (latent Y γ) (kr Y) = Gkcat Y γ := ext2 fun r l => by
  refine (kcat_at _ _ r l).trans ?_
  show _ = kcatAt Y γ r l
  unfold kcatAt
  by_cases h : l.val < 128
  · rw [dif_pos h, dif_pos h, latent_at]
  · rw [dif_neg h, dif_neg h]
    by_cases h2 : l.val < 160
    · rw [dif_pos h2, if_pos h2, kr_at]
    · rw [dif_neg h2, if_neg h2]
theorem mbq_eq : slots (mbqHeads Y) = Gmbq Y := ext2 fun r s => by
  rw [slots_at, mbqHeads_at]
  rfl
theorem mbk_eq : mbk Y = Gmbk Y := ext2 fun r s => mbk_at Y r s
theorem gates_eq : gates (extractStridedSlice S16384x3072 ![0, 2464] Y slices_S16384x5536_S16384x3072_0_2464) = Ggates Y := ext2 fun r s => by
  refine (gates_at _ r s).trans ?_
  rw [slice_at Y 2464 slices_S16384x5536_S16384x3072_0_2464 (by omega) r s]
  rfl

end Arrays

variable (m : (ℓ : Loc nD τ sig) → Buf (Elt Ideal) ℓ)

/-- The projection of a launch's rows. -/
abbrev YR (c : Dev nD) : FVec Ideal S16384x5536 .f32 := proj (b0 m c) (b1 m c) (b2 m c)

theorem v13_eq (c : Dev nD) : Value.res_main_v13 (StableHlo.launchContents m c) = YR m c :=
  (show Value.res_main_v13 (StableHlo.launchContents m c) = up (rms (b0 m c) (b1 m c)) (b2 m c) from rfl).trans (up_eq _ _ _)

theorem sbq_eqR (c : Dev nD) : slots (stickQ (Value.res_main_v13 (StableHlo.launchContents m c))) = Gsbq (YR m c) :=
  (sbq_eq _).trans (congrArg Gsbq (v13_eq m c))
theorem cut_eqR (c : Dev nD) (o : ℕ) (h : Shape.Slices S16384x5536 ![0, o] S16384x128) (hw : o + 128 ≤ 5536) : extractStridedSlice S16384x128 ![0, o] (Value.res_main_v13 (StableHlo.launchContents m c)) h = Gcut (YR m c) o :=
  (cut_eq _ o h hw).trans (congrArg (fun y => Gcut y o) (v13_eq m c))
theorem qlat_eqR (c : Dev nD) : qlat (Value.res_main_v13 (StableHlo.launchContents m c)) (b4 m c) = Gqlat (YR m c) (b4 m c) :=
  (qlat_eq _ _).trans (congrArg (fun y => Gqlat y (b4 m c)) (v13_eq m c))
theorem qrope_eqR (c : Dev nD) : qrope (Value.res_main_v13 (StableHlo.launchContents m c)) = Gqrope (YR m c) :=
  (qrope_eq _).trans (congrArg Gqrope (v13_eq m c))
theorem latent_eqR (c : Dev nD) : latent (Value.res_main_v13 (StableHlo.launchContents m c)) (b3 m c) = Gckv (YR m c) (b3 m c) :=
  (latent_eq _ _).trans (congrArg (fun y => Gckv y (b3 m c)) (v13_eq m c))
theorem kr_eqR (c : Dev nD) : kr (Value.res_main_v13 (StableHlo.launchContents m c)) = Gkr (YR m c) :=
  (kr_eq _).trans (congrArg Gkr (v13_eq m c))
theorem kcat_eqR (c : Dev nD) : kcat (latent (Value.res_main_v13 (StableHlo.launchContents m c)) (b3 m c)) (kr (Value.res_main_v13 (StableHlo.launchContents m c))) = Gkcat (YR m c) (b3 m c) :=
  (kcat_eq _ _).trans (congrArg (fun y => Gkcat y (b3 m c)) (v13_eq m c))
theorem mbq_eqR (c : Dev nD) : slots (mbqHeads (Value.res_main_v13 (StableHlo.launchContents m c))) = Gmbq (YR m c) :=
  (mbq_eq _).trans (congrArg Gmbq (v13_eq m c))
theorem mbk_eqR (c : Dev nD) : mbk (Value.res_main_v13 (StableHlo.launchContents m c)) = Gmbk (YR m c) :=
  (mbk_eq _).trans (congrArg Gmbk (v13_eq m c))
theorem gates_eqR (c : Dev nD) : gates (extractStridedSlice S16384x3072 ![0, 2464] (Value.res_main_v13 (StableHlo.launchContents m c)) slices_S16384x5536_S16384x3072_0_2464) = Ggates (YR m c) :=
  (gates_eq _).trans (congrArg Ggates (v13_eq m c))

theorem run5 (ρ : Dev nD → PrngReg) :
    θ_run defs (onTc (τ := τ) (main (F := Ideal))) ⟨m, fun _ => 0, ρ⟩ fun r => ∀ c : Dev nD,
      r.2.mem ((c.tc : Thread nD τ).loc main_v197) = Gsbq (YR m c)
      ∧ r.2.mem ((c.tc : Thread nD τ).loc main_v15) = Gcut (YR m c) 512
      ∧ r.2.mem ((c.tc : Thread nD τ).loc main_v16) = Gcut (YR m c) 640
      ∧ r.2.mem ((c.tc : Thread nD τ).loc main_v198) = Gcut (YR m c) 512
      ∧ r.2.mem ((c.tc : Thread nD τ).loc main_v199) = Gcut (YR m c) 640
      ∧ r.2.mem ((c.tc : Thread nD τ).loc main_v200) = Gqlat (YR m c) (b4 m c)
      ∧ r.2.mem ((c.tc : Thread nD τ).loc main_v201) = Gqrope (YR m c)
      ∧ r.2.mem ((c.tc : Thread nD τ).loc main_v76) = Gckv (YR m c) (b3 m c)
      ∧ r.2.mem ((c.tc : Thread nD τ).loc main_v110) = Gkr (YR m c)
      ∧ r.2.mem ((c.tc : Thread nD τ).loc main_v202) = Gkcat (YR m c) (b3 m c)
      ∧ r.2.mem ((c.tc : Thread nD τ).loc main_v152) = Gmbq (YR m c)
      ∧ r.2.mem ((c.tc : Thread nD τ).loc main_v186) = Gmbk (YR m c)
      ∧ r.2.mem ((c.tc : Thread nD τ).loc main_v22) = Gcut (YR m c) 2336
      ∧ r.2.mem ((c.tc : Thread nD τ).loc main_v203) = Gmbk (YR m c)
      ∧ r.2.mem ((c.tc : Thread nD τ).loc main_v204) = Gcut (YR m c) 2336
      ∧ r.2.mem ((c.tc : Thread nD τ).loc main_v210) = Ggates (YR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h1, h2, h3, h4, h5, h6, h7, h8, h9, h10, h11, h12, h13, h14, h15, h16, hk⟩ := h c
  exact ⟨h1.trans (sbq_eqR m c), h2.trans (cut_eqR m c 512 slices_S16384x5536_S16384x128_0_512 (by omega)), h3.trans (cut_eqR m c 640 slices_S16384x5536_S16384x128_0_640 (by omega)), h4.trans (cut_eqR m c 512 slices_S16384x5536_S16384x128_0_512 (by omega)),
    h5.trans (cut_eqR m c 640 slices_S16384x5536_S16384x128_0_640 (by omega)), h6.trans (qlat_eqR m c), h7.trans (qrope_eqR m c), h8.trans (latent_eqR m c), h9.trans (kr_eqR m c), h10.trans (kcat_eqR m c),
    h11.trans (mbq_eqR m c), h12.trans (mbk_eqR m c), h13.trans (cut_eqR m c 2336 slices_S16384x5536_S16384x128_0_2336 (by omega)), h14.trans (mbk_eqR m c), h15.trans (cut_eqR m c 2336 slices_S16384x5536_S16384x128_0_2336 (by omega)), h16.trans (gates_eqR m c), hk⟩

end Cert.Reference5Ideal.Ref

end
-- ==== Proof.Ffn6.lean ====
/- What the last feed-forward kernel writes on the sampled rows, at the ideal instance. -/
module

public import proofs.«01_k».proof.Proof.Ffn
public import proofs.«01_k».proof.Proof.Gen.Kernel6Ideal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.FValue

open Cert.Kernel6Ideal Cert.Kernel6Ideal.Gen
open Cert.Ffn (nrm glu ffn half)
variable (m : (ℓ : Loc nD τ sig) → Buf (Elt Ideal) ℓ)

abbrev a0 (c : Dev nD) : FVec Ideal S128x1024 .f32 := m ((c : Thread nD τ).loc main_arg0)
abbrev a1 (c : Dev nD) : FVec Ideal S1024 .f32 := m ((c : Thread nD τ).loc main_arg1)
abbrev a2 (c : Dev nD) : FVec Ideal S1024x5632 .f32 := m ((c : Thread nD τ).loc main_arg2)
abbrev a3 (c : Dev nD) : FVec Ideal S2816x1024 .f32 := m ((c : Thread nD τ).loc main_arg3)
abbrev a4 (c : Dev nD) : FVec Ideal S1024 .f32 := m ((c : Thread nD τ).loc main_arg4)

section Block
variable (X : Vec Ideal S128x1024 .f32) (g : Vec Ideal S1x1024 .f32) (U W : Vec Ideal S1024x2816 .bf16)
  (H : Vec Ideal S128x2816 .bf16) (D : Vec Ideal S2816x1024 .bf16)

theorem norm_at (y : Fin 128) (d : Fin 1024) : k0_pay1 (F := Ideal) X g (ix2 y d) = nrm (fun k => X (ix2 y k)) (fun k => g (ix2 0 k)) d := by
  pointwise [k0_pay1, nrm]

theorem mm_at (N : FVec Ideal S128x1024 .bf16) (A : Vec Ideal S1024x256 .bf16) (y : Fin 128) (x : Fin 256) :
    k0_pay8 (F := Ideal) N A (ix2 y x) = ∑ k : Fin 1024, N (ix2 y k) * A (ix2 k x) := by
  pointwise [k0_pay8]

theorem chunk_at (N : FVec Ideal S128x1024 .bf16) (A B : Vec Ideal S1024x256 .bf16) (y : Fin 128) (x : Fin 256) :
    k0_pay6 (F := Ideal) N A B (ix2 y x) = glu (fun k => N (ix2 y k)) (fun k => A (ix2 k x)) (fun k => B (ix2 k x)) := by
  unfold glu
  rw [← mm_at, ← mm_at]
  have e : k0_pay6 (F := Ideal) N A B
      = shapeCast S128x256 (truncf .bf16 (mulf (mulf (k0_pay8 (F := Ideal) N A) (logistic (k0_pay8 (F := Ideal) N A))) (k0_pay8 (F := Ideal) N B)) bitsLt_bf16_f32) shapeCasts_S128x256_S128x256 := rfl
  rw [e]
  generalize k0_pay8 (F := Ideal) N A = a
  generalize k0_pay8 (F := Ideal) N B = b
  pointwise

/-- The rows after the block, before the last norm. -/
def row : FVec Ideal S128x1024 .f32 :=
  addf X (mulf (broadcast S128x1024 (Scalar.ofBits .f32 0x3F000000#32)) (matmul (φ₁ := .bf16) (φ₂ := .bf16) dot_S128x2816_S2816x1024_S128x1024_1_0_0_1_n_n none H (shapeCast S2816x1024 D shapeCasts_S2816x1024_S2816x1024) (constant S128x1024 .f32 0x00000000#32)))

theorem row_at (y : Fin 128) (d : Fin 1024) : row X H D (ix2 y d) = X (ix2 y d) + half * ∑ c : Fin 2816, H (ix2 y c) * D (ix2 c d) := by
  pointwise [row]

theorem out_eq : k0_pay17 (F := Ideal) X H D g = k0_pay1 (F := Ideal) (row X H D) g := rfl

/-- The hidden units of the rows. -/
def hid : FVec Ideal S128x2816 .bf16 := fun z =>
  glu (nrm (fun k => X (ix2 (z 0) k)) (fun k => g (ix2 0 k))) (fun k => U (ix2 k (z 1))) (fun k => W (ix2 k (z 1)))

theorem store_at (o : ℕ) (h1 : ∀ d, (![0, o] : Fin 2 → ℕ) d + (![1024, 256] : Fin 2 → ℕ) d ≤ S1024x2816.size d)
    (h2 : ∀ d, (![0, o] : Fin 2 → ℕ) d + (![128, 256] : Fin 2 → ℕ) d ≤ S128x2816.size d) (x : S128x256.Idx) :
    k0_pay6 (F := Ideal) (k0_pay1 X g) (View.ld U (Rect.unit (s := S1024x2816) ![0, o] ![1024, 256] h1)) (View.ld W (Rect.unit (s := S1024x2816) ![0, o] ![1024, 256] h1)) x
      = hid X g U W ((Rect.unit (s := S128x2816) ![0, o] ![128, 256] h2).emb x) := by
  obtain ⟨y, z, rfl⟩ : ∃ (y : Fin 128) (z : Fin 256), x = ix2 y z := ⟨x 0, x 1, (ix2_eta x).symm⟩
  rw [chunk_at]
  have hr : ∀ (V : Vec Ideal S1024x2816 .bf16) (k : Fin 1024),
      View.ld V (Rect.unit (s := S1024x2816) ![0, o] ![1024, 256] h1) (ix2 k z)
        = V (ix2 k (((Rect.unit (s := S128x2816) ![0, o] ![128, 256] h2).emb (ix2 y z)) 1)) := by
    intro V k
    refine congrArg V (funext fun i => Fin.ext ?_)
    match i with
    | 0 => simp [Rect.emb, Rect.unit]
    | 1 => simp [Rect.emb, Rect.unit]
  have h0 : ((Rect.unit (s := S128x2816) ![0, o] ![128, 256] h2).emb (ix2 y z)) 0 = y := by
    refine Fin.ext ?_
    simp [Rect.emb, Rect.unit]
  unfold hid
  rw [h0, show (fun k => k0_pay1 (F := Ideal) X g (ix2 y k)) = nrm (fun k => X (ix2 y k)) (fun k => g (ix2 0 k)) from funext fun k => norm_at X g y k]
  exact congrArg₂ (glu _) (funext (hr U)) (funext (hr W))

end Block

theorem idx : ∀ (t : Fin grid0.N) (i : Fin 2), win0_0.index t i = 0 ∧ win0_1.index t i = 0 ∧ win0_2.index t i = 0 ∧ win0_3.index t i = 0
    ∧ win0_4.index t i = 0 ∧ win0_5.index t i = 0 ∧ win0_6.index t i = 0 := by decide +kernel

theorem V_v0 (c : Dev nD) : V m c main_v0 = shapeCast S1x1024 (m ((c : Thread nD τ).loc main_arg1)) shapeCasts_S1024_S1x1024 := by
  unfold V
  simp only [hostOps0, List.flatten_cons, List.flatten_nil, List.cons_append, List.nil_append, List.append_nil]
  entry_read
  rfl

theorem V_v2 (c : Dev nD) : V m c main_v2 = truncf (F := Ideal) .bf16 (extractStridedSlice S1024x2816 ![0, 0] (a2 m c) slices_S1024x5632_S1024x2816_0_0) bitsLt_bf16_f32 := by
  unfold V
  simp only [hostOps0, List.flatten_cons, List.flatten_nil, List.cons_append, List.nil_append, List.append_nil]
  entry_read
  rfl

theorem V_v4 (c : Dev nD) : V m c main_v4 = truncf (F := Ideal) .bf16 (extractStridedSlice S1024x2816 ![0, 2816] (a2 m c) slices_S1024x5632_S1024x2816_0_2816) bitsLt_bf16_f32 := by
  unfold V
  simp only [hostOps0, List.flatten_cons, List.flatten_nil, List.cons_append, List.nil_append, List.append_nil]
  entry_read
  rfl

theorem V_v5 (c : Dev nD) : V m c main_v5 = truncf (F := Ideal) .bf16 (a3 m c) bitsLt_bf16_f32 := by
  unfold V
  simp only [hostOps0, List.flatten_cons, List.flatten_nil, List.cons_append, List.nil_append, List.append_nil]
  entry_read
  rfl

theorem V_v6 (c : Dev nD) : V m c main_v6 = shapeCast S1x1024 (m ((c : Thread nD τ).loc main_arg4)) shapeCasts_S1024_S1x1024 := by
  unfold V
  simp only [hostOps0, List.flatten_cons, List.flatten_nil, List.cons_append, List.nil_append, List.append_nil]
  entry_read
  rfl

/-- The one tile is the whole of each array. -/
theorem blk0 (c : Dev nD) (t : Fin cfg0.N) (y : Fin 128) (x : Fin 1024) : iblk m c 0 t (ix2 y x) = a0 m c (ix2 y x) := by
  have e : iblk m c 0 t (ix2 y x) = V m c main_arg0 (ix2 y x) := by
    blk_ext [iblk, idx t 0, idx t 1]
  rw [e]
  rfl

theorem iblk1_at (c : Dev nD) (t : Fin cfg0.N) (x : Fin 1024) : iblk m c 1 t (ix2 0 x) = a1 m c (ix1 x) := by
  have e : iblk m c 1 t (ix2 0 x) = V m c main_v0 (ix2 0 x) := by
    blk_ext [iblk, idx t 0, idx t 1]
  rw [e, V_v0]
  show shapeCast S1x1024 (a1 m c) shapeCasts_S1024_S1x1024 (ix2 0 x) = _
  generalize a1 m c = A
  pointwise

theorem iblk2_at (c : Dev nD) (t : Fin cfg0.N) (k : Fin 1024) (x : Fin 2816) :
    iblk m c 2 t (ix2 k x) = a2 m c (ix2 k ⟨x.val, by omega⟩) := by
  have e : iblk m c 2 t (ix2 k x) = V m c main_v2 (ix2 k x) := by
    blk_ext [iblk, idx t 0, idx t 1]
  rw [e, V_v2]
  generalize a2 m c = A
  pointwise

theorem iblk3_at (c : Dev nD) (t : Fin cfg0.N) (k : Fin 1024) (x : Fin 2816) :
    iblk m c 3 t (ix2 k x) = a2 m c (ix2 k ⟨2816 + x.val, by omega⟩) := by
  have e : iblk m c 3 t (ix2 k x) = V m c main_v4 (ix2 k x) := by
    blk_ext [iblk, idx t 0, idx t 1]
  rw [e, V_v4]
  generalize a2 m c = A
  pointwise

theorem iblk4_at (c : Dev nD) (t : Fin cfg0.N) (x : Fin 2816) (d : Fin 1024) :
    iblk m c 4 t (ix2 x d) = a3 m c (ix2 x d) := by
  have e : iblk m c 4 t (ix2 x d) = V m c main_v5 (ix2 x d) := by
    blk_ext [iblk, idx t 0, idx t 1]
  rw [e, V_v5]
  rfl

theorem iblk5_at (c : Dev nD) (t : Fin cfg0.N) (x : Fin 1024) : iblk m c 5 t (ix2 0 x) = a4 m c (ix1 x) := by
  have e : iblk m c 5 t (ix2 0 x) = V m c main_v6 (ix2 0 x) := by
    blk_ext [iblk, idx t 0, idx t 1]
  rw [e, V_v6]
  show shapeCast S1x1024 (a4 m c) shapeCasts_S1024_S1x1024 (ix2 0 x) = _
  generalize a4 m c = A
  pointwise

/-- The result. -/
def G6 (A0 : FVec Ideal S128x1024 .f32) (A1 : FVec Ideal S1024 .f32) (A2 : FVec Ideal S1024x5632 .f32) (A3 : FVec Ideal S2816x1024 .f32)
    (A4 : FVec Ideal S1024 .f32) : FVec Ideal S128x1024 .f32 := fun z =>
  nrm (ffn (fun k => A0 (ix2 (z 0) k)) (fun k => A1 (ix1 k)) (fun k c => A2 (ix2 k ⟨c.val, by omega⟩)) (fun k c => A2 (ix2 k ⟨2816 + c.val, by omega⟩))
    (fun c d => A3 (ix2 c d))) (fun k => A4 (ix1 k)) (z 1)

theorem rows_at (c : Dev nD) (t : Fin cfg0.N) (y : Fin 128) (d : Fin 1024) :
    row (iblk m c 0 t) (hid (iblk m c 0 t) (iblk m c 1 t) (iblk m c 2 t) (iblk m c 3 t)) (iblk m c 4 t) (ix2 y d)
      = ffn (fun k => a0 m c (ix2 y k)) (fun k => a1 m c (ix1 k)) (fun k x => a2 m c (ix2 k ⟨x.val, by omega⟩)) (fun k x => a2 m c (ix2 k ⟨2816 + x.val, by omega⟩))
          (fun x d => a3 m c (ix2 x d)) d := by
  rw [row_at]
  have hh : ∀ x, hid (iblk m c 0 t) (iblk m c 1 t) (iblk m c 2 t) (iblk m c 3 t) (ix2 y x)
      = glu (nrm (fun k => iblk m c 0 t (ix2 y k)) (fun k => iblk m c 1 t (ix2 0 k))) (fun k => iblk m c 2 t (ix2 k x)) (fun k => iblk m c 3 t (ix2 k x)) := fun _ => rfl
  have e0 := fun k => blk0 m c t y k
  have e1 := fun k => iblk1_at m c t k
  have e2 := fun k x => iblk2_at m c t k x
  have e3 := fun k x => iblk3_at m c t k x
  have e4 := fun x d => iblk4_at m c t x d
  simp only [hh, e0, e1, e2, e3, e4]
  rfl

theorem block_at (c : Dev nD) (t : Fin cfg0.N) (y : Fin 128) (d : Fin 1024) :
    k0_pay17 (F := Ideal) (iblk m c 0 t) (hid (iblk m c 0 t) (iblk m c 1 t) (iblk m c 2 t) (iblk m c 3 t)) (iblk m c 4 t) (iblk m c 5 t) (ix2 y d)
      = G6 (a0 m c) (a1 m c) (a2 m c) (a3 m c) (a4 m c) (ix2 y d) := by
  rw [out_eq, norm_at]
  exact congrArg₂ (fun u v => nrm u v d) (funext fun k => rows_at m c t y k) (funext fun k => iblk5_at m c t k)

theorem final (c : Dev nD) : (dats m 0 c).arrAt 6 cfg0.N = G6 (a0 m c) (a1 m c) (a2 m c) (a3 m c) (a4 m c) := by
  refine (dats m 0 c).arrAt_eq_of_covers 6 _ (by decide +kernel) fun t _ y => ?_
  blk_simp
  rw [after0_6]
  unfold outsAt0
  frame_out
  rw [View.readCov_eq_canon']
  obtain ⟨y, z, rfl⟩ : ∃ (a : Fin 128) (b : Fin 1024), y = ix2 a b := ⟨y 0, y 1, (ix2_eta y).symm⟩
  refine Eq.trans (congrArg (fun H => k0_pay17 (F := Ideal) (iblk m c 0 t) H (iblk m c 4 t) (iblk m c 5 t) (ix2 y z)) (funext fun j => ?_)) ((block_at m c t y z).trans ?_)
  · refine (View.canon_apply_of_pieces (hid (iblk m c 0 t) (iblk m c 1 t) (iblk m c 2 t) (iblk m c 3 t)) _ ?_ _ ?_).trans ?_
    · simp only [List.forall_mem_cons]
      refine ⟨?_, ?_, ?_, ?_, ?_, ?_, ?_, ?_, ?_, ?_, ?_, ?_⟩
      iterate 11 exact fun x => store_at (iblk m c 0 t) (iblk m c 1 t) (iblk m c 2 t) (iblk m c 3 t) _ _ _ x
      simp
    · set_option maxRecDepth 1000000 in exact View.cover_of_tiled_head _ _ _ (by rfl) _
    · refine congrArg (hid (iblk m c 0 t) (iblk m c 1 t) (iblk m c 2 t) (iblk m c 3 t)) ?_
      exact funext fun i => Fin.ext (by match i with | 0 => simp [Rect.unit] | 1 => simp [Rect.unit])
  · refine congrArg (G6 (a0 m c) (a1 m c) (a2 m c) (a3 m c) (a4 m c)) ?_
    blk_ext [idx t 0, idx t 1]

end Cert.Kernel6Ideal.FValue

end
-- ==== Proof.RefFfn6.lean ====
/- The result of the feed-forward reference on the sampled rows, read at an index, at the ideal instance. -/
module

public import proofs.«01_k».proof.Proof.Ffn6
public import proofs.«01_k».proof.Proof.RefFfn
public import proofs.«01_k».proof.Proof.Gen.Reference6Ideal.Run

@[expose] public section

set_option maxRecDepth 16384

noncomputable section

open Idealize.ShloMosaic Idealize.ShloMosaic.TcCoe Idealize.SL.Sem

namespace Cert.Reference6Ideal.Ref

open Cert.Reference6Ideal Cert.Reference6Ideal.Gen
open Cert.Ffn (nrm glu ffn half)
open Cert.Reference2Ideal.Ref (one_bits)

/-- The sum of each row's squares. -/
def sq (X : FVec Ideal S128x1024 .f32) : FVec Ideal S128 .f32 :=
  Host.reduceAdd (mulf X X) (constant S_ .f32 0x00000000#32) reducesTo_S128x1024_S128_d1 h_S_

/-- Rows divided by the roots of their mean squares, times the gains. -/
def rms (X : FVec Ideal S128x1024 .f32) (g : FVec Ideal S1024 .f32) : FVec Ideal S128x1024 .f32 :=
  mulf (mulf X (broadcastInDim S128x1024 ![0, 1] bcast_S128x1_S128x1024_0_1 (Host.rsqrt (addf (Host.divf (broadcastInDim S128x1 ![0] bcast_S128_S128x1_0 (sq X)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))

def up (N : FVec Ideal S128x1024 .f32) (A : FVec Ideal S1024x5632 .f32) : FVec Ideal S128x5632 .f32 :=
  Host.dotGeneral dot_S128x1024_S1024x5632_S128x5632_1_0_0_1_n_n none N A

/-- The hidden units, from both projections side by side. -/
def gated (P : FVec Ideal S128x5632 .f32) : FVec Ideal S128x2816 .f32 :=
  mulf (mulf (extractStridedSlice S128x2816 ![0, 0] P slices_S128x5632_S128x2816_0_0) (Host.divf (broadcastInDim S128x2816 ![] bcast_S_S128x2816 (constant S_ .f32 0x3F800000#32)) (addf (broadcastInDim S128x2816 ![] bcast_S_S128x2816 (constant S_ .f32 0x3F800000#32)) (Host.exp (Host.negf (extractStridedSlice S128x2816 ![0, 0] P slices_S128x5632_S128x2816_0_0)))))) (extractStridedSlice S128x2816 ![0, 2816] P slices_S128x5632_S128x2816_0_2816)

def outp (X : FVec Ideal S128x1024 .f32) (H : FVec Ideal S128x2816 .f32) (D : FVec Ideal S2816x1024 .f32) : FVec Ideal S128x1024 .f32 :=
  addf X (mulf (broadcastInDim S128x1024 ![] bcast_S_S128x1024 (constant S_ .f32 0x3F000000#32)) (Host.dotGeneral dot_S128x2816_S2816x1024_S128x1024_1_0_0_1_n_n none H D))

variable (X : FVec Ideal S128x1024 .f32) (g gf : FVec Ideal S1024 .f32) (A : FVec Ideal S1024x5632 .f32) (D : FVec Ideal S2816x1024 .f32)

def layer : FVec Ideal S128x1024 .f32 := outp X (gated (up (rms X g) A)) D

theorem res6_eq (m : (ℓ : Loc Reference6Ideal.nD Reference6Ideal.τ Reference6Ideal.sig) → Buf (Elt Ideal) ℓ) (c : Dev Reference6Ideal.nD) :
    Reference6Ideal.Value.res_out0 m c
      = rms (layer (m ((c.tc : Thread Reference6Ideal.nD Reference6Ideal.τ).loc Reference6Ideal.main_arg0)) (m ((c.tc : Thread Reference6Ideal.nD Reference6Ideal.τ).loc Reference6Ideal.main_arg1)) (m ((c.tc : Thread Reference6Ideal.nD Reference6Ideal.τ).loc Reference6Ideal.main_arg2)) (m ((c.tc : Thread Reference6Ideal.nD Reference6Ideal.τ).loc Reference6Ideal.main_arg3)))
          (m ((c.tc : Thread Reference6Ideal.nD Reference6Ideal.τ).loc Reference6Ideal.main_arg4)) := rfl

theorem sq_at (r : Fin 128) : sq X (ix1 r) = ∑ k : Fin 1024, X (ix2 r k) * X (ix2 r k) := by
  pointwise [sq]

theorem rms_at (r : Fin 128) (d : Fin 1024) : rms X g (ix2 r d) = nrm (fun k => X (ix2 r k)) (fun k => g (ix1 k)) d := by
  unfold nrm
  rw [← sq_at]
  unfold rms
  generalize sq X = s
  pointwise

theorem up_at (N : FVec Ideal S128x1024 .f32) (r : Fin 128) (x : Fin 5632) : up N A (ix2 r x) = ∑ k : Fin 1024, N (ix2 r k) * A (ix2 k x) := by
  pointwise [up]

theorem gated_at (P : FVec Ideal S128x5632 .f32) (r : Fin 128) (x : Fin 2816) :
    gated P (ix2 r x) = P (ix2 r ⟨x.val, by omega⟩) * Ideal.logistic (P (ix2 r ⟨x.val, by omega⟩)) * P (ix2 r ⟨2816 + x.val, by omega⟩) := by
  unfold Ideal.logistic
  rw [← one_bits]
  pointwise [gated]

theorem outp_at (H : FVec Ideal S128x2816 .f32) (r : Fin 128) (d : Fin 1024) :
    outp X H D (ix2 r d) = X (ix2 r d) + half * ∑ c : Fin 2816, H (ix2 r c) * D (ix2 c d) := by
  pointwise [outp]

theorem layer_at (r : Fin 128) (d : Fin 1024) :
    layer X g A D (ix2 r d) = ffn (fun k => X (ix2 r k)) (fun k => g (ix1 k)) (fun k c => A (ix2 k ⟨c.val, by omega⟩)) (fun k c => A (ix2 k ⟨2816 + c.val, by omega⟩))
      (fun c d => D (ix2 c d)) d := by
  unfold layer
  rw [outp_at]
  refine congrArg (fun s => X (ix2 r d) + half * s) (Finset.sum_congr rfl fun c _ => congrArg (· * D (ix2 c d)) ?_)
  have e := fun k => rms_at X g r k
  rw [gated_at, up_at, up_at]
  simp only [e]
  rfl

theorem rms_layer_eq : rms (layer X g A D) gf = Kernel6Ideal.FValue.G6 X g A D gf := by
  funext z
  obtain ⟨r, d, rfl⟩ : ∃ (r : Fin 128) (d : Fin 1024), z = ix2 r d := ⟨z 0, z 1, (ix2_eta z).symm⟩
  rw [rms_at]
  exact congrArg (fun u => nrm u (fun k => gf (ix1 k)) d) (funext fun k => layer_at X g A D r k)

end Cert.Reference6Ideal.Ref

end
-- ==== Proof.Proj7.lean ====
/- The sampled rows' projections: the body's values at an index, at the ideal instance. -/
module

public import proofs.«01_k».proof.Proof.ProjRot
public import proofs.«01_k».proof.Proof.Gen.Kernel7Ideal.Frame

@[expose] public section

set_option maxRecDepth 16384

noncomputable section

open Idealize.ShloMosaic Idealize.ShloMosaic.TcCoe Idealize.SL.Sem
open Idealize.ShloMosaic.Pipeline (Dat)

namespace Cert.Kernel7Ideal.SValue

open Cert.Kernel7Ideal Cert.Kernel7Ideal.Gen
open Cert.Kernel5Ideal.PValue (nrm nrm128 rot64 rot32)

/-- A row against a weight's column. -/
abbrev prod (N : FVec Ideal S128x1024 .bf16) (W : Vec Ideal S1024x128 .bf16) (y : Fin 128) (l : Fin 128) : EReal := ∑ k : Fin 1024, N (ix2 y k) * W (ix2 k l)

theorem norm_at (X : Vec Ideal S128x1024 .f32) (g : Vec Ideal S1x1024 .f32) (y : Fin 128) (d : Fin 1024) :
    k0_pay1 (F := Ideal) X g (ix2 y d) = nrm (fun k => X (ix2 y k)) (fun k => g (ix2 0 k)) d := by
  pointwise [k0_pay1, nrm]

theorem prod_at (N : FVec Ideal S128x1024 .bf16) (W : Vec Ideal S1024x128 .bf16) (y : Fin 128) (l : Fin 128) :
    k0_pay9 (F := Ideal) N W (ix2 y l) = prod N W y l := by
  pointwise [k0_pay9, prod]

theorem ckv_at (N : FVec Ideal S128x1024 .bf16) (W : Vec Ideal S1024x128 .bf16) (g : Vec Ideal S1x128 .f32) (y : Fin 128) (l : Fin 128) :
    k0_pay63 (F := Ideal) N W g (ix2 y l) = nrm128 (prod N W y) (fun k => g (ix2 0 k)) l := by
  pointwise [k0_pay63, nrm128, prod]

/-- Which lanes are of the first half of their 64. -/
def first64 : IVec S128x128 1 :=
  cmpi .slt (select (andi (xori k0_pay12 (broadcastTo S128x128 (broadcast S128x128 (Scalar.cmpi .slt (Scalar.select (Scalar.cmpi .eq 64#32 0#32) 1#32 64#32) 0#32)) broadcasts_S128x128_S128x128)) k0_pay11)
    (addi k0_pay10 (broadcast S128x128 (Scalar.select (Scalar.cmpi .eq 64#32 0#32) 1#32 64#32))) k0_pay10) (broadcast S128x128 32#32)

/-- Which lanes are of the first half of their 32. -/
def first32 : IVec S128x128 1 :=
  cmpi .slt (select (andi (xori k0_pay18 (broadcastTo S128x128 k0_pay19 broadcasts_S128x128_S128x128)) k0_pay17)
    (addi k0_pay16 (broadcast S128x128 (Scalar.select (Scalar.cmpi .eq 32#32 0#32) 1#32 32#32))) k0_pay16) (broadcast S128x128 16#32)

theorem first64_at (y : Fin 128) (l : Fin 128) : first64 (ix2 y l) = if l.val % 64 < 32 then 1#1 else 0#1 := by
  have h : ∀ l : Fin 128, first64 (ix2 0 l) = if l.val % 64 < 32 then 1#1 else 0#1 := by decide +kernel
  exact h l

theorem first32_at (y : Fin 128) (l : Fin 128) : first32 (ix2 y l) = if l.val % 32 < 16 then 1#1 else 0#1 := by
  have h : ∀ l : Fin 128, first32 (ix2 0 l) = if l.val % 32 < 16 then 1#1 else 0#1 := by decide +kernel
  exact h l

/-- The two halves of every 64 lanes turned by the position's angles. -/
def rp64 (P c s : FVec Ideal S128x128 .f32) : FVec Ideal S128x128 .f32 :=
  addf (mulf P c) (mulf (select first64 (dynamicRotate 1 96#32 none P rotates_S128x128_d1) (dynamicRotate 1 32#32 none P rotates_S128x128_d1)) s)

/-- The two halves of every 32 lanes turned by the position's angles. -/
def rp32 (P c s : FVec Ideal S128x128 .f32) : FVec Ideal S128x128 .f32 :=
  addf (mulf P c) (mulf (select first32 (dynamicRotate 1 112#32 none P rotates_S128x128_d1) (dynamicRotate 1 16#32 none P rotates_S128x128_d1)) s)

theorem rp64_at (P c s : FVec Ideal S128x128 .f32) (y : Fin 128) (l : Fin 128) :
    rp64 P c s (ix2 y l) = P (ix2 y l) * c (ix2 y l) + (if l.val % 64 < 32 then P (ix2 y ⟨(l.val + 32) % 128, by omega⟩) else P (ix2 y ⟨(l.val + 96) % 128, by omega⟩)) * s (ix2 y l) := by
  have e : rp64 P c s (ix2 y l) = P (ix2 y l) * c (ix2 y l) + (if first64 (ix2 y l) = 1#1 then dynamicRotate 1 96#32 none P rotates_S128x128_d1 (ix2 y l) else dynamicRotate 1 32#32 none P rotates_S128x128_d1 (ix2 y l)) * s (ix2 y l) := rfl
  rw [e, first64_at,
    dynamicRotate_apply 1 96#32 P rotates_S128x128_d1 (ix2 y l) (ix2 y ⟨(l.val + 32) % 128, by omega⟩) (fun b => by match b with | 0 => rfl | 1 => show (l.val + 32) % 128 = (l.val + 128 - 96 % 128) % 128; omega),
    dynamicRotate_apply 1 32#32 P rotates_S128x128_d1 (ix2 y l) (ix2 y ⟨(l.val + 96) % 128, by omega⟩) (fun b => by match b with | 0 => rfl | 1 => show (l.val + 96) % 128 = (l.val + 128 - 32 % 128) % 128; omega)]
  by_cases h : l.val % 64 < 32
  · rw [if_pos h, if_pos h, if_pos rfl]
  · rw [if_neg h, if_neg h, if_neg (by decide)]

theorem rp32_at (P c s : FVec Ideal S128x128 .f32) (y : Fin 128) (l : Fin 128) :
    rp32 P c s (ix2 y l) = P (ix2 y l) * c (ix2 y l) + (if l.val % 32 < 16 then P (ix2 y ⟨(l.val + 16) % 128, by omega⟩) else P (ix2 y ⟨(l.val + 112) % 128, by omega⟩)) * s (ix2 y l) := by
  have e : rp32 P c s (ix2 y l) = P (ix2 y l) * c (ix2 y l) + (if first32 (ix2 y l) = 1#1 then dynamicRotate 1 112#32 none P rotates_S128x128_d1 (ix2 y l) else dynamicRotate 1 16#32 none P rotates_S128x128_d1 (ix2 y l)) * s (ix2 y l) := rfl
  rw [e, first32_at,
    dynamicRotate_apply 1 112#32 P rotates_S128x128_d1 (ix2 y l) (ix2 y ⟨(l.val + 16) % 128, by omega⟩) (fun b => by match b with | 0 => rfl | 1 => show (l.val + 16) % 128 = (l.val + 128 - 112 % 128) % 128; omega),
    dynamicRotate_apply 1 16#32 P rotates_S128x128_d1 (ix2 y l) (ix2 y ⟨(l.val + 112) % 128, by omega⟩) (fun b => by match b with | 0 => rfl | 1 => show (l.val + 112) % 128 = (l.val + 128 - 16 % 128) % 128; omega)]
  by_cases h : l.val % 32 < 16
  · rw [if_pos h, if_pos h, if_pos rfl]
  · rw [if_neg h, if_neg h, if_neg (by decide)]

theorem rp64_rot (P c s : FVec Ideal S128x128 .f32) (y : Fin 128) (l : Fin 128) (u : ℕ → EReal) (C S : Fin 32 → EReal)
    (hP : ∀ e : Fin 128, e.val / 64 = l.val / 64 → P (ix2 y e) = u (e.val % 64))
    (hc : c (ix2 y l) = C ⟨l.val % 32, by omega⟩)
    (hs : s (ix2 y l) = if l.val % 64 < 32 then -S ⟨l.val % 32, by omega⟩ else S ⟨l.val % 32, by omega⟩) :
    rp64 P c s (ix2 y l) = rot64 u C S (l.val % 64) := by
  have hm : (⟨l.val % 64 % 32, by omega⟩ : Fin 32) = ⟨l.val % 32, by omega⟩ := Fin.ext (by dsimp only; omega)
  rw [rp64_at, hc, hs, hP l rfl]
  unfold rot64
  rw [hm]
  by_cases h : l.val % 64 < 32
  · rw [if_pos h, if_pos h, if_pos h, hP _ (by dsimp only; omega), show (l.val + 32) % 128 % 64 = l.val % 64 + 32 by omega, mul_neg, ← sub_eq_add_neg]
  · rw [if_neg h, if_neg h, if_neg h, hP _ (by dsimp only; omega), show (l.val + 96) % 128 % 64 = l.val % 64 - 32 by omega]

theorem rp64_zero (P c s : FVec Ideal S128x128 .f32) (y : Fin 128) (l : Fin 128) (hP : ∀ e : Fin 128, e.val / 64 = l.val / 64 → P (ix2 y e) = 0) :
    rp64 P c s (ix2 y l) = 0 := by
  rw [rp64_at, hP l rfl, zero_mul, zero_add]
  split
  · rw [hP _ (by dsimp only; omega), zero_mul]
  · rw [hP _ (by dsimp only; omega), zero_mul]

theorem rp32_rot (P c s : FVec Ideal S128x128 .f32) (y : Fin 128) (l : Fin 128) (u : ℕ → EReal) (C S : Fin 16 → EReal)
    (hP : ∀ e : Fin 128, e.val / 32 = l.val / 32 → P (ix2 y e) = u (e.val % 32))
    (hc : c (ix2 y l) = C ⟨l.val % 16, by omega⟩)
    (hs : s (ix2 y l) = if l.val % 32 < 16 then -S ⟨l.val % 16, by omega⟩ else S ⟨l.val % 16, by omega⟩) :
    rp32 P c s (ix2 y l) = rot32 u C S (l.val % 32) := by
  have hm : (⟨l.val % 32 % 16, by omega⟩ : Fin 16) = ⟨l.val % 16, by omega⟩ := Fin.ext (by dsimp only; omega)
  rw [rp32_at, hc, hs, hP l rfl]
  unfold rot32
  rw [hm]
  by_cases h : l.val % 32 < 16
  · rw [if_pos h, if_pos h, if_pos h, hP _ (by dsimp only; omega), show (l.val + 16) % 128 % 32 = l.val % 32 + 16 by omega, mul_neg, ← sub_eq_add_neg]
  · rw [if_neg h, if_neg h, if_neg h, hP _ (by dsimp only; omega), show (l.val + 112) % 128 % 32 = l.val % 32 - 16 by omega]

theorem rp32_zero (P c s : FVec Ideal S128x128 .f32) (y : Fin 128) (l : Fin 128) (hP : ∀ e : Fin 128, e.val / 32 = l.val / 32 → P (ix2 y e) = 0) :
    rp32 P c s (ix2 y l) = 0 := by
  rw [rp32_at, hP l rfl, zero_mul, zero_add]
  split
  · rw [hP _ (by dsimp only; omega), zero_mul]
  · rw [hP _ (by dsimp only; omega), zero_mul]

end Cert.Kernel7Ideal.SValue

end
-- ==== Proof.ProjHost7.lean ====
/- The sampled rows' projections: the host's arrays at the ideal instance. -/
module

public import proofs.«01_k».proof.Proof.Proj7

@[expose] public section

set_option maxRecDepth 16384

noncomputable section

open Idealize.ShloMosaic Idealize.ShloMosaic.TcCoe Idealize.SL.Sem
open Idealize.ShloMosaic.Pipeline (Dat)

namespace Cert.Kernel7Ideal.SValue

open Cert.Kernel7Ideal Cert.Kernel7Ideal.Gen
open Cert.Kernel5Ideal.PValue (side ropek flatten_snoc slice_at ropek_in ropek_out side1 side2 side5 side6 side8 side9)

variable (m : (ℓ : Loc nD τ sig) → Buf (Elt Ideal) ℓ)

abbrev a0 (c : Dev nD) : FVec Ideal S128x1024 .f32 := m ((c : Thread nD τ).loc main_arg0)
abbrev a1 (c : Dev nD) : FVec Ideal S1024 .f32 := m ((c : Thread nD τ).loc main_arg1)
abbrev a2 (c : Dev nD) : FVec Ideal S1024x5536 .f32 := m ((c : Thread nD τ).loc main_arg2)
abbrev a3 (c : Dev nD) : FVec Ideal S128 .f32 := m ((c : Thread nD τ).loc main_arg3)

/-- The rates of the rotations, and the rows' angles, all of them at one position. -/
def rate64 : FVec Ideal S32 .f32 :=
  Host.exp (Host.divf (mulf (broadcastInDim S32 ![] bcast_S_S32 (constant S_ .f32 0xC1935D8E#32)) (sitofp .f32 (iotaInDim S32 32 0))) (broadcastInDim S32 ![] bcast_S_S32 (constant S_ .f32 0x42800000#32)))
def rate32 : FVec Ideal S16 .f32 :=
  Host.exp (Host.divf (mulf (broadcastInDim S16 ![] bcast_S_S16 (constant S_ .f32 0xC1935D8E#32)) (sitofp .f32 (iotaInDim S16 32 0))) (broadcastInDim S16 ![] bcast_S_S16 (constant S_ .f32 0x42000000#32)))

def ang64 : FVec Ideal S128x32 .f32 :=
  mulf (broadcastInDim S128x32 ![0, 1] bcast_S128x1_S128x32_0_1 (broadcastInDim S128x1 ![0] bcast_S128_S128x1_0 (sitofp .f32 (broadcastInDim S128 ![] bcast_S_S128 (constantI S_ 32 16384#32)))))
    (broadcastInDim S128x32 ![0, 1] bcast_S1x32_S128x32_0_1 (broadcastInDim S1x32 ![1] bcast_S32_S1x32_1 rate64))

def ang32 : FVec Ideal S128x16 .f32 :=
  mulf (broadcastInDim S128x16 ![0, 1] bcast_S128x1_S128x16_0_1 (broadcastInDim S128x1 ![0] bcast_S128_S128x1_0 (sitofp .f32 (broadcastInDim S128 ![] bcast_S_S128 (constantI S_ 32 16384#32)))))
    (broadcastInDim S128x16 ![0, 1] bcast_S1x16_S128x16_0_1 (broadcastInDim S1x16 ![1] bcast_S16_S1x16_1 rate32))

/-- A table of two halves repeated along the lanes. -/
def tab64 (A B : FVec Ideal S128x32 .f32) : FVec Ideal S128x128 .f32 :=
  shapeCast S128x128 (broadcastInDim S1x128x2x64 ![0, 1, 2, 3] bcast_S1x128x1x64_S1x128x2x64_0_1_2_3 (shapeCast S1x128x1x64
    (concatenate S128x64 1 [⟨S128x32, A⟩, ⟨S128x32, B⟩] concatenates_S128x32_S128x32_S128x64_d1) shapeCasts_S128x64_S1x128x1x64)) shapeCasts_S1x128x2x64_S128x128

def tab32 (A B : FVec Ideal S128x16 .f32) : FVec Ideal S128x128 .f32 :=
  shapeCast S128x128 (broadcastInDim S1x128x4x32 ![0, 1, 2, 3] bcast_S1x128x1x32_S1x128x4x32_0_1_2_3 (shapeCast S1x128x1x32
    (concatenate S128x32 1 [⟨S128x16, A⟩, ⟨S128x16, B⟩] concatenates_S128x16_S128x16_S128x32_d1) shapeCasts_S128x32_S1x128x1x32)) shapeCasts_S1x128x4x32_S128x128

open Idealize.ShloMosaic.StableHlo (after after_append)

/-- The host operations up to the weights, and those of the tables. -/
abbrev opsW : List (HloOp τ sig (Elt Ideal)) := hostOps0_8.take 29
abbrev opsT : List (HloOp τ sig (Elt Ideal)) := hostOps0_8.drop 29

theorem ops_split : (hostOps0_8 : List (HloOp τ sig (Elt Ideal))) = opsW ++ opsT := (List.take_append_drop 29 _).symm

/-- The buffers before the weights' last operations. -/
def before (c : Dev nD) : Valuation τ sig (Elt Ideal) :=
  after (List.flatten [hostOps0, hostOps0_1, hostOps0_2, hostOps0_3, hostOps0_4, hostOps0_5, hostOps0_6, hostOps0_7]) (fun b => m (c, b))

theorem flatten_snoc {α : Type} (l : List (List α)) (x : List α) : List.flatten (l ++ [x]) = List.flatten l ++ x := by simp

theorem V_eq (c : Dev nD) (b : Ref sig .tc) : V m c b = after opsT (after opsW (before m c)) (Proc.devRef .tc b) := by
  unfold V before
  rw [← after_append, ← after_append, ← ops_split]
  exact congrArg (fun l => after l (fun b => m (c, b)) (Proc.devRef .tc b)) (flatten_snoc [hostOps0, hostOps0_1, hostOps0_2, hostOps0_3, hostOps0_4, hostOps0_5, hostOps0_6, hostOps0_7] hostOps0_8)

set_option maxHeartbeats 4000000 in
theorem T_v83 (σ : Valuation τ sig (Elt Ideal)) : after opsT σ (Proc.devRef .tc main_v83) = tab64 (Host.cos ang64) (Host.cos ang64) := by
  simp only [opsT, hostOps0_8, List.drop_succ_cons, List.drop_zero]
  after_results_simp
  all_goals rfl

set_option maxHeartbeats 4000000 in
theorem T_v88 (σ : Valuation τ sig (Elt Ideal)) : after opsT σ (Proc.devRef .tc main_v88) = tab64 (Host.negf (Host.sin ang64)) (Host.sin ang64) := by
  simp only [opsT, hostOps0_8, List.drop_succ_cons, List.drop_zero]
  after_results_simp
  all_goals rfl

set_option maxHeartbeats 4000000 in
theorem T_v106 (σ : Valuation τ sig (Elt Ideal)) : after opsT σ (Proc.devRef .tc main_v106) = tab32 (Host.cos ang32) (Host.cos ang32) := by
  simp only [opsT, hostOps0_8, List.drop_succ_cons, List.drop_zero]
  after_results_simp
  all_goals rfl

set_option maxHeartbeats 4000000 in
theorem T_v111 (σ : Valuation τ sig (Elt Ideal)) : after opsT σ (Proc.devRef .tc main_v111) = tab32 (Host.negf (Host.sin ang32)) (Host.sin ang32) := by
  simp only [opsT, hostOps0_8, List.drop_succ_cons, List.drop_zero]
  after_results_simp
  all_goals rfl

set_option maxHeartbeats 4000000 in
theorem T_v112 (σ : Valuation τ sig (Elt Ideal)) : after opsT σ (Proc.devRef .tc main_v112) = shapeCast (s := S1024) (α := Ideal .f32) S1x1024 (σ (Proc.devRef .tc main_arg1)) shapeCasts_S1024_S1x1024 := by
  simp only [opsT, hostOps0_8, List.drop_succ_cons, List.drop_zero]
  after_results_simp
  all_goals rfl

set_option maxHeartbeats 4000000 in
theorem T_v113 (σ : Valuation τ sig (Elt Ideal)) : after opsT σ (Proc.devRef .tc main_v113) = shapeCast (s := S128) (α := Ideal .f32) S1x128 (σ (Proc.devRef .tc main_arg3)) shapeCasts_S128_S1x128 := by
  simp only [opsT, hostOps0_8, List.drop_succ_cons, List.drop_zero]
  after_results_simp
  all_goals rfl

set_option maxHeartbeats 4000000 in
theorem T_v50 (σ : Valuation τ sig (Elt Ideal)) : after opsT σ (Proc.devRef .tc main_v50) = σ (Proc.devRef .tc main_v50) := by
  simp only [opsT, hostOps0_8, List.drop_succ_cons, List.drop_zero]
  after_results_simp
  all_goals rfl

set_option maxHeartbeats 4000000 in
theorem T_arg1 (σ : Valuation τ sig (Elt Ideal)) : after opsT σ (Proc.devRef .tc main_arg1) = σ (Proc.devRef .tc main_arg1) := by
  simp only [opsT, hostOps0_8, List.drop_succ_cons, List.drop_zero]
  after_results_simp
  all_goals rfl

set_option maxHeartbeats 4000000 in
theorem T_arg3 (σ : Valuation τ sig (Elt Ideal)) : after opsT σ (Proc.devRef .tc main_arg3) = σ (Proc.devRef .tc main_arg3) := by
  simp only [opsT, hostOps0_8, List.drop_succ_cons, List.drop_zero]
  after_results_simp
  all_goals rfl

/-- The pieces of the weight that the caches' rows come from. -/
def Pieces (W : FVec Ideal S1024x5536 .f32) (σ : Valuation τ sig (Elt Ideal)) : Prop :=
  σ (Proc.devRef .tc main_v1) = extractStridedSlice S1024x128 ![0, 512] W slices_S1024x5536_S1024x128_0_512
  ∧ σ (Proc.devRef .tc main_v2) = extractStridedSlice S1024x128 ![0, 640] W slices_S1024x5536_S1024x128_0_640
  ∧ σ (Proc.devRef .tc main_v4) = extractStridedSlice S1024x128 ![0, 1536] W slices_S1024x5536_S1024x128_0_1536
  ∧ σ (Proc.devRef .tc main_v16) = ropek W
  ∧ σ (Proc.devRef .tc main_v7) = extractStridedSlice S1024x128 ![0, 2208] W slices_S1024x5536_S1024x128_0_2208
  ∧ σ (Proc.devRef .tc main_v8) = extractStridedSlice S1024x128 ![0, 2336] W slices_S1024x5536_S1024x128_0_2336

set_option maxHeartbeats 8000000 in
theorem before_pieces (c : Dev nD) : Pieces (a2 m c) (before m c) := by
  unfold before
  simp only [hostOps0, hostOps0_1, hostOps0_2, hostOps0_3, hostOps0_4, hostOps0_5, hostOps0_6, hostOps0_7, List.flatten_cons, List.flatten_nil, List.cons_append, List.nil_append, List.append_nil]
  refine ⟨?_, ?_, ?_, ?_, ?_, ?_⟩
  all_goals
    after_results_simp
    all_goals rfl

/-- The operations before the pieces are put side by side, and those from there on. -/
abbrev opsS : List (HloOp τ sig (Elt Ideal)) := hostOps0_8.take 12
abbrev opsC : List (HloOp τ sig (Elt Ideal)) := (hostOps0_8.drop 12).take 17

theorem opsW_split : opsW = opsS ++ opsC := rfl

set_option maxHeartbeats 8000000 in
theorem keep_pieces (W : FVec Ideal S1024x5536 .f32) (σ : Valuation τ sig (Elt Ideal)) (h : Pieces W σ) : Pieces W (after opsS σ) := by
  obtain ⟨h1, h2, h3, h4, h5, h6⟩ := h
  simp only [opsS, hostOps0_8, List.take_succ_cons, List.take_zero]
  refine ⟨?_, ?_, ?_, ?_, ?_, ?_⟩
  · after_results_simp
    exact h1
  · after_results_simp
    exact h2
  · after_results_simp
    exact h3
  · after_results_simp
    exact h4
  · after_results_simp
    exact h5
  · after_results_simp
    exact h6

/-- The weight's pieces side by side. -/
def joined (σ : Valuation τ sig (Elt Ideal)) : FVec Ideal S1024x7424 .f32 :=
  side (σ (Proc.devRef .tc main_v32)) (σ (Proc.devRef .tc main_v1)) (σ (Proc.devRef .tc main_v2)) (σ (Proc.devRef .tc main_v12)) (σ (Proc.devRef .tc main_v15))
    (σ (Proc.devRef .tc main_v4)) (σ (Proc.devRef .tc main_v16)) (σ (Proc.devRef .tc main_v48)) (σ (Proc.devRef .tc main_v7)) (σ (Proc.devRef .tc main_v8)) (σ (Proc.devRef .tc main_v9))

set_option maxHeartbeats 8000000 in
theorem C_v50 (σ : Valuation τ sig (Elt Ideal)) : after opsC σ (Proc.devRef .tc main_v50) = joined σ := by
  simp only [opsC, hostOps0_8, List.drop_succ_cons, List.drop_zero, List.take_succ_cons, List.take_zero]
  after_results_simp
  try dsimp only [Matrix.cons_val]
  rfl

theorem V_v50 (c : Dev nD) : V m c main_v50 = joined (after opsS (before m c)) := by
  rw [V_eq, T_v50, opsW_split, after_append, C_v50]
theorem V_v83 (c : Dev nD) : V m c main_v83 = tab64 (Host.cos ang64) (Host.cos ang64) := by rw [V_eq, T_v83]
theorem V_v88 (c : Dev nD) : V m c main_v88 = tab64 (Host.negf (Host.sin ang64)) (Host.sin ang64) := by rw [V_eq, T_v88]
theorem V_v106 (c : Dev nD) : V m c main_v106 = tab32 (Host.cos ang32) (Host.cos ang32) := by rw [V_eq, T_v106]
theorem V_v111 (c : Dev nD) : V m c main_v111 = tab32 (Host.negf (Host.sin ang32)) (Host.sin ang32) := by rw [V_eq, T_v111]
theorem V_v112 (c : Dev nD) : V m c main_v112 = shapeCast S1x1024 (a1 m c) shapeCasts_S1024_S1x1024 := by
  have h := V_main_arg1 m c
  rw [V_eq, T_arg1] at h
  rw [V_eq, T_v112, h]
theorem V_v113 (c : Dev nD) : V m c main_v113 = shapeCast S1x128 (a3 m c) shapeCasts_S128_S1x128 := by
  have h := V_main_arg3 m c
  rw [V_eq, T_arg3] at h
  rw [V_eq, T_v113, h]

section Columns
variable (W : FVec Ideal S1024x5536 .f32) (σ : Valuation τ sig (Elt Ideal)) (hσ : Pieces W σ) (k : Fin 1024) (s : Fin 128) (c : Fin 7424) (n : Fin 5536)
include hσ

theorem col512 (hc : c.val = 1024 + s.val) (hn : n.val = 512 + s.val) : joined σ (ix2 k c) = W (ix2 k n) := by
  unfold joined
  rw [side1 _ _ _ _ _ _ _ _ _ _ _ k s c hc, hσ.1]
  exact slice_at 512 W _ k s n hn
theorem col640 (hc : c.val = 1152 + s.val) (hn : n.val = 640 + s.val) : joined σ (ix2 k c) = W (ix2 k n) := by
  unfold joined
  rw [side2 _ _ _ _ _ _ _ _ _ _ _ k s c hc, hσ.2.1]
  exact slice_at 640 W _ k s n hn
theorem col1536 (hc : c.val = 2816 + s.val) (hn : n.val = 1536 + s.val) : joined σ (ix2 k c) = W (ix2 k n) := by
  unfold joined
  rw [side5 _ _ _ _ _ _ _ _ _ _ _ k s c hc, hσ.2.2.1]
  exact slice_at 1536 W _ k s n hn
theorem colKey (hc : c.val = 2944 + s.val) (h : s.val < 32) (hn : n.val = 1664 + s.val) : joined σ (ix2 k c) = W (ix2 k n) := by
  unfold joined
  rw [side6 _ _ _ _ _ _ _ _ _ _ _ k s c hc, hσ.2.2.2.1]
  exact ropek_in W k s h n hn
theorem col2208 (hc : c.val = 4096 + s.val) (hn : n.val = 2208 + s.val) : joined σ (ix2 k c) = W (ix2 k n) := by
  unfold joined
  rw [side8 _ _ _ _ _ _ _ _ _ _ _ k s c hc, hσ.2.2.2.2.1]
  exact slice_at 2208 W _ k s n hn
theorem col2336 (hc : c.val = 4224 + s.val) (hn : n.val = 2336 + s.val) : joined σ (ix2 k c) = W (ix2 k n) := by
  unfold joined
  rw [side9 _ _ _ _ _ _ _ _ _ _ _ k s c hc, hσ.2.2.2.2.2]
  exact slice_at 2336 W _ k s n hn
end Columns

theorem cat64_first (A B : FVec Ideal S128x32 .f32) (p : Fin 128) (n : Fin 64) (h : n.val < 32) :
    concatenate S128x64 1 [⟨S128x32, A⟩, ⟨S128x32, B⟩] concatenates_S128x32_S128x32_S128x64_d1 (ix2 p n) = A (ix2 p ⟨n.val, h⟩) := by
  pointwise [h]

theorem cat64_second (A B : FVec Ideal S128x32 .f32) (p : Fin 128) (n : Fin 64) (h : ¬ n.val < 32) :
    concatenate S128x64 1 [⟨S128x32, A⟩, ⟨S128x32, B⟩] concatenates_S128x32_S128x32_S128x64_d1 (ix2 p n) = B (ix2 p ⟨n.val - 32, by omega⟩) := by
  pointwise [h]

theorem cat32_first (A B : FVec Ideal S128x16 .f32) (p : Fin 128) (n : Fin 32) (h : n.val < 16) :
    concatenate S128x32 1 [⟨S128x16, A⟩, ⟨S128x16, B⟩] concatenates_S128x16_S128x16_S128x32_d1 (ix2 p n) = A (ix2 p ⟨n.val, h⟩) := by
  pointwise [h]

theorem cat32_second (A B : FVec Ideal S128x16 .f32) (p : Fin 128) (n : Fin 32) (h : ¬ n.val < 16) :
    concatenate S128x32 1 [⟨S128x16, A⟩, ⟨S128x16, B⟩] concatenates_S128x16_S128x16_S128x32_d1 (ix2 p n) = B (ix2 p ⟨n.val - 16, by omega⟩) := by
  pointwise [h]

theorem tile64_at (T : FVec Ideal S128x64 .f32) (p : Fin 128) (l : Fin 128) :
    shapeCast S128x128 (broadcastInDim S1x128x2x64 ![0, 1, 2, 3] bcast_S1x128x1x64_S1x128x2x64_0_1_2_3 (shapeCast S1x128x1x64 T shapeCasts_S128x64_S1x128x1x64)) shapeCasts_S1x128x2x64_S128x128 (ix2 p l)
      = T (ix2 p ⟨l.val % 64, by omega⟩) := by
  pointwise

theorem tile32_at (T : FVec Ideal S128x32 .f32) (p : Fin 128) (l : Fin 128) :
    shapeCast S128x128 (broadcastInDim S1x128x4x32 ![0, 1, 2, 3] bcast_S1x128x1x32_S1x128x4x32_0_1_2_3 (shapeCast S1x128x1x32 T shapeCasts_S128x32_S1x128x1x32)) shapeCasts_S1x128x4x32_S128x128 (ix2 p l)
      = T (ix2 p ⟨l.val % 32, by omega⟩) := by
  pointwise

theorem tab64_at (A B : FVec Ideal S128x32 .f32) (p : Fin 128) (l : Fin 128) :
    tab64 A B (ix2 p l) = if l.val % 64 < 32 then A (ix2 p ⟨l.val % 32, by omega⟩) else B (ix2 p ⟨l.val % 32, by omega⟩) := by
  unfold tab64
  rw [tile64_at]
  by_cases h : l.val % 64 < 32
  · rw [if_pos h, cat64_first _ _ _ _ h]
    exact congrArg (fun n => A (ix2 p n)) (Fin.ext (by dsimp only; omega))
  · rw [if_neg h, cat64_second _ _ _ _ h]
    exact congrArg (fun n => B (ix2 p n)) (Fin.ext (by dsimp only; omega))

theorem tab32_at (A B : FVec Ideal S128x16 .f32) (p : Fin 128) (l : Fin 128) :
    tab32 A B (ix2 p l) = if l.val % 32 < 16 then A (ix2 p ⟨l.val % 16, by omega⟩) else B (ix2 p ⟨l.val % 16, by omega⟩) := by
  unfold tab32
  rw [tile32_at]
  by_cases h : l.val % 32 < 16
  · rw [if_pos h, cat32_first _ _ _ _ h]
    exact congrArg (fun n => A (ix2 p n)) (Fin.ext (by dsimp only; omega))
  · rw [if_neg h, cat32_second _ _ _ _ h]
    exact congrArg (fun n => B (ix2 p n)) (Fin.ext (by dsimp only; omega))

end Cert.Kernel7Ideal.SValue

end
-- ==== Proof.ProjOut7.lean ====
/- The sampled rows' projections: the six windows that go to the caches, at the ideal instance. -/
module

public import proofs.«01_k».proof.Proof.ProjHost7
public import proofs.«01_k».proof.Proof.Gen.Kernel7Ideal.Value

@[expose] public section

set_option maxRecDepth 16384

noncomputable section

open Idealize.ShloMosaic Idealize.ShloMosaic.TcCoe Idealize.SL.Sem
open Idealize.ShloMosaic.Pipeline (Dat)

namespace Cert.Kernel7Ideal.SValue

open Cert.Kernel7Ideal Cert.Kernel7Ideal.Gen
open Cert.Kernel5Ideal.PValue (nrm nrm128 rot64 rot32)

section Block
variable (N : FVec Ideal S128x1024 .bf16) (W : Vec Ideal S1024x7424 .bf16)

/-- A row against one of the columns side by side. -/
def big (y : Fin 128) (j : ℕ) : EReal := ∑ k : Fin 1024, N (ix2 y k) * W (ix2 k ⟨j % 7424, Nat.mod_lt _ (by decide)⟩)

/-- A hundred and twenty-eight of the columns. -/
def cut (o : ℕ) : Vec Ideal S1024x128 .bf16 := fun i => W (ix2 (i 0) ⟨(o + (i 1).val) % 7424, Nat.mod_lt _ (by decide)⟩)

theorem ld_cut (o : ℕ) (h : ∀ d, (![0, o] : Fin 2 → ℕ) d + S1024x128.size d ≤ S1024x7424.size d) :
    View.ld W (Rect.unit (s := S1024x7424) ![0, o] S1024x128.size h) = cut W o := by
  funext i
  have h1 : o + 128 ≤ 7424 := h 1
  have h2 : (i 1).val < 128 := (i 1).isLt
  refine congrArg W (funext fun d => Fin.ext ?_)
  match d with
  | 0 => simp [Rect.emb, Rect.unit]
  | 1 =>
    have : (o + (i 1).val) % 7424 = o + (i 1).val := Nat.mod_eq_of_lt (by omega)
    simp [Rect.emb, Rect.unit, this]

end Block

/-- All sampled rows by all features. -/
abbrev S128x5536 : Shape := ⟨2, ![128, 5536]⟩

/-- The rows' projection, all features of it. -/
def proj (x : FVec Ideal S128x1024 .f32) (g : FVec Ideal S1024 .f32) (W : FVec Ideal S1024x5536 .f32) : FVec Ideal S128x5536 .f32 :=
  fun i => ∑ k : Fin 1024, nrm (fun k => x (ix2 (i 0) k)) (fun k => g (ix1 k)) k * W (ix2 k (i 1))

section Spec
variable (Y : FVec Ideal S128x5536 .f32)

/-- One feature of a row. -/
def feat (r : Fin 128) (j : ℕ) : EReal := Y (ix2 r ⟨j % 5536, Nat.mod_lt _ (by decide)⟩)

theorem feat_eq (r : Fin 128) (j : ℕ) (n : Fin 5536) (h : n.val = j) : feat Y r j = Y (ix2 r n) :=
  congrArg (fun n => Y (ix2 r n)) (Fin.ext ((Nat.mod_eq_of_lt (h ▸ n.isLt)).trans h.symm))

/-- The cosines and sines of the rows' position. -/
def cos64 (r : Fin 128) (n : Fin 32) : EReal := Host.cos ang64 (ix2 r n)
def sin64 (r : Fin 128) (n : Fin 32) : EReal := Host.sin ang64 (ix2 r n)
def cos32 (r : Fin 128) (n : Fin 16) : EReal := Host.cos ang32 (ix2 r n)
def sin32 (r : Fin 128) (n : Fin 16) : EReal := Host.sin ang32 (ix2 r n)

def ckvAt (γ : FVec Ideal S128 .f32) (r : Fin 128) (l : Fin 128) : EReal :=
  nrm128 (fun k => feat Y r (1536 + k.val)) (fun k => γ (ix1 k)) l
def krAt (r : Fin 128) (l : ℕ) : EReal := rot32 (fun j => feat Y r (1664 + j)) (cos32 r) (sin32 r) l
def mbkAt (r : Fin 128) (l : Fin 128) : EReal :=
  rot64 (fun j => feat Y r (2208 + (l.val / 64 * 64 + j))) (cos64 r) (sin64 r) (l.val % 64)

def Gcut (o : ℕ) : FVec Ideal S128x128 .f32 := fun i => feat Y (i 0) (o + (i 1).val)
def Gckv (γ : FVec Ideal S128 .f32) : FVec Ideal S128x128 .f32 := fun i => ckvAt Y γ (i 0) (i 1)
def Gkr : FVec Ideal S128x32 .f32 := fun i => krAt Y (i 0) (i 1).val
def Gmbk : FVec Ideal S128x128 .f32 := fun i => mbkAt Y (i 0) (i 1)

theorem Gcut_at (r : Fin 128) (o : ℕ) (z : Fin 128) : feat Y r (o + z.val) = Gcut Y o (ix2 r z) := rfl
theorem Gckv_at (γ : FVec Ideal S128 .f32) (r : Fin 128) (z : Fin 128) : ckvAt Y γ r z = Gckv Y γ (ix2 r z) := rfl
theorem Gkr_at (r : Fin 128) (z : Fin 32) : krAt Y r z.val = Gkr Y (ix2 r z) := rfl
theorem Gmbk_at (r : Fin 128) (z : Fin 128) : mbkAt Y r z = Gmbk Y (ix2 r z) := rfl
end Spec

variable (m : (ℓ : Loc nD τ sig) → Buf (Elt Ideal) ℓ)

/-- The normalised rows, the weights, the tables and the projection. -/
abbrev NB (c : Dev nD) (t : Fin cfg0.N) : FVec Ideal S128x1024 .bf16 := k0_pay1 (F := Ideal) (iblk m c 0 t) (iblk m c 1 t)
abbrev WB (c : Dev nD) (t : Fin cfg0.N) : Vec Ideal S1024x7424 .bf16 := iblk m c 2 t
abbrev CB64 (c : Dev nD) (t : Fin cfg0.N) : FVec Ideal S128x128 .f32 := k0_pay2 (F := Ideal) (iblk m c 5 t)
abbrev SB64 (c : Dev nD) (t : Fin cfg0.N) : FVec Ideal S128x128 .f32 := k0_pay3 (F := Ideal) (iblk m c 6 t)
abbrev CB32 (c : Dev nD) (t : Fin cfg0.N) : FVec Ideal S128x128 .f32 := k0_pay4 (F := Ideal) (iblk m c 7 t)
abbrev SB32 (c : Dev nD) (t : Fin cfg0.N) : FVec Ideal S128x128 .f32 := k0_pay5 (F := Ideal) (iblk m c 8 t)
abbrev YY (c : Dev nD) : FVec Ideal S128x5536 .f32 := proj (a0 m c) (a1 m c) (a2 m c)

theorem idx : ∀ t : Fin grid0.N, ∀ d : Fin 2, win0_0.index t d = 0 ∧ win0_1.index t d = 0 ∧ win0_2.index t d = 0 ∧ win0_3.index t d = 0
    ∧ win0_5.index t d = 0 ∧ win0_6.index t d = 0 ∧ win0_7.index t d = 0 ∧ win0_8.index t d = 0
    ∧ win0_10.index t d = 0 ∧ win0_11.index t d = 0 ∧ win0_16.index t d = 0 ∧ win0_17.index t d = 0 ∧ win0_20.index t d = 0 ∧ win0_21.index t d = 0 := by decide +kernel

theorem iblk0_at (c : Dev nD) (t : Fin cfg0.N) (y : Fin 128) (x : Fin 1024) : iblk m c 0 t (ix2 y x) = a0 m c (ix2 y x) := by
  have e : iblk m c 0 t (ix2 y x) = V m c main_arg0 (ix2 y x) := by
    blk_ext [iblk, idx t]
  rw [e, V_main_arg0]

theorem row_at (γ : FVec Ideal S1024 .f32) (x : Fin 1024) : shapeCast S1x1024 γ shapeCasts_S1024_S1x1024 (ix2 0 x) = γ (ix1 x) := by pointwise
theorem row128_at (γ : FVec Ideal S128 .f32) (x : Fin 128) : shapeCast S1x128 γ shapeCasts_S128_S1x128 (ix2 0 x) = γ (ix1 x) := by pointwise

theorem iblk1_at (c : Dev nD) (t : Fin cfg0.N) (x : Fin 1024) : iblk m c 1 t (ix2 0 x) = a1 m c (ix1 x) := by
  have e : iblk m c 1 t (ix2 0 x) = V m c main_v112 (ix2 0 x) := by
    blk_ext [iblk, idx t]
  rw [e, V_v112]
  exact row_at _ x

theorem WB_at (c : Dev nD) (t : Fin cfg0.N) (k : Fin 1024) (j : Fin 7424) : WB m c t (ix2 k j) = joined (StableHlo.after opsS (before m c)) (ix2 k j) := by
  have e : iblk m c 2 t (ix2 k j) = V m c main_v50 (ix2 k j) := by
    blk_ext [iblk, idx t]
  exact e.trans (congrFun (V_v50 m c) (ix2 k j))

theorem pieces (c : Dev nD) : Pieces (a2 m c) (StableHlo.after opsS (before m c)) := keep_pieces _ _ (before_pieces m c)

theorem proj_at (x : FVec Ideal S128x1024 .f32) (g : FVec Ideal S1024 .f32) (W : FVec Ideal S1024x5536 .f32) (r : Fin 128) (n : Fin 5536) :
    proj x g W (ix2 r n) = ∑ k : Fin 1024, nrm (fun k => x (ix2 r k)) (fun k => g (ix1 k)) k * W (ix2 k n) := rfl

theorem iblk3_at (c : Dev nD) (t : Fin cfg0.N) (x : Fin 128) : iblk m c 3 t (ix2 0 x) = a3 m c (ix1 x) := by
  have e : iblk m c 3 t (ix2 0 x) = V m c main_v113 (ix2 0 x) := by
    blk_ext [iblk, idx t]
  rw [e, V_v113]
  exact row128_at _ x

theorem same_at (X : Vec Ideal S128x128 .f32) (y : Fin 128) (l : Fin 128) : k0_pay2 (F := Ideal) X (ix2 y l) = X (ix2 y l) := by
  pointwise [k0_pay2]

theorem c64_at (c : Dev nD) (t : Fin cfg0.N) (y : Fin 128) (l : Fin 128) : CB64 m c t (ix2 y l) = cos64 y ⟨l.val % 32, by omega⟩ := by
  have e : iblk m c 5 t (ix2 y l) = V m c main_v83 (ix2 y l) := by
    blk_ext [iblk, idx t]
  refine (same_at _ y l).trans ?_
  rw [e, V_v83, tab64_at, ite_self]
  rfl

theorem c32_at (c : Dev nD) (t : Fin cfg0.N) (y : Fin 128) (l : Fin 128) : CB32 m c t (ix2 y l) = cos32 y ⟨l.val % 16, by omega⟩ := by
  have e : iblk m c 7 t (ix2 y l) = V m c main_v106 (ix2 y l) := by
    blk_ext [iblk, idx t]
  refine (same_at _ y l).trans ?_
  rw [e, V_v106, tab32_at, ite_self]
  rfl

theorem s64_at (c : Dev nD) (t : Fin cfg0.N) (y : Fin 128) (l : Fin 128) :
    SB64 m c t (ix2 y l) = if l.val % 64 < 32 then -sin64 y ⟨l.val % 32, by omega⟩ else sin64 y ⟨l.val % 32, by omega⟩ := by
  have e : iblk m c 6 t (ix2 y l) = V m c main_v88 (ix2 y l) := by
    blk_ext [iblk, idx t]
  refine (same_at _ y l).trans ?_
  rw [e, V_v88, tab64_at]
  rfl

theorem s32_at (c : Dev nD) (t : Fin cfg0.N) (y : Fin 128) (l : Fin 128) :
    SB32 m c t (ix2 y l) = if l.val % 32 < 16 then -sin32 y ⟨l.val % 16, by omega⟩ else sin32 y ⟨l.val % 16, by omega⟩ := by
  have e : iblk m c 8 t (ix2 y l) = V m c main_v111 (ix2 y l) := by
    blk_ext [iblk, idx t]
  refine (same_at _ y l).trans ?_
  rw [e, V_v111, tab32_at]
  rfl

theorem NB_at (c : Dev nD) (t : Fin cfg0.N) (y : Fin 128) (k : Fin 1024) :
    NB m c t (ix2 y k) = nrm (fun k => a0 m c (ix2 y k)) (fun k => a1 m c (ix1 k)) k := by
  refine (norm_at _ _ y k).trans ?_
  simp only [iblk0_at, iblk1_at]

/-- A column of the product is a feature of the row, where the column is the feature's. -/
theorem big_own (c : Dev nD) (t : Fin cfg0.N) (y : Fin 128) (j n : ℕ) (hj : j < 7424) (hn : n < 5536)
    (h : ∀ k, joined (StableHlo.after opsS (before m c)) (ix2 k ⟨j, hj⟩) = a2 m c (ix2 k ⟨n, hn⟩)) : big (NB m c t) (WB m c t) y j = feat (YY m c) y n := by
  rw [feat_eq _ _ n ⟨n, hn⟩ rfl]
  refine Eq.trans ?_ (proj_at (a0 m c) (a1 m c) (a2 m c) y ⟨n, hn⟩).symm
  refine Finset.sum_congr rfl fun k _ => ?_
  rw [NB_at, WB_at, show (⟨j % 7424, Nat.mod_lt _ (by decide)⟩ : Fin 7424) = ⟨j, hj⟩ from Fin.ext (Nat.mod_eq_of_lt hj), h]

theorem pcut_at (N : FVec Ideal S128x1024 .bf16) (W : Vec Ideal S1024x7424 .bf16) (o : ℕ) (y : Fin 128) (l : Fin 128) :
    k0_pay9 (F := Ideal) N (cut W o) (ix2 y l) = big N W y (o + l.val) := prod_at N _ y l

theorem sbk_big (c : Dev nD) (t : Fin cfg0.N) (y : Fin 128) (l : Fin 128) : big (NB m c t) (WB m c t) y (1024 + l.val) = feat (YY m c) y (512 + l.val) :=
  big_own m c t y _ _ (by omega) (by omega) fun k => col512 _ _ (pieces m c) k l _ _ rfl rfl
theorem sbv_big (c : Dev nD) (t : Fin cfg0.N) (y : Fin 128) (l : Fin 128) : big (NB m c t) (WB m c t) y (1152 + l.val) = feat (YY m c) y (640 + l.val) :=
  big_own m c t y _ _ (by omega) (by omega) fun k => col640 _ _ (pieces m c) k l _ _ rfl rfl
theorem ckv_big (c : Dev nD) (t : Fin cfg0.N) (y : Fin 128) (l : Fin 128) : big (NB m c t) (WB m c t) y (2816 + l.val) = feat (YY m c) y (1536 + l.val) :=
  big_own m c t y _ _ (by omega) (by omega) fun k => col1536 _ _ (pieces m c) k l _ _ rfl rfl
theorem mbk_big (c : Dev nD) (t : Fin cfg0.N) (y : Fin 128) (l : Fin 128) : big (NB m c t) (WB m c t) y (4096 + l.val) = feat (YY m c) y (2208 + l.val) :=
  big_own m c t y _ _ (by omega) (by omega) fun k => col2208 _ _ (pieces m c) k l _ _ rfl rfl
theorem mbv_big (c : Dev nD) (t : Fin cfg0.N) (y : Fin 128) (l : Fin 128) : big (NB m c t) (WB m c t) y (4224 + l.val) = feat (YY m c) y (2336 + l.val) :=
  big_own m c t y _ _ (by omega) (by omega) fun k => col2336 _ _ (pieces m c) k l _ _ rfl rfl

theorem plain_at (N : FVec Ideal S128x1024 .bf16) (W : Vec Ideal S1024x7424 .bf16) (o : ℕ)
    (h : ∀ d, (![0, o] : Fin 2 → ℕ) d + S1024x128.size d ≤ S1024x7424.size d) (y : Fin 128) (l : Fin 128) :
    k0_pay9 (F := Ideal) N (View.ld W (Rect.unit (s := S1024x7424) ![0, o] S1024x128.size h)) (ix2 y l) = big N W y (o + l.val) :=
  (congrFun (congrArg (k0_pay9 (F := Ideal) N) (ld_cut W o h)) (ix2 y l)).trans (pcut_at N W o y l)

theorem at10 (c : Dev nD) (t : Fin cfg0.N) (y : Fin 128) (l : Fin 128) : (dats m 0 c).after 10 t (ix2 y l) = feat (YY m c) y (512 + l.val) := by
  rw [after0_10]
  unfold_out out0_10
  frame_out
  exact (plain_at _ _ 1024 _ y l).trans (sbk_big m c t y l)

theorem at11 (c : Dev nD) (t : Fin cfg0.N) (y : Fin 128) (l : Fin 128) : (dats m 0 c).after 11 t (ix2 y l) = feat (YY m c) y (640 + l.val) := by
  rw [after0_11]
  unfold_out out0_11
  frame_out
  exact (plain_at _ _ 1152 _ y l).trans (sbv_big m c t y l)

theorem at21 (c : Dev nD) (t : Fin cfg0.N) (y : Fin 128) (l : Fin 128) : (dats m 0 c).after 21 t (ix2 y l) = feat (YY m c) y (2336 + l.val) := by
  rw [after0_21]
  unfold_out out0_21
  frame_out
  exact (plain_at _ _ 4224 _ y l).trans (mbv_big m c t y l)

theorem at16 (c : Dev nD) (t : Fin cfg0.N) (y : Fin 128) (l : Fin 128) : (dats m 0 c).after 16 t (ix2 y l) = ckvAt (YY m c) (a3 m c) y l := by
  rw [after0_16]
  unfold_out out0_16
  frame_out
  refine Eq.trans (congrFun (congrArg (fun w => k0_pay63 (F := Ideal) (NB m c t) w (iblk m c 3 t)) (ld_cut (WB m c t) 2816 (by decide))) (ix2 y l)) ?_
  refine (ckv_at _ _ _ y l).trans ?_
  unfold ckvAt
  exact congrArg₂ (fun a b => nrm128 a b l) (funext fun k => ckv_big m c t y k) (funext fun k => iblk3_at m c t k)

/-- The rope keys as the body computes them, over 128 lanes, and the block keys. -/
abbrev KB (c : Dev nD) (t : Fin cfg0.N) : FVec Ideal S128x128 .f32 :=
  rp32 (k0_pay9 (F := Ideal) (NB m c t) (View.ld (iblk m c 2 t) r0_42)) (CB32 m c t) (SB32 m c t)
abbrev MB (c : Dev nD) (t : Fin cfg0.N) : FVec Ideal S128x128 .f32 :=
  rp64 (k0_pay9 (F := Ideal) (NB m c t) (View.ld (iblk m c 2 t) r0_45)) (CB64 m c t) (SB64 m c t)

theorem KB_at (c : Dev nD) (t : Fin cfg0.N) (y : Fin 128) (l : Fin 128) (h : l.val < 32) : KB m c t (ix2 y l) = krAt (YY m c) y l.val := by
  refine Eq.trans (congrFun (congrArg (fun w => rp32 (k0_pay9 (F := Ideal) (NB m c t) w) (CB32 m c t) (SB32 m c t)) (ld_cut (WB m c t) 2944 (by decide))) (ix2 y l)) ?_
  refine (rp32_rot _ _ _ y l (fun j => feat (YY m c) y (1664 + j)) (cos32 y) (sin32 y) (fun e he => ?_) (c32_at m c t y l) (s32_at m c t y l)).trans ?_
  · rw [pcut_at]
    have h1 : e.val < 32 := by omega
    rw [Nat.mod_eq_of_lt h1]
    exact big_own m c t y _ _ (by omega) (by omega) fun k => colKey _ _ (pieces m c) k e _ _ rfl h1 rfl
  · rw [Nat.mod_eq_of_lt h]
    rfl

theorem MB_at (c : Dev nD) (t : Fin cfg0.N) (y : Fin 128) (l : Fin 128) : MB m c t (ix2 y l) = mbkAt (YY m c) y l := by
  refine Eq.trans (congrFun (congrArg (fun w => rp64 (k0_pay9 (F := Ideal) (NB m c t) w) (CB64 m c t) (SB64 m c t)) (ld_cut (WB m c t) 4096 (by decide))) (ix2 y l)) ?_
  refine rp64_rot _ _ _ y l (fun j => feat (YY m c) y (2208 + (l.val / 64 * 64 + j))) _ _ (fun e he => ?_) (c64_at m c t y l) (s64_at m c t y l)
  rw [pcut_at, mbk_big]
  exact congrArg (feat _ _) (by omega)

theorem first32_of (P : FVec Ideal S128x128 .f32) (y : Fin 128) (l : Fin 32) :
    extractStridedSlice S128x32 ![0, 0] P slices_S128x128_o0_0_S128x32 (ix2 y l) = P (ix2 y ⟨l.val, by omega⟩) := by pointwise

theorem at17 (c : Dev nD) (t : Fin cfg0.N) (y : Fin 128) (l : Fin 32) : (dats m 0 c).after 17 t (ix2 y l) = krAt (YY m c) y l.val := by
  rw [after0_17]
  unfold_out out0_17
  frame_out
  exact (first32_of (KB m c t) y l).trans (KB_at m c t y _ l.isLt)

theorem at20 (c : Dev nD) (t : Fin cfg0.N) (y : Fin 128) (l : Fin 128) : (dats m 0 c).after 20 t (ix2 y l) = mbkAt (YY m c) y l := by
  rw [after0_20]
  unfold_out out0_20
  frame_out
  exact MB_at m c t y l

/-- Each of the six arrays after the run. -/
theorem final10 (c : Dev nD) : (dats m 0 c).arrAt 10 cfg0.N = Gcut (YY m c) 512 := by
  refine (dats m 0 c).arrAt_eq_of_covers 10 _ (by decide +kernel) fun t _ y => ?_
  blk_simp
  obtain ⟨y, z, rfl⟩ : ∃ (a : Fin 128) (b : Fin 128), y = ix2 a b := ⟨y 0, y 1, (ix2_eta y).symm⟩
  refine (at10 m c t y z).trans ((Gcut_at (YY m c) y 512 z).trans (congrArg (Gcut (YY m c) 512) ?_))
  blk_ext [idx t]

theorem final11 (c : Dev nD) : (dats m 0 c).arrAt 11 cfg0.N = Gcut (YY m c) 640 := by
  refine (dats m 0 c).arrAt_eq_of_covers 11 _ (by decide +kernel) fun t _ y => ?_
  blk_simp
  obtain ⟨y, z, rfl⟩ : ∃ (a : Fin 128) (b : Fin 128), y = ix2 a b := ⟨y 0, y 1, (ix2_eta y).symm⟩
  refine (at11 m c t y z).trans ((Gcut_at (YY m c) y 640 z).trans (congrArg (Gcut (YY m c) 640) ?_))
  blk_ext [idx t]

theorem final16 (c : Dev nD) : (dats m 0 c).arrAt 16 cfg0.N = Gckv (YY m c) (a3 m c) := by
  refine (dats m 0 c).arrAt_eq_of_covers 16 _ (by decide +kernel) fun t _ y => ?_
  blk_simp
  obtain ⟨y, z, rfl⟩ : ∃ (a : Fin 128) (b : Fin 128), y = ix2 a b := ⟨y 0, y 1, (ix2_eta y).symm⟩
  refine (at16 m c t y z).trans ((Gckv_at (YY m c) (a3 m c) y z).trans (congrArg (Gckv (YY m c) (a3 m c)) ?_))
  blk_ext [idx t]

theorem final17 (c : Dev nD) : (dats m 0 c).arrAt 17 cfg0.N = Gkr (YY m c) := by
  refine (dats m 0 c).arrAt_eq_of_covers 17 _ (by decide +kernel) fun t _ y => ?_
  blk_simp
  obtain ⟨y, z, rfl⟩ : ∃ (a : Fin 128) (b : Fin 32), y = ix2 a b := ⟨y 0, y 1, (ix2_eta y).symm⟩
  refine (at17 m c t y z).trans ((Gkr_at (YY m c) y z).trans (congrArg (Gkr (YY m c)) ?_))
  blk_ext [idx t]

theorem final20 (c : Dev nD) : (dats m 0 c).arrAt 20 cfg0.N = Gmbk (YY m c) := by
  refine (dats m 0 c).arrAt_eq_of_covers 20 _ (by decide +kernel) fun t _ y => ?_
  blk_simp
  obtain ⟨y, z, rfl⟩ : ∃ (a : Fin 128) (b : Fin 128), y = ix2 a b := ⟨y 0, y 1, (ix2_eta y).symm⟩
  refine (at20 m c t y z).trans ((Gmbk_at (YY m c) y z).trans (congrArg (Gmbk (YY m c)) ?_))
  blk_ext [idx t]

theorem final21 (c : Dev nD) : (dats m 0 c).arrAt 21 cfg0.N = Gcut (YY m c) 2336 := by
  refine (dats m 0 c).arrAt_eq_of_covers 21 _ (by decide +kernel) fun t _ y => ?_
  blk_simp
  obtain ⟨y, z, rfl⟩ : ∃ (a : Fin 128) (b : Fin 128), y = ix2 a b := ⟨y 0, y 1, (ix2_eta y).symm⟩
  refine (at21 m c t y z).trans ((Gcut_at (YY m c) y 2336 z).trans (congrArg (Gcut (YY m c) 2336) ?_))
  blk_ext [idx t]

end Cert.Kernel7Ideal.SValue

end
-- ==== Proof.RefRows7.lean ====
/- The sampled rows' projections: the reference read at an index, at the ideal instance. -/
module

public import proofs.«01_k».proof.Proof.ProjOut7
public import proofs.«01_k».proof.Proof.RefFfn
public import proofs.«01_k».proof.Proof.Gen.Reference7Ideal.Run

@[expose] public section

set_option maxRecDepth 16384

noncomputable section

open Idealize.ShloMosaic Idealize.ShloMosaic.TcCoe Idealize.SL.Sem

namespace Cert.Reference7Ideal.Ref

open Cert.Reference7Ideal Cert.Reference7Ideal.Gen
open Cert.Kernel5Ideal.PValue (nrm nrm128 rot64 rot32)
open Cert.Kernel7Ideal.SValue (proj feat feat_eq rate64 rate32 ang64 ang32 cos64 sin64 cos32 sin32 ckvAt krAt mbkAt Gcut Gckv Gkr Gmbk)

/-- The rows' norms, their sums of squares and their projection. -/
def sq (X : FVec Ideal S128x1024 .f32) : FVec Ideal S128 .f32 :=
  Host.reduceAdd (mulf X X) (constant S_ .f32 0x00000000#32) reducesTo_S128x1024_S128_d1 h_S_

def rms (X : FVec Ideal S128x1024 .f32) (g : FVec Ideal S1024 .f32) : FVec Ideal S128x1024 .f32 :=
  mulf (mulf X (broadcastInDim S128x1024 ![0, 1] bcast_S128x1_S128x1024_0_1 (Host.rsqrt (addf (Host.divf (broadcastInDim S128x1 ![0] bcast_S128_S128x1_0 (sq X)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))

def up (N : FVec Ideal S128x1024 .f32) (W : FVec Ideal S1024x5536 .f32) : FVec Ideal S128x5536 .f32 :=
  Host.dotGeneral dot_S128x1024_S1024x5536_S128x5536_1_0_0_1_n_n none N W

theorem sq_at (X : FVec Ideal S128x1024 .f32) (r : Fin 128) : sq X (ix1 r) = ∑ k : Fin 1024, X (ix2 r k) * X (ix2 r k) := by
  pointwise [sq]

theorem rms_at (X : FVec Ideal S128x1024 .f32) (g : FVec Ideal S1024 .f32) (r : Fin 128) (d : Fin 1024) :
    rms X g (ix2 r d) = nrm (fun k => X (ix2 r k)) (fun k => g (ix1 k)) d := by
  unfold nrm
  rw [← sq_at]
  unfold rms
  generalize sq X = s
  pointwise

theorem up_at (N : FVec Ideal S128x1024 .f32) (W : FVec Ideal S1024x5536 .f32) (r : Fin 128) (x : Fin 5536) :
    up N W (ix2 r x) = ∑ k : Fin 1024, N (ix2 r k) * W (ix2 k x) := by
  pointwise [up]

theorem up_eq (X : FVec Ideal S128x1024 .f32) (g : FVec Ideal S1024 .f32) (W : FVec Ideal S1024x5536 .f32) : up (rms X g) W = proj X g W := by
  funext z
  obtain ⟨r, d, rfl⟩ : ∃ (r : Fin 128) (d : Fin 5536), z = ix2 r d := ⟨z 0, z 1, (ix2_eta z).symm⟩
  have e := fun k => rms_at X g r k
  rw [up_at]
  simp only [e]
  rfl

/-- The same norm over 128 features. -/
def sq128 (X : FVec Ideal S128x128 .f32) : FVec Ideal S128 .f32 :=
  Host.reduceAdd (mulf X X) (constant S_ .f32 0x00000000#32) reducesTo_S128x128_S128_d1 h_S_

def rms128 (X : FVec Ideal S128x128 .f32) (g : FVec Ideal S128 .f32) : FVec Ideal S128x128 .f32 :=
  mulf (mulf X (broadcastInDim S128x128 ![0, 1] bcast_S128x1_S128x128_0_1 (Host.rsqrt (addf (Host.divf (broadcastInDim S128x1 ![0] bcast_S128_S128x1_0 (sq128 X)) (broadcastInDim S128x1 ![] bcast_S_S128x1 (constant S_ .f32 0x43000000#32))) (broadcastInDim S128x1 ![] bcast_S_S128x1 (constant S_ .f32 0x358637BD#32)))))) (broadcastInDim S128x128 ![0, 1] bcast_S1x128_S128x128_0_1 (broadcastInDim S1x128 ![1] bcast_S128_S1x128_1 g))

theorem sq128_at (X : FVec Ideal S128x128 .f32) (r : Fin 128) : sq128 X (ix1 r) = ∑ k : Fin 128, X (ix2 r k) * X (ix2 r k) := by
  pointwise [sq128]

theorem rms128_at (X : FVec Ideal S128x128 .f32) (g : FVec Ideal S128 .f32) (r : Fin 128) (d : Fin 128) :
    rms128 X g (ix2 r d) = nrm128 (fun k => X (ix2 r k)) (fun k => g (ix1 k)) d := by
  unfold nrm128
  rw [← sq128_at]
  unfold rms128
  generalize sq128 X = s
  pointwise

/-- The rotation of 64 features in halves, all rows by the same angles. -/
def fst64 (X : FVec Ideal S128x2x64 .f32) (C S : FVec Ideal S1x32 .f32) : FVec Ideal S128x2x32 .f32 :=
  subf (mulf (extractStridedSlice S128x2x32 ![0, 0, 0] X slices_S128x2x64_S128x2x32_0_0_0) (broadcastInDim S128x2x32 ![0, 1, 2] bcast_S1x1x32_S128x2x32_0_1_2 (broadcastInDim S1x1x32 ![0, 2] bcast_S1x32_S1x1x32_0_2 C))) (mulf (extractStridedSlice S128x2x32 ![0, 0, 32] X slices_S128x2x64_S128x2x32_0_0_32) (broadcastInDim S128x2x32 ![0, 1, 2] bcast_S1x1x32_S128x2x32_0_1_2 (broadcastInDim S1x1x32 ![0, 2] bcast_S1x32_S1x1x32_0_2 S)))
def snd64 (X : FVec Ideal S128x2x64 .f32) (C S : FVec Ideal S1x32 .f32) : FVec Ideal S128x2x32 .f32 :=
  addf (mulf (extractStridedSlice S128x2x32 ![0, 0, 32] X slices_S128x2x64_S128x2x32_0_0_32) (broadcastInDim S128x2x32 ![0, 1, 2] bcast_S1x1x32_S128x2x32_0_1_2 (broadcastInDim S1x1x32 ![0, 2] bcast_S1x32_S1x1x32_0_2 C))) (mulf (extractStridedSlice S128x2x32 ![0, 0, 0] X slices_S128x2x64_S128x2x32_0_0_0) (broadcastInDim S128x2x32 ![0, 1, 2] bcast_S1x1x32_S128x2x32_0_1_2 (broadcastInDim S1x1x32 ![0, 2] bcast_S1x32_S1x1x32_0_2 S)))
def rope64 (X : FVec Ideal S128x2x64 .f32) (C S : FVec Ideal S1x32 .f32) : FVec Ideal S128x2x64 .f32 :=
  concatenate S128x2x64 2 [⟨S128x2x32, fst64 X C S⟩, ⟨S128x2x32, snd64 X C S⟩] concatenates_S128x2x32_S128x2x32_S128x2x64_d2

theorem fst64_at (X : FVec Ideal S128x2x64 .f32) (C S : FVec Ideal S1x32 .f32) (r : Fin 128) (h : Fin 2) (k : Fin 32) :
    fst64 X C S (ix3 r h k) = X (ix3 r h ⟨k.val, by omega⟩) * C (ix2 0 k) - X (ix3 r h ⟨32 + k.val, by omega⟩) * S (ix2 0 k) := by
  pointwise [fst64]
theorem snd64_at (X : FVec Ideal S128x2x64 .f32) (C S : FVec Ideal S1x32 .f32) (r : Fin 128) (h : Fin 2) (k : Fin 32) :
    snd64 X C S (ix3 r h k) = X (ix3 r h ⟨32 + k.val, by omega⟩) * C (ix2 0 k) + X (ix3 r h ⟨k.val, by omega⟩) * S (ix2 0 k) := by
  pointwise [snd64]
theorem rope64_at (X : FVec Ideal S128x2x64 .f32) (C S : FVec Ideal S1x32 .f32) (r : Fin 128) (h : Fin 2) (n : Fin 64) (u : ℕ → EReal) (hu : ∀ j : Fin 64, X (ix3 r h j) = u j.val) :
    rope64 X C S (ix3 r h n) = rot64 u (fun k => C (ix2 0 k)) (fun k => S (ix2 0 k)) n.val := by
  unfold rot64
  by_cases hn : n.val < 32
  · have e : rope64 X C S (ix3 r h n) = fst64 X C S (ix3 r h ⟨n.val, hn⟩) := by
      unfold rope64
      generalize fst64 X C S = P
      generalize snd64 X C S = Q
      pointwise [hn]
    rw [e, fst64_at, if_pos hn, hu, hu, show (⟨n.val % 32, by omega⟩ : Fin 32) = ⟨n.val, hn⟩ from Fin.ext (Nat.mod_eq_of_lt hn)]
    exact congrArg (fun a => u n.val * _ - u a * _) (Nat.add_comm _ _)
  · have e : rope64 X C S (ix3 r h n) = snd64 X C S (ix3 r h ⟨n.val - 32, by omega⟩) := by
      unfold rope64
      generalize fst64 X C S = P
      generalize snd64 X C S = Q
      pointwise [hn]
    rw [e, snd64_at, if_neg hn, hu, hu, show (⟨n.val % 32, by omega⟩ : Fin 32) = ⟨n.val - 32, by omega⟩ from Fin.ext (by dsimp only; omega)]
    exact congrArg (fun a => u a * _ + u (n.val - 32) * _) (show 32 + (n.val - 32) = n.val by omega)

/-- The rotation of 32 features in halves, all rows by the same angles. -/
def fst32 (X : FVec Ideal S128x1x32 .f32) (C S : FVec Ideal S1x16 .f32) : FVec Ideal S128x1x16 .f32 :=
  subf (mulf (extractStridedSlice S128x1x16 ![0, 0, 0] X slices_S128x1x32_S128x1x16_0_0_0) (broadcastInDim S128x1x16 ![0, 1, 2] bcast_S1x1x16_S128x1x16_0_1_2 (broadcastInDim S1x1x16 ![0, 2] bcast_S1x16_S1x1x16_0_2 C))) (mulf (extractStridedSlice S128x1x16 ![0, 0, 16] X slices_S128x1x32_S128x1x16_0_0_16) (broadcastInDim S128x1x16 ![0, 1, 2] bcast_S1x1x16_S128x1x16_0_1_2 (broadcastInDim S1x1x16 ![0, 2] bcast_S1x16_S1x1x16_0_2 S)))
def snd32 (X : FVec Ideal S128x1x32 .f32) (C S : FVec Ideal S1x16 .f32) : FVec Ideal S128x1x16 .f32 :=
  addf (mulf (extractStridedSlice S128x1x16 ![0, 0, 16] X slices_S128x1x32_S128x1x16_0_0_16) (broadcastInDim S128x1x16 ![0, 1, 2] bcast_S1x1x16_S128x1x16_0_1_2 (broadcastInDim S1x1x16 ![0, 2] bcast_S1x16_S1x1x16_0_2 C))) (mulf (extractStridedSlice S128x1x16 ![0, 0, 0] X slices_S128x1x32_S128x1x16_0_0_0) (broadcastInDim S128x1x16 ![0, 1, 2] bcast_S1x1x16_S128x1x16_0_1_2 (broadcastInDim S1x1x16 ![0, 2] bcast_S1x16_S1x1x16_0_2 S)))
def rope32 (X : FVec Ideal S128x1x32 .f32) (C S : FVec Ideal S1x16 .f32) : FVec Ideal S128x1x32 .f32 :=
  concatenate S128x1x32 2 [⟨S128x1x16, fst32 X C S⟩, ⟨S128x1x16, snd32 X C S⟩] concatenates_S128x1x16_S128x1x16_S128x1x32_d2

theorem fst32_at (X : FVec Ideal S128x1x32 .f32) (C S : FVec Ideal S1x16 .f32) (r : Fin 128) (k : Fin 16) :
    fst32 X C S (ix3 r 0 k) = X (ix3 r 0 ⟨k.val, by omega⟩) * C (ix2 0 k) - X (ix3 r 0 ⟨16 + k.val, by omega⟩) * S (ix2 0 k) := by
  pointwise [fst32]
theorem snd32_at (X : FVec Ideal S128x1x32 .f32) (C S : FVec Ideal S1x16 .f32) (r : Fin 128) (k : Fin 16) :
    snd32 X C S (ix3 r 0 k) = X (ix3 r 0 ⟨16 + k.val, by omega⟩) * C (ix2 0 k) + X (ix3 r 0 ⟨k.val, by omega⟩) * S (ix2 0 k) := by
  pointwise [snd32]
theorem rope32_at (X : FVec Ideal S128x1x32 .f32) (C S : FVec Ideal S1x16 .f32) (r : Fin 128) (n : Fin 32) (u : ℕ → EReal) (hu : ∀ j : Fin 32, X (ix3 r 0 j) = u j.val) :
    rope32 X C S (ix3 r 0 n) = rot32 u (fun k => C (ix2 0 k)) (fun k => S (ix2 0 k)) n.val := by
  unfold rot32
  by_cases hn : n.val < 16
  · have e : rope32 X C S (ix3 r 0 n) = fst32 X C S (ix3 r 0 ⟨n.val, hn⟩) := by
      unfold rope32
      generalize fst32 X C S = P
      generalize snd32 X C S = Q
      pointwise [hn]
    rw [e, fst32_at, if_pos hn, hu, hu, show (⟨n.val % 16, by omega⟩ : Fin 16) = ⟨n.val, hn⟩ from Fin.ext (Nat.mod_eq_of_lt hn)]
    exact congrArg (fun a => u n.val * _ - u a * _) (Nat.add_comm _ _)
  · have e : rope32 X C S (ix3 r 0 n) = snd32 X C S (ix3 r 0 ⟨n.val - 16, by omega⟩) := by
      unfold rope32
      generalize fst32 X C S = P
      generalize snd32 X C S = Q
      pointwise [hn]
    rw [e, snd32_at, if_neg hn, hu, hu, show (⟨n.val % 16, by omega⟩ : Fin 16) = ⟨n.val - 16, by omega⟩ from Fin.ext (by dsimp only; omega)]
    exact congrArg (fun a => u a * _ + u (n.val - 16) * _) (show 16 + (n.val - 16) = n.val by omega)

/-- The rows' angles, all of them at one position. -/
def angR64 : FVec Ideal S1x32 .f32 :=
  mulf (broadcastInDim S1x32 ![0, 1] bcast_S1x1_S1x32_0_1 (broadcastInDim S1x1 ![0] bcast_S1_S1x1_0 (sitofp .f32 (addi (broadcastInDim S1 ![] bcast_S_S1 (constantI S_ 32 16384#32)) (iotaInDim S1 32 0)))))
    (broadcastInDim S1x32 ![1] bcast_S32_S1x32_1 rate64)

theorem ang64_at (r : Fin 128) (k : Fin 32) : ang64 (ix2 r k) = FloatOps.sitofp (F := Ideal) .f32 16384#32 * rate64 (ix1 k) := by
  unfold ang64
  generalize rate64 = R
  pointwise

theorem angR64_at (r : Fin 128) (k : Fin 32) : angR64 (ix2 0 k) = ang64 (ix2 r k) := by
  have e : angR64 (ix2 0 k) = FloatOps.sitofp (F := Ideal) .f32 (IntOp.addi 16384#32 (BitVec.ofNat 32 0)) * rate64 (ix1 k) := by
    unfold angR64
    generalize rate64 = R
    pointwise
  rw [e, ang64_at, show IntOp.addi 16384#32 (BitVec.ofNat 32 0) = 16384#32 by decide]

theorem cosR64 (r : Fin 128) : (fun k => Host.cos angR64 (ix2 0 k)) = cos64 r :=
  funext fun k => congrArg (fun v => Host.cos (F := Ideal) (φ := .f32) (fun _ : S1.Idx => v) (ix1 0)) (angR64_at r k)
theorem sinR64 (r : Fin 128) : (fun k => Host.sin angR64 (ix2 0 k)) = sin64 r :=
  funext fun k => congrArg (fun v => Host.sin (F := Ideal) (φ := .f32) (fun _ : S1.Idx => v) (ix1 0)) (angR64_at r k)

def angR32 : FVec Ideal S1x16 .f32 :=
  mulf (broadcastInDim S1x16 ![0, 1] bcast_S1x1_S1x16_0_1 (broadcastInDim S1x1 ![0] bcast_S1_S1x1_0 (sitofp .f32 (addi (broadcastInDim S1 ![] bcast_S_S1 (constantI S_ 32 16384#32)) (iotaInDim S1 32 0)))))
    (broadcastInDim S1x16 ![1] bcast_S16_S1x16_1 rate32)

theorem ang32_at (r : Fin 128) (k : Fin 16) : ang32 (ix2 r k) = FloatOps.sitofp (F := Ideal) .f32 16384#32 * rate32 (ix1 k) := by
  unfold ang32
  generalize rate32 = R
  pointwise

theorem angR32_at (r : Fin 128) (k : Fin 16) : angR32 (ix2 0 k) = ang32 (ix2 r k) := by
  have e : angR32 (ix2 0 k) = FloatOps.sitofp (F := Ideal) .f32 (IntOp.addi 16384#32 (BitVec.ofNat 32 0)) * rate32 (ix1 k) := by
    unfold angR32
    generalize rate32 = R
    pointwise
  rw [e, ang32_at, show IntOp.addi 16384#32 (BitVec.ofNat 32 0) = 16384#32 by decide]

theorem cosR32 (r : Fin 128) : (fun k => Host.cos angR32 (ix2 0 k)) = cos32 r :=
  funext fun k => congrArg (fun v => Host.cos (F := Ideal) (φ := .f32) (fun _ : S1.Idx => v) (ix1 0)) (angR32_at r k)
theorem sinR32 (r : Fin 128) : (fun k => Host.sin angR32 (ix2 0 k)) = sin32 r :=
  funext fun k => congrArg (fun v => Host.sin (F := Ideal) (φ := .f32) (fun _ : S1.Idx => v) (ix1 0)) (angR32_at r k)

section Parts
variable (Y : FVec Ideal S128x5536 .f32) (γ : FVec Ideal S128 .f32)

/-- A slice of the features. -/
theorem slice_at {w : ℕ} (o : ℕ) (h : Shape.Slices S128x5536 ![0, o] ⟨2, ![128, w]⟩) (hw : o + w ≤ 5536) (r : Fin 128) (s : Fin w) :
    extractStridedSlice ⟨2, ![128, w]⟩ ![0, o] Y h (ix2 r s) = feat Y r (o + s.val) := by
  rw [feat_eq Y r _ ⟨o + s.val, by omega⟩ rfl]
  exact extractStridedSlice_apply _ Y h (ix2 r s) (ix2 r ⟨o + s.val, by omega⟩) fun a => by
    match a with
    | 0 => simp
    | 1 => simp

/-- The rope key's and the block keys' features, head by head, and the arrays made of them. -/
def keyRope : FVec Ideal S128x1x32 .f32 :=
  broadcastInDim S128x1x32 ![0, 2] bcast_S128x32_S128x1x32_0_2 (extractStridedSlice S128x32 ![0, 1664] Y slices_S128x5536_S128x32_0_1664)
def mobaK : FVec Ideal S128x2x64 .f32 :=
  shapeCast _ (extractStridedSlice S128x128 ![0, 2208] Y slices_S128x5536_S128x128_0_2208) shapeCasts_S128x128_S128x2x64
def latent : FVec Ideal S128x128 .f32 := rms128 (extractStridedSlice S128x128 ![0, 1536] Y slices_S128x5536_S128x128_0_1536) γ
def kr : FVec Ideal S128x32 .f32 := shapeCast _ (rope32 (keyRope Y) (Host.cos angR32) (Host.sin angR32)) shapeCasts_S128x1x32_S128x32
def mbk : FVec Ideal S128x128 .f32 := shapeCast _ (rope64 (mobaK Y) (Host.cos angR64) (Host.sin angR64)) shapeCasts_S128x2x64_S128x128

theorem keyRope_at (r : Fin 128) (j : Fin 32) : keyRope Y (ix3 r 0 j) = feat Y r (1664 + j.val) := by
  rw [feat_eq Y r _ ⟨1664 + j.val, by omega⟩ rfl]
  pointwise [keyRope]

theorem mobaK_at (r : Fin 128) (h : Fin 2) (j : Fin 64) : mobaK Y (ix3 r h j) = feat Y r (2208 + (h.val * 64 + j.val)) := by
  rw [feat_eq Y r _ ⟨2208 + (h.val * 64 + j.val), by omega⟩ rfl]
  pointwise [mobaK]

theorem flat32_at (R : FVec Ideal S128x1x32 .f32) (r : Fin 128) (s : Fin 32) : shapeCast S128x32 R shapeCasts_S128x1x32_S128x32 (ix2 r s) = R (ix3 r 0 s) := by
  pointwise
theorem flat64_at (R : FVec Ideal S128x2x64 .f32) (r : Fin 128) (s : Fin 128) :
    shapeCast S128x128 R shapeCasts_S128x2x64_S128x128 (ix2 r s) = R (ix3 r ⟨s.val / 64, by omega⟩ ⟨s.val % 64, by omega⟩) := by
  pointwise

/-- An array is known by its entries. -/
theorem ext2 {a b : ℕ} {P Q : (⟨2, ![a, b]⟩ : Shape).Idx → EReal} (h : ∀ (r : Fin a) (s : Fin b), P (ix2 r s) = Q (ix2 r s)) : P = Q :=
  funext fun z => by
    rw [← ix2_eta z]
    exact h _ _

theorem cut_eq (o : ℕ) (h : Shape.Slices S128x5536 ![0, o] S128x128) (hw : o + 128 ≤ 5536) : extractStridedSlice S128x128 ![0, o] Y h = Gcut Y o :=
  ext2 fun r s => slice_at Y o h hw r s

theorem latent_eq : latent Y γ = Gckv Y γ := ext2 fun r s => by
  refine (rms128_at _ γ r s).trans ?_
  exact congrArg (fun a => nrm128 a (fun k => γ (ix1 k)) s) (funext fun k => slice_at Y 1536 slices_S128x5536_S128x128_0_1536 (by omega) r k)

theorem kr_eq : kr Y = Gkr Y := ext2 fun r s => by
  refine (flat32_at _ r s).trans ((rope32_at _ _ _ r s (fun j => feat Y r (1664 + j)) (fun j => keyRope_at Y r j)).trans ?_)
  rw [cosR32 r, sinR32 r]
  rfl

theorem mbk_eq : mbk Y = Gmbk Y := ext2 fun r s => by
  refine (flat64_at _ r s).trans ((rope64_at _ _ _ r ⟨s.val / 64, by omega⟩ ⟨s.val % 64, by omega⟩ (fun j => feat Y r (2208 + (s.val / 64 * 64 + j))) (fun j => mobaK_at Y r _ j)).trans ?_)
  rw [cosR64 r, sinR64 r]
  rfl

end Parts

variable (m : (ℓ : Loc nD τ sig) → Buf (Elt Ideal) ℓ)

/-- The arguments of a launch, and the projection of its rows. -/
abbrev b0 (c : Dev nD) : FVec Ideal S128x1024 .f32 := m ((c.tc : Thread nD τ).loc main_arg0)
abbrev b1 (c : Dev nD) : FVec Ideal S1024 .f32 := m ((c.tc : Thread nD τ).loc main_arg1)
abbrev b2 (c : Dev nD) : FVec Ideal S1024x5536 .f32 := m ((c.tc : Thread nD τ).loc main_arg2)
abbrev b3 (c : Dev nD) : FVec Ideal S128 .f32 := m ((c.tc : Thread nD τ).loc main_arg3)
abbrev YR (c : Dev nD) : FVec Ideal S128x5536 .f32 := proj (b0 m c) (b1 m c) (b2 m c)
abbrev UR (c : Dev nD) : FVec Ideal S128x5536 .f32 := up (rms (b0 m c) (b1 m c)) (b2 m c)

theorem UR_eq (c : Dev nD) : UR m c = YR m c := up_eq _ _ _

theorem kr_term (c : Dev nD) : Value.res_main_v56 m c = kr (UR m c) := rfl
theorem mbk_term (c : Dev nD) : Value.res_main_v86 m c = mbk (UR m c) := rfl

theorem cut_eqR (c : Dev nD) (o : ℕ) (h : Shape.Slices S128x5536 ![0, o] S128x128) (hw : o + 128 ≤ 5536) : extractStridedSlice S128x128 ![0, o] (UR m c) h = Gcut (YR m c) o :=
  (cut_eq _ o h hw).trans (congrArg (fun y => Gcut y o) (UR_eq m c))

theorem run7 (ρ : Dev nD → PrngReg) :
    θ_run defs (onTc (τ := τ) (main (F := Ideal))) ⟨m, fun _ => 0, ρ⟩ fun r => ∀ c : Dev nD,
      r.2.mem ((c.tc : Thread nD τ).loc main_v15) = Gcut (YR m c) 512
      ∧ r.2.mem ((c.tc : Thread nD τ).loc main_v16) = Gcut (YR m c) 640
      ∧ r.2.mem ((c.tc : Thread nD τ).loc main_v99) = Gckv (YR m c) (b3 m c)
      ∧ r.2.mem ((c.tc : Thread nD τ).loc main_v56) = Gkr (YR m c)
      ∧ r.2.mem ((c.tc : Thread nD τ).loc main_v86) = Gmbk (YR m c)
      ∧ r.2.mem ((c.tc : Thread nD τ).loc main_v22) = Gcut (YR m c) 2336
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h1, h2, h3, h4, h5, h6, hk⟩ := h c
  exact ⟨h1.trans (cut_eqR m c 512 slices_S128x5536_S128x128_0_512 (by omega)), h2.trans (cut_eqR m c 640 slices_S128x5536_S128x128_0_640 (by omega)),
    h3.trans ((latent_eq (UR m c) (b3 m c)).trans (congrArg (fun y => Gckv y (b3 m c)) (UR_eq m c))),
    h4.trans ((kr_term m c).trans ((kr_eq _).trans (congrArg Gkr (UR_eq m c)))),
    h5.trans ((mbk_term m c).trans ((mbk_eq _).trans (congrArg Gmbk (UR_eq m c)))),
    h6.trans (cut_eqR m c 2336 slices_S128x5536_S128x128_0_2336 (by omega)), hk⟩

end Cert.Reference7Ideal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Equal
public import proofs.«01_k».proof.Proof.Ffn3
public import proofs.«01_k».proof.Proof.RefFfn
public import proofs.«01_k».proof.Proof.RefMerge
public import proofs.«01_k».proof.Proof.RefRun
public import proofs.«01_k».proof.Proof.RefFfn6
public import proofs.«01_k».proof.Proof.RefRows7
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal := IdealRules.named_const.statement _ _ _ _ _ rfl

/-- The kernel's array and the reference's are one: the attention of real arguments. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (c' : Dev Cert.ReferenceIdeal.nD)
    (hp : Cert.Pre_finite.fn (F := Ideal) (KernelIdeal.MValue.a0 m c) (KernelIdeal.MValue.a1 m c) (KernelIdeal.MValue.a2 m c) (KernelIdeal.MValue.a3 m c) = fun _ => 1#1)
    (e0 : m' ((c'.tc : Thread Cert.ReferenceIdeal.nD Cert.ReferenceIdeal.τ).loc Cert.ReferenceIdeal.main_arg0) = KernelIdeal.MValue.a0 m c)
    (e1 : m' ((c'.tc : Thread Cert.ReferenceIdeal.nD Cert.ReferenceIdeal.τ).loc Cert.ReferenceIdeal.main_arg1) = KernelIdeal.MValue.a1 m c)
    (e2 : m' ((c'.tc : Thread Cert.ReferenceIdeal.nD Cert.ReferenceIdeal.τ).loc Cert.ReferenceIdeal.main_arg2) = KernelIdeal.MValue.a2 m c)
    (e3 : m' ((c'.tc : Thread Cert.ReferenceIdeal.nD Cert.ReferenceIdeal.τ).loc Cert.ReferenceIdeal.main_arg3) = KernelIdeal.MValue.a3 m c) :
    Cert.ReferenceIdeal.Value.res_out0 m' c' = (Cert.KernelIdeal.Gen.dats m 0 c).arrAt 3 Cert.KernelIdeal.cfg0.N := by
  obtain ⟨h0, h1, h2, h3⟩ := Equal.reals _ _ _ _ hp
  rw [KernelIdeal.MValue.final m _ _ _ _ c (funext h0) (funext h1) (funext h2) (funext h3), ReferenceIdeal.Ref.res_eq, e0, e1, e2, e3]
  exact Equal.ref_G _ _ _ _ _ _ _ _ h0 h1 h2 h3

theorem algebraic : Cert.algebraic_KernelIdeal_ReferenceIdeal_pre_finite := by
  intro m g m' g' hpre hagree
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  exact values m m' c c (hpre c) (hagree c).1 (hagree c).2.1 (hagree c).2.2.1 (hagree c).2.2.2

theorem preserves2 : Cert.preserves_Kernel2_Kernel2Ideal := trivial

theorem preserves3 : Cert.preserves_Kernel3_Kernel3Ideal := trivial

/-- The feed-forward kernel's array and its reference's are one. -/
theorem values2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (c' : Dev Cert.Reference2Ideal.nD)
    (e0 : m' ((c'.tc : Thread Cert.Reference2Ideal.nD Cert.Reference2Ideal.τ).loc Cert.Reference2Ideal.main_arg0) = Kernel2Ideal.FValue.a0 m c)
    (e1 : m' ((c'.tc : Thread Cert.Reference2Ideal.nD Cert.Reference2Ideal.τ).loc Cert.Reference2Ideal.main_arg1) = Kernel2Ideal.FValue.a1 m c)
    (e2 : m' ((c'.tc : Thread Cert.Reference2Ideal.nD Cert.Reference2Ideal.τ).loc Cert.Reference2Ideal.main_arg2) = Kernel2Ideal.FValue.a2 m c)
    (e3 : m' ((c'.tc : Thread Cert.Reference2Ideal.nD Cert.Reference2Ideal.τ).loc Cert.Reference2Ideal.main_arg3) = Kernel2Ideal.FValue.a3 m c) :
    Reference2Ideal.Ref.layer (m' ((c'.tc : Thread Cert.Reference2Ideal.nD Cert.Reference2Ideal.τ).loc Cert.Reference2Ideal.main_arg0)) (m' ((c'.tc : Thread Cert.Reference2Ideal.nD Cert.Reference2Ideal.τ).loc Cert.Reference2Ideal.main_arg1)) (m' ((c'.tc : Thread Cert.Reference2Ideal.nD Cert.Reference2Ideal.τ).loc Cert.Reference2Ideal.main_arg2)) (m' ((c'.tc : Thread Cert.Reference2Ideal.nD Cert.Reference2Ideal.τ).loc Cert.Reference2Ideal.main_arg3))
      = (Cert.Kernel2Ideal.Gen.dats m 0 c).arrAt 6 Cert.Kernel2Ideal.cfg0.N := by
  rw [Kernel2Ideal.FValue.final m c, e0, e1, e2, e3]
  exact Reference2Ideal.Ref.layer_eq _ _ _ _

theorem algebraic2 : Cert.algebraic_Kernel2Ideal_Reference2Ideal := by
  intro m g m' g' _ hagree
  refine ⟨fun c => (Cert.Kernel2Ideal.Gen.dats m 0 c).arrAt 6 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run m' g')
  exact values2 m m' c c (hagree c).1 (hagree c).2.1 (hagree c).2.2.1 (hagree c).2.2.2.1

/-- The same, with the model's last norm. -/
theorem values3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (c' : Dev Cert.Reference3Ideal.nD)
    (e0 : m' ((c'.tc : Thread Cert.Reference3Ideal.nD Cert.Reference3Ideal.τ).loc Cert.Reference3Ideal.main_arg0) = Kernel3Ideal.FValue.a0 m c)
    (e1 : m' ((c'.tc : Thread Cert.Reference3Ideal.nD Cert.Reference3Ideal.τ).loc Cert.Reference3Ideal.main_arg1) = Kernel3Ideal.FValue.a1 m c)
    (e2 : m' ((c'.tc : Thread Cert.Reference3Ideal.nD Cert.Reference3Ideal.τ).loc Cert.Reference3Ideal.main_arg2) = Kernel3Ideal.FValue.a2 m c)
    (e3 : m' ((c'.tc : Thread Cert.Reference3Ideal.nD Cert.Reference3Ideal.τ).loc Cert.Reference3Ideal.main_arg3) = Kernel3Ideal.FValue.a3 m c)
    (e4 : m' ((c'.tc : Thread Cert.Reference3Ideal.nD Cert.Reference3Ideal.τ).loc Cert.Reference3Ideal.main_arg4) = Kernel3Ideal.FValue.a4 m c) :
    Cert.Reference3Ideal.Value.res_out0 m' c' = (Cert.Kernel3Ideal.Gen.dats m 0 c).arrAt 6 Cert.Kernel3Ideal.cfg0.N := by
  rw [Kernel3Ideal.FValue.final m c, Reference2Ideal.Ref.res3_eq, e0, e1, e2, e3, e4]
  exact Reference2Ideal.Ref.rms_layer_eq _ _ _ _ _

theorem algebraic3 : Cert.algebraic_Kernel3Ideal_Reference3Ideal := by
  intro m g m' g' _ hagree
  refine ⟨fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run m' g')
  exact values3 m m' c c (hagree c).1 (hagree c).2.1 (hagree c).2.2.1 (hagree c).2.2.2.1 (hagree c).2.2.2.2

theorem preserves4 : Cert.preserves_Kernel4_Kernel4Ideal := trivial

/-- The merge kernel's array and its reference's are one. -/
theorem values4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD) (c' : Dev Cert.Reference4Ideal.nD)
    (e0 : m' ((c'.tc : Thread Cert.Reference4Ideal.nD Cert.Reference4Ideal.τ).loc Cert.Reference4Ideal.main_arg0) = Kernel4Ideal.MValue.a0 m c)
    (e1 : m' ((c'.tc : Thread Cert.Reference4Ideal.nD Cert.Reference4Ideal.τ).loc Cert.Reference4Ideal.main_arg1) = Kernel4Ideal.MValue.a1 m c)
    (e2 : m' ((c'.tc : Thread Cert.Reference4Ideal.nD Cert.Reference4Ideal.τ).loc Cert.Reference4Ideal.main_arg2) = Kernel4Ideal.MValue.a2 m c)
    (e3 : m' ((c'.tc : Thread Cert.Reference4Ideal.nD Cert.Reference4Ideal.τ).loc Cert.Reference4Ideal.main_arg3) = Kernel4Ideal.MValue.a3 m c)
    (e4 : m' ((c'.tc : Thread Cert.Reference4Ideal.nD Cert.Reference4Ideal.τ).loc Cert.Reference4Ideal.main_arg4) = Kernel4Ideal.MValue.a4 m c)
    (e5 : m' ((c'.tc : Thread Cert.Reference4Ideal.nD Cert.Reference4Ideal.τ).loc Cert.Reference4Ideal.main_arg5) = Kernel4Ideal.MValue.a5 m c)
    (e6 : m' ((c'.tc : Thread Cert.Reference4Ideal.nD Cert.Reference4Ideal.τ).loc Cert.Reference4Ideal.main_arg6) = Kernel4Ideal.MValue.a6 m c)
    (e7 : m' ((c'.tc : Thread Cert.Reference4Ideal.nD Cert.Reference4Ideal.τ).loc Cert.Reference4Ideal.main_arg7) = Kernel4Ideal.MValue.a7 m c)
    (e8 : m' ((c'.tc : Thread Cert.Reference4Ideal.nD Cert.Reference4Ideal.τ).loc Cert.Reference4Ideal.main_arg8) = Kernel4Ideal.MValue.a8 m c)
    (e9 : m' ((c'.tc : Thread Cert.Reference4Ideal.nD Cert.Reference4Ideal.τ).loc Cert.Reference4Ideal.main_arg9) = Kernel4Ideal.MValue.a9 m c) :
    Reference4Ideal.Ref.layer (m' ((c'.tc : Thread Cert.Reference4Ideal.nD Cert.Reference4Ideal.τ).loc Cert.Reference4Ideal.main_arg0)) (m' ((c'.tc : Thread Cert.Reference4Ideal.nD Cert.Reference4Ideal.τ).loc Cert.Reference4Ideal.main_arg1)) (m' ((c'.tc : Thread Cert.Reference4Ideal.nD Cert.Reference4Ideal.τ).loc Cert.Reference4Ideal.main_arg2)) (m' ((c'.tc : Thread Cert.Reference4Ideal.nD Cert.Reference4Ideal.τ).loc Cert.Reference4Ideal.main_arg3)) (m' ((c'.tc : Thread Cert.Reference4Ideal.nD Cert.Reference4Ideal.τ).loc Cert.Reference4Ideal.main_arg4)) (m' ((c'.tc : Thread Cert.Reference4Ideal.nD Cert.Reference4Ideal.τ).loc Cert.Reference4Ideal.main_arg5)) (m' ((c'.tc : Thread Cert.Reference4Ideal.nD Cert.Reference4Ideal.τ).loc Cert.Reference4Ideal.main_arg6)) (m' ((c'.tc : Thread Cert.Reference4Ideal.nD Cert.Reference4Ideal.τ).loc Cert.Reference4Ideal.main_arg7)) (m' ((c'.tc : Thread Cert.Reference4Ideal.nD Cert.Reference4Ideal.τ).loc Cert.Reference4Ideal.main_arg8)) (m' ((c'.tc : Thread Cert.Reference4Ideal.nD Cert.Reference4Ideal.τ).loc Cert.Reference4Ideal.main_arg9))
      = (Cert.Kernel4Ideal.Gen.dats m 0 c).arrAt 10 Cert.Kernel4Ideal.cfg0.N := by
  rw [Kernel4Ideal.MValue.final m c, e0, e1, e2, e3, e4, e5, e6, e7, e8, e9]
  exact Reference4Ideal.Ref.layer_eq _ _ _ _ _ _ _ _ _ _

theorem algebraic4 : Cert.algebraic_Kernel4Ideal_Reference4Ideal := by
  intro m g m' g' _ hagree
  refine ⟨fun c => (Cert.Kernel4Ideal.Gen.dats m 0 c).arrAt 10 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run m' g')
  exact values4 m m' c c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2

theorem preserves5 : Cert.preserves_Kernel5_Kernel5Ideal := trivial

set_option maxHeartbeats 2000000 in
theorem algebraic5 : Cert.algebraic_Kernel5Ideal_Reference5Ideal := by
  intro m g m' g' _ hagree
  refine ⟨fun c => (Cert.Kernel5Ideal.Gen.dats m 0 c).arrAt 9 Cert.Kernel5Ideal.cfg0.N, fun c => (Cert.Kernel5Ideal.Gen.dats m 0 c).arrAt 10 Cert.Kernel5Ideal.cfg0.N, fun c => (Cert.Kernel5Ideal.Gen.dats m 0 c).arrAt 11 Cert.Kernel5Ideal.cfg0.N, fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N, fun c => (Cert.Kernel5Ideal.Gen.dats m 0 c).arrAt 15 Cert.Kernel5Ideal.cfg0.N, fun c => (Cert.Kernel5Ideal.Gen.dats m 0 c).arrAt 16 Cert.Kernel5Ideal.cfg0.N, fun c => (Cert.Kernel5Ideal.Gen.dats m 0 c).arrAt 17 Cert.Kernel5Ideal.cfg0.N, fun c => (Cert.Kernel5Ideal.Gen.dats m 0 c).arrAt 18 Cert.Kernel5Ideal.cfg0.N, fun c => (Cert.Kernel5Ideal.Gen.dats m 0 c).arrAt 19 Cert.Kernel5Ideal.cfg0.N, fun c => (Cert.Kernel5Ideal.Gen.dats m 0 c).arrAt 20 Cert.Kernel5Ideal.cfg0.N, fun c => (Cert.Kernel5Ideal.Gen.dats m 0 c).arrAt 21 Cert.Kernel5Ideal.cfg0.N, fun c => (Cert.Kernel5Ideal.Gen.dats m 0 c).arrAt 22 Cert.Kernel5Ideal.cfg0.N, fun c => (Cert.Kernel5Ideal.Gen.dats m 0 c).arrAt 23 Cert.Kernel5Ideal.cfg0.N, fun c => (Cert.Kernel5Ideal.Gen.dats m 0 c).arrAt 24 Cert.Kernel5Ideal.cfg0.N, Cert.Kernel5Ideal.Value.run_blocks m g, ?_⟩
  refine (θ_run Cert.Reference5Ideal.defs _ _).mono (fun r h c => ?_) (Reference5Ideal.Ref.run5 m' g')
  obtain ⟨h1, h2, h3, h4, h5, h6, h7, h8, h9, h10, h11, h12, h13, h14, h15, h16, hk⟩ := h c
  have e0 : Reference5Ideal.Ref.b0 m' c = Kernel5Ideal.PValue.a0 m c := (hagree c).1
  have e1 : Reference5Ideal.Ref.b1 m' c = Kernel5Ideal.PValue.a1 m c := (hagree c).2.1
  have e2 : Reference5Ideal.Ref.b2 m' c = Kernel5Ideal.PValue.a2 m c := (hagree c).2.2.1
  have e3 : Reference5Ideal.Ref.b3 m' c = Kernel5Ideal.PValue.a3 m c := (hagree c).2.2.2.1
  have e4 : Reference5Ideal.Ref.b4 m' c = Kernel5Ideal.PValue.a4 m c := (hagree c).2.2.2.2
  have ey : Reference5Ideal.Ref.YR m' c = Kernel5Ideal.PValue.YY m c :=
    (congrArg₂ (fun x y => Kernel5Ideal.PValue.proj x y (Reference5Ideal.Ref.b2 m' c)) e0 e1).trans
      (congrArg (Kernel5Ideal.PValue.proj (Kernel5Ideal.PValue.a0 m c) (Kernel5Ideal.PValue.a1 m c)) e2)
  exact ⟨h1.trans ((congrArg Kernel5Ideal.PValue.Gsbq ey).trans (Kernel5Ideal.PValue.final9 m c).symm),
    h2.trans ((congrArg (fun y => Kernel5Ideal.PValue.Gcut y 512) ey).trans (Kernel5Ideal.PValue.final10 m c).symm),
    h3.trans ((congrArg (fun y => Kernel5Ideal.PValue.Gcut y 640) ey).trans (Kernel5Ideal.PValue.final11 m c).symm),
    h4.trans ((congrArg (fun y => Kernel5Ideal.PValue.Gcut y 512) ey).trans (Kernel5Ideal.PValue.final12 m c).symm),
    h5.trans ((congrArg (fun y => Kernel5Ideal.PValue.Gcut y 640) ey).trans (Kernel5Ideal.PValue.final13 m c).symm),
    h6.trans ((congrArg₂ Kernel5Ideal.PValue.Gqlat ey e4).trans (Kernel5Ideal.PValue.final14 m c).symm),
    h7.trans ((congrArg Kernel5Ideal.PValue.Gqrope ey).trans (Kernel5Ideal.PValue.final15 m c).symm),
    h8.trans ((congrArg₂ Kernel5Ideal.PValue.Gckv ey e3).trans (Kernel5Ideal.PValue.final16 m c).symm),
    h9.trans ((congrArg Kernel5Ideal.PValue.Gkr ey).trans (Kernel5Ideal.PValue.final17 m c).symm),
    h10.trans ((congrArg₂ Kernel5Ideal.PValue.Gkcat ey e3).trans (Kernel5Ideal.PValue.final18 m c).symm),
    h11.trans ((congrArg Kernel5Ideal.PValue.Gmbq ey).trans (Kernel5Ideal.PValue.final19 m c).symm),
    h12.trans ((congrArg Kernel5Ideal.PValue.Gmbk ey).trans (Kernel5Ideal.PValue.final20 m c).symm),
    h13.trans ((congrArg (fun y => Kernel5Ideal.PValue.Gcut y 2336) ey).trans (Kernel5Ideal.PValue.final21 m c).symm),
    h14.trans ((congrArg Kernel5Ideal.PValue.Gmbk ey).trans (Kernel5Ideal.PValue.final22 m c).symm),
    h15.trans ((congrArg (fun y => Kernel5Ideal.PValue.Gcut y 2336) ey).trans (Kernel5Ideal.PValue.final23 m c).symm),
    h16.trans ((congrArg Kernel5Ideal.PValue.Ggates ey).trans (Kernel5Ideal.PValue.final24 m c).symm),
    hk⟩

theorem preserves6 : Cert.preserves_Kernel6_Kernel6Ideal := trivial

/-- The same on the sampled rows. -/
theorem values6 (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD) (c' : Dev Cert.Reference6Ideal.nD)
    (e0 : m' ((c'.tc : Thread Cert.Reference6Ideal.nD Cert.Reference6Ideal.τ).loc Cert.Reference6Ideal.main_arg0) = Kernel6Ideal.FValue.a0 m c)
    (e1 : m' ((c'.tc : Thread Cert.Reference6Ideal.nD Cert.Reference6Ideal.τ).loc Cert.Reference6Ideal.main_arg1) = Kernel6Ideal.FValue.a1 m c)
    (e2 : m' ((c'.tc : Thread Cert.Reference6Ideal.nD Cert.Reference6Ideal.τ).loc Cert.Reference6Ideal.main_arg2) = Kernel6Ideal.FValue.a2 m c)
    (e3 : m' ((c'.tc : Thread Cert.Reference6Ideal.nD Cert.Reference6Ideal.τ).loc Cert.Reference6Ideal.main_arg3) = Kernel6Ideal.FValue.a3 m c)
    (e4 : m' ((c'.tc : Thread Cert.Reference6Ideal.nD Cert.Reference6Ideal.τ).loc Cert.Reference6Ideal.main_arg4) = Kernel6Ideal.FValue.a4 m c) :
    Cert.Reference6Ideal.Value.res_out0 m' c' = (Cert.Kernel6Ideal.Gen.dats m 0 c).arrAt 6 Cert.Kernel6Ideal.cfg0.N := by
  rw [Kernel6Ideal.FValue.final m c, Reference6Ideal.Ref.res6_eq, e0, e1, e2, e3, e4]
  exact Reference6Ideal.Ref.rms_layer_eq _ _ _ _ _

theorem algebraic6 : Cert.algebraic_Kernel6Ideal_Reference6Ideal := by
  intro m g m' g' _ hagree
  refine ⟨fun c => (Cert.Kernel6Ideal.Gen.dats m 0 c).arrAt 6 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run m' g')
  exact values6 m m' c c (hagree c).1 (hagree c).2.1 (hagree c).2.2.1 (hagree c).2.2.2.1 (hagree c).2.2.2.2

theorem preserves7 : Cert.preserves_Kernel7_Kernel7Ideal := trivial

/-- The sampled rows' projections: the six arrays that go to the caches. -/
theorem algebraic7 : Cert.algebraic_Kernel7Ideal_Reference7Ideal := by
  intro m g m' g' _ hagree
  refine ⟨fun c => (Cert.Kernel7Ideal.Gen.dats m 0 c).arrAt 10 Cert.Kernel7Ideal.cfg0.N, fun c => (Cert.Kernel7Ideal.Gen.dats m 0 c).arrAt 11 Cert.Kernel7Ideal.cfg0.N, fun c => (Cert.Kernel7Ideal.Gen.dats m 0 c).arrAt 16 Cert.Kernel7Ideal.cfg0.N, fun c => (Cert.Kernel7Ideal.Gen.dats m 0 c).arrAt 17 Cert.Kernel7Ideal.cfg0.N, fun c => (Cert.Kernel7Ideal.Gen.dats m 0 c).arrAt 20 Cert.Kernel7Ideal.cfg0.N, fun c => (Cert.Kernel7Ideal.Gen.dats m 0 c).arrAt 21 Cert.Kernel7Ideal.cfg0.N, ?_, ?_⟩
  · refine (θ_run Cert.Kernel7Ideal.defs _ _).mono (fun r h c => ?_) (Cert.Kernel7Ideal.Value.run_blocks m g)
    obtain ⟨_, h1, h2, _, _, _, _, h7, h8, _, _, h11, h12, _, _, _, hk⟩ := h c
    exact ⟨h1, h2, h7, h8, h11, h12, hk⟩
  refine (θ_run Cert.Reference7Ideal.defs _ _).mono (fun r h c => ?_) (Reference7Ideal.Ref.run7 m' g')
  obtain ⟨h1, h2, h3, h4, h5, h6, hk⟩ := h c
  have e0 : Reference7Ideal.Ref.b0 m' c = Kernel7Ideal.SValue.a0 m c := (hagree c).1
  have e1 : Reference7Ideal.Ref.b1 m' c = Kernel7Ideal.SValue.a1 m c := (hagree c).2.1
  have e2 : Reference7Ideal.Ref.b2 m' c = Kernel7Ideal.SValue.a2 m c := (hagree c).2.2.1
  have e3 : Reference7Ideal.Ref.b3 m' c = Kernel7Ideal.SValue.a3 m c := (hagree c).2.2.2.1
  have ey : Reference7Ideal.Ref.YR m' c = Kernel7Ideal.SValue.YY m c :=
    (congrArg₂ (fun x y => Kernel7Ideal.SValue.proj x y (Reference7Ideal.Ref.b2 m' c)) e0 e1).trans (congrArg (Kernel7Ideal.SValue.proj (Kernel7Ideal.SValue.a0 m c) (Kernel7Ideal.SValue.a1 m c)) e2)
  exact ⟨h1.trans ((congrArg (fun y => Kernel7Ideal.SValue.Gcut y 512) ey).trans (Kernel7Ideal.SValue.final10 m c).symm),
    h2.trans ((congrArg (fun y => Kernel7Ideal.SValue.Gcut y 640) ey).trans (Kernel7Ideal.SValue.final11 m c).symm),
    h3.trans ((congrArg₂ Kernel7Ideal.SValue.Gckv ey e3).trans (Kernel7Ideal.SValue.final16 m c).symm),
    h4.trans ((congrArg Kernel7Ideal.SValue.Gkr ey).trans (Kernel7Ideal.SValue.final17 m c).symm),
    h5.trans ((congrArg Kernel7Ideal.SValue.Gmbk ey).trans (Kernel7Ideal.SValue.final20 m c).symm),
    h6.trans ((congrArg (fun y => Kernel7Ideal.SValue.Gcut y 2336) ey).trans (Kernel7Ideal.SValue.final21 m c).symm), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts,
  (fun m g _ => Cert.Kernel.Gen.frame m g),
  (fun m g _ => Cert.KernelIdeal.Gen.frame m g),
  (fun m g _ => Cert.KernelIdeal.Gen.frame m g),
  (fun m g _ => (θ_run Cert.ReferenceIdeal.defs _ _).mono (fun r h => ⟨fun c => (h c).2, sem_eq_zero_of_no_sems (by decide) r.2⟩)
    (Cert.ReferenceIdeal.Value.run m g)),
  (fun m g _ => (θ_run Cert.ReferenceIdeal.defs _ _).mono (fun r h => ⟨fun c => (h c).2, sem_eq_zero_of_no_sems (by decide) r.2⟩)
    (Cert.ReferenceIdeal.Value.run m g)),
  (fun m g _ => Cert.Kernel2.Gen.frame m g),
  (fun m g _ => Cert.Kernel2Ideal.Gen.frame m g),
  (fun m g _ => (θ_run Cert.Reference2Ideal.defs _ _).mono (fun r h => ⟨fun c => (h c).2, sem_eq_zero_of_no_sems (by decide) r.2⟩)
    (Cert.Reference2Ideal.Value.run m g)),
  (fun m g _ => Cert.Kernel3.Gen.frame m g),
  (fun m g _ => Cert.Kernel3Ideal.Gen.frame m g),
  (fun m g _ => (θ_run Cert.Reference3Ideal.defs _ _).mono (fun r h => ⟨fun c => (h c).2, sem_eq_zero_of_no_sems (by decide) r.2⟩)
    (Cert.Reference3Ideal.Value.run m g)),
  (fun m g _ => Cert.Kernel4.Gen.frame m g),
  (fun m g _ => Cert.Kernel4Ideal.Gen.frame m g),
  (fun m g _ => (θ_run Cert.Reference4Ideal.defs _ _).mono (fun r h => ⟨fun c => (h c).2, sem_eq_zero_of_no_sems (by decide) r.2⟩)
    (Cert.Reference4Ideal.Value.run m g)),
  (fun m g _ => Cert.Kernel5.Gen.frame m g),
  (fun m g _ => Cert.Kernel5Ideal.Gen.frame m g),
  (fun m g _ => (θ_run Cert.Reference5Ideal.defs _ _).mono (fun r h => ⟨fun c => (h c).2.2.2.2.2.2.2.2.2.2.2.2.2.2.2.2, sem_eq_zero_of_no_sems (by decide) r.2⟩)
    (Cert.Reference5Ideal.Value.run m g)),
  (fun m g _ => Cert.Kernel6.Gen.frame m g),
  (fun m g _ => Cert.Kernel6Ideal.Gen.frame m g),
  (fun m g _ => (θ_run Cert.Reference6Ideal.defs _ _).mono (fun r h => ⟨fun c => (h c).2, sem_eq_zero_of_no_sems (by decide) r.2⟩)
    (Cert.Reference6Ideal.Value.run m g)),
  (fun m g _ => Cert.Kernel7.Gen.frame m g),
  (fun m g _ => Cert.Kernel7Ideal.Gen.frame m g),
  (fun m g _ => (θ_run Cert.Reference7Ideal.defs _ _).mono (fun r h => ⟨fun c => (h c).2.2.2.2.2.2, sem_eq_zero_of_no_sems (by decide) r.2⟩)
    (Cert.Reference7Ideal.Value.run m g)),
  preserves, algebraic, preserves2, algebraic2, preserves3, algebraic3, preserves4, algebraic4, preserves5, algebraic5, preserves6, algebraic6, preserves7, algebraic7⟩

end Cert.Proof

end
